-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_WeightKernel (m : (ℓ : Loc Cert.WeightKernel.nD Cert.WeightKernel.τ Cert.WeightKernel.sig) → Buf (Elt Bits) ℓ) : Prop :=
  True

def Pre_WeightKernelIdeal (m : (ℓ : Loc Cert.WeightKernelIdeal.nD Cert.WeightKernelIdeal.τ Cert.WeightKernelIdeal.sig) → Buf (Elt Ideal) ℓ) : Prop :=
  True

def Pre_WeightReferenceIdeal (m : (ℓ : Loc Cert.WeightReferenceIdeal.nD Cert.WeightReferenceIdeal.τ Cert.WeightReferenceIdeal.sig) → Buf (Elt Ideal) ℓ) : Prop :=
  True

def Pre_InputKernel (m : (ℓ : Loc Cert.InputKernel.nD Cert.InputKernel.τ Cert.InputKernel.sig) → Buf (Elt Bits) ℓ) : Prop :=
  True

def Pre_InputKernelIdeal (m : (ℓ : Loc Cert.InputKernelIdeal.nD Cert.InputKernelIdeal.τ Cert.InputKernelIdeal.sig) → Buf (Elt Ideal) ℓ) : Prop :=
  True

def Pre_InputKernelIdeal_finite [hPre_finite : Cert.Pre_finite.Facts] (m : (ℓ : Loc Cert.InputKernelIdeal.nD Cert.InputKernelIdeal.τ Cert.InputKernelIdeal.sig) → Buf (Elt Ideal) ℓ) : Prop :=
  ∀ c : Dev Cert.InputKernelIdeal.nD,
    (Cert.Pre_finite.fn (F := Ideal) (m ((c.tc : Thread Cert.InputKernelIdeal.nD Cert.InputKernelIdeal.τ).loc Cert.InputKernelIdeal.main_arg0)) (m ((c.tc : Thread Cert.InputKernelIdeal.nD Cert.InputKernelIdeal.τ).loc Cert.InputKernelIdeal.main_arg1)) (m ((c.tc : Thread Cert.InputKernelIdeal.nD Cert.InputKernelIdeal.τ).loc Cert.InputKernelIdeal.main_arg2)) (m ((c.tc : Thread Cert.InputKernelIdeal.nD Cert.InputKernelIdeal.τ).loc Cert.InputKernelIdeal.main_arg3)) (m ((c.tc : Thread Cert.InputKernelIdeal.nD Cert.InputKernelIdeal.τ).loc Cert.InputKernelIdeal.main_arg4)) (m ((c.tc : Thread Cert.InputKernelIdeal.nD Cert.InputKernelIdeal.τ).loc Cert.InputKernelIdeal.main_arg5))).1 = (fun _ => 1#1)
    ∧ (Cert.Pre_finite.fn (F := Ideal) (m ((c.tc : Thread Cert.InputKernelIdeal.nD Cert.InputKernelIdeal.τ).loc Cert.InputKernelIdeal.main_arg0)) (m ((c.tc : Thread Cert.InputKernelIdeal.nD Cert.InputKernelIdeal.τ).loc Cert.InputKernelIdeal.main_arg1)) (m ((c.tc : Thread Cert.InputKernelIdeal.nD Cert.InputKernelIdeal.τ).loc Cert.InputKernelIdeal.main_arg2)) (m ((c.tc : Thread Cert.InputKernelIdeal.nD Cert.InputKernelIdeal.τ).loc Cert.InputKernelIdeal.main_arg3)) (m ((c.tc : Thread Cert.InputKernelIdeal.nD Cert.InputKernelIdeal.τ).loc Cert.InputKernelIdeal.main_arg4)) (m ((c.tc : Thread Cert.InputKernelIdeal.nD Cert.InputKernelIdeal.τ).loc Cert.InputKernelIdeal.main_arg5))).2.1 = (fun _ => 1#1)
    ∧ (Cert.Pre_finite.fn (F := Ideal) (m ((c.tc : Thread Cert.InputKernelIdeal.nD Cert.InputKernelIdeal.τ).loc Cert.InputKernelIdeal.main_arg0)) (m ((c.tc : Thread Cert.InputKernelIdeal.nD Cert.InputKernelIdeal.τ).loc Cert.InputKernelIdeal.main_arg1)) (m ((c.tc : Thread Cert.InputKernelIdeal.nD Cert.InputKernelIdeal.τ).loc Cert.InputKernelIdeal.main_arg2)) (m ((c.tc : Thread Cert.InputKernelIdeal.nD Cert.InputKernelIdeal.τ).loc Cert.InputKernelIdeal.main_arg3)) (m ((c.tc : Thread Cert.InputKernelIdeal.nD Cert.InputKernelIdeal.τ).loc Cert.InputKernelIdeal.main_arg4)) (m ((c.tc : Thread Cert.InputKernelIdeal.nD Cert.InputKernelIdeal.τ).loc Cert.InputKernelIdeal.main_arg5))).2.2.1 = (fun _ => 1#1)
    ∧ (Cert.Pre_finite.fn (F := Ideal) (m ((c.tc : Thread Cert.InputKernelIdeal.nD Cert.InputKernelIdeal.τ).loc Cert.InputKernelIdeal.main_arg0)) (m ((c.tc : Thread Cert.InputKernelIdeal.nD Cert.InputKernelIdeal.τ).loc Cert.InputKernelIdeal.main_arg1)) (m ((c.tc : Thread Cert.InputKernelIdeal.nD Cert.InputKernelIdeal.τ).loc Cert.InputKernelIdeal.main_arg2)) (m ((c.tc : Thread Cert.InputKernelIdeal.nD Cert.InputKernelIdeal.τ).loc Cert.InputKernelIdeal.main_arg3)) (m ((c.tc : Thread Cert.InputKernelIdeal.nD Cert.InputKernelIdeal.τ).loc Cert.InputKernelIdeal.main_arg4)) (m ((c.tc : Thread Cert.InputKernelIdeal.nD Cert.InputKernelIdeal.τ).loc Cert.InputKernelIdeal.main_arg5))).2.2.2 = (fun _ => 1#1)

def Pre_InputReferenceIdeal (m : (ℓ : Loc Cert.InputReferenceIdeal.nD Cert.InputReferenceIdeal.τ Cert.InputReferenceIdeal.sig) → Buf (Elt Ideal) ℓ) : Prop :=
  True

def Pre_InputReferenceIdeal_finite [hPre_finite : Cert.Pre_finite.Facts] (m : (ℓ : Loc Cert.InputReferenceIdeal.nD Cert.InputReferenceIdeal.τ Cert.InputReferenceIdeal.sig) → Buf (Elt Ideal) ℓ) : Prop :=
  ∀ c : Dev Cert.InputReferenceIdeal.nD,
    (Cert.Pre_finite.fn (F := Ideal) (m ((c.tc : Thread Cert.InputReferenceIdeal.nD Cert.InputReferenceIdeal.τ).loc Cert.InputReferenceIdeal.main_arg0)) (m ((c.tc : Thread Cert.InputReferenceIdeal.nD Cert.InputReferenceIdeal.τ).loc Cert.InputReferenceIdeal.main_arg1)) (m ((c.tc : Thread Cert.InputReferenceIdeal.nD Cert.InputReferenceIdeal.τ).loc Cert.InputReferenceIdeal.main_arg2)) (m ((c.tc : Thread Cert.InputReferenceIdeal.nD Cert.InputReferenceIdeal.τ).loc Cert.InputReferenceIdeal.main_arg3)) (m ((c.tc : Thread Cert.InputReferenceIdeal.nD Cert.InputReferenceIdeal.τ).loc Cert.InputReferenceIdeal.main_arg4)) (m ((c.tc : Thread Cert.InputReferenceIdeal.nD Cert.InputReferenceIdeal.τ).loc Cert.InputReferenceIdeal.main_arg5))).1 = (fun _ => 1#1)
    ∧ (Cert.Pre_finite.fn (F := Ideal) (m ((c.tc : Thread Cert.InputReferenceIdeal.nD Cert.InputReferenceIdeal.τ).loc Cert.InputReferenceIdeal.main_arg0)) (m ((c.tc : Thread Cert.InputReferenceIdeal.nD Cert.InputReferenceIdeal.τ).loc Cert.InputReferenceIdeal.main_arg1)) (m ((c.tc : Thread Cert.InputReferenceIdeal.nD Cert.InputReferenceIdeal.τ).loc Cert.InputReferenceIdeal.main_arg2)) (m ((c.tc : Thread Cert.InputReferenceIdeal.nD Cert.InputReferenceIdeal.τ).loc Cert.InputReferenceIdeal.main_arg3)) (m ((c.tc : Thread Cert.InputReferenceIdeal.nD Cert.InputReferenceIdeal.τ).loc Cert.InputReferenceIdeal.main_arg4)) (m ((c.tc : Thread Cert.InputReferenceIdeal.nD Cert.InputReferenceIdeal.τ).loc Cert.InputReferenceIdeal.main_arg5))).2.1 = (fun _ => 1#1)
    ∧ (Cert.Pre_finite.fn (F := Ideal) (m ((c.tc : Thread Cert.InputReferenceIdeal.nD Cert.InputReferenceIdeal.τ).loc Cert.InputReferenceIdeal.main_arg0)) (m ((c.tc : Thread Cert.InputReferenceIdeal.nD Cert.InputReferenceIdeal.τ).loc Cert.InputReferenceIdeal.main_arg1)) (m ((c.tc : Thread Cert.InputReferenceIdeal.nD Cert.InputReferenceIdeal.τ).loc Cert.InputReferenceIdeal.main_arg2)) (m ((c.tc : Thread Cert.InputReferenceIdeal.nD Cert.InputReferenceIdeal.τ).loc Cert.InputReferenceIdeal.main_arg3)) (m ((c.tc : Thread Cert.InputReferenceIdeal.nD Cert.InputReferenceIdeal.τ).loc Cert.InputReferenceIdeal.main_arg4)) (m ((c.tc : Thread Cert.InputReferenceIdeal.nD Cert.InputReferenceIdeal.τ).loc Cert.InputReferenceIdeal.main_arg5))).2.2.1 = (fun _ => 1#1)
    ∧ (Cert.Pre_finite.fn (F := Ideal) (m ((c.tc : Thread Cert.InputReferenceIdeal.nD Cert.InputReferenceIdeal.τ).loc Cert.InputReferenceIdeal.main_arg0)) (m ((c.tc : Thread Cert.InputReferenceIdeal.nD Cert.InputReferenceIdeal.τ).loc Cert.InputReferenceIdeal.main_arg1)) (m ((c.tc : Thread Cert.InputReferenceIdeal.nD Cert.InputReferenceIdeal.τ).loc Cert.InputReferenceIdeal.main_arg2)) (m ((c.tc : Thread Cert.InputReferenceIdeal.nD Cert.InputReferenceIdeal.τ).loc Cert.InputReferenceIdeal.main_arg3)) (m ((c.tc : Thread Cert.InputReferenceIdeal.nD Cert.InputReferenceIdeal.τ).loc Cert.InputReferenceIdeal.main_arg4)) (m ((c.tc : Thread Cert.InputReferenceIdeal.nD Cert.InputReferenceIdeal.τ).loc Cert.InputReferenceIdeal.main_arg5))).2.2.2 = (fun _ => 1#1)

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_MixWeightKernel (m : (ℓ : Loc Cert.MixWeightKernel.nD Cert.MixWeightKernel.τ Cert.MixWeightKernel.sig) → Buf (Elt Bits) ℓ) : Prop :=
  True

def Pre_MixWeightKernelIdeal (m : (ℓ : Loc Cert.MixWeightKernelIdeal.nD Cert.MixWeightKernelIdeal.τ Cert.MixWeightKernelIdeal.sig) → Buf (Elt Ideal) ℓ) : Prop :=
  True

def Pre_MixWeightReferenceIdeal (m : (ℓ : Loc Cert.MixWeightReferenceIdeal.nD Cert.MixWeightReferenceIdeal.τ Cert.MixWeightReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_WeightKernel [hWeightKernel : Cert.WeightKernel.Facts] : Prop :=
  ∀ (m : (ℓ : Loc Cert.WeightKernel.nD Cert.WeightKernel.τ Cert.WeightKernel.sig) → Buf (Elt Bits) ℓ) (g : Dev Cert.WeightKernel.nD → PrngReg), Pre_WeightKernel m →
    θ_run (Cert.WeightKernel.defs (F := Bits)) (onTc (τ := Cert.WeightKernel.τ) (Cert.WeightKernel.main (F := Bits))) ⟨m, fun _ => 0, g⟩ (fun r => (∀ c : Dev Cert.WeightKernel.nD,
      r.2.mem ((c.tc : Thread Cert.WeightKernel.nD Cert.WeightKernel.τ).loc Cert.WeightKernel.main_arg0) = m ((c.tc : Thread Cert.WeightKernel.nD Cert.WeightKernel.τ).loc Cert.WeightKernel.main_arg0)
      ∧ r.2.mem ((c.tc : Thread Cert.WeightKernel.nD Cert.WeightKernel.τ).loc Cert.WeightKernel.main_arg1) = m ((c.tc : Thread Cert.WeightKernel.nD Cert.WeightKernel.τ).loc Cert.WeightKernel.main_arg1))
      ∧ r.2.sem = fun _ => 0)

def quiescent_WeightKernelIdeal [hWeightKernelIdeal : Cert.WeightKernelIdeal.Facts] : Prop :=
  ∀ (m : (ℓ : Loc Cert.WeightKernelIdeal.nD Cert.WeightKernelIdeal.τ Cert.WeightKernelIdeal.sig) → Buf (Elt Ideal) ℓ) (g : Dev Cert.WeightKernelIdeal.nD → PrngReg), Pre_WeightKernelIdeal m →
    θ_run (Cert.WeightKernelIdeal.defs (F := Ideal)) (onTc (τ := Cert.WeightKernelIdeal.τ) (Cert.WeightKernelIdeal.main (F := Ideal))) ⟨m, fun _ => 0, g⟩ (fun r => (∀ c : Dev Cert.WeightKernelIdeal.nD,
      r.2.mem ((c.tc : Thread Cert.WeightKernelIdeal.nD Cert.WeightKernelIdeal.τ).loc Cert.WeightKernelIdeal.main_arg0) = m ((c.tc : Thread Cert.WeightKernelIdeal.nD Cert.WeightKernelIdeal.τ).loc Cert.WeightKernelIdeal.main_arg0)
      ∧ r.2.mem ((c.tc : Thread Cert.WeightKernelIdeal.nD Cert.WeightKernelIdeal.τ).loc Cert.WeightKernelIdeal.main_arg1) = m ((c.tc : Thread Cert.WeightKernelIdeal.nD Cert.WeightKernelIdeal.τ).loc Cert.WeightKernelIdeal.main_arg1))
      ∧ r.2.sem = fun _ => 0)

def quiescent_WeightReferenceIdeal [hWeightReferenceIdeal : Cert.WeightReferenceIdeal.Facts] : Prop :=
  ∀ (m : (ℓ : Loc Cert.WeightReferenceIdeal.nD Cert.WeightReferenceIdeal.τ Cert.WeightReferenceIdeal.sig) → Buf (Elt Ideal) ℓ) (g : Dev Cert.WeightReferenceIdeal.nD → PrngReg), Pre_WeightReferenceIdeal m →
    θ_run (Cert.WeightReferenceIdeal.defs (F := Ideal)) (onTc (τ := Cert.WeightReferenceIdeal.τ) (Cert.WeightReferenceIdeal.main (F := Ideal))) ⟨m, fun _ => 0, g⟩ (fun r => (∀ c : Dev Cert.WeightReferenceIdeal.nD,
      r.2.mem ((c.tc : Thread Cert.WeightReferenceIdeal.nD Cert.WeightReferenceIdeal.τ).loc Cert.WeightReferenceIdeal.main_arg0) = m ((c.tc : Thread Cert.WeightReferenceIdeal.nD Cert.WeightReferenceIdeal.τ).loc Cert.WeightReferenceIdeal.main_arg0)
      ∧ r.2.mem ((c.tc : Thread Cert.WeightReferenceIdeal.nD Cert.WeightReferenceIdeal.τ).loc Cert.WeightReferenceIdeal.main_arg1) = m ((c.tc : Thread Cert.WeightReferenceIdeal.nD Cert.WeightReferenceIdeal.τ).loc Cert.WeightReferenceIdeal.main_arg1))
      ∧ r.2.sem = fun _ => 0)

def quiescent_InputKernel [hInputKernel : Cert.InputKernel.Facts] : Prop :=
  ∀ (m : (ℓ : Loc Cert.InputKernel.nD Cert.InputKernel.τ Cert.InputKernel.sig) → Buf (Elt Bits) ℓ) (g : Dev Cert.InputKernel.nD → PrngReg), Pre_InputKernel m →
    θ_run (Cert.InputKernel.defs (F := Bits)) (onTc (τ := Cert.InputKernel.τ) (Cert.InputKernel.main (F := Bits))) ⟨m, fun _ => 0, g⟩ (fun r => (∀ c : Dev Cert.InputKernel.nD,
      r.2.mem ((c.tc : Thread Cert.InputKernel.nD Cert.InputKernel.τ).loc Cert.InputKernel.main_arg0) = m ((c.tc : Thread Cert.InputKernel.nD Cert.InputKernel.τ).loc Cert.InputKernel.main_arg0)
      ∧ r.2.mem ((c.tc : Thread Cert.InputKernel.nD Cert.InputKernel.τ).loc Cert.InputKernel.main_arg1) = m ((c.tc : Thread Cert.InputKernel.nD Cert.InputKernel.τ).loc Cert.InputKernel.main_arg1)
      ∧ r.2.mem ((c.tc : Thread Cert.InputKernel.nD Cert.InputKernel.τ).loc Cert.InputKernel.main_arg2) = m ((c.tc : Thread Cert.InputKernel.nD Cert.InputKernel.τ).loc Cert.InputKernel.main_arg2)
      ∧ r.2.mem ((c.tc : Thread Cert.InputKernel.nD Cert.InputKernel.τ).loc Cert.InputKernel.main_arg3) = m ((c.tc : Thread Cert.InputKernel.nD Cert.InputKernel.τ).loc Cert.InputKernel.main_arg3)
      ∧ r.2.mem ((c.tc : Thread Cert.InputKernel.nD Cert.InputKernel.τ).loc Cert.InputKernel.main_arg4) = m ((c.tc : Thread Cert.InputKernel.nD Cert.InputKernel.τ).loc Cert.InputKernel.main_arg4)
      ∧ r.2.mem ((c.tc : Thread Cert.InputKernel.nD Cert.InputKernel.τ).loc Cert.InputKernel.main_arg5) = m ((c.tc : Thread Cert.InputKernel.nD Cert.InputKernel.τ).loc Cert.InputKernel.main_arg5))
      ∧ r.2.sem = fun _ => 0)

def quiescent_InputKernelIdeal [hInputKernelIdeal : Cert.InputKernelIdeal.Facts] : Prop :=
  ∀ (m : (ℓ : Loc Cert.InputKernelIdeal.nD Cert.InputKernelIdeal.τ Cert.InputKernelIdeal.sig) → Buf (Elt Ideal) ℓ) (g : Dev Cert.InputKernelIdeal.nD → PrngReg), Pre_InputKernelIdeal m →
    θ_run (Cert.InputKernelIdeal.defs (F := Ideal)) (onTc (τ := Cert.InputKernelIdeal.τ) (Cert.InputKernelIdeal.main (F := Ideal))) ⟨m, fun _ => 0, g⟩ (fun r => (∀ c : Dev Cert.InputKernelIdeal.nD,
      r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
      ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
      ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2)
      ∧ r.2.mem ((c.tc : Thread Cert.InputKernelIdeal.nD Cert.InputKernelIdeal.τ).loc Cert.InputKernelIdeal.main_arg3) = m ((c.tc : Thread Cert.InputKernelIdeal.nD Cert.InputKernelIdeal.τ).loc Cert.InputKernelIdeal.main_arg3)
      ∧ r.2.mem ((c.tc : Thread Cert.InputKernelIdeal.nD Cert.InputKernelIdeal.τ).loc Cert.InputKernelIdeal.main_arg4) = m ((c.tc : Thread Cert.InputKernelIdeal.nD Cert.InputKernelIdeal.τ).loc Cert.InputKernelIdeal.main_arg4)
      ∧ r.2.mem ((c.tc : Thread Cert.InputKernelIdeal.nD Cert.InputKernelIdeal.τ).loc Cert.InputKernelIdeal.main_arg5) = m ((c.tc : Thread Cert.InputKernelIdeal.nD Cert.InputKernelIdeal.τ).loc Cert.InputKernelIdeal.main_arg5))
      ∧ r.2.sem = fun _ => 0)

def quiescent_InputKernelIdeal_pre_finite [hInputKernelIdeal : Cert.InputKernelIdeal.Facts] [hPre_finite : Cert.Pre_finite.Facts] : Prop :=
  ∀ (m : (ℓ : Loc Cert.InputKernelIdeal.nD Cert.InputKernelIdeal.τ Cert.InputKernelIdeal.sig) → Buf (Elt Ideal) ℓ) (g : Dev Cert.InputKernelIdeal.nD → PrngReg), Pre_InputKernelIdeal_finite m →
    θ_run (Cert.InputKernelIdeal.defs (F := Ideal)) (onTc (τ := Cert.InputKernelIdeal.τ) (Cert.InputKernelIdeal.main (F := Ideal))) ⟨m, fun _ => 0, g⟩ (fun r => (∀ c : Dev Cert.InputKernelIdeal.nD,
      r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
      ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
      ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2)
      ∧ r.2.mem ((c.tc : Thread Cert.InputKernelIdeal.nD Cert.InputKernelIdeal.τ).loc Cert.InputKernelIdeal.main_arg3) = m ((c.tc : Thread Cert.InputKernelIdeal.nD Cert.InputKernelIdeal.τ).loc Cert.InputKernelIdeal.main_arg3)
      ∧ r.2.mem ((c.tc : Thread Cert.InputKernelIdeal.nD Cert.InputKernelIdeal.τ).loc Cert.InputKernelIdeal.main_arg4) = m ((c.tc : Thread Cert.InputKernelIdeal.nD Cert.InputKernelIdeal.τ).loc Cert.InputKernelIdeal.main_arg4)
      ∧ r.2.mem ((c.tc : Thread Cert.InputKernelIdeal.nD Cert.InputKernelIdeal.τ).loc Cert.InputKernelIdeal.main_arg5) = m ((c.tc : Thread Cert.InputKernelIdeal.nD Cert.InputKernelIdeal.τ).loc Cert.InputKernelIdeal.main_arg5))
      ∧ r.2.sem = fun _ => 0)

def quiescent_InputReferenceIdeal [hInputReferenceIdeal : Cert.InputReferenceIdeal.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3)
      ∧ r.2.mem ((c.tc : Thread Cert.InputReferenceIdeal.nD Cert.InputReferenceIdeal.τ).loc Cert.InputReferenceIdeal.main_arg4) = m ((c.tc : Thread Cert.InputReferenceIdeal.nD Cert.InputReferenceIdeal.τ).loc Cert.InputReferenceIdeal.main_arg4)
      ∧ r.2.mem ((c.tc : Thread Cert.InputReferenceIdeal.nD Cert.InputReferenceIdeal.τ).loc Cert.InputReferenceIdeal.main_arg5) = m ((c.tc : Thread Cert.InputReferenceIdeal.nD Cert.InputReferenceIdeal.τ).loc Cert.InputReferenceIdeal.main_arg5))
      ∧ r.2.sem = fun _ => 0)

def quiescent_InputReferenceIdeal_pre_finite [hInputReferenceIdeal : Cert.InputReferenceIdeal.Facts] [hPre_finite : Cert.Pre_finite.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal_finite m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3)
      ∧ r.2.mem ((c.tc : Thread Cert.InputReferenceIdeal.nD Cert.InputReferenceIdeal.τ).loc Cert.InputReferenceIdeal.main_arg4) = m ((c.tc : Thread Cert.InputReferenceIdeal.nD Cert.InputReferenceIdeal.τ).loc Cert.InputReferenceIdeal.main_arg4)
      ∧ r.2.mem ((c.tc : Thread Cert.InputReferenceIdeal.nD Cert.InputReferenceIdeal.τ).loc Cert.InputReferenceIdeal.main_arg5) = m ((c.tc : Thread Cert.InputReferenceIdeal.nD Cert.InputReferenceIdeal.τ).loc Cert.InputReferenceIdeal.main_arg5))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_MixWeightKernel [hMixWeightKernel : Cert.MixWeightKernel.Facts] : Prop :=
  ∀ (m : (ℓ : Loc Cert.MixWeightKernel.nD Cert.MixWeightKernel.τ Cert.MixWeightKernel.sig) → Buf (Elt Bits) ℓ) (g : Dev Cert.MixWeightKernel.nD → PrngReg), Pre_MixWeightKernel m →
    θ_run (Cert.MixWeightKernel.defs (F := Bits)) (onTc (τ := Cert.MixWeightKernel.τ) (Cert.MixWeightKernel.main (F := Bits))) ⟨m, fun _ => 0, g⟩ (fun r => (∀ c : Dev Cert.MixWeightKernel.nD,
      r.2.mem ((c.tc : Thread Cert.MixWeightKernel.nD Cert.MixWeightKernel.τ).loc Cert.MixWeightKernel.main_arg0) = m ((c.tc : Thread Cert.MixWeightKernel.nD Cert.MixWeightKernel.τ).loc Cert.MixWeightKernel.main_arg0)
      ∧ r.2.mem ((c.tc : Thread Cert.MixWeightKernel.nD Cert.MixWeightKernel.τ).loc Cert.MixWeightKernel.main_arg1) = m ((c.tc : Thread Cert.MixWeightKernel.nD Cert.MixWeightKernel.τ).loc Cert.MixWeightKernel.main_arg1))
      ∧ r.2.sem = fun _ => 0)

def quiescent_MixWeightKernelIdeal [hMixWeightKernelIdeal : Cert.MixWeightKernelIdeal.Facts] : Prop :=
  ∀ (m : (ℓ : Loc Cert.MixWeightKernelIdeal.nD Cert.MixWeightKernelIdeal.τ Cert.MixWeightKernelIdeal.sig) → Buf (Elt Ideal) ℓ) (g : Dev Cert.MixWeightKernelIdeal.nD → PrngReg), Pre_MixWeightKernelIdeal m →
    θ_run (Cert.MixWeightKernelIdeal.defs (F := Ideal)) (onTc (τ := Cert.MixWeightKernelIdeal.τ) (Cert.MixWeightKernelIdeal.main (F := Ideal))) ⟨m, fun _ => 0, g⟩ (fun r => (∀ c : Dev Cert.MixWeightKernelIdeal.nD,
      r.2.mem ((c.tc : Thread Cert.MixWeightKernelIdeal.nD Cert.MixWeightKernelIdeal.τ).loc Cert.MixWeightKernelIdeal.main_arg0) = m ((c.tc : Thread Cert.MixWeightKernelIdeal.nD Cert.MixWeightKernelIdeal.τ).loc Cert.MixWeightKernelIdeal.main_arg0)
      ∧ r.2.mem ((c.tc : Thread Cert.MixWeightKernelIdeal.nD Cert.MixWeightKernelIdeal.τ).loc Cert.MixWeightKernelIdeal.main_arg1) = m ((c.tc : Thread Cert.MixWeightKernelIdeal.nD Cert.MixWeightKernelIdeal.τ).loc Cert.MixWeightKernelIdeal.main_arg1))
      ∧ r.2.sem = fun _ => 0)

def quiescent_MixWeightReferenceIdeal [hMixWeightReferenceIdeal : Cert.MixWeightReferenceIdeal.Facts] : Prop :=
  ∀ (m : (ℓ : Loc Cert.MixWeightReferenceIdeal.nD Cert.MixWeightReferenceIdeal.τ Cert.MixWeightReferenceIdeal.sig) → Buf (Elt Ideal) ℓ) (g : Dev Cert.MixWeightReferenceIdeal.nD → PrngReg), Pre_MixWeightReferenceIdeal m →
    θ_run (Cert.MixWeightReferenceIdeal.defs (F := Ideal)) (onTc (τ := Cert.MixWeightReferenceIdeal.τ) (Cert.MixWeightReferenceIdeal.main (F := Ideal))) ⟨m, fun _ => 0, g⟩ (fun r => (∀ c : Dev Cert.MixWeightReferenceIdeal.nD,
      r.2.mem ((c.tc : Thread Cert.MixWeightReferenceIdeal.nD Cert.MixWeightReferenceIdeal.τ).loc Cert.MixWeightReferenceIdeal.main_arg0) = m ((c.tc : Thread Cert.MixWeightReferenceIdeal.nD Cert.MixWeightReferenceIdeal.τ).loc Cert.MixWeightReferenceIdeal.main_arg0)
      ∧ r.2.mem ((c.tc : Thread Cert.MixWeightReferenceIdeal.nD Cert.MixWeightReferenceIdeal.τ).loc Cert.MixWeightReferenceIdeal.main_arg1) = m ((c.tc : Thread Cert.MixWeightReferenceIdeal.nD Cert.MixWeightReferenceIdeal.τ).loc Cert.MixWeightReferenceIdeal.main_arg1))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4)
      ∧ r.2.mem ((c.tc : Thread Cert.LossKernel.nD Cert.LossKernel.τ).loc Cert.LossKernel.main_arg5) = m ((c.tc : Thread Cert.LossKernel.nD Cert.LossKernel.τ).loc Cert.LossKernel.main_arg5)
      ∧ r.2.mem ((c.tc : Thread Cert.LossKernel.nD Cert.LossKernel.τ).loc Cert.LossKernel.main_arg6) = m ((c.tc : Thread Cert.LossKernel.nD Cert.LossKernel.τ).loc Cert.LossKernel.main_arg6))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5)
      ∧ r.2.mem ((c.tc : Thread Cert.LossKernelIdeal.nD Cert.LossKernelIdeal.τ).loc Cert.LossKernelIdeal.main_arg6) = m ((c.tc : Thread Cert.LossKernelIdeal.nD Cert.LossKernelIdeal.τ).loc Cert.LossKernelIdeal.main_arg6))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5)
      ∧ r.2.mem ((c.tc : Thread Cert.LossReferenceIdeal.nD Cert.LossReferenceIdeal.τ).loc Cert.LossReferenceIdeal.main_arg6) = m ((c.tc : Thread Cert.LossReferenceIdeal.nD Cert.LossReferenceIdeal.τ).loc Cert.LossReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_WeightKernel_WeightKernelIdeal : Prop :=
  True

def algebraic_WeightKernelIdeal_WeightReferenceIdeal [hWeightKernelIdeal : Cert.WeightKernelIdeal.Facts] [hWeightReferenceIdeal : Cert.WeightReferenceIdeal.Facts] : Prop :=
  ∀ (m : (ℓ : Loc Cert.WeightKernelIdeal.nD Cert.WeightKernelIdeal.τ Cert.WeightKernelIdeal.sig) → Buf (Elt Ideal) ℓ) (g : Dev Cert.WeightKernelIdeal.nD → PrngReg)
    (m' : (ℓ : Loc Cert.WeightReferenceIdeal.nD Cert.WeightReferenceIdeal.τ Cert.WeightReferenceIdeal.sig) → Buf (Elt Ideal) ℓ) (g' : Dev Cert.WeightReferenceIdeal.nD → PrngReg), Pre_WeightKernelIdeal m →
    (∀ c : Dev Cert.WeightKernelIdeal.nD,
      m' ((c.tc : Thread Cert.WeightReferenceIdeal.nD Cert.WeightReferenceIdeal.τ).loc Cert.WeightReferenceIdeal.main_arg0) = m ((c.tc : Thread Cert.WeightKernelIdeal.nD Cert.WeightKernelIdeal.τ).loc Cert.WeightKernelIdeal.main_arg0)
      ∧ m' ((c.tc : Thread Cert.WeightReferenceIdeal.nD Cert.WeightReferenceIdeal.τ).loc Cert.WeightReferenceIdeal.main_arg1) = m ((c.tc : Thread Cert.WeightKernelIdeal.nD Cert.WeightKernelIdeal.τ).loc Cert.WeightKernelIdeal.main_arg1)) →
    ∃ (v0 : (c : Dev Cert.WeightKernelIdeal.nD) → Buf (Elt Ideal) ((c.tc : Thread Cert.WeightKernelIdeal.nD Cert.WeightKernelIdeal.τ).loc Cert.WeightKernelIdeal.main_v0_0)) (v1 : (c : Dev Cert.WeightKernelIdeal.nD) → Buf (Elt Ideal) ((c.tc : Thread Cert.WeightKernelIdeal.nD Cert.WeightKernelIdeal.τ).loc Cert.WeightKernelIdeal.main_v0_1)),
      θ_run (Cert.WeightKernelIdeal.defs (F := Ideal)) (onTc (τ := Cert.WeightKernelIdeal.τ) (Cert.WeightKernelIdeal.main (F := Ideal))) ⟨m, fun _ => 0, g⟩ (fun r => ∀ c : Dev Cert.WeightKernelIdeal.nD,
          r.2.mem ((c.tc : Thread Cert.WeightKernelIdeal.nD Cert.WeightKernelIdeal.τ).loc Cert.WeightKernelIdeal.main_v0_0) = v0 c
          ∧ r.2.mem ((c.tc : Thread Cert.WeightKernelIdeal.nD Cert.WeightKernelIdeal.τ).loc Cert.WeightKernelIdeal.main_v0_1) = v1 c
          ∧ r.2.mem ((c.tc : Thread Cert.WeightKernelIdeal.nD Cert.WeightKernelIdeal.τ).loc Cert.WeightKernelIdeal.main_arg0) = m ((c.tc : Thread Cert.WeightKernelIdeal.nD Cert.WeightKernelIdeal.τ).loc Cert.WeightKernelIdeal.main_arg0)
          ∧ r.2.mem ((c.tc : Thread Cert.WeightKernelIdeal.nD Cert.WeightKernelIdeal.τ).loc Cert.WeightKernelIdeal.main_arg1) = m ((c.tc : Thread Cert.WeightKernelIdeal.nD Cert.WeightKernelIdeal.τ).loc Cert.WeightKernelIdeal.main_arg1))
      ∧ θ_run (Cert.WeightReferenceIdeal.defs (F := Ideal)) (onTc (τ := Cert.WeightReferenceIdeal.τ) (Cert.WeightReferenceIdeal.main (F := Ideal))) ⟨m', fun _ => 0, g'⟩ (fun r => ∀ c : Dev Cert.WeightReferenceIdeal.nD,
          r.2.mem ((c.tc : Thread Cert.WeightReferenceIdeal.nD Cert.WeightReferenceIdeal.τ).loc Cert.WeightReferenceIdeal.main_v7) = v0 c
          ∧ r.2.mem ((c.tc : Thread Cert.WeightReferenceIdeal.nD Cert.WeightReferenceIdeal.τ).loc Cert.WeightReferenceIdeal.main_v8) = v1 c
          ∧ r.2.mem ((c.tc : Thread Cert.WeightReferenceIdeal.nD Cert.WeightReferenceIdeal.τ).loc Cert.WeightReferenceIdeal.main_arg0) = m' ((c.tc : Thread Cert.WeightReferenceIdeal.nD Cert.WeightReferenceIdeal.τ).loc Cert.WeightReferenceIdeal.main_arg0)
          ∧ r.2.mem ((c.tc : Thread Cert.WeightReferenceIdeal.nD Cert.WeightReferenceIdeal.τ).loc Cert.WeightReferenceIdeal.main_arg1) = m' ((c.tc : Thread Cert.WeightReferenceIdeal.nD Cert.WeightReferenceIdeal.τ).loc Cert.WeightReferenceIdeal.main_arg1))

def preserves_InputKernel_InputKernelIdeal : Prop :=
  True

def algebraic_InputKernelIdeal_InputReferenceIdeal_pre_finite [hInputKernelIdeal : Cert.InputKernelIdeal.Facts] [hInputReferenceIdeal : Cert.InputReferenceIdeal.Facts] [hPre_finite : Cert.Pre_finite.Facts] : Prop :=
  ∀ (m : (ℓ : Loc Cert.InputKernelIdeal.nD Cert.InputKernelIdeal.τ Cert.InputKernelIdeal.sig) → Buf (Elt Ideal) ℓ) (g : Dev Cert.InputKernelIdeal.nD → PrngReg)
    (m' : (ℓ : Loc Cert.InputReferenceIdeal.nD Cert.InputReferenceIdeal.τ Cert.InputReferenceIdeal.sig) → Buf (Elt Ideal) ℓ) (g' : Dev Cert.InputReferenceIdeal.nD → PrngReg), Pre_InputKernelIdeal_finite m →
    (∀ c : Dev Cert.InputKernelIdeal.nD,
      m' ((c.tc : Thread Cert.InputReferenceIdeal.nD Cert.InputReferenceIdeal.τ).loc Cert.InputReferenceIdeal.main_arg0) = m ((c.tc : Thread Cert.InputKernelIdeal.nD Cert.InputKernelIdeal.τ).loc Cert.InputKernelIdeal.main_arg0)
      ∧ m' ((c.tc : Thread Cert.InputReferenceIdeal.nD Cert.InputReferenceIdeal.τ).loc Cert.InputReferenceIdeal.main_arg1) = m ((c.tc : Thread Cert.InputKernelIdeal.nD Cert.InputKernelIdeal.τ).loc Cert.InputKernelIdeal.main_arg1)
      ∧ m' ((c.tc : Thread Cert.InputReferenceIdeal.nD Cert.InputReferenceIdeal.τ).loc Cert.InputReferenceIdeal.main_arg2) = m ((c.tc : Thread Cert.InputKernelIdeal.nD Cert.InputKernelIdeal.τ).loc Cert.InputKernelIdeal.main_arg2)
      ∧ m' ((c.tc : Thread Cert.InputReferenceIdeal.nD Cert.InputReferenceIdeal.τ).loc Cert.InputReferenceIdeal.main_arg3) = m ((c.tc : Thread Cert.InputKernelIdeal.nD Cert.InputKernelIdeal.τ).loc Cert.InputKernelIdeal.main_arg3)
      ∧ m' ((c.tc : Thread Cert.InputReferenceIdeal.nD Cert.InputReferenceIdeal.τ).loc Cert.InputReferenceIdeal.main_arg4) = m ((c.tc : Thread Cert.InputKernelIdeal.nD Cert.InputKernelIdeal.τ).loc Cert.InputKernelIdeal.main_arg4)
      ∧ m' ((c.tc : Thread Cert.InputReferenceIdeal.nD Cert.InputReferenceIdeal.τ).loc Cert.InputReferenceIdeal.main_arg5) = m ((c.tc : Thread Cert.InputKernelIdeal.nD Cert.InputKernelIdeal.τ).loc Cert.InputKernelIdeal.main_arg5)) →
    ∃ (v0 : (c : Dev Cert.InputKernelIdeal.nD) → Buf (Elt Ideal) ((c.tc : Thread Cert.InputKernelIdeal.nD Cert.InputKernelIdeal.τ).loc Cert.InputKernelIdeal.main_v17_0)) (v1 : (c : Dev Cert.InputKernelIdeal.nD) → Buf (Elt Ideal) ((c.tc : Thread Cert.InputKernelIdeal.nD Cert.InputKernelIdeal.τ).loc Cert.InputKernelIdeal.main_v17_1)) (v2 : (c : Dev Cert.InputKernelIdeal.nD) → Buf (Elt Ideal) ((c.tc : Thread Cert.InputKernelIdeal.nD Cert.InputKernelIdeal.τ).loc Cert.InputKernelIdeal.main_v17_2)) (v3 : (c : Dev Cert.InputKernelIdeal.nD) → Buf (Elt Ideal) ((c.tc : Thread Cert.InputKernelIdeal.nD Cert.InputKernelIdeal.τ).loc Cert.InputKernelIdeal.main_v17_3)) (v4 : (c : Dev Cert.InputKernelIdeal.nD) → Buf (Elt Ideal) ((c.tc : Thread Cert.InputKernelIdeal.nD Cert.InputKernelIdeal.τ).loc Cert.InputKernelIdeal.main_v18)),
      θ_run (Cert.InputKernelIdeal.defs (F := Ideal)) (onTc (τ := Cert.InputKernelIdeal.τ) (Cert.InputKernelIdeal.main (F := Ideal))) ⟨m, fun _ => 0, g⟩ (fun r => ∀ c : Dev Cert.InputKernelIdeal.nD,
          r.2.mem ((c.tc : Thread Cert.InputKernelIdeal.nD Cert.InputKernelIdeal.τ).loc Cert.InputKernelIdeal.main_v17_0) = v0 c
          ∧ r.2.mem ((c.tc : Thread Cert.InputKernelIdeal.nD Cert.InputKernelIdeal.τ).loc Cert.InputKernelIdeal.main_v17_1) = v1 c
          ∧ r.2.mem ((c.tc : Thread Cert.InputKernelIdeal.nD Cert.InputKernelIdeal.τ).loc Cert.InputKernelIdeal.main_v17_2) = v2 c
          ∧ r.2.mem ((c.tc : Thread Cert.InputKernelIdeal.nD Cert.InputKernelIdeal.τ).loc Cert.InputKernelIdeal.main_v17_3) = v3 c
          ∧ r.2.mem ((c.tc : Thread Cert.InputKernelIdeal.nD Cert.InputKernelIdeal.τ).loc Cert.InputKernelIdeal.main_v18) = v4 c
          ∧ r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
          ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
          ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2)
          ∧ r.2.mem ((c.tc : Thread Cert.InputKernelIdeal.nD Cert.InputKernelIdeal.τ).loc Cert.InputKernelIdeal.main_arg3) = m ((c.tc : Thread Cert.InputKernelIdeal.nD Cert.InputKernelIdeal.τ).loc Cert.InputKernelIdeal.main_arg3)
          ∧ r.2.mem ((c.tc : Thread Cert.InputKernelIdeal.nD Cert.InputKernelIdeal.τ).loc Cert.InputKernelIdeal.main_arg4) = m ((c.tc : Thread Cert.InputKernelIdeal.nD Cert.InputKernelIdeal.τ).loc Cert.InputKernelIdeal.main_arg4)
          ∧ r.2.mem ((c.tc : Thread Cert.InputKernelIdeal.nD Cert.InputKernelIdeal.τ).loc Cert.InputKernelIdeal.main_arg5) = m ((c.tc : Thread Cert.InputKernelIdeal.nD Cert.InputKernelIdeal.τ).loc Cert.InputKernelIdeal.main_arg5))
      ∧ θ_run (Cert.InputReferenceIdeal.defs (F := Ideal)) (onTc (τ := Cert.InputReferenceIdeal.τ) (Cert.InputReferenceIdeal.main (F := Ideal))) ⟨m', fun _ => 0, g'⟩ (fun r => ∀ c : Dev Cert.InputReferenceIdeal.nD,
          r.2.mem ((c.tc : Thread Cert.InputReferenceIdeal.nD Cert.InputReferenceIdeal.τ).loc Cert.InputReferenceIdeal.main_v60) = v0 c
          ∧ r.2.mem ((c.tc : Thread Cert.InputReferenceIdeal.nD Cert.InputReferenceIdeal.τ).loc Cert.InputReferenceIdeal.main_v61) = v1 c
          ∧ r.2.mem ((c.tc : Thread Cert.InputReferenceIdeal.nD Cert.InputReferenceIdeal.τ).loc Cert.InputReferenceIdeal.main_v62) = v2 c
          ∧ r.2.mem ((c.tc : Thread Cert.InputReferenceIdeal.nD Cert.InputReferenceIdeal.τ).loc Cert.InputReferenceIdeal.main_v63) = v3 c
          ∧ r.2.mem ((c.tc : Thread Cert.InputReferenceIdeal.nD Cert.InputReferenceIdeal.τ).loc Cert.InputReferenceIdeal.main_v45) = v4 c
          ∧ r.2.mem ((c.tc : Thread Cert.InputReferenceIdeal.nD Cert.InputReferenceIdeal.τ).loc Cert.InputReferenceIdeal.main_arg0) = m' ((c.tc : Thread Cert.InputReferenceIdeal.nD Cert.InputReferenceIdeal.τ).loc Cert.InputReferenceIdeal.main_arg0)
          ∧ r.2.mem ((c.tc : Thread Cert.InputReferenceIdeal.nD Cert.InputReferenceIdeal.τ).loc Cert.InputReferenceIdeal.main_arg1) = m' ((c.tc : Thread Cert.InputReferenceIdeal.nD Cert.InputReferenceIdeal.τ).loc Cert.InputReferenceIdeal.main_arg1)
          ∧ r.2.mem ((c.tc : Thread Cert.InputReferenceIdeal.nD Cert.InputReferenceIdeal.τ).loc Cert.InputReferenceIdeal.main_arg2) = m' ((c.tc : Thread Cert.InputReferenceIdeal.nD Cert.InputReferenceIdeal.τ).loc Cert.InputReferenceIdeal.main_arg2)
          ∧ r.2.mem ((c.tc : Thread Cert.InputReferenceIdeal.nD Cert.InputReferenceIdeal.τ).loc Cert.InputReferenceIdeal.main_arg3) = m' ((c.tc : Thread Cert.InputReferenceIdeal.nD Cert.InputReferenceIdeal.τ).loc Cert.InputReferenceIdeal.main_arg3)
          ∧ r.2.mem ((c.tc : Thread Cert.InputReferenceIdeal.nD Cert.InputReferenceIdeal.τ).loc Cert.InputReferenceIdeal.main_arg4) = m' ((c.tc : Thread Cert.InputReferenceIdeal.nD Cert.InputReferenceIdeal.τ).loc Cert.InputReferenceIdeal.main_arg4)
          ∧ r.2.mem ((c.tc : Thread Cert.InputReferenceIdeal.nD Cert.InputReferenceIdeal.τ).loc Cert.InputReferenceIdeal.main_arg5) = m' ((c.tc : Thread Cert.InputReferenceIdeal.nD Cert.InputReferenceIdeal.τ).loc Cert.InputReferenceIdeal.main_arg5))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)) →
    ∃ (v0 : (c : Dev Cert.UpKernelIdeal.nD) → Buf (Elt Ideal) ((c.tc : Thread Cert.UpKernelIdeal.nD Cert.UpKernelIdeal.τ).loc Cert.UpKernelIdeal.main_v0_0)) (v1 : (c : Dev Cert.UpKernelIdeal.nD) → Buf (Elt Ideal) ((c.tc : Thread Cert.UpKernelIdeal.nD Cert.UpKernelIdeal.τ).loc Cert.UpKernelIdeal.main_v0_1)) (v2 : (c : Dev Cert.UpKernelIdeal.nD) → Buf (Elt Ideal) ((c.tc : Thread Cert.UpKernelIdeal.nD Cert.UpKernelIdeal.τ).loc Cert.UpKernelIdeal.main_v0_2)) (v3 : (c : Dev Cert.UpKernelIdeal.nD) → Buf (Elt Ideal) ((c.tc : Thread Cert.UpKernelIdeal.nD Cert.UpKernelIdeal.τ).loc Cert.UpKernelIdeal.main_v0_3)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0_0) = v0 c
          ∧ r.2.mem ((c.tc : Thread Cert.UpKernelIdeal.nD Cert.UpKernelIdeal.τ).loc Cert.UpKernelIdeal.main_v0_1) = v1 c
          ∧ r.2.mem ((c.tc : Thread Cert.UpKernelIdeal.nD Cert.UpKernelIdeal.τ).loc Cert.UpKernelIdeal.main_v0_2) = v2 c
          ∧ r.2.mem ((c.tc : Thread Cert.UpKernelIdeal.nD Cert.UpKernelIdeal.τ).loc Cert.UpKernelIdeal.main_v0_3) = v3 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v22) = v0 c
          ∧ r.2.mem ((c.tc : Thread Cert.UpReferenceIdeal.nD Cert.UpReferenceIdeal.τ).loc Cert.UpReferenceIdeal.main_v23) = v1 c
          ∧ r.2.mem ((c.tc : Thread Cert.UpReferenceIdeal.nD Cert.UpReferenceIdeal.τ).loc Cert.UpReferenceIdeal.main_v24) = v2 c
          ∧ r.2.mem ((c.tc : Thread Cert.UpReferenceIdeal.nD Cert.UpReferenceIdeal.τ).loc Cert.UpReferenceIdeal.main_v25) = v3 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v5) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)) →
    ∃ (v0 : (c : Dev Cert.OutKernelIdeal.nD) → Buf (Elt Ideal) ((c.tc : Thread Cert.OutKernelIdeal.nD Cert.OutKernelIdeal.τ).loc Cert.OutKernelIdeal.main_v0)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v0) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_MixWeightKernel_MixWeightKernelIdeal : Prop :=
  True

def algebraic_MixWeightKernelIdeal_MixWeightReferenceIdeal [hMixWeightKernelIdeal : Cert.MixWeightKernelIdeal.Facts] [hMixWeightReferenceIdeal : Cert.MixWeightReferenceIdeal.Facts] : Prop :=
  ∀ (m : (ℓ : Loc Cert.MixWeightKernelIdeal.nD Cert.MixWeightKernelIdeal.τ Cert.MixWeightKernelIdeal.sig) → Buf (Elt Ideal) ℓ) (g : Dev Cert.MixWeightKernelIdeal.nD → PrngReg)
    (m' : (ℓ : Loc Cert.MixWeightReferenceIdeal.nD Cert.MixWeightReferenceIdeal.τ Cert.MixWeightReferenceIdeal.sig) → Buf (Elt Ideal) ℓ) (g' : Dev Cert.MixWeightReferenceIdeal.nD → PrngReg), Pre_MixWeightKernelIdeal m →
    (∀ c : Dev Cert.MixWeightKernelIdeal.nD,
      m' ((c.tc : Thread Cert.MixWeightReferenceIdeal.nD Cert.MixWeightReferenceIdeal.τ).loc Cert.MixWeightReferenceIdeal.main_arg0) = m ((c.tc : Thread Cert.MixWeightKernelIdeal.nD Cert.MixWeightKernelIdeal.τ).loc Cert.MixWeightKernelIdeal.main_arg0)
      ∧ m' ((c.tc : Thread Cert.MixWeightReferenceIdeal.nD Cert.MixWeightReferenceIdeal.τ).loc Cert.MixWeightReferenceIdeal.main_arg1) = m ((c.tc : Thread Cert.MixWeightKernelIdeal.nD Cert.MixWeightKernelIdeal.τ).loc Cert.MixWeightKernelIdeal.main_arg1)) →
    ∃ (v0 : (c : Dev Cert.MixWeightKernelIdeal.nD) → Buf (Elt Ideal) ((c.tc : Thread Cert.MixWeightKernelIdeal.nD Cert.MixWeightKernelIdeal.τ).loc Cert.MixWeightKernelIdeal.main_v0_0)) (v1 : (c : Dev Cert.MixWeightKernelIdeal.nD) → Buf (Elt Ideal) ((c.tc : Thread Cert.MixWeightKernelIdeal.nD Cert.MixWeightKernelIdeal.τ).loc Cert.MixWeightKernelIdeal.main_v0_1)),
      θ_run (Cert.MixWeightKernelIdeal.defs (F := Ideal)) (onTc (τ := Cert.MixWeightKernelIdeal.τ) (Cert.MixWeightKernelIdeal.main (F := Ideal))) ⟨m, fun _ => 0, g⟩ (fun r => ∀ c : Dev Cert.MixWeightKernelIdeal.nD,
          r.2.mem ((c.tc : Thread Cert.MixWeightKernelIdeal.nD Cert.MixWeightKernelIdeal.τ).loc Cert.MixWeightKernelIdeal.main_v0_0) = v0 c
          ∧ r.2.mem ((c.tc : Thread Cert.MixWeightKernelIdeal.nD Cert.MixWeightKernelIdeal.τ).loc Cert.MixWeightKernelIdeal.main_v0_1) = v1 c
          ∧ r.2.mem ((c.tc : Thread Cert.MixWeightKernelIdeal.nD Cert.MixWeightKernelIdeal.τ).loc Cert.MixWeightKernelIdeal.main_arg0) = m ((c.tc : Thread Cert.MixWeightKernelIdeal.nD Cert.MixWeightKernelIdeal.τ).loc Cert.MixWeightKernelIdeal.main_arg0)
          ∧ r.2.mem ((c.tc : Thread Cert.MixWeightKernelIdeal.nD Cert.MixWeightKernelIdeal.τ).loc Cert.MixWeightKernelIdeal.main_arg1) = m ((c.tc : Thread Cert.MixWeightKernelIdeal.nD Cert.MixWeightKernelIdeal.τ).loc Cert.MixWeightKernelIdeal.main_arg1))
      ∧ θ_run (Cert.MixWeightReferenceIdeal.defs (F := Ideal)) (onTc (τ := Cert.MixWeightReferenceIdeal.τ) (Cert.MixWeightReferenceIdeal.main (F := Ideal))) ⟨m', fun _ => 0, g'⟩ (fun r => ∀ c : Dev Cert.MixWeightReferenceIdeal.nD,
          r.2.mem ((c.tc : Thread Cert.MixWeightReferenceIdeal.nD Cert.MixWeightReferenceIdeal.τ).loc Cert.MixWeightReferenceIdeal.main_v7) = v0 c
          ∧ r.2.mem ((c.tc : Thread Cert.MixWeightReferenceIdeal.nD Cert.MixWeightReferenceIdeal.τ).loc Cert.MixWeightReferenceIdeal.main_v8) = v1 c
          ∧ r.2.mem ((c.tc : Thread Cert.MixWeightReferenceIdeal.nD Cert.MixWeightReferenceIdeal.τ).loc Cert.MixWeightReferenceIdeal.main_arg0) = m' ((c.tc : Thread Cert.MixWeightReferenceIdeal.nD Cert.MixWeightReferenceIdeal.τ).loc Cert.MixWeightReferenceIdeal.main_arg0)
          ∧ r.2.mem ((c.tc : Thread Cert.MixWeightReferenceIdeal.nD Cert.MixWeightReferenceIdeal.τ).loc Cert.MixWeightReferenceIdeal.main_arg1) = m' ((c.tc : Thread Cert.MixWeightReferenceIdeal.nD Cert.MixWeightReferenceIdeal.τ).loc Cert.MixWeightReferenceIdeal.main_arg1))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)
      ∧ m' ((c.tc : Thread Cert.LossReferenceIdeal.nD Cert.LossReferenceIdeal.τ).loc Cert.LossReferenceIdeal.main_arg5) = m ((c.tc : Thread Cert.LossKernelIdeal.nD Cert.LossKernelIdeal.τ).loc Cert.LossKernelIdeal.main_arg5)
      ∧ m' ((c.tc : Thread Cert.LossReferenceIdeal.nD Cert.LossReferenceIdeal.τ).loc Cert.LossReferenceIdeal.main_arg6) = m ((c.tc : Thread Cert.LossKernelIdeal.nD Cert.LossKernelIdeal.τ).loc Cert.LossKernelIdeal.main_arg6)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)) (v2 : (c : Dev Cert.LossKernelIdeal.nD) → Buf (Elt Ideal) ((c.tc : Thread Cert.LossKernelIdeal.nD Cert.LossKernelIdeal.τ).loc Cert.LossKernelIdeal.main_v0_2)) (v3 : (c : Dev Cert.LossKernelIdeal.nD) → Buf (Elt Ideal) ((c.tc : Thread Cert.LossKernelIdeal.nD Cert.LossKernelIdeal.τ).loc Cert.LossKernelIdeal.main_v0_3)) (v4 : (c : Dev Cert.LossKernelIdeal.nD) → Buf (Elt Ideal) ((c.tc : Thread Cert.LossKernelIdeal.nD Cert.LossKernelIdeal.τ).loc Cert.LossKernelIdeal.main_v0_4)) (v5 : (c : Dev Cert.LossKernelIdeal.nD) → Buf (Elt Ideal) ((c.tc : Thread Cert.LossKernelIdeal.nD Cert.LossKernelIdeal.τ).loc Cert.LossKernelIdeal.main_v1)) (v6 : (c : Dev Cert.LossKernelIdeal.nD) → Buf (Elt Ideal) ((c.tc : Thread Cert.LossKernelIdeal.nD Cert.LossKernelIdeal.τ).loc Cert.LossKernelIdeal.main_v3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_v0_2) = v2 c
          ∧ r.2.mem ((c.tc : Thread Cert.LossKernelIdeal.nD Cert.LossKernelIdeal.τ).loc Cert.LossKernelIdeal.main_v0_3) = v3 c
          ∧ r.2.mem ((c.tc : Thread Cert.LossKernelIdeal.nD Cert.LossKernelIdeal.τ).loc Cert.LossKernelIdeal.main_v0_4) = v4 c
          ∧ r.2.mem ((c.tc : Thread Cert.LossKernelIdeal.nD Cert.LossKernelIdeal.τ).loc Cert.LossKernelIdeal.main_v1) = v5 c
          ∧ r.2.mem ((c.tc : Thread Cert.LossKernelIdeal.nD Cert.LossKernelIdeal.τ).loc Cert.LossKernelIdeal.main_v3) = v6 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
          ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5)
          ∧ r.2.mem ((c.tc : Thread Cert.LossKernelIdeal.nD Cert.LossKernelIdeal.τ).loc Cert.LossKernelIdeal.main_arg6) = m ((c.tc : Thread Cert.LossKernelIdeal.nD Cert.LossKernelIdeal.τ).loc Cert.LossKernelIdeal.main_arg6))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v78) = v0 c
          ∧ r.2.mem ((c.tc : Thread Cert.LossReferenceIdeal.nD Cert.LossReferenceIdeal.τ).loc Cert.LossReferenceIdeal.main_v79) = v1 c
          ∧ r.2.mem ((c.tc : Thread Cert.LossReferenceIdeal.nD Cert.LossReferenceIdeal.τ).loc Cert.LossReferenceIdeal.main_v80) = v2 c
          ∧ r.2.mem ((c.tc : Thread Cert.LossReferenceIdeal.nD Cert.LossReferenceIdeal.τ).loc Cert.LossReferenceIdeal.main_v81) = v3 c
          ∧ r.2.mem ((c.tc : Thread Cert.LossReferenceIdeal.nD Cert.LossReferenceIdeal.τ).loc Cert.LossReferenceIdeal.main_v82) = v4 c
          ∧ r.2.mem ((c.tc : Thread Cert.LossReferenceIdeal.nD Cert.LossReferenceIdeal.τ).loc Cert.LossReferenceIdeal.main_v64) = v5 c
          ∧ r.2.mem ((c.tc : Thread Cert.LossReferenceIdeal.nD Cert.LossReferenceIdeal.τ).loc Cert.LossReferenceIdeal.main_v52) = v6 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4)
          ∧ r.2.mem ((c.tc : Thread Cert.LossReferenceIdeal.nD Cert.LossReferenceIdeal.τ).loc Cert.LossReferenceIdeal.main_arg5) = m' ((c.tc : Thread Cert.LossReferenceIdeal.nD Cert.LossReferenceIdeal.τ).loc Cert.LossReferenceIdeal.main_arg5)
          ∧ r.2.mem ((c.tc : Thread Cert.LossReferenceIdeal.nD Cert.LossReferenceIdeal.τ).loc Cert.LossReferenceIdeal.main_arg6) = m' ((c.tc : Thread Cert.LossReferenceIdeal.nD Cert.LossReferenceIdeal.τ).loc Cert.LossReferenceIdeal.main_arg6))

def Claim : Prop :=
  ∃ (hKernel : Cert.Kernel.Facts) (hKernelIdeal : Cert.KernelIdeal.Facts) (hReferenceIdeal : Cert.ReferenceIdeal.Facts) (hWeightKernel : Cert.WeightKernel.Facts) (hWeightKernelIdeal : Cert.WeightKernelIdeal.Facts) (hWeightReferenceIdeal : Cert.WeightReferenceIdeal.Facts) (hInputKernel : Cert.InputKernel.Facts) (hInputKernelIdeal : Cert.InputKernelIdeal.Facts) (hInputReferenceIdeal : Cert.InputReferenceIdeal.Facts) (hUpKernel : Cert.UpKernel.Facts) (hUpKernelIdeal : Cert.UpKernelIdeal.Facts) (hUpReferenceIdeal : Cert.UpReferenceIdeal.Facts) (hDownKernel : Cert.DownKernel.Facts) (hDownKernelIdeal : Cert.DownKernelIdeal.Facts) (hDownReferenceIdeal : Cert.DownReferenceIdeal.Facts) (hOutKernel : Cert.OutKernel.Facts) (hOutKernelIdeal : Cert.OutKernelIdeal.Facts) (hOutReferenceIdeal : Cert.OutReferenceIdeal.Facts) (hMixWeightKernel : Cert.MixWeightKernel.Facts) (hMixWeightKernelIdeal : Cert.MixWeightKernelIdeal.Facts) (hMixWeightReferenceIdeal : Cert.MixWeightReferenceIdeal.Facts) (hLossKernel : Cert.LossKernel.Facts) (hLossKernelIdeal : Cert.LossKernelIdeal.Facts) (hLossReferenceIdeal : Cert.LossReferenceIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_WeightKernel (hWeightKernel := hWeightKernel)
    ∧ quiescent_WeightKernelIdeal (hWeightKernelIdeal := hWeightKernelIdeal)
    ∧ quiescent_WeightReferenceIdeal (hWeightReferenceIdeal := hWeightReferenceIdeal)
    ∧ quiescent_InputKernel (hInputKernel := hInputKernel)
    ∧ quiescent_InputKernelIdeal (hInputKernelIdeal := hInputKernelIdeal)
    ∧ quiescent_InputKernelIdeal_pre_finite (hInputKernelIdeal := hInputKernelIdeal) (hPre_finite := hPre_finite)
    ∧ quiescent_InputReferenceIdeal (hInputReferenceIdeal := hInputReferenceIdeal)
    ∧ quiescent_InputReferenceIdeal_pre_finite (hInputReferenceIdeal := hInputReferenceIdeal) (hPre_finite := hPre_finite)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_MixWeightKernel (hMixWeightKernel := hMixWeightKernel)
    ∧ quiescent_MixWeightKernelIdeal (hMixWeightKernelIdeal := hMixWeightKernelIdeal)
    ∧ quiescent_MixWeightReferenceIdeal (hMixWeightReferenceIdeal := hMixWeightReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ preserves_Kernel_KernelIdeal
    ∧ algebraic_KernelIdeal_ReferenceIdeal (hKernelIdeal := hKernelIdeal) (hReferenceIdeal := hReferenceIdeal)
    ∧ preserves_WeightKernel_WeightKernelIdeal
    ∧ algebraic_WeightKernelIdeal_WeightReferenceIdeal (hWeightKernelIdeal := hWeightKernelIdeal) (hWeightReferenceIdeal := hWeightReferenceIdeal)
    ∧ preserves_InputKernel_InputKernelIdeal
    ∧ algebraic_InputKernelIdeal_InputReferenceIdeal_pre_finite (hInputKernelIdeal := hInputKernelIdeal) (hInputReferenceIdeal := hInputReferenceIdeal) (hPre_finite := hPre_finite)
    ∧ preserves_UpKernel_UpKernelIdeal
    ∧ algebraic_UpKernelIdeal_UpReferenceIdeal (hUpKernelIdeal := hUpKernelIdeal) (hUpReferenceIdeal := hUpReferenceIdeal)
    ∧ preserves_DownKernel_DownKernelIdeal
    ∧ algebraic_DownKernelIdeal_DownReferenceIdeal (hDownKernelIdeal := hDownKernelIdeal) (hDownReferenceIdeal := hDownReferenceIdeal)
    ∧ preserves_OutKernel_OutKernelIdeal
    ∧ algebraic_OutKernelIdeal_OutReferenceIdeal (hOutKernelIdeal := hOutKernelIdeal) (hOutReferenceIdeal := hOutReferenceIdeal)
    ∧ preserves_MixWeightKernel_MixWeightKernelIdeal
    ∧ algebraic_MixWeightKernelIdeal_MixWeightReferenceIdeal (hMixWeightKernelIdeal := hMixWeightKernelIdeal) (hMixWeightReferenceIdeal := hMixWeightReferenceIdeal)
    ∧ preserves_LossKernel_LossKernelIdeal
    ∧ algebraic_LossKernelIdeal_LossReferenceIdeal (hLossKernelIdeal := hLossKernelIdeal) (hLossReferenceIdeal := hLossReferenceIdeal)
-- ==== Pre_finite.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bitsLt_bf16_f32 : FTy.bits .bf16 < FTy.bits .f32
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x1024 .f32) (main_arg2 : FVec F S1x1024 .f32) (main_arg3 : FVec F S2816x1024 .bf16) (main_arg4 : FVec F S2816x1024 .bf16) (main_arg5 : FVec F S2816x1024 .bf16) : IVec S8192x1024 1 × IVec S1x1024 1 × IVec S2816x1024 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2816x1024 .f32 := (extf .f32 · bitsLt_bf16_f32) main_arg4
  let main_v7 : FVec F S2816x1024 .f32 := Host.absf main_v6
  let main_cst_1 : FVec F S_ .f32 := constant S_ .f32 0x7F800000#32
  let main_v8 : FVec F S2816x1024 .f32 := broadcastInDim S2816x1024 ![] bcast_S_S2816x1024 main_cst_1
  let main_v9 : IVec S2816x1024 1 := cmpf .olt main_v7 main_v8
  let main_v10 : FVec F S2816x1024 .f32 := (extf .f32 · bitsLt_bf16_f32) main_arg5
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  (main_v2, main_v5, main_v9, main_v13)
-- ==== Kernel.lean ====
abbrev S16x512x512 : Shape := ⟨3, ![16, 512, 512]⟩
abbrev S16x512x8 : Shape := ⟨3, ![16, 512, 8]⟩
abbrev S_ : Shape := ⟨0, ![]⟩
abbrev S8 : Shape := ⟨1, ![8]⟩
abbrev S16x512x8x1 : Shape := ⟨4, ![16, 512, 8, 1]⟩
abbrev S16x512x8x64 : Shape := ⟨4, ![16, 512, 8, 64]⟩
abbrev S16x4x8x128 : Shape := ⟨4, ![16, 4, 8, 128]⟩
abbrev S1x512x512 : Shape := ⟨3, ![1, 512, 512]⟩
abbrev S1x1x8x128 : Shape := ⟨4, ![1, 1, 8, 128]⟩
abbrev S3x256x256 : Shape := ⟨3, ![3, 256, 256]⟩
abbrev S512x512 : Shape := ⟨2, ![512, 512]⟩
abbrev S128x128 : Shape := ⟨2, ![128, 128]⟩
abbrev S256x256 : Shape := ⟨2, ![256, 256]⟩
abbrev S1x256x256 : Shape := ⟨3, ![1, 256, 256]⟩
abbrev S1x128x128 : Shape := ⟨3, ![1, 128, 128]⟩
abbrev S1x256x128 : Shape := ⟨3, ![1, 256, 128]⟩
abbrev S256x128 : Shape := ⟨2, ![256, 128]⟩
abbrev S256x512 : Shape := ⟨2, ![256, 512]⟩
abbrev S512x256 : Shape := ⟨2, ![512, 256]⟩
abbrev S8x128 : Shape := ⟨2, ![8, 128]⟩

abbrev nBuf : Space → Nat
  | .hbm => 23
  | .vmem => 23
  | .smem => 1
  | _ => 0

abbrev bufTy : (tb : Table) → Fin (tcTables nBuf tb) → BufTy
  | .hbm, ⟨0, _⟩ => ⟨S16x512x512, .bf16⟩
  | .hbm, ⟨1, _⟩ => ⟨S16x512x512, .bf16⟩
  | .hbm, ⟨2, _⟩ => ⟨S16x512x512, .bf16⟩
  | .hbm, ⟨3, _⟩ => ⟨S16x512x512, .bf16⟩
  | .hbm, ⟨4, _⟩ => ⟨S16x512x8, .f32⟩
  | .hbm, ⟨5, _⟩ => ⟨S16x512x8, .bf16⟩
  | .hbm, ⟨6, _⟩ => ⟨S16x512x512, .f32⟩
  | .hbm, ⟨7, _⟩ => ⟨S_, .f32⟩
  | .hbm, ⟨8, _⟩ => ⟨S16x512x512, .f32⟩
  | .hbm, ⟨9, _⟩ => ⟨S16x512x512, .f32⟩
  | .hbm, ⟨10, _⟩ => ⟨S16x512x512, .bf16⟩
  | .hbm, ⟨11, _⟩ => ⟨S_, .f32⟩
  | .hbm, ⟨12, _⟩ => ⟨S8, .f32⟩
  | .hbm, ⟨13, _⟩ => ⟨S16x512x8x1, .f32⟩
  | .hbm, ⟨14, _⟩ => ⟨S16x512x8x64, .f32⟩
  | .hbm, ⟨15, _⟩ => ⟨S16x512x512, .f32⟩
  | .hbm, ⟨16, _⟩ => ⟨S16x512x8x1, .bf16⟩
  | .hbm, ⟨17, _⟩ => ⟨S16x512x8x64, .bf16⟩
  | .hbm, ⟨18, _⟩ => ⟨S16x512x512, .bf16⟩
  | .hbm, ⟨19, _⟩ => ⟨S16x512x512, .bf16⟩
  | .hbm, ⟨20, _⟩ => ⟨S16x512x512, .bf16⟩
  | .hbm, ⟨21, _⟩ => ⟨S16x512x512, .bf16⟩
  | .hbm, ⟨22, _⟩ => ⟨S16x4x8x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x1x8x128, .f32⟩
  | .local _ .vmem, ⟨19, _⟩ => ⟨S1x1x8x128, .f32⟩
  | .local _ .vmem, ⟨20, _⟩ => ⟨S3x256x256, .f32⟩
  | .local _ .vmem, ⟨21, _⟩ => ⟨S512x512, .f32⟩
  | .local _ .vmem, ⟨22, _⟩ => ⟨S512x512, .f32⟩
  | .local _ .smem, ⟨0, _⟩ => ⟨S8, .f32⟩
  | _, _ => ⟨S16x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![16, 1, 1], ![false, false, false]⟩

def k0_mult1 : BitVec 32 :=
  let c0_i32_19 : BitVec 32 := 0#32
  let c4_i32 : BitVec 32 := 4#32
  let v54 : BitVec 32 := Scalar.muli c0_i32_19 c4_i32
  let c0_i32_20 : BitVec 32 := 0#32
  let v55 : BitVec 32 := Scalar.addi v54 c0_i32_20
  let c128_i32_21 : BitVec 32 := 128#32
  let v56 : BitVec 32 := Scalar.muli v55 c128_i32_21
  v56
def k0_mult2 : BitVec 32 :=
  let c0_i32_19 : BitVec 32 := 0#32
  let c4_i32_22 : BitVec 32 := 4#32
  let v58 : BitVec 32 := Scalar.muli c0_i32_19 c4_i32_22
  let c1_i32 : BitVec 32 := 1#32
  let v59 : BitVec 32 := Scalar.addi v58 c1_i32
  let c128_i32_23 : BitVec 32 := 128#32
  let v60 : BitVec 32 := Scalar.muli v59 c128_i32_23
  v60
def k0_mult3 : BitVec 32 :=
  let c0_i32_19 : BitVec 32 := 0#32
  let c4_i32_24 : BitVec 32 := 4#32
  let v62 : BitVec 32 := Scalar.muli c0_i32_19 c4_i32_24
  let c2_i32 : BitVec 32 := 2#32
  let v63 : BitVec 32 := Scalar.addi v62 c2_i32
  let c128_i32_25 : BitVec 32 := 128#32
  let v64 : BitVec 32 := Scalar.muli v63 c128_i32_25
  v64
def k0_mult4 : BitVec 32 :=
  let c0_i32_19 : BitVec 32 := 0#32
  let c4_i32_26 : BitVec 32 := 4#32
  let v66 : BitVec 32 := Scalar.muli c0_i32_19 c4_i32_26
  let c3_i32 : BitVec 32 := 3#32
  let v67 : BitVec 32 := Scalar.addi v66 c3_i32
  let c128_i32_27 : BitVec 32 := 128#32
  let v68 : BitVec 32 := Scalar.muli v67 c128_i32_27
  v68
def k0_mult5 (i : grid0.Coords) : BitVec 32 :=
  let c256_i32 : BitVec 32 := 256#32
  let c0_i32_29 : BitVec 32 := 0#32
  let arg2 : BitVec 32 := BitVec.ofNat 32 (i 2).val
  let c512_i32 : BitVec 32 := 512#32
  let v70 : BitVec 32 := Scalar.muli arg2 c512_i32
  let c0_i32_19 : BitVec 32 := 0#32
  let c4_i32 : BitVec 32 := 4#32
  let v54 : BitVec 32 := Scalar.muli c0_i32_19 c4_i32
  let c0_i32_20 : BitVec 32 := 0#32
  let v55 : BitVec 32 := Scalar.addi v54 c0_i32_20
  let c128_i32_21 : BitVec 32 := 128#32
  let v56 : BitVec 32 := Scalar.muli v55 c128_i32_21
  let v57 : BitVec 32 := v56
  let v71 : BitVec 32 := Scalar.addi v70 v57
  let c64_i32_28 : BitVec 32 := 64#32
  let v72 : BitVec 32 := Scalar.subi v71 c64_i32_28
  let v73 : BitVec 32 := Scalar.maxsi c0_i32_29 v72
  let v74 : BitVec 32 := Scalar.minsi c256_i32 v73
  v74
def k0_off1 (i : grid0.Coords) (c0_i32_20 : BitVec 32) : Fin 3 → Nat :=
  let arg2 : BitVec 32 := BitVec.ofNat 32 (i 2).val
  let c512_i32 : BitVec 32 := 512#32
  let v70 : BitVec 32 := Scalar.muli arg2 c512_i32
  let c0_i32_19 : BitVec 32 := 0#32
  let c4_i32 : BitVec 32 := 4#32
  let v54 : BitVec 32 := Scalar.muli c0_i32_19 c4_i32
  let v55 : BitVec 32 := Scalar.addi v54 c0_i32_20
  let c128_i32_21 : BitVec 32 := 128#32
  let v56 : BitVec 32 := Scalar.muli v55 c128_i32_21
  let v57 : BitVec 32 := v56
  let v71 : BitVec 32 := Scalar.addi v70 v57
  let c256_i32 : BitVec 32 := 256#32
  let c0_i32_29 : BitVec 32 := 0#32
  let c64_i32_28 : BitVec 32 := 64#32
  let v72 : BitVec 32 := Scalar.subi v71 c64_i32_28
  let v73 : BitVec 32 := Scalar.maxsi c0_i32_29 v72
  let v74 : BitVec 32 := Scalar.minsi c256_i32 v73
  let v75 : BitVec 32 := v74
  let v76 : BitVec 32 := Scalar.subi v71 v75
  let c6_i32 : BitVec 32 := 6#32
  let v77 : BitVec 32 := Scalar.shrui v76 c6_i32
  let v78 : Index := Scalar.indexCast v77
  let c0_30 : Index := 0#32
  let c0_31 : Index := 0#32
  ![v78.toNat, 0, 0]
def k0_off2 (c0_i32_20 : BitVec 32) : Fin 3 → Nat :=
  let c0_32 : Index := 0#32
  let c0_i32_19 : BitVec 32 := 0#32
  let c4_i32 : BitVec 32 := 4#32
  let v54 : BitVec 32 := Scalar.muli c0_i32_19 c4_i32
  let v55 : BitVec 32 := Scalar.addi v54 c0_i32_20
  let c128_i32_21 : BitVec 32 := 128#32
  let v56 : BitVec 32 := Scalar.muli v55 c128_i32_21
  let v57 : BitVec 32 := v56
  let v81 : Index := Scalar.indexCast v57
  let c0_33 : Index := 0#32
  ![0, v81.toNat, 0]
def k0_off3 (i : grid0.Coords) (c0_i32_20 : BitVec 32) : Fin 3 → Nat :=
  let c0_40 : Index := 0#32
  let c256_i32 : BitVec 32 := 256#32
  let c0_i32_29 : BitVec 32 := 0#32
  let arg2 : BitVec 32 := BitVec.ofNat 32 (i 2).val
  let c512_i32 : BitVec 32 := 512#32
  let v70 : BitVec 32 := Scalar.muli arg2 c512_i32
  let c0_i32_19 : BitVec 32 := 0#32
  let c4_i32 : BitVec 32 := 4#32
  let v54 : BitVec 32 := Scalar.muli c0_i32_19 c4_i32
  let v55 : BitVec 32 := Scalar.addi v54 c0_i32_20
  let c128_i32_21 : BitVec 32 := 128#32
  let v56 : BitVec 32 := Scalar.muli v55 c128_i32_21
  let v57 : BitVec 32 := v56
  let v71 : BitVec 32 := Scalar.addi v70 v57
  let c64_i32_28 : BitVec 32 := 64#32
  let v72 : BitVec 32 := Scalar.subi v71 c64_i32_28
  let v73 : BitVec 32 := Scalar.maxsi c0_i32_29 v72
  let v74 : BitVec 32 := Scalar.minsi c256_i32 v73
  let v75 : BitVec 32 := v74
  let v94 : Index := Scalar.indexCast v75
  let c0_41 : Index := 0#32
  ![0, v94.toNat, 0]
def k0_mult6 (i : grid0.Coords) : BitVec 32 :=
  let c256_i32_51 : BitVec 32 := 256#32
  let c0_i32_50 : BitVec 32 := 0#32
  let arg2 : BitVec 32 := BitVec.ofNat 32 (i 2).val
  let c512_i32_48 : BitVec 32 := 512#32
  let v111 : BitVec 32 := Scalar.muli arg2 c512_i32_48
  let c0_i32_19 : BitVec 32 := 0#32
  let c4_i32_22 : BitVec 32 := 4#32
  let v58 : BitVec 32 := Scalar.muli c0_i32_19 c4_i32_22
  let c1_i32 : BitVec 32 := 1#32
  let v59 : BitVec 32 := Scalar.addi v58 c1_i32
  let c128_i32_23 : BitVec 32 := 128#32
  let v60 : BitVec 32 := Scalar.muli v59 c128_i32_23
  let v61 : BitVec 32 := v60
  let v112 : BitVec 32 := Scalar.addi v111 v61
  let c64_i32_49 : BitVec 32 := 64#32
  let v113 : BitVec 32 := Scalar.subi v112 c64_i32_49
  let v114 : BitVec 32 := Scalar.maxsi c0_i32_50 v113
  let v115 : BitVec 32 := Scalar.minsi c256_i32_51 v114
  v115
def k0_off4 (i : grid0.Coords) (c0_i32_20 : BitVec 32) : Fin 2 → Nat :=
  let c256_i32 : BitVec 32 := 256#32
  let c0_i32_29 : BitVec 32 := 0#32
  let arg2 : BitVec 32 := BitVec.ofNat 32 (i 2).val
  let c512_i32 : BitVec 32 := 512#32
  let v70 : BitVec 32 := Scalar.muli arg2 c512_i32
  let c0_i32_19 : BitVec 32 := 0#32
  let c4_i32 : BitVec 32 := 4#32
  let v54 : BitVec 32 := Scalar.muli c0_i32_19 c4_i32
  let v55 : BitVec 32 := Scalar.addi v54 c0_i32_20
  let c128_i32_21 : BitVec 32 := 128#32
  let v56 : BitVec 32 := Scalar.muli v55 c128_i32_21
  let v57 : BitVec 32 := v56
  let v71 : BitVec 32 := Scalar.addi v70 v57
  let c64_i32_28 : BitVec 32 := 64#32
  let v72 : BitVec 32 := Scalar.subi v71 c64_i32_28
  let v73 : BitVec 32 := Scalar.maxsi c0_i32_29 v72
  let v74 : BitVec 32 := Scalar.minsi c256_i32 v73
  let v75 : BitVec 32 := v74
  let v185 : Index := Scalar.indexCast v75
  let c0_80 : Index := 0#32
  ![v185.toNat, 0]
def k0_mult7 (i : grid0.Coords) : BitVec 32 :=
  let c256_i32_87 : BitVec 32 := 256#32
  let c0_i32_86 : BitVec 32 := 0#32
  let arg2 : BitVec 32 := BitVec.ofNat 32 (i 2).val
  let c512_i32_84 : BitVec 32 := 512#32
  let v201 : BitVec 32 := Scalar.muli arg2 c512_i32_84
  let c0_i32_19 : BitVec 32 := 0#32
  let c4_i32_24 : BitVec 32 := 4#32
  let v62 : BitVec 32 := Scalar.muli c0_i32_19 c4_i32_24
  let c2_i32 : BitVec 32 := 2#32
  let v63 : BitVec 32 := Scalar.addi v62 c2_i32
  let c128_i32_25 : BitVec 32 := 128#32
  let v64 : BitVec 32 := Scalar.muli v63 c128_i32_25
  let v65 : BitVec 32 := v64
  let v202 : BitVec 32 := Scalar.addi v201 v65
  let c64_i32_85 : BitVec 32 := 64#32
  let v203 : BitVec 32 := Scalar.subi v202 c64_i32_85
  let v204 : BitVec 32 := Scalar.maxsi c0_i32_86 v203
  let v205 : BitVec 32 := Scalar.minsi c256_i32_87 v204
  v205
def k0_mult8 (i : grid0.Coords) : BitVec 32 :=
  let c256_i32_123 : BitVec 32 := 256#32
  let c0_i32_122 : BitVec 32 := 0#32
  let arg2 : BitVec 32 := BitVec.ofNat 32 (i 2).val
  let c512_i32_120 : BitVec 32 := 512#32
  let v291 : BitVec 32 := Scalar.muli arg2 c512_i32_120
  let c0_i32_19 : BitVec 32 := 0#32
  let c4_i32_26 : BitVec 32 := 4#32
  let v66 : BitVec 32 := Scalar.muli c0_i32_19 c4_i32_26
  let c3_i32 : BitVec 32 := 3#32
  let v67 : BitVec 32 := Scalar.addi v66 c3_i32
  let c128_i32_27 : BitVec 32 := 128#32
  let v68 : BitVec 32 := Scalar.muli v67 c128_i32_27
  let v69 : BitVec 32 := v68
  let v292 : BitVec 32 := Scalar.addi v291 v69
  let c64_i32_121 : BitVec 32 := 64#32
  let v293 : BitVec 32 := Scalar.subi v292 c64_i32_121
  let v294 : BitVec 32 := Scalar.maxsi c0_i32_122 v293
  let v295 : BitVec 32 := Scalar.minsi c256_i32_123 v294
  v295
def k0_mult9 : BitVec 32 :=
  let c0_i32_170 : BitVec 32 := 0#32
  let c4_i32_171 : BitVec 32 := 4#32
  let v430 : BitVec 32 := Scalar.muli c0_i32_170 c4_i32_171
  let c0_i32_172 : BitVec 32 := 0#32
  let v431 : BitVec 32 := Scalar.addi v430 c0_i32_172
  let c128_i32_173 : BitVec 32 := 128#32
  let v432 : BitVec 32 := Scalar.muli v431 c128_i32_173
  v432
def k0_mult10 : BitVec 32 :=
  let c0_i32_170 : BitVec 32 := 0#32
  let c4_i32_174 : BitVec 32 := 4#32
  let v434 : BitVec 32 := Scalar.muli c0_i32_170 c4_i32_174
  let c1_i32_175 : BitVec 32 := 1#32
  let v435 : BitVec 32 := Scalar.addi v434 c1_i32_175
  let c128_i32_176 : BitVec 32 := 128#32
  let v436 : BitVec 32 := Scalar.muli v435 c128_i32_176
  v436
def k0_mult11 : BitVec 32 :=
  let c0_i32_170 : BitVec 32 := 0#32
  let c4_i32_177 : BitVec 32 := 4#32
  let v438 : BitVec 32 := Scalar.muli c0_i32_170 c4_i32_177
  let c2_i32_178 : BitVec 32 := 2#32
  let v439 : BitVec 32 := Scalar.addi v438 c2_i32_178
  let c128_i32_179 : BitVec 32 := 128#32
  let v440 : BitVec 32 := Scalar.muli v439 c128_i32_179
  v440
def k0_mult12 : BitVec 32 :=
  let c0_i32_170 : BitVec 32 := 0#32
  let c4_i32_180 : BitVec 32 := 4#32
  let v442 : BitVec 32 := Scalar.muli c0_i32_170 c4_i32_180
  let c3_i32_181 : BitVec 32 := 3#32
  let v443 : BitVec 32 := Scalar.addi v442 c3_i32_181
  let c128_i32_182 : BitVec 32 := 128#32
  let v444 : BitVec 32 := Scalar.muli v443 c128_i32_182
  v444
def k0_mult13 (i : grid0.Coords) : BitVec 32 :=
  let c256_i32_186 : BitVec 32 := 256#32
  let c0_i32_185 : BitVec 32 := 0#32
  let arg2 : BitVec 32 := BitVec.ofNat 32 (i 2).val
  let c512_i32_183 : BitVec 32 := 512#32
  let v446 : BitVec 32 := Scalar.muli arg2 c512_i32_183
  let c0_i32_170 : BitVec 32 := 0#32
  let c4_i32_171 : BitVec 32 := 4#32
  let v430 : BitVec 32 := Scalar.muli c0_i32_170 c4_i32_171
  let c0_i32_172 : BitVec 32 := 0#32
  let v431 : BitVec 32 := Scalar.addi v430 c0_i32_172
  let c128_i32_173 : BitVec 32 := 128#32
  let v432 : BitVec 32 := Scalar.muli v431 c128_i32_173
  let v433 : BitVec 32 := v432
  let v447 : BitVec 32 := Scalar.addi v446 v433
  let c64_i32_184 : BitVec 32 := 64#32
  let v448 : BitVec 32 := Scalar.subi v447 c64_i32_184
  let v449 : BitVec 32 := Scalar.maxsi c0_i32_185 v448
  let v450 : BitVec 32 := Scalar.minsi c256_i32_186 v449
  v450
def k0_off5 (c0_i32_172 : BitVec 32) : Fin 3 → Nat :=
  let c0_190 : Index := 0#32
  let c0_i32_170 : BitVec 32 := 0#32
  let c4_i32_171 : BitVec 32 := 4#32
  let v430 : BitVec 32 := Scalar.muli c0_i32_170 c4_i32_171
  let v431 : BitVec 32 := Scalar.addi v430 c0_i32_172
  let c128_i32_173 : BitVec 32 := 128#32
  let v432 : BitVec 32 := Scalar.muli v431 c128_i32_173
  let v433 : BitVec 32 := v432
  let v457 : Index := Scalar.indexCast v433
  let c128 : Index := 128#32
  ![0, v457.toNat, 128]
def k0_off6 (i : grid0.Coords) (c0_i32_172 : BitVec 32) : Fin 3 → Nat :=
  let c0_197 : Index := 0#32
  let c256_i32_186 : BitVec 32 := 256#32
  let c0_i32_185 : BitVec 32 := 0#32
  let arg2 : BitVec 32 := BitVec.ofNat 32 (i 2).val
  let c512_i32_183 : BitVec 32 := 512#32
  let v446 : BitVec 32 := Scalar.muli arg2 c512_i32_183
  let c0_i32_170 : BitVec 32 := 0#32
  let c4_i32_171 : BitVec 32 := 4#32
  let v430 : BitVec 32 := Scalar.muli c0_i32_170 c4_i32_171
  let v431 : BitVec 32 := Scalar.addi v430 c0_i32_172
  let c128_i32_173 : BitVec 32 := 128#32
  let v432 : BitVec 32 := Scalar.muli v431 c128_i32_173
  let v433 : BitVec 32 := v432
  let v447 : BitVec 32 := Scalar.addi v446 v433
  let c64_i32_184 : BitVec 32 := 64#32
  let v448 : BitVec 32 := Scalar.subi v447 c64_i32_184
  let v449 : BitVec 32 := Scalar.maxsi c0_i32_185 v448
  let v450 : BitVec 32 := Scalar.minsi c256_i32_186 v449
  let v451 : BitVec 32 := v450
  let v470 : Index := Scalar.indexCast v451
  let c128_198 : Index := 128#32
  ![0, v470.toNat, 128]
def k0_mult14 (i : grid0.Coords) : BitVec 32 :=
  let c256_i32_208 : BitVec 32 := 256#32
  let c0_i32_207 : BitVec 32 := 0#32
  let arg2 : BitVec 32 := BitVec.ofNat 32 (i 2).val
  let c512_i32_205 : BitVec 32 := 512#32
  let v487 : BitVec 32 := Scalar.muli arg2 c512_i32_205
  let c0_i32_170 : BitVec 32 := 0#32
  let c4_i32_174 : BitVec 32 := 4#32
  let v434 : BitVec 32 := Scalar.muli c0_i32_170 c4_i32_174
  let c1_i32_175 : BitVec 32 := 1#32
  let v435 : BitVec 32 := Scalar.addi v434 c1_i32_175
  let c128_i32_176 : BitVec 32 := 128#32
  let v436 : BitVec 32 := Scalar.muli v435 c128_i32_176
  let v437 : BitVec 32 := v436
  let v488 : BitVec 32 := Scalar.addi v487 v437
  let c64_i32_206 : BitVec 32 := 64#32
  let v489 : BitVec 32 := Scalar.subi v488 c64_i32_206
  let v490 : BitVec 32 := Scalar.maxsi c0_i32_207 v489
  let v491 : BitVec 32 := Scalar.minsi c256_i32_208 v490
  v491
def k0_off7 (i : grid0.Coords) (c0_i32_172 : BitVec 32) : Fin 2 → Nat :=
  let c256_i32_186 : BitVec 32 := 256#32
  let c0_i32_185 : BitVec 32 := 0#32
  let arg2 : BitVec 32 := BitVec.ofNat 32 (i 2).val
  let c512_i32_183 : BitVec 32 := 512#32
  let v446 : BitVec 32 := Scalar.muli arg2 c512_i32_183
  let c0_i32_170 : BitVec 32 := 0#32
  let c4_i32_171 : BitVec 32 := 4#32
  let v430 : BitVec 32 := Scalar.muli c0_i32_170 c4_i32_171
  let v431 : BitVec 32 := Scalar.addi v430 c0_i32_172
  let c128_i32_173 : BitVec 32 := 128#32
  let v432 : BitVec 32 := Scalar.muli v431 c128_i32_173
  let v433 : BitVec 32 := v432
  let v447 : BitVec 32 := Scalar.addi v446 v433
  let c64_i32_184 : BitVec 32 := 64#32
  let v448 : BitVec 32 := Scalar.subi v447 c64_i32_184
  let v449 : BitVec 32 := Scalar.maxsi c0_i32_185 v448
  let v450 : BitVec 32 := Scalar.minsi c256_i32_186 v449
  let v451 : BitVec 32 := v450
  let v561 : Index := Scalar.indexCast v451
  let c128_237 : Index := 128#32
  ![v561.toNat, 128]
def k0_mult15 (i : grid0.Coords) : BitVec 32 :=
  let c256_i32_244 : BitVec 32 := 256#32
  let c0_i32_243 : BitVec 32 := 0#32
  let arg2 : BitVec 32 := BitVec.ofNat 32 (i 2).val
  let c512_i32_241 : BitVec 32 := 512#32
  let v577 : BitVec 32 := Scalar.muli arg2 c512_i32_241
  let c0_i32_170 : BitVec 32 := 0#32
  let c4_i32_177 : BitVec 32 := 4#32
  let v438 : BitVec 32 := Scalar.muli c0_i32_170 c4_i32_177
  let c2_i32_178 : BitVec 32 := 2#32
  let v439 : BitVec 32 := Scalar.addi v438 c2_i32_178
  let c128_i32_179 : BitVec 32 := 128#32
  let v440 : BitVec 32 := Scalar.muli v439 c128_i32_179
  let v441 : BitVec 32 := v440
  let v578 : BitVec 32 := Scalar.addi v577 v441
  let c64_i32_242 : BitVec 32 := 64#32
  let v579 : BitVec 32 := Scalar.subi v578 c64_i32_242
  let v580 : BitVec 32 := Scalar.maxsi c0_i32_243 v579
  let v581 : BitVec 32 := Scalar.minsi c256_i32_244 v580
  v581
def k0_mult16 (i : grid0.Coords) : BitVec 32 :=
  let c256_i32_280 : BitVec 32 := 256#32
  let c0_i32_279 : BitVec 32 := 0#32
  let arg2 : BitVec 32 := BitVec.ofNat 32 (i 2).val
  let c512_i32_277 : BitVec 32 := 512#32
  let v667 : BitVec 32 := Scalar.muli arg2 c512_i32_277
  let c0_i32_170 : BitVec 32 := 0#32
  let c4_i32_180 : BitVec 32 := 4#32
  let v442 : BitVec 32 := Scalar.muli c0_i32_170 c4_i32_180
  let c3_i32_181 : BitVec 32 := 3#32
  let v443 : BitVec 32 := Scalar.addi v442 c3_i32_181
  let c128_i32_182 : BitVec 32 := 128#32
  let v444 : BitVec 32 := Scalar.muli v443 c128_i32_182
  let v445 : BitVec 32 := v444
  let v668 : BitVec 32 := Scalar.addi v667 v445
  let c64_i32_278 : BitVec 32 := 64#32
  let v669 : BitVec 32 := Scalar.subi v668 c64_i32_278
  let v670 : BitVec 32 := Scalar.maxsi c0_i32_279 v669
  let v671 : BitVec 32 := Scalar.minsi c256_i32_280 v670
  v671
def k0_mult17 : BitVec 32 :=
  let c0_i32_327 : BitVec 32 := 0#32
  let c4_i32_328 : BitVec 32 := 4#32
  let v806 : BitVec 32 := Scalar.muli c0_i32_327 c4_i32_328
  let c0_i32_329 : BitVec 32 := 0#32
  let v807 : BitVec 32 := Scalar.addi v806 c0_i32_329
  let c128_i32_330 : BitVec 32 := 128#32
  let v808 : BitVec 32 := Scalar.muli v807 c128_i32_330
  v808
def k0_mult18 : BitVec 32 :=
  let c0_i32_327 : BitVec 32 := 0#32
  let c4_i32_331 : BitVec 32 := 4#32
  let v810 : BitVec 32 := Scalar.muli c0_i32_327 c4_i32_331
  let c1_i32_332 : BitVec 32 := 1#32
  let v811 : BitVec 32 := Scalar.addi v810 c1_i32_332
  let c128_i32_333 : BitVec 32 := 128#32
  let v812 : BitVec 32 := Scalar.muli v811 c128_i32_333
  v812
def k0_mult19 : BitVec 32 :=
  let c0_i32_327 : BitVec 32 := 0#32
  let c4_i32_334 : BitVec 32 := 4#32
  let v814 : BitVec 32 := Scalar.muli c0_i32_327 c4_i32_334
  let c2_i32_335 : BitVec 32 := 2#32
  let v815 : BitVec 32 := Scalar.addi v814 c2_i32_335
  let c128_i32_336 : BitVec 32 := 128#32
  let v816 : BitVec 32 := Scalar.muli v815 c128_i32_336
  v816
def k0_mult20 : BitVec 32 :=
  let c0_i32_327 : BitVec 32 := 0#32
  let c4_i32_337 : BitVec 32 := 4#32
  let v818 : BitVec 32 := Scalar.muli c0_i32_327 c4_i32_337
  let c3_i32_338 : BitVec 32 := 3#32
  let v819 : BitVec 32 := Scalar.addi v818 c3_i32_338
  let c128_i32_339 : BitVec 32 := 128#32
  let v820 : BitVec 32 := Scalar.muli v819 c128_i32_339
  v820
def k0_mult21 (i : grid0.Coords) : BitVec 32 :=
  let c256_i32_343 : BitVec 32 := 256#32
  let c0_i32_342 : BitVec 32 := 0#32
  let arg2 : BitVec 32 := BitVec.ofNat 32 (i 2).val
  let c512_i32_340 : BitVec 32 := 512#32
  let v822 : BitVec 32 := Scalar.muli arg2 c512_i32_340
  let c0_i32_327 : BitVec 32 := 0#32
  let c4_i32_328 : BitVec 32 := 4#32
  let v806 : BitVec 32 := Scalar.muli c0_i32_327 c4_i32_328
  let c0_i32_329 : BitVec 32 := 0#32
  let v807 : BitVec 32 := Scalar.addi v806 c0_i32_329
  let c128_i32_330 : BitVec 32 := 128#32
  let v808 : BitVec 32 := Scalar.muli v807 c128_i32_330
  let v809 : BitVec 32 := v808
  let v823 : BitVec 32 := Scalar.addi v822 v809
  let c64_i32_341 : BitVec 32 := 64#32
  let v824 : BitVec 32 := Scalar.subi v823 c64_i32_341
  let v825 : BitVec 32 := Scalar.maxsi c0_i32_342 v824
  let v826 : BitVec 32 := Scalar.minsi c256_i32_343 v825
  v826
def k0_off8 (c0_i32_329 : BitVec 32) : Fin 3 → Nat :=
  let c0_347 : Index := 0#32
  let c0_i32_327 : BitVec 32 := 0#32
  let c4_i32_328 : BitVec 32 := 4#32
  let v806 : BitVec 32 := Scalar.muli c0_i32_327 c4_i32_328
  let v807 : BitVec 32 := Scalar.addi v806 c0_i32_329
  let c128_i32_330 : BitVec 32 := 128#32
  let v808 : BitVec 32 := Scalar.muli v807 c128_i32_330
  let v809 : BitVec 32 := v808
  let v833 : Index := Scalar.indexCast v809
  let c256 : Index := 256#32
  ![0, v833.toNat, 256]
def k0_off9 (i : grid0.Coords) (c0_i32_329 : BitVec 32) : Fin 3 → Nat :=
  let c0_354 : Index := 0#32
  let c256_i32_343 : BitVec 32 := 256#32
  let c0_i32_342 : BitVec 32 := 0#32
  let arg2 : BitVec 32 := BitVec.ofNat 32 (i 2).val
  let c512_i32_340 : BitVec 32 := 512#32
  let v822 : BitVec 32 := Scalar.muli arg2 c512_i32_340
  let c0_i32_327 : BitVec 32 := 0#32
  let c4_i32_328 : BitVec 32 := 4#32
  let v806 : BitVec 32 := Scalar.muli c0_i32_327 c4_i32_328
  let v807 : BitVec 32 := Scalar.addi v806 c0_i32_329
  let c128_i32_330 : BitVec 32 := 128#32
  let v808 : BitVec 32 := Scalar.muli v807 c128_i32_330
  let v809 : BitVec 32 := v808
  let v823 : BitVec 32 := Scalar.addi v822 v809
  let c64_i32_341 : BitVec 32 := 64#32
  let v824 : BitVec 32 := Scalar.subi v823 c64_i32_341
  let v825 : BitVec 32 := Scalar.maxsi c0_i32_342 v824
  let v826 : BitVec 32 := Scalar.minsi c256_i32_343 v825
  let v827 : BitVec 32 := v826
  let v846 : Index := Scalar.indexCast v827
  let c256_355 : Index := 256#32
  ![0, v846.toNat, 256]
def k0_mult22 (i : grid0.Coords) : BitVec 32 :=
  let c256_i32_365 : BitVec 32 := 256#32
  let c0_i32_364 : BitVec 32 := 0#32
  let arg2 : BitVec 32 := BitVec.ofNat 32 (i 2).val
  let c512_i32_362 : BitVec 32 := 512#32
  let v863 : BitVec 32 := Scalar.muli arg2 c512_i32_362
  let c0_i32_327 : BitVec 32 := 0#32
  let c4_i32_331 : BitVec 32 := 4#32
  let v810 : BitVec 32 := Scalar.muli c0_i32_327 c4_i32_331
  let c1_i32_332 : BitVec 32 := 1#32
  let v811 : BitVec 32 := Scalar.addi v810 c1_i32_332
  let c128_i32_333 : BitVec 32 := 128#32
  let v812 : BitVec 32 := Scalar.muli v811 c128_i32_333
  let v813 : BitVec 32 := v812
  let v864 : BitVec 32 := Scalar.addi v863 v813
  let c64_i32_363 : BitVec 32 := 64#32
  let v865 : BitVec 32 := Scalar.subi v864 c64_i32_363
  let v866 : BitVec 32 := Scalar.maxsi c0_i32_364 v865
  let v867 : BitVec 32 := Scalar.minsi c256_i32_365 v866
  v867
def k0_off10 (i : grid0.Coords) (c0_i32_329 : BitVec 32) : Fin 2 → Nat :=
  let c256_i32_343 : BitVec 32 := 256#32
  let c0_i32_342 : BitVec 32 := 0#32
  let arg2 : BitVec 32 := BitVec.ofNat 32 (i 2).val
  let c512_i32_340 : BitVec 32 := 512#32
  let v822 : BitVec 32 := Scalar.muli arg2 c512_i32_340
  let c0_i32_327 : BitVec 32 := 0#32
  let c4_i32_328 : BitVec 32 := 4#32
  let v806 : BitVec 32 := Scalar.muli c0_i32_327 c4_i32_328
  let v807 : BitVec 32 := Scalar.addi v806 c0_i32_329
  let c128_i32_330 : BitVec 32 := 128#32
  let v808 : BitVec 32 := Scalar.muli v807 c128_i32_330
  let v809 : BitVec 32 := v808
  let v823 : BitVec 32 := Scalar.addi v822 v809
  let c64_i32_341 : BitVec 32 := 64#32
  let v824 : BitVec 32 := Scalar.subi v823 c64_i32_341
  let v825 : BitVec 32 := Scalar.maxsi c0_i32_342 v824
  let v826 : BitVec 32 := Scalar.minsi c256_i32_343 v825
  let v827 : BitVec 32 := v826
  let v937 : Index := Scalar.indexCast v827
  let c256_394 : Index := 256#32
  ![v937.toNat, 256]
def k0_mult23 (i : grid0.Coords) : BitVec 32 :=
  let c256_i32_401 : BitVec 32 := 256#32
  let c0_i32_400 : BitVec 32 := 0#32
  let arg2 : BitVec 32 := BitVec.ofNat 32 (i 2).val
  let c512_i32_398 : BitVec 32 := 512#32
  let v953 : BitVec 32 := Scalar.muli arg2 c512_i32_398
  let c0_i32_327 : BitVec 32 := 0#32
  let c4_i32_334 : BitVec 32 := 4#32
  let v814 : BitVec 32 := Scalar.muli c0_i32_327 c4_i32_334
  let c2_i32_335 : BitVec 32 := 2#32
  let v815 : BitVec 32 := Scalar.addi v814 c2_i32_335
  let c128_i32_336 : BitVec 32 := 128#32
  let v816 : BitVec 32 := Scalar.muli v815 c128_i32_336
  let v817 : BitVec 32 := v816
  let v954 : BitVec 32 := Scalar.addi v953 v817
  let c64_i32_399 : BitVec 32 := 64#32
  let v955 : BitVec 32 := Scalar.subi v954 c64_i32_399
  let v956 : BitVec 32 := Scalar.maxsi c0_i32_400 v955
  let v957 : BitVec 32 := Scalar.minsi c256_i32_401 v956
  v957
def k0_mult24 (i : grid0.Coords) : BitVec 32 :=
  let c256_i32_437 : BitVec 32 := 256#32
  let c0_i32_436 : BitVec 32 := 0#32
  let arg2 : BitVec 32 := BitVec.ofNat 32 (i 2).val
  let c512_i32_434 : BitVec 32 := 512#32
  let v1043 : BitVec 32 := Scalar.muli arg2 c512_i32_434
  let c0_i32_327 : BitVec 32 := 0#32
  let c4_i32_337 : BitVec 32 := 4#32
  let v818 : BitVec 32 := Scalar.muli c0_i32_327 c4_i32_337
  let c3_i32_338 : BitVec 32 := 3#32
  let v819 : BitVec 32 := Scalar.addi v818 c3_i32_338
  let c128_i32_339 : BitVec 32 := 128#32
  let v820 : BitVec 32 := Scalar.muli v819 c128_i32_339
  let v821 : BitVec 32 := v820
  let v1044 : BitVec 32 := Scalar.addi v1043 v821
  let c64_i32_435 : BitVec 32 := 64#32
  let v1045 : BitVec 32 := Scalar.subi v1044 c64_i32_435
  let v1046 : BitVec 32 := Scalar.maxsi c0_i32_436 v1045
  let v1047 : BitVec 32 := Scalar.minsi c256_i32_437 v1046
  v1047
def k0_mult25 : BitVec 32 :=
  let c0_i32_484 : BitVec 32 := 0#32
  let c4_i32_485 : BitVec 32 := 4#32
  let v1182 : BitVec 32 := Scalar.muli c0_i32_484 c4_i32_485
  let c0_i32_486 : BitVec 32 := 0#32
  let v1183 : BitVec 32 := Scalar.addi v1182 c0_i32_486
  let c128_i32_487 : BitVec 32 := 128#32
  let v1184 : BitVec 32 := Scalar.muli v1183 c128_i32_487
  v1184
def k0_mult26 : BitVec 32 :=
  let c0_i32_484 : BitVec 32 := 0#32
  let c4_i32_488 : BitVec 32 := 4#32
  let v1186 : BitVec 32 := Scalar.muli c0_i32_484 c4_i32_488
  let c1_i32_489 : BitVec 32 := 1#32
  let v1187 : BitVec 32 := Scalar.addi v1186 c1_i32_489
  let c128_i32_490 : BitVec 32 := 128#32
  let v1188 : BitVec 32 := Scalar.muli v1187 c128_i32_490
  v1188
def k0_mult27 : BitVec 32 :=
  let c0_i32_484 : BitVec 32 := 0#32
  let c4_i32_491 : BitVec 32 := 4#32
  let v1190 : BitVec 32 := Scalar.muli c0_i32_484 c4_i32_491
  let c2_i32_492 : BitVec 32 := 2#32
  let v1191 : BitVec 32 := Scalar.addi v1190 c2_i32_492
  let c128_i32_493 : BitVec 32 := 128#32
  let v1192 : BitVec 32 := Scalar.muli v1191 c128_i32_493
  v1192
def k0_mult28 : BitVec 32 :=
  let c0_i32_484 : BitVec 32 := 0#32
  let c4_i32_494 : BitVec 32 := 4#32
  let v1194 : BitVec 32 := Scalar.muli c0_i32_484 c4_i32_494
  let c3_i32_495 : BitVec 32 := 3#32
  let v1195 : BitVec 32 := Scalar.addi v1194 c3_i32_495
  let c128_i32_496 : BitVec 32 := 128#32
  let v1196 : BitVec 32 := Scalar.muli v1195 c128_i32_496
  v1196
def k0_mult29 (i : grid0.Coords) : BitVec 32 :=
  let c256_i32_500 : BitVec 32 := 256#32
  let c0_i32_499 : BitVec 32 := 0#32
  let arg2 : BitVec 32 := BitVec.ofNat 32 (i 2).val
  let c512_i32_497 : BitVec 32 := 512#32
  let v1198 : BitVec 32 := Scalar.muli arg2 c512_i32_497
  let c0_i32_484 : BitVec 32 := 0#32
  let c4_i32_485 : BitVec 32 := 4#32
  let v1182 : BitVec 32 := Scalar.muli c0_i32_484 c4_i32_485
  let c0_i32_486 : BitVec 32 := 0#32
  let v1183 : BitVec 32 := Scalar.addi v1182 c0_i32_486
  let c128_i32_487 : BitVec 32 := 128#32
  let v1184 : BitVec 32 := Scalar.muli v1183 c128_i32_487
  let v1185 : BitVec 32 := v1184
  let v1199 : BitVec 32 := Scalar.addi v1198 v1185
  let c64_i32_498 : BitVec 32 := 64#32
  let v1200 : BitVec 32 := Scalar.subi v1199 c64_i32_498
  let v1201 : BitVec 32 := Scalar.maxsi c0_i32_499 v1200
  let v1202 : BitVec 32 := Scalar.minsi c256_i32_500 v1201
  v1202
def k0_off11 (c0_i32_486 : BitVec 32) : Fin 3 → Nat :=
  let c0_504 : Index := 0#32
  let c0_i32_484 : BitVec 32 := 0#32
  let c4_i32_485 : BitVec 32 := 4#32
  let v1182 : BitVec 32 := Scalar.muli c0_i32_484 c4_i32_485
  let v1183 : BitVec 32 := Scalar.addi v1182 c0_i32_486
  let c128_i32_487 : BitVec 32 := 128#32
  let v1184 : BitVec 32 := Scalar.muli v1183 c128_i32_487
  let v1185 : BitVec 32 := v1184
  let v1209 : Index := Scalar.indexCast v1185
  let c384 : Index := 384#32
  ![0, v1209.toNat, 384]
def k0_off12 (i : grid0.Coords) (c0_i32_486 : BitVec 32) : Fin 3 → Nat :=
  let c0_511 : Index := 0#32
  let c256_i32_500 : BitVec 32 := 256#32
  let c0_i32_499 : BitVec 32 := 0#32
  let arg2 : BitVec 32 := BitVec.ofNat 32 (i 2).val
  let c512_i32_497 : BitVec 32 := 512#32
  let v1198 : BitVec 32 := Scalar.muli arg2 c512_i32_497
  let c0_i32_484 : BitVec 32 := 0#32
  let c4_i32_485 : BitVec 32 := 4#32
  let v1182 : BitVec 32 := Scalar.muli c0_i32_484 c4_i32_485
  let v1183 : BitVec 32 := Scalar.addi v1182 c0_i32_486
  let c128_i32_487 : BitVec 32 := 128#32
  let v1184 : BitVec 32 := Scalar.muli v1183 c128_i32_487
  let v1185 : BitVec 32 := v1184
  let v1199 : BitVec 32 := Scalar.addi v1198 v1185
  let c64_i32_498 : BitVec 32 := 64#32
  let v1200 : BitVec 32 := Scalar.subi v1199 c64_i32_498
  let v1201 : BitVec 32 := Scalar.maxsi c0_i32_499 v1200
  let v1202 : BitVec 32 := Scalar.minsi c256_i32_500 v1201
  let v1203 : BitVec 32 := v1202
  let v1222 : Index := Scalar.indexCast v1203
  let c384_512 : Index := 384#32
  ![0, v1222.toNat, 384]
def k0_mult30 (i : grid0.Coords) : BitVec 32 :=
  let c256_i32_522 : BitVec 32 := 256#32
  let c0_i32_521 : BitVec 32 := 0#32
  let arg2 : BitVec 32 := BitVec.ofNat 32 (i 2).val
  let c512_i32_519 : BitVec 32 := 512#32
  let v1239 : BitVec 32 := Scalar.muli arg2 c512_i32_519
  let c0_i32_484 : BitVec 32 := 0#32
  let c4_i32_488 : BitVec 32 := 4#32
  let v1186 : BitVec 32 := Scalar.muli c0_i32_484 c4_i32_488
  let c1_i32_489 : BitVec 32 := 1#32
  let v1187 : BitVec 32 := Scalar.addi v1186 c1_i32_489
  let c128_i32_490 : BitVec 32 := 128#32
  let v1188 : BitVec 32 := Scalar.muli v1187 c128_i32_490
  let v1189 : BitVec 32 := v1188
  let v1240 : BitVec 32 := Scalar.addi v1239 v1189
  let c64_i32_520 : BitVec 32 := 64#32
  let v1241 : BitVec 32 := Scalar.subi v1240 c64_i32_520
  let v1242 : BitVec 32 := Scalar.maxsi c0_i32_521 v1241
  let v1243 : BitVec 32 := Scalar.minsi c256_i32_522 v1242
  v1243
def k0_off13 (i : grid0.Coords) (c0_i32_486 : BitVec 32) : Fin 2 → Nat :=
  let c256_i32_500 : BitVec 32 := 256#32
  let c0_i32_499 : BitVec 32 := 0#32
  let arg2 : BitVec 32 := BitVec.ofNat 32 (i 2).val
  let c512_i32_497 : BitVec 32 := 512#32
  let v1198 : BitVec 32 := Scalar.muli arg2 c512_i32_497
  let c0_i32_484 : BitVec 32 := 0#32
  let c4_i32_485 : BitVec 32 := 4#32
  let v1182 : BitVec 32 := Scalar.muli c0_i32_484 c4_i32_485
  let v1183 : BitVec 32 := Scalar.addi v1182 c0_i32_486
  let c128_i32_487 : BitVec 32 := 128#32
  let v1184 : BitVec 32 := Scalar.muli v1183 c128_i32_487
  let v1185 : BitVec 32 := v1184
  let v1199 : BitVec 32 := Scalar.addi v1198 v1185
  let c64_i32_498 : BitVec 32 := 64#32
  let v1200 : BitVec 32 := Scalar.subi v1199 c64_i32_498
  let v1201 : BitVec 32 := Scalar.maxsi c0_i32_499 v1200
  let v1202 : BitVec 32 := Scalar.minsi c256_i32_500 v1201
  let v1203 : BitVec 32 := v1202
  let v1313 : Index := Scalar.indexCast v1203
  let c384_551 : Index := 384#32
  ![v1313.toNat, 384]
def k0_mult31 (i : grid0.Coords) : BitVec 32 :=
  let c256_i32_558 : BitVec 32 := 256#32
  let c0_i32_557 : BitVec 32 := 0#32
  let arg2 : BitVec 32 := BitVec.ofNat 32 (i 2).val
  let c512_i32_555 : BitVec 32 := 512#32
  let v1329 : BitVec 32 := Scalar.muli arg2 c512_i32_555
  let c0_i32_484 : BitVec 32 := 0#32
  let c4_i32_491 : BitVec 32 := 4#32
  let v1190 : BitVec 32 := Scalar.muli c0_i32_484 c4_i32_491
  let c2_i32_492 : BitVec 32 := 2#32
  let v1191 : BitVec 32 := Scalar.addi v1190 c2_i32_492
  let c128_i32_493 : BitVec 32 := 128#32
  let v1192 : BitVec 32 := Scalar.muli v1191 c128_i32_493
  let v1193 : BitVec 32 := v1192
  let v1330 : BitVec 32 := Scalar.addi v1329 v1193
  let c64_i32_556 : BitVec 32 := 64#32
  let v1331 : BitVec 32 := Scalar.subi v1330 c64_i32_556
  let v1332 : BitVec 32 := Scalar.maxsi c0_i32_557 v1331
  let v1333 : BitVec 32 := Scalar.minsi c256_i32_558 v1332
  v1333
def k0_mult32 (i : grid0.Coords) : BitVec 32 :=
  let c256_i32_594 : BitVec 32 := 256#32
  let c0_i32_593 : BitVec 32 := 0#32
  let arg2 : BitVec 32 := BitVec.ofNat 32 (i 2).val
  let c512_i32_591 : BitVec 32 := 512#32
  let v1419 : BitVec 32 := Scalar.muli arg2 c512_i32_591
  let c0_i32_484 : BitVec 32 := 0#32
  let c4_i32_494 : BitVec 32 := 4#32
  let v1194 : BitVec 32 := Scalar.muli c0_i32_484 c4_i32_494
  let c3_i32_495 : BitVec 32 := 3#32
  let v1195 : BitVec 32 := Scalar.addi v1194 c3_i32_495
  let c128_i32_496 : BitVec 32 := 128#32
  let v1196 : BitVec 32 := Scalar.muli v1195 c128_i32_496
  let v1197 : BitVec 32 := v1196
  let v1420 : BitVec 32 := Scalar.addi v1419 v1197
  let c64_i32_592 : BitVec 32 := 64#32
  let v1421 : BitVec 32 := Scalar.subi v1420 c64_i32_592
  let v1422 : BitVec 32 := Scalar.maxsi c0_i32_593 v1421
  let v1423 : BitVec 32 := Scalar.minsi c256_i32_594 v1422
  v1423
def k0_cond2 (i : grid0.Coords) : BitVec 1 :=
  let arg2 : BitVec 32 := BitVec.ofNat 32 (i 2).val
  let c0_i32_646 : BitVec 32 := 0#32
  let v1562 : BitVec 1 := Scalar.cmpi .eq arg2 c0_i32_646
  let v1563 : BitVec 32 := Scalar.extui v1562
  let c0_i32_647 : BitVec 32 := 0#32
  let v1564 : BitVec 1 := Scalar.cmpi .ne v1563 c0_i32_647
  v1564

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S16x512x512 : Shape := ⟨3, ![16, 512, 512]⟩
abbrev S16x512x8 : Shape := ⟨3, ![16, 512, 8]⟩
abbrev S16x512x8x64 : Shape := ⟨4, ![16, 512, 8, 64]⟩
abbrev S16x8x512x512 : Shape := ⟨4, ![16, 8, 512, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x1x512x512 : Shape := ⟨4, ![1, 1, 512, 512]⟩
abbrev S16x8x512 : Shape := ⟨3, ![16, 8, 512]⟩
abbrev S16x8x512x1 : Shape := ⟨4, ![16, 8, 512, 1]⟩
abbrev S16x8x64x512 : Shape := ⟨4, ![16, 8, 64, 512]⟩
abbrev S16x8x512x64 : Shape := ⟨4, ![16, 8, 512, 64]⟩

abbrev nBuf : Space → Nat
  | .hbm => 72
  | .vmem => 0
  | .smem => 0
  | _ => 0

abbrev bufTy : (tb : Table) → Fin (tcTables nBuf tb) → BufTy
  | .hbm, ⟨0, _⟩ => ⟨S16x512x512, .bf16⟩
  | .hbm, ⟨1, _⟩ => ⟨S16x512x512, .bf16⟩
  | .hbm, ⟨2, _⟩ => ⟨S16x512x512, .bf16⟩
  | .hbm, ⟨3, _⟩ => ⟨S16x512x512, .bf16⟩
  | .hbm, ⟨4, _⟩ => ⟨S16x512x8, .f32⟩
  | .hbm, ⟨5, _⟩ => ⟨S16x512x8, .bf16⟩
  | .hbm, ⟨6, _⟩ => ⟨S16x512x512, .f32⟩
  | .hbm, ⟨7, _⟩ => ⟨S16x512x8x64, .f32⟩
  | .hbm, ⟨8, _⟩ => ⟨S16x512x512, .f32⟩
  | .hbm, ⟨9, _⟩ => ⟨S16x512x8x64, .f32⟩
  | .hbm, ⟨10, _⟩ => ⟨S16x8x512x512, .f32⟩
  | .hbm, ⟨11, _⟩ => ⟨S_, .f32⟩
  | .hbm, ⟨12, _⟩ => ⟨S16x8x512x512, .f32⟩
  | .hbm, ⟨13, _⟩ => ⟨S16x8x512x512, .f32⟩
  | .hbm, ⟨14, _⟩ => ⟨S512, .i32⟩
  | .hbm, ⟨15, _⟩ => ⟨S512x1, .i32⟩
  | .hbm, ⟨16, _⟩ => ⟨S1x512, .i32⟩
  | .hbm, ⟨17, _⟩ => ⟨S512x512, .i32⟩
  | .hbm, ⟨18, _⟩ => ⟨S512x512, .i32⟩
  | .hbm, ⟨19, _⟩ => ⟨S512x512, .i32⟩
  | .hbm, ⟨20, _⟩ => ⟨S512x512, .i32⟩
  | .hbm, ⟨21, _⟩ => ⟨S_, .i32⟩
  | .hbm, ⟨22, _⟩ => ⟨S512x512, .i32⟩
  | .hbm, ⟨23, _⟩ => ⟨S512x512, .i1⟩
  | .hbm, ⟨24, _⟩ => ⟨S1x1x512x512, .i1⟩
  | .hbm, ⟨25, _⟩ => ⟨S_, .f32⟩
  | .hbm, ⟨26, _⟩ => ⟨S_, .f32⟩
  | .hbm, ⟨27, _⟩ => ⟨S16x8x512x512, .i1⟩
  | .hbm, ⟨28, _⟩ => ⟨S16x8x512x512, .f32⟩
  | .hbm, ⟨29, _⟩ => ⟨S16x8x512x512, .f32⟩
  | .hbm, ⟨30, _⟩ => ⟨S_, .f32⟩
  | .hbm, ⟨31, _⟩ => ⟨S16x8x512x512, .f32⟩
  | .hbm, ⟨32, _⟩ => ⟨S16x8x512, .f32⟩
  | .hbm, ⟨33, _⟩ => ⟨S16x8x512x1, .f32⟩
  | .hbm, ⟨34, _⟩ => ⟨S16x8x512x512, .f32⟩
  | .hbm, ⟨35, _⟩ => ⟨S16x8x512x512, .f32⟩
  | .hbm, ⟨36, _⟩ => ⟨S16x8x512x512, .f32⟩
  | .hbm, ⟨37, _⟩ => ⟨S16x512x512, .f32⟩
  | .hbm, ⟨38, _⟩ => ⟨S16x512x8x64, .f32⟩
  | .hbm, ⟨39, _⟩ => ⟨S16x8x64x512, .f32⟩
  | .hbm, ⟨40, _⟩ => ⟨S16x512x8x64, .f32⟩
  | .hbm, ⟨41, _⟩ => ⟨S_, .f32⟩
  | .hbm, ⟨42, _⟩ => ⟨S16x8x512, .f32⟩
  | .hbm, ⟨43, _⟩ => ⟨S16x512x8, .f32⟩
  | .hbm, ⟨44, _⟩ => ⟨S16x512x512, .f32⟩
  | .hbm, ⟨45, _⟩ => ⟨S16x512x8x64, .f32⟩
  | .hbm, ⟨46, _⟩ => ⟨S16x512x8, .f32⟩
  | .hbm, ⟨47, _⟩ => ⟨S16x512x8, .f32⟩
  | .hbm, ⟨48, _⟩ => ⟨S16x8x512, .f32⟩
  | .hbm, ⟨49, _⟩ => ⟨S16x8x512x512, .f32⟩
  | .hbm, ⟨50, _⟩ => ⟨S16x8x64x512, .f32⟩
  | .hbm, ⟨51, _⟩ => ⟨S16x8x512x512, .f32⟩
  | .hbm, ⟨52, _⟩ => ⟨S16x8x512x512, .f32⟩
  | .hbm, ⟨53, _⟩ => ⟨S16x8x64x512, .f32⟩
  | .hbm, ⟨54, _⟩ => ⟨S16x512x8x64, .f32⟩
  | .hbm, ⟨55, _⟩ => ⟨S16x512x512, .f32⟩
  | .hbm, ⟨56, _⟩ => ⟨S16x512x512, .bf16⟩
  | .hbm, ⟨57, _⟩ => ⟨S16x8x512x512, .f32⟩
  | .hbm, ⟨58, _⟩ => ⟨S_, .f32⟩
  | .hbm, ⟨59, _⟩ => ⟨S16x8x512x512, .f32⟩
  | .hbm, ⟨60, _⟩ => ⟨S16x8x512x512, .f32⟩
  | .hbm, ⟨61, _⟩ => ⟨S_, .f32⟩
  | .hbm, ⟨62, _⟩ => ⟨S16x8x512x512, .f32⟩
  | .hbm, ⟨63, _⟩ => ⟨S16x8x512x512, .f32⟩
  | .hbm, ⟨64, _⟩ => ⟨S16x8x512x64, .f32⟩
  | .hbm, ⟨65, _⟩ => ⟨S16x512x8x64, .f32⟩
  | .hbm, ⟨66, _⟩ => ⟨S16x8x512x64, .f32⟩
  | .hbm, ⟨67, _⟩ => ⟨S16x512x8x64, .f32⟩
  | .hbm, ⟨68, _⟩ => ⟨S16x512x512, .f32⟩
  | .hbm, ⟨69, _⟩ => ⟨S16x512x512, .bf16⟩
  | .hbm, ⟨70, _⟩ => ⟨S16x512x512, .f32⟩
  | .hbm, ⟨71, _⟩ => ⟨S16x512x512, .bf16⟩
  | _, _ => ⟨S16x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_call0_v0 : Ref sig .tc := ⟨.hbm, 26, rfl⟩
abbrev main_v17_1 : Ref sig .tc := ⟨.hbm, 27, rfl⟩
abbrev main_call0_v2 : Ref sig .tc := ⟨.hbm, 28, rfl⟩
abbrev main_v17_0 : Ref sig .tc := ⟨.hbm, 29, rfl⟩
abbrev main_call0_cst : Ref sig .tc := ⟨.hbm, 30, rfl⟩
abbrev main_v17_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call1_cst : Ref sig .tc := ⟨.hbm, 58, rfl⟩
abbrev main_call1_v0 : Ref sig .tc := ⟨.hbm, 59, rfl⟩
abbrev main_v43 : Ref sig .tc := ⟨.hbm, 60, rfl⟩
abbrev main_cst_2 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== WeightKernel.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== WeightReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InputKernel.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S8x1024 : Shape := ⟨2, ![8, 1024]⟩
abbrev S256x1024 : Shape := ⟨2, ![256, 1024]⟩
abbrev S256x2816 : Shape := ⟨2, ![256, 2816]⟩
abbrev S512x1024 : Shape := ⟨2, ![512, 1024]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S32x8x1024 : Shape := ⟨3, ![32, 8, 1024]⟩
abbrev S1024 : Shape := ⟨1, ![1024]⟩

abbrev nBuf : Space → Nat
  | .hbm => 33
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2816x1024, .bf16⟩
  | .hbm, ⟨4, _⟩ => ⟨S2816x1024, .bf16⟩
  | .hbm, ⟨5, _⟩ => ⟨S2816x1024, .bf16⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S8192x2816, .f32⟩
  | .hbm, ⟨23, _⟩ => ⟨S8192x2816, .bf16⟩
  | .hbm, ⟨24, _⟩ => ⟨S8192x2816, .f32⟩
  | .hbm, ⟨25, _⟩ => ⟨S8192x2816, .bf16⟩
  | .hbm, ⟨26, _⟩ => ⟨S8192x1024, .f32⟩
  | .hbm, ⟨27, _⟩ => ⟨S8192x1024, .bf16⟩
  | .hbm, ⟨28, _⟩ => ⟨S8192x2816, .bf16⟩
  | .hbm, ⟨29, _⟩ => ⟨S8192x2816, .bf16⟩
  | .hbm, ⟨30, _⟩ => ⟨S8x1024, .f32⟩
  | .hbm, ⟨31, _⟩ => ⟨S_, .f32⟩
  | .hbm, ⟨32, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev main_v17_4 : Ref sig .tc := ⟨.hbm, 30, rfl⟩
abbrev main_cst_2 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InputReferenceIdeal.lean ====
abbrev S8192x1024 : Shape := ⟨2, ![8192, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2816x1024, .bf16⟩
  | .hbm, ⟨4, _⟩ => ⟨S2816x1024, .bf16⟩
  | .hbm, ⟨5, _⟩ => ⟨S2816x1024, .bf16⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S2816x1024, .f32⟩
  | .hbm, ⟨28, _⟩ => ⟨S1024x2816, .f32⟩
  | .hbm, ⟨29, _⟩ => ⟨S8192x2816, .f32⟩
  | .hbm, ⟨30, _⟩ => ⟨S2816x1024, .f32⟩
  | .hbm, ⟨31, _⟩ => ⟨S1024x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S2816x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x1024, .f32⟩
  | .hbm, ⟨80, _⟩ => ⟨S8192x1024, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .bf16⟩
  | .hbm, ⟨94, _⟩ => ⟨S8192x2816, .bf16⟩
  | .hbm, ⟨95, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v23_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v23_1 : Ref sig .tc := ⟨.hbm, 44, rfl⟩
abbrev main_v23_0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩

abbrev nD : Nat := 1
abbrev τ : Topo := Topo.v7x

variable {F : FTy → Type} [FloatOps F]
-- ==== UpKernel.lean ====
abbrev S8192x1024 : Shape := ⟨2, ![8192, 1024]⟩
abbrev S1x1024 : Shape := ⟨2, ![1, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S8192x1024, .bf16⟩
  | .hbm, ⟨5, _⟩ => ⟨S8192x2816, .bf16⟩
  | .hbm, ⟨6, _⟩ => ⟨S8192x2816, .bf16⟩
  | .hbm, ⟨7, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpReferenceIdeal.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1024x2816 : Shape := ⟨2, ![1024, 2816]⟩
abbrev S8192x2816 : Shape := ⟨2, ![8192, 2816]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S2816x1024, .f32⟩
  | .hbm, ⟨22, _⟩ => ⟨S1024x2816, .f32⟩
  | .hbm, ⟨23, _⟩ => ⟨S8192x2816, .f32⟩
  | .hbm, ⟨24, _⟩ => ⟨S2816x1024, .f32⟩
  | .hbm, ⟨25, _⟩ => ⟨S1024x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x1024, .bf16⟩
  | .hbm, ⟨38, _⟩ => ⟨S8192x2816, .bf16⟩
  | .hbm, ⟨39, _⟩ => ⟨S8192x2816, .bf16⟩
  | .hbm, ⟨40, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== DownKernel.lean ====
abbrev S8192x1024 : Shape := ⟨2, ![8192, 1024]⟩
abbrev S8192x2816 : Shape := ⟨2, ![8192, 2816]⟩
abbrev S2816x1024 : Shape := ⟨2, ![2816, 1024]⟩
abbrev S512x1024 : Shape := ⟨2, ![512, 1024]⟩
abbrev S512x2816 : Shape := ⟨2, ![512, 2816]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S2816x1024, .bf16⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownReferenceIdeal.lean ====
abbrev S8192x1024 : Shape := ⟨2, ![8192, 1024]⟩
abbrev S8192x2816 : Shape := ⟨2, ![8192, 2816]⟩
abbrev S2816x1024 : Shape := ⟨2, ![2816, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S2816x1024, .bf16⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OutKernel.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutReferenceIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixWeightKernel.lean ====
abbrev S8192x2304 : Shape := ⟨2, ![8192, 2304]⟩
abbrev S8192x1024 : Shape := ⟨2, ![8192, 1024]⟩
abbrev S2304x1024 : Shape := ⟨2, ![2304, 1024]⟩
abbrev S2048x1152 : Shape := ⟨2, ![2048, 1152]⟩
abbrev S2048x1024 : Shape := ⟨2, ![2048, 1024]⟩
abbrev S1152x1024 : Shape := ⟨2, ![1152, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2304, .bf16⟩
  | .hbm, ⟨1, _⟩ => ⟨S8192x1024, .bf16⟩
  | .hbm, ⟨2, _⟩ => ⟨S2304x1024, .f32⟩
  | .hbm, ⟨3, _⟩ => ⟨S2304x1024, .bf16⟩
  | .local _ .vmem, ⟨0, _⟩ => ⟨S2048x1152, .bf16⟩
  | .local _ .vmem, ⟨1, _⟩ => ⟨S2048x1152, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .f32⟩
  | .local _ .vmem, ⟨5, _⟩ => ⟨S1152x1024, .f32⟩
  | .local _ .vmem, ⟨6, _⟩ => ⟨S1152x1024, .bf16⟩
  | .local _ .vmem, ⟨7, _⟩ => ⟨S1152x1024, .bf16⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1152x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== MixWeightReferenceIdeal.lean ====
abbrev S8192x2304 : Shape := ⟨2, ![8192, 2304]⟩
abbrev S8192x1024 : Shape := ⟨2, ![8192, 1024]⟩
abbrev S_ : Shape := ⟨0, ![]⟩
abbrev S2304x1024 : Shape := ⟨2, ![2304, 1024]⟩
abbrev S1024x2304 : Shape := ⟨2, ![1024, 2304]⟩

abbrev nBuf : Space → Nat
  | .hbm => 12
  | .vmem => 0
  | .smem => 0
  | _ => 0

abbrev bufTy : (tb : Table) → Fin (tcTables nBuf tb) → BufTy
  | .hbm, ⟨0, _⟩ => ⟨S8192x2304, .bf16⟩
  | .hbm, ⟨1, _⟩ => ⟨S8192x1024, .bf16⟩
  | .hbm, ⟨2, _⟩ => ⟨S_, .f32⟩
  | .hbm, ⟨3, _⟩ => ⟨S2304x1024, .f32⟩
  | .hbm, ⟨4, _⟩ => ⟨S8192x1024, .f32⟩
  | .hbm, ⟨5, _⟩ => ⟨S1024x2304, .f32⟩
  | .hbm, ⟨6, _⟩ => ⟨S8192x2304, .f32⟩
  | .hbm, ⟨7, _⟩ => ⟨S8192x2304, .f32⟩
  | .hbm, ⟨8, _⟩ => ⟨S2304x1024, .f32⟩
  | .hbm, ⟨9, _⟩ => ⟨S1024x2304, .f32⟩
  | .hbm, ⟨10, _⟩ => ⟨S2304x1024, .f32⟩
  | .hbm, ⟨11, _⟩ => ⟨S2304x1024, .bf16⟩
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== LossKernel.lean ====
abbrev S8192x1024 : Shape := ⟨2, ![8192, 1024]⟩
abbrev S1x1024 : Shape := ⟨2, ![1, 1024]⟩
abbrev S2816x1024 : Shape := ⟨2, ![2816, 1024]⟩
abbrev S8192x2816 : Shape := ⟨2, ![8192, 2816]⟩
abbrev S8x1024 : Shape := ⟨2, ![8, 1024]⟩
abbrev S8x128 : Shape := ⟨2, ![8, 128]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S1 : Shape := ⟨1, ![1]⟩
abbrev S1x1 : Shape := ⟨2, ![1, 1]⟩
abbrev S64x8x1024 : Shape := ⟨3, ![64, 8, 1024]⟩
abbrev S_ : Shape := ⟨0, ![]⟩
abbrev S1024 : Shape := ⟨1, ![1024]⟩

abbrev nBuf : Space → Nat
  | .hbm => 18
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S8192x2816, .bf16⟩
  | .hbm, ⟨10, _⟩ => ⟨S8192x2816, .bf16⟩
  | .hbm, ⟨11, _⟩ => ⟨S8192x2816, .bf16⟩
  | .hbm, ⟨12, _⟩ => ⟨S8x1024, .f32⟩
  | .hbm, ⟨13, _⟩ => ⟨S8x128, .f32⟩
  | .hbm, ⟨14, _⟩ => ⟨S_, .f32⟩
  | .hbm, ⟨15, _⟩ => ⟨S1024, .f32⟩
  | .hbm, ⟨16, _⟩ => ⟨S1x1, .f32⟩
  | .hbm, ⟨17, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S512x2816, .bf16⟩
  | .local _ .vmem, ⟨18, _⟩ => ⟨S512x2816, .bf16⟩
  | .local _ .vmem, ⟨19, _⟩ => ⟨S8x1024, .f32⟩
  | .local _ .vmem, ⟨20, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== LossReferenceIdeal.lean ====
abbrev S8192x1024 : Shape := ⟨2, ![8192, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩

abbrev nBuf : Space → Nat
  | .hbm => 119
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S1x1024, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S2816x1024, .f32⟩
  | .hbm, ⟨25, _⟩ => ⟨S1024x2816, .f32⟩
  | .hbm, ⟨26, _⟩ => ⟨S8192x2816, .f32⟩
  | .hbm, ⟨27, _⟩ => ⟨S2816x1024, .f32⟩
  | .hbm, ⟨28, _⟩ => ⟨S1024x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S2816x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S8192, .f32⟩
  | .hbm, ⟨85, _⟩ => ⟨S_, .f32⟩
  | .hbm, ⟨86, _⟩ => ⟨S8192, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S1024, .f32⟩
  | .hbm, ⟨98, _⟩ => ⟨S8192x1024, .f32⟩
  | .hbm, ⟨99, _⟩ => ⟨S_, .f32⟩
  | .hbm, ⟨100, _⟩ => ⟨S8192, .f32⟩
  | .hbm, ⟨101, _⟩ => ⟨S8192x1, .f32⟩
  | .hbm, ⟨102, _⟩ => ⟨S8192x1024, .f32⟩
  | .hbm, ⟨103, _⟩ => ⟨S8192x1024, .f32⟩
  | .hbm, ⟨104, _⟩ => ⟨S8192x1, .f32⟩
  | .hbm, ⟨105, _⟩ => ⟨S_, .f32⟩
  | .hbm, ⟨106, _⟩ => ⟨S8192x1, .f32⟩
  | .hbm, ⟨107, _⟩ => ⟨S8192x1, .f32⟩
  | .hbm, ⟨108, _⟩ => ⟨S_, .f32⟩
  | .hbm, ⟨109, _⟩ => ⟨S8192, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .bf16⟩
  | .hbm, ⟨116, _⟩ => ⟨S8192x2816, .bf16⟩
  | .hbm, ⟨117, _⟩ => ⟨S8192x2816, .bf16⟩
  | .hbm, ⟨118, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_cst_12 : Ref sig .tc := ⟨.hbm, 81, rfl⟩
abbrev main_cst_13 : Ref sig .tc := ⟨.hbm, 82, rfl⟩
abbrev main_v53 : Ref sig .tc := ⟨.hbm, 83, rfl⟩
abbrev main_v54 : Ref sig .tc := ⟨.hbm, 84, rfl⟩
abbrev main_cst_14 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_15 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_16 : Ref sig .tc := ⟨.hbm, 96, rfl⟩
abbrev main_v64 : Ref sig .tc := ⟨.hbm, 97, rfl⟩
abbrev main_v65 : Ref sig .tc := ⟨.hbm, 98, rfl⟩
abbrev main_cst_17 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_18 : Ref sig .tc := ⟨.hbm, 105, rfl⟩
abbrev main_v71 : Ref sig .tc := ⟨.hbm, 106, rfl⟩
abbrev main_v72 : Ref sig .tc := ⟨.hbm, 107, rfl⟩
abbrev main_cst_19 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩

abbrev nD : Nat := 1
abbrev τ : Topo := Topo.v7x

variable {F : FTy → Type} [FloatOps F]
-- ==== Proof.OffsetsIdeal.lean ====
/-
  The offsets of the attention gradient's loads and stores in closed form: query block `j` (rows `128 j` on) of lane block
  `lb` (columns `128 lb` on), the key window `ws j` (rows 0, 64, 192, 256 on) and the mask table's entry (0, 1, 1, 2).
-/
module

public import proofs.«01_k».proof.Proof.Gen.KernelIdeal.Frame
public import proofs.«01_k».proof.Proof.Gen.KernelIdeal.Skeleton

@[expose] public section

noncomputable section

namespace Cert.KernelIdeal.Hand

open Cert.KernelIdeal Cert.KernelIdeal.Gen
open Idealize.ShloMosaic Idealize.ShloMosaic.TcCoe Idealize.ShloMosaic.Tactic

/-- The third grid axis has one point. -/
theorem seg_zero (i : grid0.Coords) : (i 2).val = 0 := Nat.lt_one_iff.mp (i 2).isLt

/-- The first branch: the accumulators are cleared. -/
abbrev condClear (i : grid0.Coords) : Prop :=
  (Scalar.cmpi .ne (Scalar.extui (Scalar.cmpi .eq (BitVec.ofNat 32 (i 2).val) 0#32)) 0#32) = 1#1
theorem condClear_holds (i : grid0.Coords) : condClear i := by
  unfold condClear; rw [seg_zero i]; decide +kernel
/-- The second branch: the accumulators are written out. -/
theorem condOut_holds (i : grid0.Coords) : k0_cond2 i = 1#1 := by
  unfold k0_cond2; rw [seg_zero i]; decide +kernel

theorem off1_0 (i : grid0.Coords) : k0_off1 i 0#32 = ![0, 0, 0] := by
  unfold k0_off1; rw [seg_zero i]; decide +kernel
instance (i : grid0.Coords) : ClosedOff (k0_off1 i 0#32) := ⟨![0, 0, 0], off1_0 i⟩
theorem off1_1 (i : grid0.Coords) : k0_off1 i 1#32 = ![1, 0, 0] := by
  unfold k0_off1; rw [seg_zero i]; decide +kernel
instance (i : grid0.Coords) : ClosedOff (k0_off1 i 1#32) := ⟨![1, 0, 0], off1_1 i⟩
theorem off1_2 (i : grid0.Coords) : k0_off1 i 2#32 = ![1, 0, 0] := by
  unfold k0_off1; rw [seg_zero i]; decide +kernel
instance (i : grid0.Coords) : ClosedOff (k0_off1 i 2#32) := ⟨![1, 0, 0], off1_2 i⟩
theorem off1_3 (i : grid0.Coords) : k0_off1 i 3#32 = ![2, 0, 0] := by
  unfold k0_off1; rw [seg_zero i]; decide +kernel
instance (i : grid0.Coords) : ClosedOff (k0_off1 i 3#32) := ⟨![2, 0, 0], off1_3 i⟩
theorem off2_0 : k0_off2 0#32 = ![0, 0, 0] := by decide +kernel
instance : ClosedOff (k0_off2 0#32) := ⟨![0, 0, 0], off2_0⟩
theorem off3_0 (i : grid0.Coords) : k0_off3 i 0#32 = ![0, 0, 0] := by
  unfold k0_off3; rw [seg_zero i]; decide +kernel
instance (i : grid0.Coords) : ClosedOff (k0_off3 i 0#32) := ⟨![0, 0, 0], off3_0 i⟩
theorem off4_0 (i : grid0.Coords) : k0_off4 i 0#32 = ![0, 0] := by
  unfold k0_off4; rw [seg_zero i]; decide +kernel
instance (i : grid0.Coords) : ClosedOff (k0_off4 i 0#32) := ⟨![0, 0], off4_0 i⟩
theorem off2_1 : k0_off2 1#32 = ![0, 128, 0] := by decide +kernel
instance : ClosedOff (k0_off2 1#32) := ⟨![0, 128, 0], off2_1⟩
theorem off3_1 (i : grid0.Coords) : k0_off3 i 1#32 = ![0, 64, 0] := by
  unfold k0_off3; rw [seg_zero i]; decide +kernel
instance (i : grid0.Coords) : ClosedOff (k0_off3 i 1#32) := ⟨![0, 64, 0], off3_1 i⟩
theorem off4_1 (i : grid0.Coords) : k0_off4 i 1#32 = ![64, 0] := by
  unfold k0_off4; rw [seg_zero i]; decide +kernel
instance (i : grid0.Coords) : ClosedOff (k0_off4 i 1#32) := ⟨![64, 0], off4_1 i⟩
theorem off2_2 : k0_off2 2#32 = ![0, 256, 0] := by decide +kernel
instance : ClosedOff (k0_off2 2#32) := ⟨![0, 256, 0], off2_2⟩
theorem off3_2 (i : grid0.Coords) : k0_off3 i 2#32 = ![0, 192, 0] := by
  unfold k0_off3; rw [seg_zero i]; decide +kernel
instance (i : grid0.Coords) : ClosedOff (k0_off3 i 2#32) := ⟨![0, 192, 0], off3_2 i⟩
theorem off4_2 (i : grid0.Coords) : k0_off4 i 2#32 = ![192, 0] := by
  unfold k0_off4; rw [seg_zero i]; decide +kernel
instance (i : grid0.Coords) : ClosedOff (k0_off4 i 2#32) := ⟨![192, 0], off4_2 i⟩
theorem off2_3 : k0_off2 3#32 = ![0, 384, 0] := by decide +kernel
instance : ClosedOff (k0_off2 3#32) := ⟨![0, 384, 0], off2_3⟩
theorem off3_3 (i : grid0.Coords) : k0_off3 i 3#32 = ![0, 256, 0] := by
  unfold k0_off3; rw [seg_zero i]; decide +kernel
instance (i : grid0.Coords) : ClosedOff (k0_off3 i 3#32) := ⟨![0, 256, 0], off3_3 i⟩
theorem off4_3 (i : grid0.Coords) : k0_off4 i 3#32 = ![256, 0] := by
  unfold k0_off4; rw [seg_zero i]; decide +kernel
instance (i : grid0.Coords) : ClosedOff (k0_off4 i 3#32) := ⟨![256, 0], off4_3 i⟩
theorem off5_0 : k0_off5 0#32 = ![0, 0, 128] := by decide +kernel
instance : ClosedOff (k0_off5 0#32) := ⟨![0, 0, 128], off5_0⟩
theorem off6_0 (i : grid0.Coords) : k0_off6 i 0#32 = ![0, 0, 128] := by
  unfold k0_off6; rw [seg_zero i]; decide +kernel
instance (i : grid0.Coords) : ClosedOff (k0_off6 i 0#32) := ⟨![0, 0, 128], off6_0 i⟩
theorem off7_0 (i : grid0.Coords) : k0_off7 i 0#32 = ![0, 128] := by
  unfold k0_off7; rw [seg_zero i]; decide +kernel
instance (i : grid0.Coords) : ClosedOff (k0_off7 i 0#32) := ⟨![0, 128], off7_0 i⟩
theorem off5_1 : k0_off5 1#32 = ![0, 128, 128] := by decide +kernel
instance : ClosedOff (k0_off5 1#32) := ⟨![0, 128, 128], off5_1⟩
theorem off6_1 (i : grid0.Coords) : k0_off6 i 1#32 = ![0, 64, 128] := by
  unfold k0_off6; rw [seg_zero i]; decide +kernel
instance (i : grid0.Coords) : ClosedOff (k0_off6 i 1#32) := ⟨![0, 64, 128], off6_1 i⟩
theorem off7_1 (i : grid0.Coords) : k0_off7 i 1#32 = ![64, 128] := by
  unfold k0_off7; rw [seg_zero i]; decide +kernel
instance (i : grid0.Coords) : ClosedOff (k0_off7 i 1#32) := ⟨![64, 128], off7_1 i⟩
theorem off5_2 : k0_off5 2#32 = ![0, 256, 128] := by decide +kernel
instance : ClosedOff (k0_off5 2#32) := ⟨![0, 256, 128], off5_2⟩
theorem off6_2 (i : grid0.Coords) : k0_off6 i 2#32 = ![0, 192, 128] := by
  unfold k0_off6; rw [seg_zero i]; decide +kernel
instance (i : grid0.Coords) : ClosedOff (k0_off6 i 2#32) := ⟨![0, 192, 128], off6_2 i⟩
theorem off7_2 (i : grid0.Coords) : k0_off7 i 2#32 = ![192, 128] := by
  unfold k0_off7; rw [seg_zero i]; decide +kernel
instance (i : grid0.Coords) : ClosedOff (k0_off7 i 2#32) := ⟨![192, 128], off7_2 i⟩
theorem off5_3 : k0_off5 3#32 = ![0, 384, 128] := by decide +kernel
instance : ClosedOff (k0_off5 3#32) := ⟨![0, 384, 128], off5_3⟩
theorem off6_3 (i : grid0.Coords) : k0_off6 i 3#32 = ![0, 256, 128] := by
  unfold k0_off6; rw [seg_zero i]; decide +kernel
instance (i : grid0.Coords) : ClosedOff (k0_off6 i 3#32) := ⟨![0, 256, 128], off6_3 i⟩
theorem off7_3 (i : grid0.Coords) : k0_off7 i 3#32 = ![256, 128] := by
  unfold k0_off7; rw [seg_zero i]; decide +kernel
instance (i : grid0.Coords) : ClosedOff (k0_off7 i 3#32) := ⟨![256, 128], off7_3 i⟩
theorem off8_0 : k0_off8 0#32 = ![0, 0, 256] := by decide +kernel
instance : ClosedOff (k0_off8 0#32) := ⟨![0, 0, 256], off8_0⟩
theorem off9_0 (i : grid0.Coords) : k0_off9 i 0#32 = ![0, 0, 256] := by
  unfold k0_off9; rw [seg_zero i]; decide +kernel
instance (i : grid0.Coords) : ClosedOff (k0_off9 i 0#32) := ⟨![0, 0, 256], off9_0 i⟩
theorem off10_0 (i : grid0.Coords) : k0_off10 i 0#32 = ![0, 256] := by
  unfold k0_off10; rw [seg_zero i]; decide +kernel
instance (i : grid0.Coords) : ClosedOff (k0_off10 i 0#32) := ⟨![0, 256], off10_0 i⟩
theorem off8_1 : k0_off8 1#32 = ![0, 128, 256] := by decide +kernel
instance : ClosedOff (k0_off8 1#32) := ⟨![0, 128, 256], off8_1⟩
theorem off9_1 (i : grid0.Coords) : k0_off9 i 1#32 = ![0, 64, 256] := by
  unfold k0_off9; rw [seg_zero i]; decide +kernel
instance (i : grid0.Coords) : ClosedOff (k0_off9 i 1#32) := ⟨![0, 64, 256], off9_1 i⟩
theorem off10_1 (i : grid0.Coords) : k0_off10 i 1#32 = ![64, 256] := by
  unfold k0_off10; rw [seg_zero i]; decide +kernel
instance (i : grid0.Coords) : ClosedOff (k0_off10 i 1#32) := ⟨![64, 256], off10_1 i⟩
theorem off8_2 : k0_off8 2#32 = ![0, 256, 256] := by decide +kernel
instance : ClosedOff (k0_off8 2#32) := ⟨![0, 256, 256], off8_2⟩
theorem off9_2 (i : grid0.Coords) : k0_off9 i 2#32 = ![0, 192, 256] := by
  unfold k0_off9; rw [seg_zero i]; decide +kernel
instance (i : grid0.Coords) : ClosedOff (k0_off9 i 2#32) := ⟨![0, 192, 256], off9_2 i⟩
theorem off10_2 (i : grid0.Coords) : k0_off10 i 2#32 = ![192, 256] := by
  unfold k0_off10; rw [seg_zero i]; decide +kernel
instance (i : grid0.Coords) : ClosedOff (k0_off10 i 2#32) := ⟨![192, 256], off10_2 i⟩
theorem off8_3 : k0_off8 3#32 = ![0, 384, 256] := by decide +kernel
instance : ClosedOff (k0_off8 3#32) := ⟨![0, 384, 256], off8_3⟩
theorem off9_3 (i : grid0.Coords) : k0_off9 i 3#32 = ![0, 256, 256] := by
  unfold k0_off9; rw [seg_zero i]; decide +kernel
instance (i : grid0.Coords) : ClosedOff (k0_off9 i 3#32) := ⟨![0, 256, 256], off9_3 i⟩
theorem off10_3 (i : grid0.Coords) : k0_off10 i 3#32 = ![256, 256] := by
  unfold k0_off10; rw [seg_zero i]; decide +kernel
instance (i : grid0.Coords) : ClosedOff (k0_off10 i 3#32) := ⟨![256, 256], off10_3 i⟩
theorem off11_0 : k0_off11 0#32 = ![0, 0, 384] := by decide +kernel
instance : ClosedOff (k0_off11 0#32) := ⟨![0, 0, 384], off11_0⟩
theorem off12_0 (i : grid0.Coords) : k0_off12 i 0#32 = ![0, 0, 384] := by
  unfold k0_off12; rw [seg_zero i]; decide +kernel
instance (i : grid0.Coords) : ClosedOff (k0_off12 i 0#32) := ⟨![0, 0, 384], off12_0 i⟩
theorem off13_0 (i : grid0.Coords) : k0_off13 i 0#32 = ![0, 384] := by
  unfold k0_off13; rw [seg_zero i]; decide +kernel
instance (i : grid0.Coords) : ClosedOff (k0_off13 i 0#32) := ⟨![0, 384], off13_0 i⟩
theorem off11_1 : k0_off11 1#32 = ![0, 128, 384] := by decide +kernel
instance : ClosedOff (k0_off11 1#32) := ⟨![0, 128, 384], off11_1⟩
theorem off12_1 (i : grid0.Coords) : k0_off12 i 1#32 = ![0, 64, 384] := by
  unfold k0_off12; rw [seg_zero i]; decide +kernel
instance (i : grid0.Coords) : ClosedOff (k0_off12 i 1#32) := ⟨![0, 64, 384], off12_1 i⟩
theorem off13_1 (i : grid0.Coords) : k0_off13 i 1#32 = ![64, 384] := by
  unfold k0_off13; rw [seg_zero i]; decide +kernel
instance (i : grid0.Coords) : ClosedOff (k0_off13 i 1#32) := ⟨![64, 384], off13_1 i⟩
theorem off11_2 : k0_off11 2#32 = ![0, 256, 384] := by decide +kernel
instance : ClosedOff (k0_off11 2#32) := ⟨![0, 256, 384], off11_2⟩
theorem off12_2 (i : grid0.Coords) : k0_off12 i 2#32 = ![0, 192, 384] := by
  unfold k0_off12; rw [seg_zero i]; decide +kernel
instance (i : grid0.Coords) : ClosedOff (k0_off12 i 2#32) := ⟨![0, 192, 384], off12_2 i⟩
theorem off13_2 (i : grid0.Coords) : k0_off13 i 2#32 = ![192, 384] := by
  unfold k0_off13; rw [seg_zero i]; decide +kernel
instance (i : grid0.Coords) : ClosedOff (k0_off13 i 2#32) := ⟨![192, 384], off13_2 i⟩
theorem off11_3 : k0_off11 3#32 = ![0, 384, 384] := by decide +kernel
instance : ClosedOff (k0_off11 3#32) := ⟨![0, 384, 384], off11_3⟩
theorem off12_3 (i : grid0.Coords) : k0_off12 i 3#32 = ![0, 256, 384] := by
  unfold k0_off12; rw [seg_zero i]; decide +kernel
instance (i : grid0.Coords) : ClosedOff (k0_off12 i 3#32) := ⟨![0, 256, 384], off12_3 i⟩
theorem off13_3 (i : grid0.Coords) : k0_off13 i 3#32 = ![256, 384] := by
  unfold k0_off13; rw [seg_zero i]; decide +kernel
instance (i : grid0.Coords) : ClosedOff (k0_off13 i 3#32) := ⟨![256, 384], off13_3 i⟩

end Cert.KernelIdeal.Hand

end
-- ==== Proof.RunIdeal.lean ====
/-
  One run of the attention gradient's body on whole buffers, found by executing its skeleton: the pieces it leaves in the
  four results' staging buffers. The three scratch buffers are held at any contents before and after.
-/
module

public import proofs.«01_k».proof.Proof.OffsetsIdeal

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 8000000 in
set_option sl_exec.closedPieces true in
set_option sl_exec.closedLoads true in
/-- The run: the inputs' buffers held at `x3 … x9` come back as they were, each result's buffer with its pieces written. -/
noncomputable def bodyRun (c : Dev nD) (i : grid0.Coords) (arg3 : Memref sig .tc .smem S8 .f32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .f32) (harg6 : arg6.IsWhole) (arg7 : Memref sig .tc .vmem S1x512x512 .bf16) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x1x8x128 .f32) (harg13 : arg13.IsWhole) (arg14 : Memref sig .tc .vmem S3x256x256 .f32) (harg14 : arg14.IsWhole) (arg15 : Memref sig .tc .vmem S512x512 .f32) (harg15 : arg15.IsWhole) (arg16 : Memref sig .tc .vmem S512x512 .f32) (harg16 : arg16.IsWhole) (hc0 : condClear i) (hc1 : k0_cond2 i = 1#1)
    (x3 : Vec F S8 .f32) (x4 : Vec F S1x512x512 .bf16) (x5 : Vec F S1x512x512 .bf16) (x6 : Vec F S1x512x512 .f32) (x7 : Vec F S1x512x512 .bf16) (x8 : Vec F S1x512x512 .bf16) (x9 : Vec F S1x512x512 .bf16) :
    Σ' (L10 : List (View.Piece (Elt F) S1x512x512 .bf16)), Σ' (L11 : List (View.Piece (Elt F) S1x512x512 .bf16)), Σ' (L12 : List (View.Piece (Elt F) S1x512x512 .bf16)), { L13 : List (View.Piece (Elt F) S1x1x8x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_attn_b16_bwd i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_attn_b16_bwd_eq_skeleton]; unfold cc0_attn_b16_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc0 | sl_exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    isplitl [H13]; · iexists _; iexact H13
    isplitl [H14]
    · iexists _, _; isplitr; swap; · iexact H14
      ipureintro; rfl
    isplitl [H15]
    · iexists _, _; isplitr; swap; · iexact H15
      ipureintro; rfl
    iexists _, _; isplitr; swap; · iexact H16
    ipureintro; rfl

end Cert.KernelIdeal.Hand

end
-- ==== Proof.FrameIdeal.lean ====
/-
  The frame of the attention gradient's call: the one run of the body placed at every grid point, what it leaves in each
  result's block, and the pipeline's launch over it. The scratch buffers are carried at any contents.
-/
module

public import proofs.«01_k».proof.Proof.RunIdeal
public import Idealize.ShloMosaic.Lib.Claim

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's run at grid point `t`, on the point's staging buffers and blocks. -/
def runAt (c : Dev nD) (t : Fin cfg0.N) :=
  bodyRun (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10))
    (Memref.whole cc0_scratch0) (Memref.isWhole_whole _) (Memref.whole cc0_scratch1) (Memref.isWhole_whole _) (Memref.whole cc0_scratch2) (Memref.isWhole_whole _)
    (condClear_holds _) (condOut_holds _) (iblk m c 0 t) (iblk m c 1 t) (iblk m c 2 t) (iblk m c 3 t) (iblk m c 4 t) (iblk m c 5 t) (iblk m c 6 t)

/-- The block of result window 7, as a view of one of its staging buffers. -/
abbrev view7 : View sig .tc .vmem S1x512x512 .bf16 := (Memref.whole cc0_stg7_0 : Memref sig .tc .vmem S1x512x512 .bf16).view
/-- The pieces the run leaves for result window 7 cover its block. -/
theorem cover7 (c : Dev nD) (t : Fin cfg0.N) (y : S1x512x512.Idx) : ∃ pc ∈ (runAt m c t).1, y ∈ pc.1.set :=
  View.cover_of_tiledL (runAt m c t).1 S1x128x128.size (by sl_kernel_rfl) y
/-- What the run leaves in result window 7's block. -/
def left7 (c : Dev nD) (t : Fin cfg0.N) : Vec F S1x512x512 .bf16 :=
  view7.read (Elt F) (view7.writes (Elt F) view7.junk (runAt m c t).1)

/-- The block of result window 8, as a view of one of its staging buffers. -/
abbrev view8 : View sig .tc .vmem S1x512x512 .bf16 := (Memref.whole cc0_stg8_0 : Memref sig .tc .vmem S1x512x512 .bf16).view
/-- The pieces the run leaves for result window 8 cover its block. -/
theorem cover8 (c : Dev nD) (t : Fin cfg0.N) (y : S1x512x512.Idx) : ∃ pc ∈ (runAt m c t).2.1, y ∈ pc.1.set :=
  View.cover_of_tiledL (runAt m c t).2.1 S1x512x512.size (by sl_kernel_rfl) y
/-- What the run leaves in result window 8's block. -/
def left8 (c : Dev nD) (t : Fin cfg0.N) : Vec F S1x512x512 .bf16 :=
  view8.read (Elt F) (view8.writes (Elt F) view8.junk (runAt m c t).2.1)

/-- The block of result window 9, as a view of one of its staging buffers. -/
abbrev view9 : View sig .tc .vmem S1x512x512 .bf16 := (Memref.whole cc0_stg9_0 : Memref sig .tc .vmem S1x512x512 .bf16).view
/-- The pieces the run leaves for result window 9 cover its block. -/
theorem cover9 (c : Dev nD) (t : Fin cfg0.N) (y : S1x512x512.Idx) : ∃ pc ∈ (runAt m c t).2.2.1, y ∈ pc.1.set :=
  View.cover_of_tiledL (runAt m c t).2.2.1 S1x512x512.size (by sl_kernel_rfl) y
/-- What the run leaves in result window 9's block. -/
def left9 (c : Dev nD) (t : Fin cfg0.N) : Vec F S1x512x512 .bf16 :=
  view9.read (Elt F) (view9.writes (Elt F) view9.junk (runAt m c t).2.2.1)

/-- The block of result window 10, as a view of one of its staging buffers. -/
abbrev view10 : View sig .tc .vmem S1x1x8x128 .f32 := (Memref.whole cc0_stg10_0 : Memref sig .tc .vmem S1x1x8x128 .f32).view
/-- The pieces the run leaves for result window 10 cover its block. -/
theorem cover10 (c : Dev nD) (t : Fin cfg0.N) (y : S1x1x8x128.Idx) : ∃ pc ∈ (runAt m c t).2.2.2.1, y ∈ pc.1.set :=
  View.cover_of_tiledL (runAt m c t).2.2.2.1 S1x1x8x128.size (by sl_kernel_rfl) y
/-- What the run leaves in result window 10's block. -/
def left10 (c : Dev nD) (t : Fin cfg0.N) : Vec F S1x1x8x128 .f32 :=
  view10.read (Elt F) (view10.writes (Elt F) view10.junk (runAt m c t).2.2.2.1)

/-- The pipeline's proof data: every input block in place, every result block as the run leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => left7 m c t
    | ⟨8, _⟩ => left8 m c t
    | ⟨9, _⟩ => left9 m c t
    | ⟨10, _⟩ => left10 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = left7 m c t := by dsimp only [dats]
theorem after0_8 (c : Dev nD) (t : Fin cfg0.N) : (dats m 0 c).after 8 t = left8 m c t := by dsimp only [dats]
theorem after0_9 (c : Dev nD) (t : Fin cfg0.N) : (dats m 0 c).after 9 t = left9 m c t := by dsimp only [dats]
theorem after0_10 (c : Dev nD) (t : Fin cfg0.N) : (dats m 0 c).after 10 t = left10 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The class invariant, conjunct by conjunct: the three scratch buffers at some contents and the generator register. -/
theorem inv_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ ∃ r, prngReg c r) := by
  unfold Pipeline.ΦA; rw [scopedRest0_eq]; simp only [owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What the body hands back at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 2400000 in
/-- The body at any point: the inputs hold their blocks, so the run applies; the scratch is handed over and taken back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (Pipeline.ΦA spec0 c : sProp 𝕄) from rfl, show (dats m 0 c).Φ t.castSucc = (Pipeline.ΦA spec0 c : sProp 𝕄) from rfl,
    show (dats m 0 c).owesAt () t.succ = (dats m 0 c).owesAt () t.castSucc from rfl, inv_eq,
    after0_0, after0_1, after0_2, after0_3, after0_4, after0_5, after0_6, after0_7, after0_8, after0_9, after0_10]
  iintro ⟨⟨⟨HS0, HS1, HS2⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runAt m c t).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  iintro ⟨H0, H1, H2, H3, H4, H5, H6, ⟨%e7, H7⟩, ⟨%e8, H8⟩, ⟨%e9, H9⟩, ⟨%e10, H10⟩, HS0, HS1, HS2⟩
  isplitl [HS0 HS1 HS2 HP]
  · isplitr [HP]; swap; · iexact HP
    isplitl [HS0]; · iexact HS0
    isplitl [HS1]; · iexact HS1
    iexact HS2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns left7; iexists _; isplitr
    swap; · iexact H7
    ipureintro; exact View.read_writes_of_cover _ _ _ _ _ (cover7 m c t)
  isplitl [H8]
  · unfold owns left8; iexists _; isplitr
    swap; · iexact H8
    ipureintro; exact View.read_writes_of_cover _ _ _ _ _ (cover8 m c t)
  isplitl [H9]
  · unfold owns left9; iexists _; isplitr
    swap; · iexact H9
    ipureintro; exact View.read_writes_of_cover _ _ _ _ _ (cover9 m c t)
  unfold owns left10; iexists _; isplitr
  swap; · iexact H10
  ipureintro; exact View.read_writes_of_cover _ _ _ _ _ (cover10 m c t)

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  refine sep_mono .rfl (sep_mono .rfl (sep_mono .rfl (sep_mono .rfl (sep_mono .rfl (sep_mono .rfl (sep_mono .rfl
    (sep_mono .rfl (sep_mono .rfl (sep_mono .rfl (sep_mono ?_ (sep_mono ?_ .rfl)))))))))))
  · rw [flush0_8 t]; cases cfg0.idle 8 (cfg0.grid.coords t) <;> exact .rfl
  · rw [flush0_9 t]; cases cfg0.idle 9 (cfg0.grid.coords t) <;> exact .rfl

set_option backward.isDefEq.respectTransparency.types false in
/-- The launch: every array ends as the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Block.lean ====
/-
  One block of the attention gradient over its loads: 128 query rows of two heads against a window of 256 key rows.
-/
module

public import proofs.«01_k».proof.Proof.FrameIdeal
public import Idealize.ShloMosaic.Lib.Pointwise

@[expose] public section

set_option maxRecDepth 65536

noncomputable section

namespace Cert.KernelIdeal.Hand

open Cert.KernelIdeal Cert.KernelIdeal.Gen
open Idealize.ShloMosaic Idealize.ShloMosaic.TcCoe

variable {F : FTy → Type} [FloatOps F] [Named F]

/-- The scores of a block with the mask's entry added: two heads' 128 rows stacked, 256 keys. -/
def blkS (b : Vec F S1x256x256 .f32) (q : Vec F S1x128x128 .bf16) (k : Vec F S1x256x128 .bf16) : FVec F S256x256 .f32 :=
  k0_pay16 k0_pay4 b q k
/-- The products of the output's gradient with the values. -/
def blkDp (g : Vec F S1x128x128 .bf16) (v : Vec F S1x256x128 .bf16) : FVec F S256x256 .f32 :=
  k0_pay17 (k0_pay13 v) (k0_pay15 k0_pay4 g) (constant S256x256 .f32 0x00000000#32)
/-- The probabilities. -/
def blkP (b : Vec F S1x256x256 .f32) (q : Vec F S1x128x128 .bf16) (l : Vec F S1x128x128 .f32) (k : Vec F S1x256x128 .bf16) :
    FVec F S256x256 .f32 :=
  k0_pay27 k0_pay4 (k0_pay11 l) (blkS b q k)
/-- The scores' gradient. -/
def blkDs (b : Vec F S1x256x256 .f32) (q g : Vec F S1x128x128 .bf16) (l : Vec F S1x128x128 .f32) (d : Vec F S1x128x128 .bf16)
    (k v : Vec F S1x256x128 .bf16) : FVec F S256x256 .bf16 :=
  k0_pay28 k0_pay4 (k0_pay11 l) (k0_pay12 d) (blkS b q k) (blkDp g v)
/-- The block's part of the query gradient. -/
def blkDq (b : Vec F S1x256x256 .f32) (q g : Vec F S1x128x128 .bf16) (l : Vec F S1x128x128 .f32) (d : Vec F S1x128x128 .bf16)
    (k v : Vec F S1x256x128 .bf16) : FVec F S1x128x128 .bf16 :=
  k0_pay29 k0_pay4 (k0_pay11 l) (k0_pay12 d) (blkS b q k) (blkDp g v) k
/-- The transposed products: rows 0–255 belong to the keys, rows 256–511 to the values. -/
def blkBoth (b : Vec F S1x256x256 .f32) (q g : Vec F S1x128x128 .bf16) (l : Vec F S1x128x128 .f32) (d : Vec F S1x128x128 .bf16)
    (k v : Vec F S1x256x128 .bf16) : FVec F S512x256 .f32 :=
  k0_pay30 k0_pay4 (k0_pay11 l) (k0_pay12 d) (k0_pay14 k0_pay4 q) (k0_pay15 k0_pay4 g) (blkS b q k) (blkDp g v)
/-- The block's part of the key gradient. -/
def blkDk (b : Vec F S1x256x256 .f32) (q g : Vec F S1x128x128 .bf16) (l : Vec F S1x128x128 .f32) (d : Vec F S1x128x128 .bf16)
    (k v : Vec F S1x256x128 .bf16) : FVec F S256x128 .f32 :=
  extractStridedSlice S256x128 ![0, 0] (blkBoth b q g l d k v) slices_S512x256_o0_0_S256x128
/-- The block's part of the value gradient. -/
def blkDv (b : Vec F S1x256x256 .f32) (q g : Vec F S1x128x128 .bf16) (l : Vec F S1x128x128 .f32) (d : Vec F S1x128x128 .bf16)
    (k v : Vec F S1x256x128 .bf16) : FVec F S256x128 .f32 :=
  extractStridedSlice S256x128 ![256, 128] (blkBoth b q g l d k v) slices_S512x256_o256_128_S256x128

/-! ## Where a block lies -/

/-- The first key row of query block `j`'s window. -/
def ws (j : Fin 4) : ℕ := ![0, 64, 192, 256] j
theorem ws_le (j : Fin 4) : ws j ≤ 256 := by revert j; decide
/-- Row `a` of query block `j`. -/
def rowOf (j : Fin 4) (a : Fin 128) : Fin 512 := ⟨128 * j.val + a.val, by omega⟩
/-- Column `e` of lane block `lb`. -/
def colOf (lb : Fin 4) (e : Fin 128) : Fin 512 := ⟨128 * lb.val + e.val, by omega⟩
/-- Row `x` of the window of query block `j`. -/
def winOf (j : Fin 4) (x : Fin 256) : Fin 512 := ⟨ws j + x.val, by have := ws_le j; omega⟩
/-- Head `s` (of two) of lane block `lb`. -/
def hdOf (lb : Fin 4) (s : Fin 2) : Fin 8 := ⟨2 * lb.val + s.val, by omega⟩
/-- Lane `d` of head `h`. -/
def lane (h : Fin 8) (d : Fin 64) : Fin 512 := ⟨64 * h.val + d.val, by omega⟩

/-- The 128 query rows of a block. -/
def qLoad {e : EltTy} (x : Vec F S1x512x512 e) (lb j : Fin 4) : Vec F S1x128x128 e := fun y => x (ix3 0 (rowOf j (y 1)) (colOf lb (y 2)))
/-- The 256 key rows of a block. -/
def kLoad {e : EltTy} (x : Vec F S1x512x512 e) (lb j : Fin 4) : Vec F S1x256x128 e := fun y => x (ix3 0 (winOf j (y 1)) (colOf lb (y 2)))
/-- The mask's entry for query block `j`. -/
def bLoad (j : Fin 4) : Vec F S1x256x256 .f32 :=
  ![k0_pay5, k0_pay6, k0_pay6, k0_pay8 (iota .tc S256x256 32 [0] iota_S256x256_d0_w32) k0_pay7] j

/-! ## The mathematics of one head -/

/-- Query `i` sees key `r`. -/
abbrev near (i r : Fin 512) : Prop := i.val ≤ r.val + 64 ∧ r.val ≤ i.val + 64
/-- The probability of key `r` for query `i`, `0` where the query does not see the key. -/
def prob (q k : Fin 512 → Fin 512 → EReal) (l : Fin 512 → Fin 8 → EReal) (h : Fin 8) (i r : Fin 512) : EReal :=
  if near i r then Ideal.exp ((∑ d, q i (lane h d) * k r (lane h d)) - l i h) else 0
/-- The gradient of the score. -/
def dscore (q k g v : Fin 512 → Fin 512 → EReal) (l δ : Fin 512 → Fin 8 → EReal) (h : Fin 8) (i r : Fin 512) : EReal :=
  prob q k l h i r * ((∑ d, g i (lane h d) * v r (lane h d)) - δ i h)

/-! ## The block's values -/

theorem lane_bit : ∀ x : Fin 128, IntOp.cmpi .slt (BitVec.ofNat 32 x.val) 64#32 = if x.val < 64 then 1#1 else 0#1 := by
  decide +kernel
theorem lane_select {α : Type} (x : Fin 128) (A B : α) :
    Scalar.select (IntOp.cmpi .slt (BitVec.ofNat 32 x.val) 64#32) A B = if x.val < 64 then A else B := by
  rw [lane_bit]; split <;> rfl
/-- The mask table's comparison of a row `n` with a column `c`, as a comparison of numbers. -/
theorem mask_bit (n c : ℕ) (hn : n < 512) (hc : c < 512) :
    IntOp.cmpi .sle (IntOp.absi (IntOp.subi (BitVec.ofNat 32 n) (BitVec.ofNat 32 c))) 64#32
      = if n ≤ c + 64 ∧ c ≤ n + 64 then 1#1 else 0#1 := by
  have hp : ∀ m : Fin 512, IntOp.cmpi .sle (IntOp.absi (BitVec.ofNat 32 m.val)) 64#32 = if m.val ≤ 64 then 1#1 else 0#1 := by
    decide +kernel
  have hm : ∀ m : Fin 512, IntOp.cmpi .sle (IntOp.absi (-(BitVec.ofNat 32 m.val))) 64#32 = if m.val ≤ 64 then 1#1 else 0#1 := by
    decide +kernel
  rcases Nat.le_total c n with h | h
  · have e : IntOp.subi (BitVec.ofNat 32 n) (BitVec.ofNat 32 c) = BitVec.ofNat 32 (n - c) := by
      show BitVec.ofNat 32 n - BitVec.ofNat 32 c = _
      apply BitVec.eq_of_toNat_eq
      simp only [BitVec.toNat_sub, BitVec.toNat_ofNat]
      omega
    rw [e, hp ⟨n - c, by omega⟩]
    congr 1
    exact propext ⟨fun _ => by simp only at *; omega, fun _ => by simp only; omega⟩
  · have e : IntOp.subi (BitVec.ofNat 32 n) (BitVec.ofNat 32 c) = -(BitVec.ofNat 32 (c - n)) := by
      show BitVec.ofNat 32 n - BitVec.ofNat 32 c = _
      apply BitVec.eq_of_toNat_eq
      simp only [BitVec.toNat_sub, BitVec.toNat_neg, BitVec.toNat_ofNat]
      omega
    rw [e, hm ⟨c - n, by omega⟩]
    congr 1
    exact propext ⟨fun _ => by simp only at *; omega, fun _ => by simp only; omega⟩
theorem and_127 : ∀ r : Fin 256, IntOp.andi (BitVec.ofNat 32 r.val) 127#32 = BitVec.ofNat 32 (r.val % 128) := by decide +kernel
theorem named_mask : (Named.named κ "mask" 0xF149F2CA#32 : Ideal .f32) = (⊥ : EReal) :=
  IdealRules.named_const.ideal_named_scalar _ _ _ _ rfl

/-- The offset of query block `j`'s rows from its window's rows. -/
def gap (j : Fin 4) : ℕ := ![0, 64, 64, 128] j
theorem gap_eq (j : Fin 4) : ws j + gap j = 128 * j.val := by revert j; decide

theorem select_if {α : Type} (p : Prop) [Decidable p] (A B : α) : Scalar.select (if p then 1#1 else 0#1) A B = if p then A else B := by
  split <;> rfl

/-- The mask's entry: nothing where the query sees the key, `⊥` elsewhere. -/
theorem bLoad_at (j : Fin 4) (s : Fin 2) (a : Fin 128) (x : Fin 256) (R : Fin 256) (hR : R.val = 128 * s.val + a.val) :
    bLoad (F := Ideal) j (ix3 0 R x) = if near (rowOf j a) (winOf j x) then (0 : EReal) else ⊥ := by
  have key : ∀ o : ℕ, o ≤ 128 → gap j = o →
      Scalar.select (IntOp.cmpi .sle (IntOp.absi (IntOp.subi (IntOp.addi (IntOp.andi (BitVec.ofNat 32 R.val) 127#32) (BitVec.ofNat 32 o))
        (BitVec.ofNat 32 x.val))) 64#32) (0 : EReal) (Named.named κ "mask" 0xF149F2CA#32 : Ideal .f32)
        = if near (rowOf j a) (winOf j x) then (0 : EReal) else ⊥ := by
    intro o ho hj
    have e : IntOp.addi (BitVec.ofNat 32 (R.val % 128)) (BitVec.ofNat 32 o) = BitVec.ofNat 32 (a.val + o) := by
      show BitVec.ofNat 32 (R.val % 128) + BitVec.ofNat 32 o = _
      rw [← BitVec.ofNat_add]
      congr 1
      omega
    rw [and_127, e, mask_bit _ _ (by omega) (by omega), select_if, named_mask]
    congr 1
    have := gap_eq j
    simp only [near, rowOf, winOf, eq_iff_iff]
    omega
  fin_cases j
  · refine Eq.trans ?_ (key 0 (by omega) rfl)
    show k0_pay5 (ix3 0 R x) = _
    pointwise [k0_pay5]
  · refine Eq.trans ?_ (key 64 (by omega) rfl)
    show k0_pay6 (ix3 0 R x) = _
    pointwise [k0_pay6]
  · refine Eq.trans ?_ (key 64 (by omega) rfl)
    show k0_pay6 (ix3 0 R x) = _
    pointwise [k0_pay6]
  · refine Eq.trans ?_ (key 128 (by omega) rfl)
    show k0_pay8 _ k0_pay7 (ix3 0 R x) = _
    pointwise [k0_pay8, k0_pay7]

/-- A sum over 128 lanes, the second head's lanes struck out. -/
theorem sum_first (f : Fin 128 → EReal) (g : Fin 128 → EReal) (hg : ∀ e : Fin 128, g e = if e.val < 64 then f e else 0) :
    ∑ e, g e = ∑ d : Fin 64, f ⟨d.val, by omega⟩ := by
  rw [Fin.sum_univ_two_halves 64 64 rfl g]
  have h2 : ∀ d : Fin 64, g ⟨64 + d.val, by omega⟩ = 0 := fun d => by rw [hg]; exact if_neg (by simp)
  have h1 : ∀ d : Fin 64, g ⟨d.val, by omega⟩ = f ⟨d.val, by omega⟩ := fun d => by rw [hg]; exact if_pos d.isLt
  simp only [h1, h2, Finset.sum_const_zero, add_zero]
/-- A sum over 128 lanes, the first head's lanes struck out. -/
theorem sum_second (f : Fin 128 → EReal) (g : Fin 128 → EReal) (hg : ∀ e : Fin 128, g e = if e.val < 64 then 0 else f e) :
    ∑ e, g e = ∑ d : Fin 64, f ⟨64 + d.val, by omega⟩ := by
  rw [Fin.sum_univ_two_halves 64 64 rfl g]
  have h2 : ∀ d : Fin 64, g ⟨64 + d.val, by omega⟩ = f ⟨64 + d.val, by omega⟩ := fun d => by rw [hg]; exact if_neg (by simp)
  have h1 : ∀ d : Fin 64, g ⟨d.val, by omega⟩ = 0 := fun d => by rw [hg]; exact if_pos d.isLt
  simp only [h1, h2, Finset.sum_const_zero, zero_add]

/-- The scores, first head. -/
theorem blkS_first (b : Vec Ideal S1x256x256 .f32) (q : Vec Ideal S1x128x128 .bf16) (k : Vec Ideal S1x256x128 .bf16) (a : Fin 128) (x : Fin 256) :
    blkS (F := Ideal) b q k (ix2 ⟨a.val, by omega⟩ x)
      = (∑ d : Fin 64, (q (ix3 0 a ⟨d.val, by omega⟩) : EReal) * k (ix3 0 x ⟨d.val, by omega⟩)) + b (ix3 0 ⟨a.val, by omega⟩ x) := by
  pointwise [blkS, k0_pay16, k0_pay14, k0_pay4]
  refine congrArg₂ (· + ·) ?_ rfl
  refine sum_first (fun e => (q (ix3 0 a e) : EReal) * k (ix3 0 x e)) _ fun e => ?_
  rw [lane_select]
/-- The scores, second head. -/
theorem blkS_second (b : Vec Ideal S1x256x256 .f32) (q : Vec Ideal S1x128x128 .bf16) (k : Vec Ideal S1x256x128 .bf16) (a : Fin 128) (x : Fin 256) :
    blkS (F := Ideal) b q k (ix2 ⟨128 + a.val, by omega⟩ x)
      = (∑ d : Fin 64, (q (ix3 0 a ⟨64 + d.val, by omega⟩) : EReal) * k (ix3 0 x ⟨64 + d.val, by omega⟩)) + b (ix3 0 ⟨128 + a.val, by omega⟩ x) := by
  pointwise [blkS, k0_pay16, k0_pay14, k0_pay4]
  refine congrArg₂ (· + ·) ?_ rfl
  refine sum_second (fun e => (q (ix3 0 a e) : EReal) * k (ix3 0 x e)) _ fun e => ?_
  rw [lane_select]
/-- The products with the values, first head. -/
theorem blkDp_first (g : Vec Ideal S1x128x128 .bf16) (v : Vec Ideal S1x256x128 .bf16) (a : Fin 128) (x : Fin 256) :
    blkDp (F := Ideal) g v (ix2 ⟨a.val, by omega⟩ x)
      = ∑ d : Fin 64, (g (ix3 0 a ⟨d.val, by omega⟩) : EReal) * v (ix3 0 x ⟨d.val, by omega⟩) := by
  pointwise [blkDp, k0_pay17, k0_pay13, k0_pay15, k0_pay4]
  refine sum_first (fun e => (g (ix3 0 a e) : EReal) * v (ix3 0 x e)) _ fun e => ?_
  rw [lane_select]
/-- The products with the values, second head. -/
theorem blkDp_second (g : Vec Ideal S1x128x128 .bf16) (v : Vec Ideal S1x256x128 .bf16) (a : Fin 128) (x : Fin 256) :
    blkDp (F := Ideal) g v (ix2 ⟨128 + a.val, by omega⟩ x)
      = ∑ d : Fin 64, (g (ix3 0 a ⟨64 + d.val, by omega⟩) : EReal) * v (ix3 0 x ⟨64 + d.val, by omega⟩) := by
  pointwise [blkDp, k0_pay17, k0_pay13, k0_pay15, k0_pay4]
  refine sum_second (fun e => (g (ix3 0 a e) : EReal) * v (ix3 0 x e)) _ fun e => ?_
  rw [lane_select]

/-- The probabilities, first head, over the scores. -/
theorem blkP_first (b : Vec Ideal S1x256x256 .f32) (q : Vec Ideal S1x128x128 .bf16) (l : Vec Ideal S1x128x128 .f32)
    (k : Vec Ideal S1x256x128 .bf16) (a : Fin 128) (x : Fin 256) (z : EReal)
    (hl : ∀ e : Fin 128, e.val < 64 → (l (ix3 0 a e) : EReal) = z) :
    blkP (F := Ideal) b q l k (ix2 ⟨a.val, by omega⟩ x) = Ideal.exp (blkS (F := Ideal) b q k (ix2 ⟨a.val, by omega⟩ x) - z) := by
  have hsel : ∀ e : Fin 128, Scalar.select (IntOp.cmpi .slt (BitVec.ofNat 32 e.val) 64#32) (l (ix3 0 a e) : EReal)
      (l (ix3 0 a ⟨(e.val + 128 - 64) % 128, Nat.mod_lt _ (by omega)⟩)) = z := by
    intro e
    rw [lane_select]
    split
    · exact hl _ ‹_›
    · exact hl _ (by simp only; omega)
  pointwise [blkP, k0_pay27, k0_pay11, k0_pay4]
  refine congrArg Ideal.exp (congrArg₂ (· - ·) rfl ?_)
  by_cases hx : x.val < 128
  · rw [dif_pos hx]; exact hsel ⟨x.val, hx⟩
  · rw [dif_neg hx]; exact hsel ⟨x.val - 128, by omega⟩
/-- The probabilities, second head, over the scores. -/
theorem blkP_second (b : Vec Ideal S1x256x256 .f32) (q : Vec Ideal S1x128x128 .bf16) (l : Vec Ideal S1x128x128 .f32)
    (k : Vec Ideal S1x256x128 .bf16) (a : Fin 128) (x : Fin 256) (z : EReal)
    (hl : ∀ e : Fin 128, ¬ e.val < 64 → (l (ix3 0 a e) : EReal) = z) :
    blkP (F := Ideal) b q l k (ix2 ⟨128 + a.val, by omega⟩ x) = Ideal.exp (blkS (F := Ideal) b q k (ix2 ⟨128 + a.val, by omega⟩ x) - z) := by
  have hsel : ∀ e : Fin 128, Scalar.select (IntOp.cmpi .slt (BitVec.ofNat 32 e.val) 64#32)
      (l (ix3 0 a ⟨(e.val + 128 - 64) % 128, Nat.mod_lt _ (by omega)⟩)) (l (ix3 0 a e) : EReal) = z := by
    intro e
    rw [lane_select]
    split
    · exact hl _ (by simp only; omega)
    · exact hl _ ‹_›
  pointwise [blkP, k0_pay27, k0_pay11, k0_pay4]
  refine congrArg Ideal.exp (congrArg₂ (· - ·) rfl ?_)
  by_cases hx : x.val < 128
  · rw [dif_pos hx]; exact hsel ⟨x.val, hx⟩
  · rw [dif_neg hx]; exact hsel ⟨x.val - 128, by omega⟩
/-- The scores' gradient, first head, over the probabilities. -/
theorem blkDs_first (b : Vec Ideal S1x256x256 .f32) (q g : Vec Ideal S1x128x128 .bf16) (l : Vec Ideal S1x128x128 .f32)
    (d : Vec Ideal S1x128x128 .bf16) (k v : Vec Ideal S1x256x128 .bf16) (a : Fin 128) (x : Fin 256) (z : EReal)
    (hl : ∀ e : Fin 128, e.val < 64 → (d (ix3 0 a e) : EReal) = z) :
    blkDs (F := Ideal) b q g l d k v (ix2 ⟨a.val, by omega⟩ x)
      = blkP (F := Ideal) b q l k (ix2 ⟨a.val, by omega⟩ x) * (blkDp (F := Ideal) g v (ix2 ⟨a.val, by omega⟩ x) - z) := by
  have hsel : ∀ e : Fin 128, Scalar.select (IntOp.cmpi .slt (BitVec.ofNat 32 e.val) 64#32) (d (ix3 0 a e) : EReal)
      (d (ix3 0 a ⟨(e.val + 128 - 64) % 128, Nat.mod_lt _ (by omega)⟩)) = z := by
    intro e
    rw [lane_select]
    split
    · exact hl _ ‹_›
    · exact hl _ (by simp only; omega)
  unfold blkDs k0_pay28
  pointwise [k0_pay12]
  refine congrArg₂ (· * ·) rfl (congrArg₂ (· - ·) rfl ?_)
  unfold k0_pay4
  pointwise
  by_cases hx : x.val < 128
  · rw [dif_pos hx]; exact hsel ⟨x.val, hx⟩
  · rw [dif_neg hx]; exact hsel ⟨x.val - 128, by omega⟩
/-- The scores' gradient, second head, over the probabilities. -/
theorem blkDs_second (b : Vec Ideal S1x256x256 .f32) (q g : Vec Ideal S1x128x128 .bf16) (l : Vec Ideal S1x128x128 .f32)
    (d : Vec Ideal S1x128x128 .bf16) (k v : Vec Ideal S1x256x128 .bf16) (a : Fin 128) (x : Fin 256) (z : EReal)
    (hl : ∀ e : Fin 128, ¬ e.val < 64 → (d (ix3 0 a e) : EReal) = z) :
    blkDs (F := Ideal) b q g l d k v (ix2 ⟨128 + a.val, by omega⟩ x)
      = blkP (F := Ideal) b q l k (ix2 ⟨128 + a.val, by omega⟩ x) * (blkDp (F := Ideal) g v (ix2 ⟨128 + a.val, by omega⟩ x) - z) := by
  have hsel : ∀ e : Fin 128, Scalar.select (IntOp.cmpi .slt (BitVec.ofNat 32 e.val) 64#32)
      (d (ix3 0 a ⟨(e.val + 128 - 64) % 128, Nat.mod_lt _ (by omega)⟩)) (d (ix3 0 a e) : EReal) = z := by
    intro e
    rw [lane_select]
    split
    · exact hl _ (by simp only; omega)
    · exact hl _ ‹_›
  unfold blkDs k0_pay28
  pointwise [k0_pay12]
  refine congrArg₂ (· * ·) rfl (congrArg₂ (· - ·) rfl ?_)
  unfold k0_pay4
  pointwise
  by_cases hx : x.val < 128
  · rw [dif_pos hx]; exact hsel ⟨x.val, hx⟩
  · rw [dif_neg hx]; exact hsel ⟨x.val - 128, by omega⟩

/-! ## The block's values over the whole arrays -/

section Whole

variable (Q G D K V : Vec Ideal S1x512x512 .bf16) (L : Vec Ideal S1x512x512 .f32)

/-- A block's array as a function of row and column. -/
abbrev tab (X : S1x512x512.Idx → EReal) : Fin 512 → Fin 512 → EReal := fun i c => X (ix3 0 i c)

/-- The mask's entry in a probability. -/
theorem exp_mask (i r : Fin 512) (s z : EReal) :
    Ideal.exp (s + (if near i r then (0 : EReal) else ⊥) - z) = if near i r then Ideal.exp (s - z) else 0 := by
  split
  · rw [add_zero]
  · rw [EReal.add_bot, sub_eq_add_neg, EReal.bot_add, Ideal.exp_bot]

theorem col_first (lb : Fin 4) (d : Fin 64) : colOf lb ⟨d.val, by omega⟩ = lane (hdOf lb 0) d :=
  Fin.ext (by show 128 * lb.val + d.val = 64 * (2 * lb.val + 0) + d.val; omega)
theorem col_second (lb : Fin 4) (d : Fin 64) : colOf lb ⟨64 + d.val, by omega⟩ = lane (hdOf lb 1) d :=
  Fin.ext (by show 128 * lb.val + (64 + d.val) = 64 * (2 * lb.val + 1) + d.val; omega)
theorem col_first' (lb : Fin 4) (e : Fin 128) (he : e.val < 64) : colOf lb e = lane (hdOf lb 0) ⟨e.val, he⟩ := col_first lb ⟨e.val, he⟩
theorem col_second' (lb : Fin 4) (e : Fin 128) (he : ¬ e.val < 64) : colOf lb e = lane (hdOf lb 1) ⟨e.val - 64, by omega⟩ :=
  Fin.ext (by show 128 * lb.val + e.val = 64 * (2 * lb.val + 1) + (e.val - 64); omega)

theorem prob_first (l : Fin 512 → Fin 8 → EReal) (hl : ∀ i h d, tab L i (lane h d) = l i h) (lb j : Fin 4) (a : Fin 128) (x : Fin 256) :
    blkP (F := Ideal) (bLoad j) (qLoad Q lb j) (qLoad L lb j) (kLoad K lb j) (ix2 ⟨a.val, by omega⟩ x)
      = prob (tab Q) (tab K) l (hdOf lb 0) (rowOf j a) (winOf j x) := by
  rw [blkP_first _ _ _ _ _ _ (l (rowOf j a) (hdOf lb 0)), blkS_first, bLoad_at j 0 a x _ (by simp), exp_mask]
  · unfold prob
    refine congrArg (fun z => if near (rowOf j a) (winOf j x) then Ideal.exp (z - l (rowOf j a) (hdOf lb 0)) else 0) ?_
    refine Finset.sum_congr rfl fun d _ => ?_
    exact congrArg₂ (fun u w => (Q (ix3 0 (rowOf j a) u) : EReal) * K (ix3 0 (winOf j x) w)) (col_first lb d) (col_first lb d)
  · intro e he
    rw [← hl (rowOf j a) (hdOf lb 0) ⟨e.val, he⟩]
    exact congrArg (fun u => (L (ix3 0 (rowOf j a) u) : EReal)) (col_first' lb e he)
theorem prob_second (l : Fin 512 → Fin 8 → EReal) (hl : ∀ i h d, tab L i (lane h d) = l i h) (lb j : Fin 4) (a : Fin 128) (x : Fin 256) :
    blkP (F := Ideal) (bLoad j) (qLoad Q lb j) (qLoad L lb j) (kLoad K lb j) (ix2 ⟨128 + a.val, by omega⟩ x)
      = prob (tab Q) (tab K) l (hdOf lb 1) (rowOf j a) (winOf j x) := by
  rw [blkP_second _ _ _ _ _ _ (l (rowOf j a) (hdOf lb 1)), blkS_second, bLoad_at j 1 a x _ (by simp), exp_mask]
  · unfold prob
    refine congrArg (fun z => if near (rowOf j a) (winOf j x) then Ideal.exp (z - l (rowOf j a) (hdOf lb 1)) else 0) ?_
    refine Finset.sum_congr rfl fun d _ => ?_
    exact congrArg₂ (fun u w => (Q (ix3 0 (rowOf j a) u) : EReal) * K (ix3 0 (winOf j x) w)) (col_second lb d) (col_second lb d)
  · intro e he
    rw [← hl (rowOf j a) (hdOf lb 1) ⟨e.val - 64, by omega⟩]
    exact congrArg (fun u => (L (ix3 0 (rowOf j a) u) : EReal)) (col_second' lb e he)
theorem dscore_first (l δ : Fin 512 → Fin 8 → EReal) (hl : ∀ i h d, tab L i (lane h d) = l i h) (hd : ∀ i h d, tab D i (lane h d) = δ i h)
    (lb j : Fin 4) (a : Fin 128) (x : Fin 256) :
    blkDs (F := Ideal) (bLoad j) (qLoad Q lb j) (qLoad G lb j) (qLoad L lb j) (qLoad D lb j) (kLoad K lb j) (kLoad V lb j) (ix2 ⟨a.val, by omega⟩ x)
      = dscore (tab Q) (tab K) (tab G) (tab V) l δ (hdOf lb 0) (rowOf j a) (winOf j x) := by
  rw [blkDs_first _ _ _ _ _ _ _ _ _ (δ (rowOf j a) (hdOf lb 0)), prob_first Q K L l hl, blkDp_first]
  · unfold dscore
    refine congrArg (fun z => prob (tab Q) (tab K) l (hdOf lb 0) (rowOf j a) (winOf j x) * (z - δ (rowOf j a) (hdOf lb 0))) ?_
    refine Finset.sum_congr rfl fun d _ => ?_
    exact congrArg₂ (fun u w => (G (ix3 0 (rowOf j a) u) : EReal) * V (ix3 0 (winOf j x) w)) (col_first lb d) (col_first lb d)
  · intro e he
    rw [← hd (rowOf j a) (hdOf lb 0) ⟨e.val, he⟩]
    exact congrArg (fun u => (D (ix3 0 (rowOf j a) u) : EReal)) (col_first' lb e he)
theorem dscore_second (l δ : Fin 512 → Fin 8 → EReal) (hl : ∀ i h d, tab L i (lane h d) = l i h) (hd : ∀ i h d, tab D i (lane h d) = δ i h)
    (lb j : Fin 4) (a : Fin 128) (x : Fin 256) :
    blkDs (F := Ideal) (bLoad j) (qLoad Q lb j) (qLoad G lb j) (qLoad L lb j) (qLoad D lb j) (kLoad K lb j) (kLoad V lb j) (ix2 ⟨128 + a.val, by omega⟩ x)
      = dscore (tab Q) (tab K) (tab G) (tab V) l δ (hdOf lb 1) (rowOf j a) (winOf j x) := by
  rw [blkDs_second _ _ _ _ _ _ _ _ _ (δ (rowOf j a) (hdOf lb 1)), prob_second Q K L l hl, blkDp_second]
  · unfold dscore
    refine congrArg (fun z => prob (tab Q) (tab K) l (hdOf lb 1) (rowOf j a) (winOf j x) * (z - δ (rowOf j a) (hdOf lb 1))) ?_
    refine Finset.sum_congr rfl fun d _ => ?_
    exact congrArg₂ (fun u w => (G (ix3 0 (rowOf j a) u) : EReal) * V (ix3 0 (winOf j x) w)) (col_second lb d) (col_second lb d)
  · intro e he
    rw [← hd (rowOf j a) (hdOf lb 1) ⟨e.val - 64, by omega⟩]
    exact congrArg (fun u => (D (ix3 0 (rowOf j a) u) : EReal)) (col_second' lb e he)

theorem gap_edge (j : Fin 4) : gap j ≤ 128 ∧ (gap j < 64 → ws j = 0) ∧ (64 < gap j → ws j = 256) := by revert j; decide
/-- A sum over the keys that vanishes off the band is the sum over the window. -/
theorem window_sum (j : Fin 4) (a : Fin 128) (f : Fin 512 → EReal) (hf : ∀ r, ¬ near (rowOf j a) r → f r = 0) :
    ∑ x, f (winOf j x) = ∑ r, f r := by
  have hinj : Function.Injective (winOf j) := fun x y h => Fin.ext (by have := congrArg Fin.val h; simp only [winOf] at this; omega)
  refine (Finset.sum_map Finset.univ ⟨winOf j, hinj⟩ f).symm.trans ?_
  refine Finset.sum_subset (Finset.subset_univ _) fun r _ hr => hf r fun hn => hr ?_
  have hg := gap_eq j
  have hw := gap_edge j
  have hlo : ws j ≤ r.val ∧ r.val < ws j + 256 := by
    obtain ⟨h1, h2⟩ := hn
    simp only [rowOf] at h1 h2
    have := r.isLt; have := a.isLt
    omega
  refine Finset.mem_map.2 ⟨⟨r.val - ws j, by omega⟩, Finset.mem_univ _, Fin.ext ?_⟩
  show ws j + (r.val - ws j) = r.val
  omega

/-- The head of a column. -/
def headOf (c : Fin 512) : Fin 8 := ⟨c.val / 64, by omega⟩
theorem headOf_first (lb : Fin 4) (e : Fin 128) (he : e.val < 64) : headOf (colOf lb e) = hdOf lb 0 :=
  Fin.ext (by show (128 * lb.val + e.val) / 64 = 2 * lb.val + 0; omega)
theorem headOf_second (lb : Fin 4) (e : Fin 128) (he : ¬ e.val < 64) : headOf (colOf lb e) = hdOf lb 1 :=
  Fin.ext (by show (128 * lb.val + e.val) / 64 = 2 * lb.val + 1; omega)

theorem prob_far (q k : Fin 512 → Fin 512 → EReal) (l : Fin 512 → Fin 8 → EReal) (h : Fin 8) (i r : Fin 512) (hn : ¬ near i r) :
    prob q k l h i r = 0 := if_neg hn
theorem dscore_far (q k g v : Fin 512 → Fin 512 → EReal) (l δ : Fin 512 → Fin 8 → EReal) (h : Fin 8) (i r : Fin 512) (hn : ¬ near i r) :
    dscore q k g v l δ h i r = 0 := by rw [dscore, prob_far _ _ _ _ _ _ hn, zero_mul]

theorem eighth : Ideal.ofBits .f32 0x3E000000#32 = ((1 / 8 : ℝ) : EReal) := by
  simp [Ideal.ofBits, Ideal.ieee, -EReal.coe_mul]; norm_num

/-- The block's part of the query gradient, at an element: the whole sum over the keys. -/
theorem blkDq_at (l δ : Fin 512 → Fin 8 → EReal) (hl : ∀ i h d, tab L i (lane h d) = l i h) (hd : ∀ i h d, tab D i (lane h d) = δ i h)
    (lb j : Fin 4) (a e : Fin 128) :
    blkDq (F := Ideal) (bLoad j) (qLoad Q lb j) (qLoad G lb j) (qLoad L lb j) (qLoad D lb j) (kLoad K lb j) (kLoad V lb j) (ix3 0 a e)
      = (∑ r, dscore (tab Q) (tab K) (tab G) (tab V) l δ (headOf (colOf lb e)) (rowOf j a) r * tab K r (colOf lb e)) * ((1 / 8 : ℝ) : EReal) := by
  rw [← eighth]
  unfold blkDq k0_pay29
  pointwise
  refine congrArg₂ (· * ·) ?_ rfl
  unfold k0_pay4
  pointwise
  rw [lane_select]
  rw [← window_sum j a _ fun r hr => by rw [dscore_far _ _ _ _ _ _ _ _ _ hr, zero_mul]]
  split
  · rw [headOf_first lb e ‹_›]
    exact Finset.sum_congr rfl fun x _ => congrArg (· * tab K (winOf j x) (colOf lb e)) (dscore_first Q G D K V L l δ hl hd lb j a x)
  · rw [headOf_second lb e ‹_›]
    exact Finset.sum_congr rfl fun x _ => congrArg (· * tab K (winOf j x) (colOf lb e)) (dscore_second Q G D K V L l δ hl hd lb j a x)

/-- The block's part of the key gradient, at an element: the sum over the block's queries. -/
theorem blkDk_at (l δ : Fin 512 → Fin 8 → EReal) (hl : ∀ i h d, tab L i (lane h d) = l i h) (hd : ∀ i h d, tab D i (lane h d) = δ i h)
    (lb j : Fin 4) (x : Fin 256) (e : Fin 128) :
    blkDk (F := Ideal) (bLoad j) (qLoad Q lb j) (qLoad G lb j) (qLoad L lb j) (qLoad D lb j) (kLoad K lb j) (kLoad V lb j) (ix2 x e)
      = ∑ a, dscore (tab Q) (tab K) (tab G) (tab V) l δ (headOf (colOf lb e)) (rowOf j a) (winOf j x) * tab Q (rowOf j a) (colOf lb e) := by
  unfold blkDk blkBoth k0_pay30
  pointwise [k0_pay14]
  unfold k0_pay4
  pointwise
  simp only [lane_select]
  by_cases he : e.val < 64
  · simp only [if_pos he, headOf_first lb e he, Finset.sum_const_zero, add_zero]
    exact Finset.sum_congr rfl fun a _ => congrArg (· * tab Q (rowOf j a) (colOf lb e)) (dscore_first Q G D K V L l δ hl hd lb j a x)
  · simp only [if_neg he, headOf_second lb e he, Finset.sum_const_zero, zero_add]
    exact Finset.sum_congr rfl fun a _ => congrArg (· * tab Q (rowOf j a) (colOf lb e)) (dscore_second Q G D K V L l δ hl hd lb j a x)

/-- The block's part of the value gradient, at an element: the sum over the block's queries. -/
theorem blkDv_at (l : Fin 512 → Fin 8 → EReal) (hl : ∀ i h d, tab L i (lane h d) = l i h)
    (lb j : Fin 4) (x : Fin 256) (e : Fin 128) :
    blkDv (F := Ideal) (bLoad j) (qLoad Q lb j) (qLoad G lb j) (qLoad L lb j) (qLoad D lb j) (kLoad K lb j) (kLoad V lb j) (ix2 x e)
      = ∑ a, prob (tab Q) (tab K) l (headOf (colOf lb e)) (rowOf j a) (winOf j x) * tab G (rowOf j a) (colOf lb e) := by
  unfold blkDv blkBoth k0_pay30
  pointwise [k0_pay15]
  unfold k0_pay4
  pointwise
  simp only [lane_select]
  by_cases he : e.val < 64
  · simp only [if_pos he, headOf_first lb e he, Finset.sum_const_zero, add_zero]
    exact Finset.sum_congr rfl fun a _ => congrArg (· * tab G (rowOf j a) (colOf lb e)) (prob_first Q K L l hl lb j a x)
  · simp only [if_neg he, headOf_second lb e he, Finset.sum_const_zero, zero_add]
    exact Finset.sum_congr rfl fun a _ => congrArg (· * tab G (rowOf j a) (colOf lb e)) (prob_second Q K L l hl lb j a x)
end Whole
end Cert.KernelIdeal.Hand
-- ==== Proof.Pieces.lean ====
/-
  The attention gradient's stores, piece by piece: each of the sixteen blocks (four lane blocks of four query blocks) adds
  its key and value parts to a window of the two accumulators and stores its query part.
-/
module

public import proofs.«01_k».proof.Proof.Block
public import Idealize.ShloMosaic.Lib.WritesUnit

@[expose] public section

set_option maxRecDepth 65536

noncomputable section

namespace Cert.KernelIdeal.Hand

open Cert.KernelIdeal Cert.KernelIdeal.Gen
open Idealize.ShloMosaic Idealize.ShloMosaic.TcCoe

variable {F : FTy → Type} [FloatOps F] [Named F]

theorem inbQ {r0 c0 : ℕ} (hr : r0 ≤ 384) (hc : c0 ≤ 384) : ∀ a, (![0, r0, c0] : Fin 3 → ℕ) a + S1x128x128.size a ≤ S1x512x512.size a := by
  intro a; fin_cases a
  · show 0 + 1 ≤ 1; omega
  · show r0 + 128 ≤ 512; omega
  · show c0 + 128 ≤ 512; omega
theorem inbK {r0 c0 : ℕ} (hr : r0 ≤ 256) (hc : c0 ≤ 384) : ∀ a, (![0, r0, c0] : Fin 3 → ℕ) a + S1x256x128.size a ≤ S1x512x512.size a := by
  intro a; fin_cases a
  · show 0 + 1 ≤ 1; omega
  · show r0 + 256 ≤ 512; omega
  · show c0 + 128 ≤ 512; omega
theorem inbA {off : Fin 2 → ℕ} {r0 c0 : ℕ} (h : off = ![r0, c0]) (hr : r0 ≤ 256) (hc : c0 ≤ 384) : ∀ a, off a + S256x128.size a ≤ S512x512.size a := by
  subst h; intro a; fin_cases a
  · show r0 + 256 ≤ 512; omega
  · show c0 + 128 ≤ 512; omega

/-- A load of 128 query rows and 128 lanes of a staged block. -/
abbrev rawQ {e : EltTy} (m : Memref sig .tc .vmem S1x512x512 e) (h : m.IsWhole) (x : Vec F S1x512x512 e) (r0 c0 : ℕ) (hr : r0 ≤ 384) (hc : c0 ≤ 384) :
    Vec F S1x128x128 e :=
  View.readAt (Elt F) m.view (Rect.unit (s := S1x512x512) ![0, r0, c0] S1x128x128.size (inbQ hr hc)).toLoadRect (h.unread x)
/-- A load of 256 key rows and 128 lanes of a staged block. -/
abbrev rawK {e : EltTy} (m : Memref sig .tc .vmem S1x512x512 e) (h : m.IsWhole) (x : Vec F S1x512x512 e) (r0 c0 : ℕ) (hr : r0 ≤ 256) (hc : c0 ≤ 384) :
    Vec F S1x256x128 e :=
  View.readAt (Elt F) m.view (Rect.unit (s := S1x512x512) ![0, r0, c0] S1x256x128.size (inbK hr hc)).toLoadRect (h.unread x)

theorem rawQ_eq {e : EltTy} (m : Memref sig .tc .vmem S1x512x512 e) (h : m.IsWhole) (x : Vec F S1x512x512 e) (lb j : Fin 4) (r0 c0 : ℕ) (hr : r0 ≤ 384)
    (hc : c0 ≤ 384) (er : r0 = 128 * j.val) (ec : c0 = 128 * lb.val) : rawQ m h x r0 c0 hr hc = qLoad x lb j := by
  unfold rawQ
  rw [View.readAt_eq_ld, h.read_unread]
  funext y
  show x _ = x _
  refine congrArg x (funext fun a => Fin.ext ?_)
  fin_cases a
  · have : (y 0).val < 1 := (y 0).isLt
    show 0 + 1 * (y 0).val = 0
    omega
  · show r0 + 1 * (y 1).val = 128 * j.val + (y 1).val
    omega
  · show c0 + 1 * (y 2).val = 128 * lb.val + (y 2).val
    omega
theorem rawK_eq {e : EltTy} (m : Memref sig .tc .vmem S1x512x512 e) (h : m.IsWhole) (x : Vec F S1x512x512 e) (lb j : Fin 4) (r0 c0 : ℕ) (hr : r0 ≤ 256)
    (hc : c0 ≤ 384) (er : r0 = ws j) (ec : c0 = 128 * lb.val) : rawK m h x r0 c0 hr hc = kLoad x lb j := by
  unfold rawK
  rw [View.readAt_eq_ld, h.read_unread]
  funext y
  show x _ = x _
  refine congrArg x (funext fun a => Fin.ext ?_)
  fin_cases a
  · have : (y 0).val < 1 := (y 0).isLt
    show 0 + 1 * (y 0).val = 0
    omega
  · show r0 + 1 * (y 1).val = ws j + (y 1).val
    omega
  · show c0 + 1 * (y 2).val = 128 * lb.val + (y 2).val
    omega

/-- What an accumulator's pieces leave in it. -/
def acc (v : View sig .tc .vmem S512x512 .f32) (L : List (View.Piece (Elt F) S512x512 .f32)) : Vec F S512x512 .f32 :=
  v.read (Elt F) (v.writes (Elt F) v.junk L)

/-- A load of an accumulator's window. -/
abbrev accLoad (v : View sig .tc .vmem S512x512 .f32) (L : List (View.Piece (Elt F) S512x512 .f32)) (off : Fin 2 → ℕ) (r0 c0 : ℕ)
    (ho : off = ![r0, c0]) (hr : r0 ≤ 256) (hc : c0 ≤ 384) : Vec F S256x128 .f32 :=
  v.readCov L (Rect.unit (s := S512x512) off S256x128.size (inbA ho hr hc)).toLoadRect
/-- A store of an accumulator's window: what was there plus `X`. -/
abbrev accPiece (r0 c0 : ℕ) (hr : r0 ≤ 256) (hc : c0 ≤ 384) (A X : Vec F S256x128 .f32) : View.Piece (Elt F) S512x512 .f32 :=
  ⟨Rect.unit (s := S512x512) ![r0, c0] S256x128.size (inbA rfl hr hc), shapeCast S256x128 (addf (φ := .f32) A X) shapeCasts_S256x128_S256x128⟩

/-- One addition to a window of an accumulator. -/
theorem acc_step (v : View sig .tc .vmem S512x512 .f32) (L : List (View.Piece (Elt F) S512x512 .f32)) (r0 c0 : ℕ) (hr : r0 ≤ 256) (hc : c0 ≤ 384)
    (off : Fin 2 → ℕ) (ho : off = ![r0, c0]) (X : FVec F S256x128 .f32) (r c : Fin 512) :
    acc v (accPiece r0 c0 hr hc (accLoad v L off r0 c0 ho hr hc) X :: L) (ix2 r c)
      = if h : (r0 ≤ r.val ∧ r.val < r0 + 256) ∧ (c0 ≤ c.val ∧ c.val < c0 + 128)
        then FloatOps.addf (acc v L (ix2 r c)) (X (ix2 ⟨r.val - r0, by omega⟩ ⟨c.val - c0, by omega⟩)) else acc v L (ix2 r c) := by
  subst ho
  unfold acc
  by_cases h : (r0 ≤ r.val ∧ r.val < r0 + 256) ∧ (c0 ≤ c.val ∧ c.val < c0 + 128)
  · rw [dif_pos h]
    rw [View.read_writes_cons_unit_of_mem v v.junk (inbA rfl hr hc) _ L (ix2 r c) (ix2 ⟨r.val - r0, by omega⟩ ⟨c.val - c0, by omega⟩) rfl
      (by intro a; fin_cases a
          · show r.val = r0 + (r.val - r0); omega
          · show c.val = c0 + (c.val - c0); omega)]
    rw [shapeCast_self]
    refine congrArg₂ FloatOps.addf ?_ rfl
    show v.readCov L _ _ = _
    show v.read (Elt F) (v.writes (Elt F) v.junk L) _ = _
    refine congrArg _ (funext fun a => Fin.ext ?_)
    fin_cases a
    · show r0 + 1 * (r.val - r0) = r.val; omega
    · show c0 + 1 * (c.val - c0) = c.val; omega
  · rw [dif_neg h]
    by_cases h1 : r0 ≤ r.val ∧ r.val < r0 + 256
    · exact View.read_writes_cons_unit_of_not_mem v v.junk (inbA rfl hr hc) _ L (ix2 r c) rfl 1 (by show c.val < c0 ∨ c0 + 128 ≤ c.val; omega)
    · exact View.read_writes_cons_unit_of_not_mem v v.junk (inbA rfl hr hc) _ L (ix2 r c) rfl 0 (by show r.val < r0 ∨ r0 + 256 ≤ r.val; omega)

/-- A store of a query block. -/
abbrev qPiece (r0 c0 : ℕ) (hr : r0 ≤ 384) (hc : c0 ≤ 384) (X : Vec F S1x128x128 .bf16) : View.Piece (Elt F) S1x512x512 .bf16 :=
  ⟨Rect.unit (s := S1x512x512) ![0, r0, c0] S1x128x128.size (inbQ hr hc), X⟩
/-- A store of a whole block. -/
abbrev outPiece (X : Vec F S1x512x512 .bf16) : View.Piece (Elt F) S1x512x512 .bf16 :=
  ⟨Rect.unit (s := S1x512x512) ![0, 0, 0] S1x512x512.size inb_S1x512x512_S1x512x512_0_0_0, X⟩

/-- A load of one of the mask table's three entries. -/
theorem bias_load (v : View sig .tc .vmem S3x256x256 .f32) (off : Fin 3 → ℕ) (n : ℕ) (ho : off = ![n, 0, 0])
    (inb : ∀ a, off a + S1x256x256.size a ≤ S3x256x256.size a) (j : Fin 4) (hj : ![0, 1, 1, 2] j = n) :
    v.readCov (bodyRun.sl.H14_3 (F := F)) (Rect.unit (s := S3x256x256) off S1x256x256.size inb).toLoadRect = bLoad j := by
  subst ho
  funext y
  show v.read (Elt F) (v.writes (Elt F) v.junk bodyRun.sl.H14_3) _ = _
  have e0 : (y 0).val < 1 := (y 0).isLt
  have hy : ∀ (m : ℕ) (hm : n = m) (a : Fin 3), ((Rect.unit (s := S3x256x256) ![n, 0, 0] S1x256x256.size inb).toLoadRect.idx y a).val
      = (![m, 0, 0] : Fin 3 → ℕ) a + (y a).val := by
    intro m hm a
    subst hm
    fin_cases a
    · show n + 1 * (y 0).val = n + (y 0).val; omega
    · show 0 + 1 * (y 1).val = 0 + (y 1).val; omega
    · show 0 + 1 * (y 2).val = 0 + (y 2).val; omega
  unfold bodyRun.sl.H14_3
  have two : ∀ (hm : n = 2) X L, v.read (Elt F) (v.writes (Elt F) v.junk
      (⟨Rect.unit (s := S3x256x256) ![2, 0, 0] S1x256x256.size inb_S3x256x256_S1x256x256_2_0_0, X⟩ :: L)) _ = X y := fun hm X L =>
    View.read_writes_cons_unit_of_mem v v.junk _ X L _ y rfl (hy 2 hm)
  have one : ∀ (hm : n = 1) X L, v.read (Elt F) (v.writes (Elt F) v.junk
      (⟨Rect.unit (s := S3x256x256) ![1, 0, 0] S1x256x256.size inb_S3x256x256_S1x256x256_1_0_0, X⟩ :: L)) _ = X y := fun hm X L =>
    View.read_writes_cons_unit_of_mem v v.junk _ X L _ y rfl (hy 1 hm)
  have zero : ∀ (hm : n = 0) X L, v.read (Elt F) (v.writes (Elt F) v.junk
      (⟨Rect.unit (s := S3x256x256) ![0, 0, 0] S1x256x256.size inb_S3x256x256_S1x256x256_0_0_0, X⟩ :: L)) _ = X y := fun hm X L =>
    View.read_writes_cons_unit_of_mem v v.junk _ X L _ y rfl (hy 0 hm)
  have not2 : ∀ (m : ℕ) (hm : n = m) (h2 : m < 2) X L, v.read (Elt F) (v.writes (Elt F) v.junk
      (⟨Rect.unit (s := S3x256x256) ![2, 0, 0] S1x256x256.size inb_S3x256x256_S1x256x256_2_0_0, X⟩ :: L)) _
        = v.read (Elt F) (v.writes (Elt F) v.junk L) _ := fun m hm h2 X L =>
    View.read_writes_cons_unit_of_not_mem v v.junk _ X L _ rfl 0 (Or.inl (by rw [hy m hm 0]; show m + (y 0).val < 2; omega))
  have not1 : ∀ (m : ℕ) (hm : n = m) (h2 : m < 1) X L, v.read (Elt F) (v.writes (Elt F) v.junk
      (⟨Rect.unit (s := S3x256x256) ![1, 0, 0] S1x256x256.size inb_S3x256x256_S1x256x256_1_0_0, X⟩ :: L)) _
        = v.read (Elt F) (v.writes (Elt F) v.junk L) _ := fun m hm h2 X L =>
    View.read_writes_cons_unit_of_not_mem v v.junk _ X L _ rfl 0 (Or.inl (by rw [hy m hm 0]; show m + (y 0).val < 1; omega))
  fin_cases j
  · have hn : n = 0 := hj.symm
    rw [not2 0 hn (by omega), not1 0 hn (by omega), zero hn]; rfl
  · have hn : n = 1 := hj.symm
    rw [not2 1 hn (by omega), one hn]; rfl
  · have hn : n = 1 := hj.symm
    rw [not2 1 hn (by omega), one hn]; rfl
  · have hn : n = 2 := hj.symm
    rw [two hn]; rfl

section Run

variable (c : Dev nD) (i : grid0.Coords)
  (arg4 : Memref sig .tc .vmem S1x512x512 .bf16) (harg4 : arg4.IsWhole) (arg5 : Memref sig .tc .vmem S1x512x512 .bf16) (harg5 : arg5.IsWhole)
  (arg6 : Memref sig .tc .vmem S1x512x512 .f32) (harg6 : arg6.IsWhole) (arg7 : Memref sig .tc .vmem S1x512x512 .bf16) (harg7 : arg7.IsWhole)
  (arg8 : Memref sig .tc .vmem S1x512x512 .bf16) (harg8 : arg8.IsWhole) (arg9 : Memref sig .tc .vmem S1x512x512 .bf16) (harg9 : arg9.IsWhole)
  (arg14 : Memref sig .tc .vmem S3x256x256 .f32) (arg15 arg16 : Memref sig .tc .vmem S512x512 .f32)
  (x4 x5 : Vec F S1x512x512 .bf16) (x6 : Vec F S1x512x512 .f32) (x7 x8 x9 : Vec F S1x512x512 .bf16)

theorem h15_2 : (bodyRun.sl.H15_2 (F := F) c i arg4 harg4 arg5 harg5 arg6 harg6 arg7 harg7 arg8 harg8 arg9 harg9 arg14 arg15 x4 x5 x6 x7 x8 x9)
    = accPiece 0 0 (by decide) (by decide) (accLoad arg15.view (bodyRun.sl.H15_1 (F := F)) (k0_off4 i 0#32) 0 0 (off4_0 i) (by decide) (by decide))
        (blkDk (bodyRun.sl.v79 (F := F) c i arg14) (rawQ arg4 harg4 x4 0 0 (by decide) (by decide)) (rawQ arg5 harg5 x5 0 0 (by decide) (by decide)) (rawQ arg6 harg6 x6 0 0 (by decide) (by decide)) (rawQ arg7 harg7 x7 0 0 (by decide) (by decide)) (rawK arg8 harg8 x8 0 0 (by decide) (by decide)) (rawK arg9 harg9 x9 0 0 (by decide) (by decide)))
      :: (bodyRun.sl.H15_1 (F := F)) := rfl
theorem h15_3 : (bodyRun.sl.H15_3 (F := F) c i arg4 harg4 arg5 harg5 arg6 harg6 arg7 harg7 arg8 harg8 arg9 harg9 arg14 arg15 x4 x5 x6 x7 x8 x9)
    = accPiece 64 0 (by decide) (by decide) (accLoad arg15.view (bodyRun.sl.H15_2 (F := F) c i arg4 harg4 arg5 harg5 arg6 harg6 arg7 harg7 arg8 harg8 arg9 harg9 arg14 arg15 x4 x5 x6 x7 x8 x9) (k0_off4 i 1#32) 64 0 (off4_1 i) (by decide) (by decide))
        (blkDk (bodyRun.sl.v120 (F := F) c i arg14) (rawQ arg4 harg4 x4 128 0 (by decide) (by decide)) (rawQ arg5 harg5 x5 128 0 (by decide) (by decide)) (rawQ arg6 harg6 x6 128 0 (by decide) (by decide)) (rawQ arg7 harg7 x7 128 0 (by decide) (by decide)) (rawK arg8 harg8 x8 64 0 (by decide) (by decide)) (rawK arg9 harg9 x9 64 0 (by decide) (by decide)))
      :: (bodyRun.sl.H15_2 (F := F) c i arg4 harg4 arg5 harg5 arg6 harg6 arg7 harg7 arg8 harg8 arg9 harg9 arg14 arg15 x4 x5 x6 x7 x8 x9) := rfl
theorem h15_4 : (bodyRun.sl.H15_4 (F := F) c i arg4 harg4 arg5 harg5 arg6 harg6 arg7 harg7 arg8 harg8 arg9 harg9 arg14 arg15 x4 x5 x6 x7 x8 x9)
    = accPiece 192 0 (by decide) (by decide) (accLoad arg15.view (bodyRun.sl.H15_3 (F := F) c i arg4 harg4 arg5 harg5 arg6 harg6 arg7 harg7 arg8 harg8 arg9 harg9 arg14 arg15 x4 x5 x6 x7 x8 x9) (k0_off4 i 2#32) 192 0 (off4_2 i) (by decide) (by decide))
        (blkDk (bodyRun.sl.v210 (F := F) c i arg14) (rawQ arg4 harg4 x4 256 0 (by decide) (by decide)) (rawQ arg5 harg5 x5 256 0 (by decide) (by decide)) (rawQ arg6 harg6 x6 256 0 (by decide) (by decide)) (rawQ arg7 harg7 x7 256 0 (by decide) (by decide)) (rawK arg8 harg8 x8 192 0 (by decide) (by decide)) (rawK arg9 harg9 x9 192 0 (by decide) (by decide)))
      :: (bodyRun.sl.H15_3 (F := F) c i arg4 harg4 arg5 harg5 arg6 harg6 arg7 harg7 arg8 harg8 arg9 harg9 arg14 arg15 x4 x5 x6 x7 x8 x9) := rfl
theorem h15_5 : (bodyRun.sl.H15_5 (F := F) c i arg4 harg4 arg5 harg5 arg6 harg6 arg7 harg7 arg8 harg8 arg9 harg9 arg14 arg15 x4 x5 x6 x7 x8 x9)
    = accPiece 256 0 (by decide) (by decide) (accLoad arg15.view (bodyRun.sl.H15_4 (F := F) c i arg4 harg4 arg5 harg5 arg6 harg6 arg7 harg7 arg8 harg8 arg9 harg9 arg14 arg15 x4 x5 x6 x7 x8 x9) (k0_off4 i 3#32) 256 0 (off4_3 i) (by decide) (by decide))
        (blkDk (bodyRun.sl.v300 (F := F) c i arg14) (rawQ arg4 harg4 x4 384 0 (by decide) (by decide)) (rawQ arg5 harg5 x5 384 0 (by decide) (by decide)) (rawQ arg6 harg6 x6 384 0 (by decide) (by decide)) (rawQ arg7 harg7 x7 384 0 (by decide) (by decide)) (rawK arg8 harg8 x8 256 0 (by decide) (by decide)) (rawK arg9 harg9 x9 256 0 (by decide) (by decide)))
      :: (bodyRun.sl.H15_4 (F := F) c i arg4 harg4 arg5 harg5 arg6 harg6 arg7 harg7 arg8 harg8 arg9 harg9 arg14 arg15 x4 x5 x6 x7 x8 x9) := rfl
theorem h15_6 : (bodyRun.sl.H15_6 (F := F) c i arg4 harg4 arg5 harg5 arg6 harg6 arg7 harg7 arg8 harg8 arg9 harg9 arg14 arg15 x4 x5 x6 x7 x8 x9)
    = accPiece 0 128 (by decide) (by decide) (accLoad arg15.view (bodyRun.sl.H15_5 (F := F) c i arg4 harg4 arg5 harg5 arg6 harg6 arg7 harg7 arg8 harg8 arg9 harg9 arg14 arg15 x4 x5 x6 x7 x8 x9) (k0_off7 i 0#32) 0 128 (off7_0 i) (by decide) (by decide))
        (blkDk (bodyRun.sl.v79 (F := F) c i arg14) (rawQ arg4 harg4 x4 0 128 (by decide) (by decide)) (rawQ arg5 harg5 x5 0 128 (by decide) (by decide)) (rawQ arg6 harg6 x6 0 128 (by decide) (by decide)) (rawQ arg7 harg7 x7 0 128 (by decide) (by decide)) (rawK arg8 harg8 x8 0 128 (by decide) (by decide)) (rawK arg9 harg9 x9 0 128 (by decide) (by decide)))
      :: (bodyRun.sl.H15_5 (F := F) c i arg4 harg4 arg5 harg5 arg6 harg6 arg7 harg7 arg8 harg8 arg9 harg9 arg14 arg15 x4 x5 x6 x7 x8 x9) := rfl
theorem h15_7 : (bodyRun.sl.H15_7 (F := F) c i arg4 harg4 arg5 harg5 arg6 harg6 arg7 harg7 arg8 harg8 arg9 harg9 arg14 arg15 x4 x5 x6 x7 x8 x9)
    = accPiece 64 128 (by decide) (by decide) (accLoad arg15.view (bodyRun.sl.H15_6 (F := F) c i arg4 harg4 arg5 harg5 arg6 harg6 arg7 harg7 arg8 harg8 arg9 harg9 arg14 arg15 x4 x5 x6 x7 x8 x9) (k0_off7 i 1#32) 64 128 (off7_1 i) (by decide) (by decide))
        (blkDk (bodyRun.sl.v120 (F := F) c i arg14) (rawQ arg4 harg4 x4 128 128 (by decide) (by decide)) (rawQ arg5 harg5 x5 128 128 (by decide) (by decide)) (rawQ arg6 harg6 x6 128 128 (by decide) (by decide)) (rawQ arg7 harg7 x7 128 128 (by decide) (by decide)) (rawK arg8 harg8 x8 64 128 (by decide) (by decide)) (rawK arg9 harg9 x9 64 128 (by decide) (by decide)))
      :: (bodyRun.sl.H15_6 (F := F) c i arg4 harg4 arg5 harg5 arg6 harg6 arg7 harg7 arg8 harg8 arg9 harg9 arg14 arg15 x4 x5 x6 x7 x8 x9) := rfl
theorem h15_8 : (bodyRun.sl.H15_8 (F := F) c i arg4 harg4 arg5 harg5 arg6 harg6 arg7 harg7 arg8 harg8 arg9 harg9 arg14 arg15 x4 x5 x6 x7 x8 x9)
    = accPiece 192 128 (by decide) (by decide) (accLoad arg15.view (bodyRun.sl.H15_7 (F := F) c i arg4 harg4 arg5 harg5 arg6 harg6 arg7 harg7 arg8 harg8 arg9 harg9 arg14 arg15 x4 x5 x6 x7 x8 x9) (k0_off7 i 2#32) 192 128 (off7_2 i) (by decide) (by decide))
        (blkDk (bodyRun.sl.v210 (F := F) c i arg14) (rawQ arg4 harg4 x4 256 128 (by decide) (by decide)) (rawQ arg5 harg5 x5 256 128 (by decide) (by decide)) (rawQ arg6 harg6 x6 256 128 (by decide) (by decide)) (rawQ arg7 harg7 x7 256 128 (by decide) (by decide)) (rawK arg8 harg8 x8 192 128 (by decide) (by decide)) (rawK arg9 harg9 x9 192 128 (by decide) (by decide)))
      :: (bodyRun.sl.H15_7 (F := F) c i arg4 harg4 arg5 harg5 arg6 harg6 arg7 harg7 arg8 harg8 arg9 harg9 arg14 arg15 x4 x5 x6 x7 x8 x9) := rfl
theorem h15_9 : (bodyRun.sl.H15_9 (F := F) c i arg4 harg4 arg5 harg5 arg6 harg6 arg7 harg7 arg8 harg8 arg9 harg9 arg14 arg15 x4 x5 x6 x7 x8 x9)
    = accPiece 256 128 (by decide) (by decide) (accLoad arg15.view (bodyRun.sl.H15_8 (F := F) c i arg4 harg4 arg5 harg5 arg6 harg6 arg7 harg7 arg8 harg8 arg9 harg9 arg14 arg15 x4 x5 x6 x7 x8 x9) (k0_off7 i 3#32) 256 128 (off7_3 i) (by decide) (by decide))
        (blkDk (bodyRun.sl.v300 (F := F) c i arg14) (rawQ arg4 harg4 x4 384 128 (by decide) (by decide)) (rawQ arg5 harg5 x5 384 128 (by decide) (by decide)) (rawQ arg6 harg6 x6 384 128 (by decide) (by decide)) (rawQ arg7 harg7 x7 384 128 (by decide) (by decide)) (rawK arg8 harg8 x8 256 128 (by decide) (by decide)) (rawK arg9 harg9 x9 256 128 (by decide) (by decide)))
      :: (bodyRun.sl.H15_8 (F := F) c i arg4 harg4 arg5 harg5 arg6 harg6 arg7 harg7 arg8 harg8 arg9 harg9 arg14 arg15 x4 x5 x6 x7 x8 x9) := rfl
theorem h15_10 : (bodyRun.sl.H15_10 (F := F) c i arg4 harg4 arg5 harg5 arg6 harg6 arg7 harg7 arg8 harg8 arg9 harg9 arg14 arg15 x4 x5 x6 x7 x8 x9)
    = accPiece 0 256 (by decide) (by decide) (accLoad arg15.view (bodyRun.sl.H15_9 (F := F) c i arg4 harg4 arg5 harg5 arg6 harg6 arg7 harg7 arg8 harg8 arg9 harg9 arg14 arg15 x4 x5 x6 x7 x8 x9) (k0_off10 i 0#32) 0 256 (off10_0 i) (by decide) (by decide))
        (blkDk (bodyRun.sl.v79 (F := F) c i arg14) (rawQ arg4 harg4 x4 0 256 (by decide) (by decide)) (rawQ arg5 harg5 x5 0 256 (by decide) (by decide)) (rawQ arg6 harg6 x6 0 256 (by decide) (by decide)) (rawQ arg7 harg7 x7 0 256 (by decide) (by decide)) (rawK arg8 harg8 x8 0 256 (by decide) (by decide)) (rawK arg9 harg9 x9 0 256 (by decide) (by decide)))
      :: (bodyRun.sl.H15_9 (F := F) c i arg4 harg4 arg5 harg5 arg6 harg6 arg7 harg7 arg8 harg8 arg9 harg9 arg14 arg15 x4 x5 x6 x7 x8 x9) := rfl
theorem h15_11 : (bodyRun.sl.H15_11 (F := F) c i arg4 harg4 arg5 harg5 arg6 harg6 arg7 harg7 arg8 harg8 arg9 harg9 arg14 arg15 x4 x5 x6 x7 x8 x9)
    = accPiece 64 256 (by decide) (by decide) (accLoad arg15.view (bodyRun.sl.H15_10 (F := F) c i arg4 harg4 arg5 harg5 arg6 harg6 arg7 harg7 arg8 harg8 arg9 harg9 arg14 arg15 x4 x5 x6 x7 x8 x9) (k0_off10 i 1#32) 64 256 (off10_1 i) (by decide) (by decide))
        (blkDk (bodyRun.sl.v120 (F := F) c i arg14) (rawQ arg4 harg4 x4 128 256 (by decide) (by decide)) (rawQ arg5 harg5 x5 128 256 (by decide) (by decide)) (rawQ arg6 harg6 x6 128 256 (by decide) (by decide)) (rawQ arg7 harg7 x7 128 256 (by decide) (by decide)) (rawK arg8 harg8 x8 64 256 (by decide) (by decide)) (rawK arg9 harg9 x9 64 256 (by decide) (by decide)))
      :: (bodyRun.sl.H15_10 (F := F) c i arg4 harg4 arg5 harg5 arg6 harg6 arg7 harg7 arg8 harg8 arg9 harg9 arg14 arg15 x4 x5 x6 x7 x8 x9) := rfl
theorem h15_12 : (bodyRun.sl.H15_12 (F := F) c i arg4 harg4 arg5 harg5 arg6 harg6 arg7 harg7 arg8 harg8 arg9 harg9 arg14 arg15 x4 x5 x6 x7 x8 x9)
    = accPiece 192 256 (by decide) (by decide) (accLoad arg15.view (bodyRun.sl.H15_11 (F := F) c i arg4 harg4 arg5 harg5 arg6 harg6 arg7 harg7 arg8 harg8 arg9 harg9 arg14 arg15 x4 x5 x6 x7 x8 x9) (k0_off10 i 2#32) 192 256 (off10_2 i) (by decide) (by decide))
        (blkDk (bodyRun.sl.v210 (F := F) c i arg14) (rawQ arg4 harg4 x4 256 256 (by decide) (by decide)) (rawQ arg5 harg5 x5 256 256 (by decide) (by decide)) (rawQ arg6 harg6 x6 256 256 (by decide) (by decide)) (rawQ arg7 harg7 x7 256 256 (by decide) (by decide)) (rawK arg8 harg8 x8 192 256 (by decide) (by decide)) (rawK arg9 harg9 x9 192 256 (by decide) (by decide)))
      :: (bodyRun.sl.H15_11 (F := F) c i arg4 harg4 arg5 harg5 arg6 harg6 arg7 harg7 arg8 harg8 arg9 harg9 arg14 arg15 x4 x5 x6 x7 x8 x9) := rfl
theorem h15_13 : (bodyRun.sl.H15_13 (F := F) c i arg4 harg4 arg5 harg5 arg6 harg6 arg7 harg7 arg8 harg8 arg9 harg9 arg14 arg15 x4 x5 x6 x7 x8 x9)
    = accPiece 256 256 (by decide) (by decide) (accLoad arg15.view (bodyRun.sl.H15_12 (F := F) c i arg4 harg4 arg5 harg5 arg6 harg6 arg7 harg7 arg8 harg8 arg9 harg9 arg14 arg15 x4 x5 x6 x7 x8 x9) (k0_off10 i 3#32) 256 256 (off10_3 i) (by decide) (by decide))
        (blkDk (bodyRun.sl.v300 (F := F) c i arg14) (rawQ arg4 harg4 x4 384 256 (by decide) (by decide)) (rawQ arg5 harg5 x5 384 256 (by decide) (by decide)) (rawQ arg6 harg6 x6 384 256 (by decide) (by decide)) (rawQ arg7 harg7 x7 384 256 (by decide) (by decide)) (rawK arg8 harg8 x8 256 256 (by decide) (by decide)) (rawK arg9 harg9 x9 256 256 (by decide) (by decide)))
      :: (bodyRun.sl.H15_12 (F := F) c i arg4 harg4 arg5 harg5 arg6 harg6 arg7 harg7 arg8 harg8 arg9 harg9 arg14 arg15 x4 x5 x6 x7 x8 x9) := rfl
theorem h15_14 : (bodyRun.sl.H15_14 (F := F) c i arg4 harg4 arg5 harg5 arg6 harg6 arg7 harg7 arg8 harg8 arg9 harg9 arg14 arg15 x4 x5 x6 x7 x8 x9)
    = accPiece 0 384 (by decide) (by decide) (accLoad arg15.view (bodyRun.sl.H15_13 (F := F) c i arg4 harg4 arg5 harg5 arg6 harg6 arg7 harg7 arg8 harg8 arg9 harg9 arg14 arg15 x4 x5 x6 x7 x8 x9) (k0_off13 i 0#32) 0 384 (off13_0 i) (by decide) (by decide))
        (blkDk (bodyRun.sl.v79 (F := F) c i arg14) (rawQ arg4 harg4 x4 0 384 (by decide) (by decide)) (rawQ arg5 harg5 x5 0 384 (by decide) (by decide)) (rawQ arg6 harg6 x6 0 384 (by decide) (by decide)) (rawQ arg7 harg7 x7 0 384 (by decide) (by decide)) (rawK arg8 harg8 x8 0 384 (by decide) (by decide)) (rawK arg9 harg9 x9 0 384 (by decide) (by decide)))
      :: (bodyRun.sl.H15_13 (F := F) c i arg4 harg4 arg5 harg5 arg6 harg6 arg7 harg7 arg8 harg8 arg9 harg9 arg14 arg15 x4 x5 x6 x7 x8 x9) := rfl
theorem h15_15 : (bodyRun.sl.H15_15 (F := F) c i arg4 harg4 arg5 harg5 arg6 harg6 arg7 harg7 arg8 harg8 arg9 harg9 arg14 arg15 x4 x5 x6 x7 x8 x9)
    = accPiece 64 384 (by decide) (by decide) (accLoad arg15.view (bodyRun.sl.H15_14 (F := F) c i arg4 harg4 arg5 harg5 arg6 harg6 arg7 harg7 arg8 harg8 arg9 harg9 arg14 arg15 x4 x5 x6 x7 x8 x9) (k0_off13 i 1#32) 64 384 (off13_1 i) (by decide) (by decide))
        (blkDk (bodyRun.sl.v120 (F := F) c i arg14) (rawQ arg4 harg4 x4 128 384 (by decide) (by decide)) (rawQ arg5 harg5 x5 128 384 (by decide) (by decide)) (rawQ arg6 harg6 x6 128 384 (by decide) (by decide)) (rawQ arg7 harg7 x7 128 384 (by decide) (by decide)) (rawK arg8 harg8 x8 64 384 (by decide) (by decide)) (rawK arg9 harg9 x9 64 384 (by decide) (by decide)))
      :: (bodyRun.sl.H15_14 (F := F) c i arg4 harg4 arg5 harg5 arg6 harg6 arg7 harg7 arg8 harg8 arg9 harg9 arg14 arg15 x4 x5 x6 x7 x8 x9) := rfl
theorem h15_16 : (bodyRun.sl.H15_16 (F := F) c i arg4 harg4 arg5 harg5 arg6 harg6 arg7 harg7 arg8 harg8 arg9 harg9 arg14 arg15 x4 x5 x6 x7 x8 x9)
    = accPiece 192 384 (by decide) (by decide) (accLoad arg15.view (bodyRun.sl.H15_15 (F := F) c i arg4 harg4 arg5 harg5 arg6 harg6 arg7 harg7 arg8 harg8 arg9 harg9 arg14 arg15 x4 x5 x6 x7 x8 x9) (k0_off13 i 2#32) 192 384 (off13_2 i) (by decide) (by decide))
        (blkDk (bodyRun.sl.v210 (F := F) c i arg14) (rawQ arg4 harg4 x4 256 384 (by decide) (by decide)) (rawQ arg5 harg5 x5 256 384 (by decide) (by decide)) (rawQ arg6 harg6 x6 256 384 (by decide) (by decide)) (rawQ arg7 harg7 x7 256 384 (by decide) (by decide)) (rawK arg8 harg8 x8 192 384 (by decide) (by decide)) (rawK arg9 harg9 x9 192 384 (by decide) (by decide)))
      :: (bodyRun.sl.H15_15 (F := F) c i arg4 harg4 arg5 harg5 arg6 harg6 arg7 harg7 arg8 harg8 arg9 harg9 arg14 arg15 x4 x5 x6 x7 x8 x9) := rfl
theorem h15_17 : (bodyRun.sl.H15_17 (F := F) c i arg4 harg4 arg5 harg5 arg6 harg6 arg7 harg7 arg8 harg8 arg9 harg9 arg14 arg15 x4 x5 x6 x7 x8 x9)
    = accPiece 256 384 (by decide) (by decide) (accLoad arg15.view (bodyRun.sl.H15_16 (F := F) c i arg4 harg4 arg5 harg5 arg6 harg6 arg7 harg7 arg8 harg8 arg9 harg9 arg14 arg15 x4 x5 x6 x7 x8 x9) (k0_off13 i 3#32) 256 384 (off13_3 i) (by decide) (by decide))
        (blkDk (bodyRun.sl.v300 (F := F) c i arg14) (rawQ arg4 harg4 x4 384 384 (by decide) (by decide)) (rawQ arg5 harg5 x5 384 384 (by decide) (by decide)) (rawQ arg6 harg6 x6 384 384 (by decide) (by decide)) (rawQ arg7 harg7 x7 384 384 (by decide) (by decide)) (rawK arg8 harg8 x8 256 384 (by decide) (by decide)) (rawK arg9 harg9 x9 256 384 (by decide) (by decide)))
      :: (bodyRun.sl.H15_16 (F := F) c i arg4 harg4 arg5 harg5 arg6 harg6 arg7 harg7 arg8 harg8 arg9 harg9 arg14 arg15 x4 x5 x6 x7 x8 x9) := rfl
theorem h16_2 : (bodyRun.sl.H16_2 (F := F) c i arg4 harg4 arg5 harg5 arg6 harg6 arg7 harg7 arg8 harg8 arg9 harg9 arg14 arg16 x4 x5 x6 x7 x8 x9)
    = accPiece 0 0 (by decide) (by decide) (accLoad arg16.view (bodyRun.sl.H16_1 (F := F)) (k0_off4 i 0#32) 0 0 (off4_0 i) (by decide) (by decide))
        (blkDv (bodyRun.sl.v79 (F := F) c i arg14) (rawQ arg4 harg4 x4 0 0 (by decide) (by decide)) (rawQ arg5 harg5 x5 0 0 (by decide) (by decide)) (rawQ arg6 harg6 x6 0 0 (by decide) (by decide)) (rawQ arg7 harg7 x7 0 0 (by decide) (by decide)) (rawK arg8 harg8 x8 0 0 (by decide) (by decide)) (rawK arg9 harg9 x9 0 0 (by decide) (by decide)))
      :: (bodyRun.sl.H16_1 (F := F)) := rfl
theorem h16_3 : (bodyRun.sl.H16_3 (F := F) c i arg4 harg4 arg5 harg5 arg6 harg6 arg7 harg7 arg8 harg8 arg9 harg9 arg14 arg16 x4 x5 x6 x7 x8 x9)
    = accPiece 64 0 (by decide) (by decide) (accLoad arg16.view (bodyRun.sl.H16_2 (F := F) c i arg4 harg4 arg5 harg5 arg6 harg6 arg7 harg7 arg8 harg8 arg9 harg9 arg14 arg16 x4 x5 x6 x7 x8 x9) (k0_off4 i 1#32) 64 0 (off4_1 i) (by decide) (by decide))
        (blkDv (bodyRun.sl.v120 (F := F) c i arg14) (rawQ arg4 harg4 x4 128 0 (by decide) (by decide)) (rawQ arg5 harg5 x5 128 0 (by decide) (by decide)) (rawQ arg6 harg6 x6 128 0 (by decide) (by decide)) (rawQ arg7 harg7 x7 128 0 (by decide) (by decide)) (rawK arg8 harg8 x8 64 0 (by decide) (by decide)) (rawK arg9 harg9 x9 64 0 (by decide) (by decide)))
      :: (bodyRun.sl.H16_2 (F := F) c i arg4 harg4 arg5 harg5 arg6 harg6 arg7 harg7 arg8 harg8 arg9 harg9 arg14 arg16 x4 x5 x6 x7 x8 x9) := rfl
theorem h16_4 : (bodyRun.sl.H16_4 (F := F) c i arg4 harg4 arg5 harg5 arg6 harg6 arg7 harg7 arg8 harg8 arg9 harg9 arg14 arg16 x4 x5 x6 x7 x8 x9)
    = accPiece 192 0 (by decide) (by decide) (accLoad arg16.view (bodyRun.sl.H16_3 (F := F) c i arg4 harg4 arg5 harg5 arg6 harg6 arg7 harg7 arg8 harg8 arg9 harg9 arg14 arg16 x4 x5 x6 x7 x8 x9) (k0_off4 i 2#32) 192 0 (off4_2 i) (by decide) (by decide))
        (blkDv (bodyRun.sl.v210 (F := F) c i arg14) (rawQ arg4 harg4 x4 256 0 (by decide) (by decide)) (rawQ arg5 harg5 x5 256 0 (by decide) (by decide)) (rawQ arg6 harg6 x6 256 0 (by decide) (by decide)) (rawQ arg7 harg7 x7 256 0 (by decide) (by decide)) (rawK arg8 harg8 x8 192 0 (by decide) (by decide)) (rawK arg9 harg9 x9 192 0 (by decide) (by decide)))
      :: (bodyRun.sl.H16_3 (F := F) c i arg4 harg4 arg5 harg5 arg6 harg6 arg7 harg7 arg8 harg8 arg9 harg9 arg14 arg16 x4 x5 x6 x7 x8 x9) := rfl
theorem h16_5 : (bodyRun.sl.H16_5 (F := F) c i arg4 harg4 arg5 harg5 arg6 harg6 arg7 harg7 arg8 harg8 arg9 harg9 arg14 arg16 x4 x5 x6 x7 x8 x9)
    = accPiece 256 0 (by decide) (by decide) (accLoad arg16.view (bodyRun.sl.H16_4 (F := F) c i arg4 harg4 arg5 harg5 arg6 harg6 arg7 harg7 arg8 harg8 arg9 harg9 arg14 arg16 x4 x5 x6 x7 x8 x9) (k0_off4 i 3#32) 256 0 (off4_3 i) (by decide) (by decide))
        (blkDv (bodyRun.sl.v300 (F := F) c i arg14) (rawQ arg4 harg4 x4 384 0 (by decide) (by decide)) (rawQ arg5 harg5 x5 384 0 (by decide) (by decide)) (rawQ arg6 harg6 x6 384 0 (by decide) (by decide)) (rawQ arg7 harg7 x7 384 0 (by decide) (by decide)) (rawK arg8 harg8 x8 256 0 (by decide) (by decide)) (rawK arg9 harg9 x9 256 0 (by decide) (by decide)))
      :: (bodyRun.sl.H16_4 (F := F) c i arg4 harg4 arg5 harg5 arg6 harg6 arg7 harg7 arg8 harg8 arg9 harg9 arg14 arg16 x4 x5 x6 x7 x8 x9) := rfl
theorem h16_6 : (bodyRun.sl.H16_6 (F := F) c i arg4 harg4 arg5 harg5 arg6 harg6 arg7 harg7 arg8 harg8 arg9 harg9 arg14 arg16 x4 x5 x6 x7 x8 x9)
    = accPiece 0 128 (by decide) (by decide) (accLoad arg16.view (bodyRun.sl.H16_5 (F := F) c i arg4 harg4 arg5 harg5 arg6 harg6 arg7 harg7 arg8 harg8 arg9 harg9 arg14 arg16 x4 x5 x6 x7 x8 x9) (k0_off7 i 0#32) 0 128 (off7_0 i) (by decide) (by decide))
        (blkDv (bodyRun.sl.v79 (F := F) c i arg14) (rawQ arg4 harg4 x4 0 128 (by decide) (by decide)) (rawQ arg5 harg5 x5 0 128 (by decide) (by decide)) (rawQ arg6 harg6 x6 0 128 (by decide) (by decide)) (rawQ arg7 harg7 x7 0 128 (by decide) (by decide)) (rawK arg8 harg8 x8 0 128 (by decide) (by decide)) (rawK arg9 harg9 x9 0 128 (by decide) (by decide)))
      :: (bodyRun.sl.H16_5 (F := F) c i arg4 harg4 arg5 harg5 arg6 harg6 arg7 harg7 arg8 harg8 arg9 harg9 arg14 arg16 x4 x5 x6 x7 x8 x9) := rfl
theorem h16_7 : (bodyRun.sl.H16_7 (F := F) c i arg4 harg4 arg5 harg5 arg6 harg6 arg7 harg7 arg8 harg8 arg9 harg9 arg14 arg16 x4 x5 x6 x7 x8 x9)
    = accPiece 64 128 (by decide) (by decide) (accLoad arg16.view (bodyRun.sl.H16_6 (F := F) c i arg4 harg4 arg5 harg5 arg6 harg6 arg7 harg7 arg8 harg8 arg9 harg9 arg14 arg16 x4 x5 x6 x7 x8 x9) (k0_off7 i 1#32) 64 128 (off7_1 i) (by decide) (by decide))
        (blkDv (bodyRun.sl.v120 (F := F) c i arg14) (rawQ arg4 harg4 x4 128 128 (by decide) (by decide)) (rawQ arg5 harg5 x5 128 128 (by decide) (by decide)) (rawQ arg6 harg6 x6 128 128 (by decide) (by decide)) (rawQ arg7 harg7 x7 128 128 (by decide) (by decide)) (rawK arg8 harg8 x8 64 128 (by decide) (by decide)) (rawK arg9 harg9 x9 64 128 (by decide) (by decide)))
      :: (bodyRun.sl.H16_6 (F := F) c i arg4 harg4 arg5 harg5 arg6 harg6 arg7 harg7 arg8 harg8 arg9 harg9 arg14 arg16 x4 x5 x6 x7 x8 x9) := rfl
theorem h16_8 : (bodyRun.sl.H16_8 (F := F) c i arg4 harg4 arg5 harg5 arg6 harg6 arg7 harg7 arg8 harg8 arg9 harg9 arg14 arg16 x4 x5 x6 x7 x8 x9)
    = accPiece 192 128 (by decide) (by decide) (accLoad arg16.view (bodyRun.sl.H16_7 (F := F) c i arg4 harg4 arg5 harg5 arg6 harg6 arg7 harg7 arg8 harg8 arg9 harg9 arg14 arg16 x4 x5 x6 x7 x8 x9) (k0_off7 i 2#32) 192 128 (off7_2 i) (by decide) (by decide))
        (blkDv (bodyRun.sl.v210 (F := F) c i arg14) (rawQ arg4 harg4 x4 256 128 (by decide) (by decide)) (rawQ arg5 harg5 x5 256 128 (by decide) (by decide)) (rawQ arg6 harg6 x6 256 128 (by decide) (by decide)) (rawQ arg7 harg7 x7 256 128 (by decide) (by decide)) (rawK arg8 harg8 x8 192 128 (by decide) (by decide)) (rawK arg9 harg9 x9 192 128 (by decide) (by decide)))
      :: (bodyRun.sl.H16_7 (F := F) c i arg4 harg4 arg5 harg5 arg6 harg6 arg7 harg7 arg8 harg8 arg9 harg9 arg14 arg16 x4 x5 x6 x7 x8 x9) := rfl
theorem h16_9 : (bodyRun.sl.H16_9 (F := F) c i arg4 harg4 arg5 harg5 arg6 harg6 arg7 harg7 arg8 harg8 arg9 harg9 arg14 arg16 x4 x5 x6 x7 x8 x9)
    = accPiece 256 128 (by decide) (by decide) (accLoad arg16.view (bodyRun.sl.H16_8 (F := F) c i arg4 harg4 arg5 harg5 arg6 harg6 arg7 harg7 arg8 harg8 arg9 harg9 arg14 arg16 x4 x5 x6 x7 x8 x9) (k0_off7 i 3#32) 256 128 (off7_3 i) (by decide) (by decide))
        (blkDv (bodyRun.sl.v300 (F := F) c i arg14) (rawQ arg4 harg4 x4 384 128 (by decide) (by decide)) (rawQ arg5 harg5 x5 384 128 (by decide) (by decide)) (rawQ arg6 harg6 x6 384 128 (by decide) (by decide)) (rawQ arg7 harg7 x7 384 128 (by decide) (by decide)) (rawK arg8 harg8 x8 256 128 (by decide) (by decide)) (rawK arg9 harg9 x9 256 128 (by decide) (by decide)))
      :: (bodyRun.sl.H16_8 (F := F) c i arg4 harg4 arg5 harg5 arg6 harg6 arg7 harg7 arg8 harg8 arg9 harg9 arg14 arg16 x4 x5 x6 x7 x8 x9) := rfl
theorem h16_10 : (bodyRun.sl.H16_10 (F := F) c i arg4 harg4 arg5 harg5 arg6 harg6 arg7 harg7 arg8 harg8 arg9 harg9 arg14 arg16 x4 x5 x6 x7 x8 x9)
    = accPiece 0 256 (by decide) (by decide) (accLoad arg16.view (bodyRun.sl.H16_9 (F := F) c i arg4 harg4 arg5 harg5 arg6 harg6 arg7 harg7 arg8 harg8 arg9 harg9 arg14 arg16 x4 x5 x6 x7 x8 x9) (k0_off10 i 0#32) 0 256 (off10_0 i) (by decide) (by decide))
        (blkDv (bodyRun.sl.v79 (F := F) c i arg14) (rawQ arg4 harg4 x4 0 256 (by decide) (by decide)) (rawQ arg5 harg5 x5 0 256 (by decide) (by decide)) (rawQ arg6 harg6 x6 0 256 (by decide) (by decide)) (rawQ arg7 harg7 x7 0 256 (by decide) (by decide)) (rawK arg8 harg8 x8 0 256 (by decide) (by decide)) (rawK arg9 harg9 x9 0 256 (by decide) (by decide)))
      :: (bodyRun.sl.H16_9 (F := F) c i arg4 harg4 arg5 harg5 arg6 harg6 arg7 harg7 arg8 harg8 arg9 harg9 arg14 arg16 x4 x5 x6 x7 x8 x9) := rfl
theorem h16_11 : (bodyRun.sl.H16_11 (F := F) c i arg4 harg4 arg5 harg5 arg6 harg6 arg7 harg7 arg8 harg8 arg9 harg9 arg14 arg16 x4 x5 x6 x7 x8 x9)
    = accPiece 64 256 (by decide) (by decide) (accLoad arg16.view (bodyRun.sl.H16_10 (F := F) c i arg4 harg4 arg5 harg5 arg6 harg6 arg7 harg7 arg8 harg8 arg9 harg9 arg14 arg16 x4 x5 x6 x7 x8 x9) (k0_off10 i 1#32) 64 256 (off10_1 i) (by decide) (by decide))
        (blkDv (bodyRun.sl.v120 (F := F) c i arg14) (rawQ arg4 harg4 x4 128 256 (by decide) (by decide)) (rawQ arg5 harg5 x5 128 256 (by decide) (by decide)) (rawQ arg6 harg6 x6 128 256 (by decide) (by decide)) (rawQ arg7 harg7 x7 128 256 (by decide) (by decide)) (rawK arg8 harg8 x8 64 256 (by decide) (by decide)) (rawK arg9 harg9 x9 64 256 (by decide) (by decide)))
      :: (bodyRun.sl.H16_10 (F := F) c i arg4 harg4 arg5 harg5 arg6 harg6 arg7 harg7 arg8 harg8 arg9 harg9 arg14 arg16 x4 x5 x6 x7 x8 x9) := rfl
theorem h16_12 : (bodyRun.sl.H16_12 (F := F) c i arg4 harg4 arg5 harg5 arg6 harg6 arg7 harg7 arg8 harg8 arg9 harg9 arg14 arg16 x4 x5 x6 x7 x8 x9)
    = accPiece 192 256 (by decide) (by decide) (accLoad arg16.view (bodyRun.sl.H16_11 (F := F) c i arg4 harg4 arg5 harg5 arg6 harg6 arg7 harg7 arg8 harg8 arg9 harg9 arg14 arg16 x4 x5 x6 x7 x8 x9) (k0_off10 i 2#32) 192 256 (off10_2 i) (by decide) (by decide))
        (blkDv (bodyRun.sl.v210 (F := F) c i arg14) (rawQ arg4 harg4 x4 256 256 (by decide) (by decide)) (rawQ arg5 harg5 x5 256 256 (by decide) (by decide)) (rawQ arg6 harg6 x6 256 256 (by decide) (by decide)) (rawQ arg7 harg7 x7 256 256 (by decide) (by decide)) (rawK arg8 harg8 x8 192 256 (by decide) (by decide)) (rawK arg9 harg9 x9 192 256 (by decide) (by decide)))
      :: (bodyRun.sl.H16_11 (F := F) c i arg4 harg4 arg5 harg5 arg6 harg6 arg7 harg7 arg8 harg8 arg9 harg9 arg14 arg16 x4 x5 x6 x7 x8 x9) := rfl
theorem h16_13 : (bodyRun.sl.H16_13 (F := F) c i arg4 harg4 arg5 harg5 arg6 harg6 arg7 harg7 arg8 harg8 arg9 harg9 arg14 arg16 x4 x5 x6 x7 x8 x9)
    = accPiece 256 256 (by decide) (by decide) (accLoad arg16.view (bodyRun.sl.H16_12 (F := F) c i arg4 harg4 arg5 harg5 arg6 harg6 arg7 harg7 arg8 harg8 arg9 harg9 arg14 arg16 x4 x5 x6 x7 x8 x9) (k0_off10 i 3#32) 256 256 (off10_3 i) (by decide) (by decide))
        (blkDv (bodyRun.sl.v300 (F := F) c i arg14) (rawQ arg4 harg4 x4 384 256 (by decide) (by decide)) (rawQ arg5 harg5 x5 384 256 (by decide) (by decide)) (rawQ arg6 harg6 x6 384 256 (by decide) (by decide)) (rawQ arg7 harg7 x7 384 256 (by decide) (by decide)) (rawK arg8 harg8 x8 256 256 (by decide) (by decide)) (rawK arg9 harg9 x9 256 256 (by decide) (by decide)))
      :: (bodyRun.sl.H16_12 (F := F) c i arg4 harg4 arg5 harg5 arg6 harg6 arg7 harg7 arg8 harg8 arg9 harg9 arg14 arg16 x4 x5 x6 x7 x8 x9) := rfl
theorem h16_14 : (bodyRun.sl.H16_14 (F := F) c i arg4 harg4 arg5 harg5 arg6 harg6 arg7 harg7 arg8 harg8 arg9 harg9 arg14 arg16 x4 x5 x6 x7 x8 x9)
    = accPiece 0 384 (by decide) (by decide) (accLoad arg16.view (bodyRun.sl.H16_13 (F := F) c i arg4 harg4 arg5 harg5 arg6 harg6 arg7 harg7 arg8 harg8 arg9 harg9 arg14 arg16 x4 x5 x6 x7 x8 x9) (k0_off13 i 0#32) 0 384 (off13_0 i) (by decide) (by decide))
        (blkDv (bodyRun.sl.v79 (F := F) c i arg14) (rawQ arg4 harg4 x4 0 384 (by decide) (by decide)) (rawQ arg5 harg5 x5 0 384 (by decide) (by decide)) (rawQ arg6 harg6 x6 0 384 (by decide) (by decide)) (rawQ arg7 harg7 x7 0 384 (by decide) (by decide)) (rawK arg8 harg8 x8 0 384 (by decide) (by decide)) (rawK arg9 harg9 x9 0 384 (by decide) (by decide)))
      :: (bodyRun.sl.H16_13 (F := F) c i arg4 harg4 arg5 harg5 arg6 harg6 arg7 harg7 arg8 harg8 arg9 harg9 arg14 arg16 x4 x5 x6 x7 x8 x9) := rfl
theorem h16_15 : (bodyRun.sl.H16_15 (F := F) c i arg4 harg4 arg5 harg5 arg6 harg6 arg7 harg7 arg8 harg8 arg9 harg9 arg14 arg16 x4 x5 x6 x7 x8 x9)
    = accPiece 64 384 (by decide) (by decide) (accLoad arg16.view (bodyRun.sl.H16_14 (F := F) c i arg4 harg4 arg5 harg5 arg6 harg6 arg7 harg7 arg8 harg8 arg9 harg9 arg14 arg16 x4 x5 x6 x7 x8 x9) (k0_off13 i 1#32) 64 384 (off13_1 i) (by decide) (by decide))
        (blkDv (bodyRun.sl.v120 (F := F) c i arg14) (rawQ arg4 harg4 x4 128 384 (by decide) (by decide)) (rawQ arg5 harg5 x5 128 384 (by decide) (by decide)) (rawQ arg6 harg6 x6 128 384 (by decide) (by decide)) (rawQ arg7 harg7 x7 128 384 (by decide) (by decide)) (rawK arg8 harg8 x8 64 384 (by decide) (by decide)) (rawK arg9 harg9 x9 64 384 (by decide) (by decide)))
      :: (bodyRun.sl.H16_14 (F := F) c i arg4 harg4 arg5 harg5 arg6 harg6 arg7 harg7 arg8 harg8 arg9 harg9 arg14 arg16 x4 x5 x6 x7 x8 x9) := rfl
theorem h16_16 : (bodyRun.sl.H16_16 (F := F) c i arg4 harg4 arg5 harg5 arg6 harg6 arg7 harg7 arg8 harg8 arg9 harg9 arg14 arg16 x4 x5 x6 x7 x8 x9)
    = accPiece 192 384 (by decide) (by decide) (accLoad arg16.view (bodyRun.sl.H16_15 (F := F) c i arg4 harg4 arg5 harg5 arg6 harg6 arg7 harg7 arg8 harg8 arg9 harg9 arg14 arg16 x4 x5 x6 x7 x8 x9) (k0_off13 i 2#32) 192 384 (off13_2 i) (by decide) (by decide))
        (blkDv (bodyRun.sl.v210 (F := F) c i arg14) (rawQ arg4 harg4 x4 256 384 (by decide) (by decide)) (rawQ arg5 harg5 x5 256 384 (by decide) (by decide)) (rawQ arg6 harg6 x6 256 384 (by decide) (by decide)) (rawQ arg7 harg7 x7 256 384 (by decide) (by decide)) (rawK arg8 harg8 x8 192 384 (by decide) (by decide)) (rawK arg9 harg9 x9 192 384 (by decide) (by decide)))
      :: (bodyRun.sl.H16_15 (F := F) c i arg4 harg4 arg5 harg5 arg6 harg6 arg7 harg7 arg8 harg8 arg9 harg9 arg14 arg16 x4 x5 x6 x7 x8 x9) := rfl
theorem h16_17 : (bodyRun.sl.H16_17 (F := F) c i arg4 harg4 arg5 harg5 arg6 harg6 arg7 harg7 arg8 harg8 arg9 harg9 arg14 arg16 x4 x5 x6 x7 x8 x9)
    = accPiece 256 384 (by decide) (by decide) (accLoad arg16.view (bodyRun.sl.H16_16 (F := F) c i arg4 harg4 arg5 harg5 arg6 harg6 arg7 harg7 arg8 harg8 arg9 harg9 arg14 arg16 x4 x5 x6 x7 x8 x9) (k0_off13 i 3#32) 256 384 (off13_3 i) (by decide) (by decide))
        (blkDv (bodyRun.sl.v300 (F := F) c i arg14) (rawQ arg4 harg4 x4 384 384 (by decide) (by decide)) (rawQ arg5 harg5 x5 384 384 (by decide) (by decide)) (rawQ arg6 harg6 x6 384 384 (by decide) (by decide)) (rawQ arg7 harg7 x7 384 384 (by decide) (by decide)) (rawK arg8 harg8 x8 256 384 (by decide) (by decide)) (rawK arg9 harg9 x9 256 384 (by decide) (by decide)))
      :: (bodyRun.sl.H16_16 (F := F) c i arg4 harg4 arg5 harg5 arg6 harg6 arg7 harg7 arg8 harg8 arg9 harg9 arg14 arg16 x4 x5 x6 x7 x8 x9) := rfl
/-- The mask's entry for query block 0. -/
theorem bias_0 : (bodyRun.sl.v79 (F := F) c i arg14) = bLoad 0 := by
  show arg14.view.readCov bodyRun.sl.H14_3 (Rect.unit (s := S3x256x256) (k0_off1 i 0#32) S1x256x256.size _).toLoadRect = _
  exact bias_load arg14.view (k0_off1 i 0#32) 0 (off1_0 i) _ 0 rfl
/-- The mask's entry for query block 1. -/
theorem bias_1 : (bodyRun.sl.v120 (F := F) c i arg14) = bLoad 1 := by
  show arg14.view.readCov bodyRun.sl.H14_3 (Rect.unit (s := S3x256x256) (k0_off1 i 1#32) S1x256x256.size _).toLoadRect = _
  exact bias_load arg14.view (k0_off1 i 1#32) 1 (off1_1 i) _ 1 rfl
/-- The mask's entry for query block 2. -/
theorem bias_2 : (bodyRun.sl.v210 (F := F) c i arg14) = bLoad 2 := by
  show arg14.view.readCov bodyRun.sl.H14_3 (Rect.unit (s := S3x256x256) (k0_off1 i 2#32) S1x256x256.size _).toLoadRect = _
  exact bias_load arg14.view (k0_off1 i 2#32) 1 (off1_2 i) _ 2 rfl
/-- The mask's entry for query block 3. -/
theorem bias_3 : (bodyRun.sl.v300 (F := F) c i arg14) = bLoad 3 := by
  show arg14.view.readCov bodyRun.sl.H14_3 (Rect.unit (s := S3x256x256) (k0_off1 i 3#32) S1x256x256.size _).toLoadRect = _
  exact bias_load arg14.view (k0_off1 i 3#32) 2 (off1_3 i) _ 3 rfl

variable (arg3 : Memref sig .tc .smem S8 .f32) (harg3 : arg3.IsWhole) (arg10 : Memref sig .tc .vmem S1x512x512 .bf16) (harg10 : arg10.IsWhole)
  (arg11 : Memref sig .tc .vmem S1x512x512 .bf16) (harg11 : arg11.IsWhole) (arg12 : Memref sig .tc .vmem S1x512x512 .bf16) (harg12 : arg12.IsWhole)
  (arg13 : Memref sig .tc .vmem S1x1x8x128 .f32) (harg13 : arg13.IsWhole) (harg14 : arg14.IsWhole) (harg15 : arg15.IsWhole) (harg16 : arg16.IsWhole)
  (hc0 : condClear i) (hc1 : k0_cond2 i = 1#1) (x3 : Vec F S8 .f32)
/-- The query gradient's pieces. -/
theorem dq_list : (bodyRun (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x3 x4 x5 x6 x7 x8 x9).1 = [
    qPiece 384 384 (by decide) (by decide) (blkDq (bodyRun.sl.v300 (F := F) c i arg14) (rawQ arg4 harg4 x4 384 384 (by decide) (by decide)) (rawQ arg5 harg5 x5 384 384 (by decide) (by decide)) (rawQ arg6 harg6 x6 384 384 (by decide) (by decide)) (rawQ arg7 harg7 x7 384 384 (by decide) (by decide)) (rawK arg8 harg8 x8 256 384 (by decide) (by decide)) (rawK arg9 harg9 x9 256 384 (by decide) (by decide))),
    qPiece 256 384 (by decide) (by decide) (blkDq (bodyRun.sl.v210 (F := F) c i arg14) (rawQ arg4 harg4 x4 256 384 (by decide) (by decide)) (rawQ arg5 harg5 x5 256 384 (by decide) (by decide)) (rawQ arg6 harg6 x6 256 384 (by decide) (by decide)) (rawQ arg7 harg7 x7 256 384 (by decide) (by decide)) (rawK arg8 harg8 x8 192 384 (by decide) (by decide)) (rawK arg9 harg9 x9 192 384 (by decide) (by decide))),
    qPiece 128 384 (by decide) (by decide) (blkDq (bodyRun.sl.v120 (F := F) c i arg14) (rawQ arg4 harg4 x4 128 384 (by decide) (by decide)) (rawQ arg5 harg5 x5 128 384 (by decide) (by decide)) (rawQ arg6 harg6 x6 128 384 (by decide) (by decide)) (rawQ arg7 harg7 x7 128 384 (by decide) (by decide)) (rawK arg8 harg8 x8 64 384 (by decide) (by decide)) (rawK arg9 harg9 x9 64 384 (by decide) (by decide))),
    qPiece 0 384 (by decide) (by decide) (blkDq (bodyRun.sl.v79 (F := F) c i arg14) (rawQ arg4 harg4 x4 0 384 (by decide) (by decide)) (rawQ arg5 harg5 x5 0 384 (by decide) (by decide)) (rawQ arg6 harg6 x6 0 384 (by decide) (by decide)) (rawQ arg7 harg7 x7 0 384 (by decide) (by decide)) (rawK arg8 harg8 x8 0 384 (by decide) (by decide)) (rawK arg9 harg9 x9 0 384 (by decide) (by decide))),
    qPiece 384 256 (by decide) (by decide) (blkDq (bodyRun.sl.v300 (F := F) c i arg14) (rawQ arg4 harg4 x4 384 256 (by decide) (by decide)) (rawQ arg5 harg5 x5 384 256 (by decide) (by decide)) (rawQ arg6 harg6 x6 384 256 (by decide) (by decide)) (rawQ arg7 harg7 x7 384 256 (by decide) (by decide)) (rawK arg8 harg8 x8 256 256 (by decide) (by decide)) (rawK arg9 harg9 x9 256 256 (by decide) (by decide))),
    qPiece 256 256 (by decide) (by decide) (blkDq (bodyRun.sl.v210 (F := F) c i arg14) (rawQ arg4 harg4 x4 256 256 (by decide) (by decide)) (rawQ arg5 harg5 x5 256 256 (by decide) (by decide)) (rawQ arg6 harg6 x6 256 256 (by decide) (by decide)) (rawQ arg7 harg7 x7 256 256 (by decide) (by decide)) (rawK arg8 harg8 x8 192 256 (by decide) (by decide)) (rawK arg9 harg9 x9 192 256 (by decide) (by decide))),
    qPiece 128 256 (by decide) (by decide) (blkDq (bodyRun.sl.v120 (F := F) c i arg14) (rawQ arg4 harg4 x4 128 256 (by decide) (by decide)) (rawQ arg5 harg5 x5 128 256 (by decide) (by decide)) (rawQ arg6 harg6 x6 128 256 (by decide) (by decide)) (rawQ arg7 harg7 x7 128 256 (by decide) (by decide)) (rawK arg8 harg8 x8 64 256 (by decide) (by decide)) (rawK arg9 harg9 x9 64 256 (by decide) (by decide))),
    qPiece 0 256 (by decide) (by decide) (blkDq (bodyRun.sl.v79 (F := F) c i arg14) (rawQ arg4 harg4 x4 0 256 (by decide) (by decide)) (rawQ arg5 harg5 x5 0 256 (by decide) (by decide)) (rawQ arg6 harg6 x6 0 256 (by decide) (by decide)) (rawQ arg7 harg7 x7 0 256 (by decide) (by decide)) (rawK arg8 harg8 x8 0 256 (by decide) (by decide)) (rawK arg9 harg9 x9 0 256 (by decide) (by decide))),
    qPiece 384 128 (by decide) (by decide) (blkDq (bodyRun.sl.v300 (F := F) c i arg14) (rawQ arg4 harg4 x4 384 128 (by decide) (by decide)) (rawQ arg5 harg5 x5 384 128 (by decide) (by decide)) (rawQ arg6 harg6 x6 384 128 (by decide) (by decide)) (rawQ arg7 harg7 x7 384 128 (by decide) (by decide)) (rawK arg8 harg8 x8 256 128 (by decide) (by decide)) (rawK arg9 harg9 x9 256 128 (by decide) (by decide))),
    qPiece 256 128 (by decide) (by decide) (blkDq (bodyRun.sl.v210 (F := F) c i arg14) (rawQ arg4 harg4 x4 256 128 (by decide) (by decide)) (rawQ arg5 harg5 x5 256 128 (by decide) (by decide)) (rawQ arg6 harg6 x6 256 128 (by decide) (by decide)) (rawQ arg7 harg7 x7 256 128 (by decide) (by decide)) (rawK arg8 harg8 x8 192 128 (by decide) (by decide)) (rawK arg9 harg9 x9 192 128 (by decide) (by decide))),
    qPiece 128 128 (by decide) (by decide) (blkDq (bodyRun.sl.v120 (F := F) c i arg14) (rawQ arg4 harg4 x4 128 128 (by decide) (by decide)) (rawQ arg5 harg5 x5 128 128 (by decide) (by decide)) (rawQ arg6 harg6 x6 128 128 (by decide) (by decide)) (rawQ arg7 harg7 x7 128 128 (by decide) (by decide)) (rawK arg8 harg8 x8 64 128 (by decide) (by decide)) (rawK arg9 harg9 x9 64 128 (by decide) (by decide))),
    qPiece 0 128 (by decide) (by decide) (blkDq (bodyRun.sl.v79 (F := F) c i arg14) (rawQ arg4 harg4 x4 0 128 (by decide) (by decide)) (rawQ arg5 harg5 x5 0 128 (by decide) (by decide)) (rawQ arg6 harg6 x6 0 128 (by decide) (by decide)) (rawQ arg7 harg7 x7 0 128 (by decide) (by decide)) (rawK arg8 harg8 x8 0 128 (by decide) (by decide)) (rawK arg9 harg9 x9 0 128 (by decide) (by decide))),
    qPiece 384 0 (by decide) (by decide) (blkDq (bodyRun.sl.v300 (F := F) c i arg14) (rawQ arg4 harg4 x4 384 0 (by decide) (by decide)) (rawQ arg5 harg5 x5 384 0 (by decide) (by decide)) (rawQ arg6 harg6 x6 384 0 (by decide) (by decide)) (rawQ arg7 harg7 x7 384 0 (by decide) (by decide)) (rawK arg8 harg8 x8 256 0 (by decide) (by decide)) (rawK arg9 harg9 x9 256 0 (by decide) (by decide))),
    qPiece 256 0 (by decide) (by decide) (blkDq (bodyRun.sl.v210 (F := F) c i arg14) (rawQ arg4 harg4 x4 256 0 (by decide) (by decide)) (rawQ arg5 harg5 x5 256 0 (by decide) (by decide)) (rawQ arg6 harg6 x6 256 0 (by decide) (by decide)) (rawQ arg7 harg7 x7 256 0 (by decide) (by decide)) (rawK arg8 harg8 x8 192 0 (by decide) (by decide)) (rawK arg9 harg9 x9 192 0 (by decide) (by decide))),
    qPiece 128 0 (by decide) (by decide) (blkDq (bodyRun.sl.v120 (F := F) c i arg14) (rawQ arg4 harg4 x4 128 0 (by decide) (by decide)) (rawQ arg5 harg5 x5 128 0 (by decide) (by decide)) (rawQ arg6 harg6 x6 128 0 (by decide) (by decide)) (rawQ arg7 harg7 x7 128 0 (by decide) (by decide)) (rawK arg8 harg8 x8 64 0 (by decide) (by decide)) (rawK arg9 harg9 x9 64 0 (by decide) (by decide))),
    qPiece 0 0 (by decide) (by decide) (blkDq (bodyRun.sl.v79 (F := F) c i arg14) (rawQ arg4 harg4 x4 0 0 (by decide) (by decide)) (rawQ arg5 harg5 x5 0 0 (by decide) (by decide)) (rawQ arg6 harg6 x6 0 0 (by decide) (by decide)) (rawQ arg7 harg7 x7 0 0 (by decide) (by decide)) (rawK arg8 harg8 x8 0 0 (by decide) (by decide)) (rawK arg9 harg9 x9 0 0 (by decide) (by decide)))] := rfl
/-- The key gradient's one piece: the accumulator, cast. -/
theorem dk_list : (bodyRun (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x3 x4 x5 x6 x7 x8 x9).2.1 = [outPiece (k0_pay2 (arg15.view.readCov (bodyRun.sl.H15_17 (F := F) c i arg4 harg4 arg5 harg5 arg6 harg6 arg7 harg7 arg8 harg8 arg9 harg9 arg14 arg15 x4 x5 x6 x7 x8 x9) (Rect.unit (s := S512x512) ![0, 0] S512x512.size inb_S512x512_S512x512_0_0).toLoadRect))] := rfl
/-- The value gradient's one piece: the accumulator, cast. -/
theorem dv_list : (bodyRun (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x3 x4 x5 x6 x7 x8 x9).2.2.1 = [outPiece (k0_pay3 (arg16.view.readCov (bodyRun.sl.H16_17 (F := F) c i arg4 harg4 arg5 harg5 arg6 harg6 arg7 harg7 arg8 harg8 arg9 harg9 arg14 arg16 x4 x5 x6 x7 x8 x9) (Rect.unit (s := S512x512) ![0, 0] S512x512.size inb_S512x512_S512x512_0_0).toLoadRect))] := rfl

end Run

end Cert.KernelIdeal.Hand

end
-- ==== Proof.Block16.lean ====
/-
  What one grid point leaves in the three results' blocks, over the extended reals: the gradients of the banded attention of
  one batch row, as sums over all 512 keys or queries.
-/
module

public import proofs.«01_k».proof.Proof.Pieces

@[expose] public section

set_option maxRecDepth 65536

noncomputable section

namespace Cert.KernelIdeal.Hand

open Cert.KernelIdeal Cert.KernelIdeal.Gen
open Idealize.ShloMosaic Idealize.ShloMosaic.TcCoe

/-- What query block `j` of lane block `lb` adds to an accumulator's element. -/
def contrib (T : Fin 512 → Fin 512 → Fin 512 → EReal) (lb j : Fin 4) (r c : Fin 512) : EReal :=
  if c.val / 128 = lb.val then ∑ a, T (rowOf j a) r c else 0

theorem acc_add (v : View sig .tc .vmem S512x512 .f32) (M : List (View.Piece (Elt Ideal) S512x512 .f32)) (lb j : Fin 4) (r0 c0 : ℕ) (hr : r0 ≤ 256)
    (hc : c0 ≤ 384) (off : Fin 2 → ℕ) (ho : off = ![r0, c0]) (er : r0 = ws j) (ec : c0 = 128 * lb.val) (X : FVec Ideal S256x128 .f32)
    (T : Fin 512 → Fin 512 → Fin 512 → EReal) (hX : ∀ x e, X (ix2 x e) = ∑ a, T (rowOf j a) (winOf j x) (colOf lb e))
    (hT : ∀ i r c, ¬ near i r → T i r c = 0) (r c : Fin 512) :
    (acc (F := Ideal) v (accPiece r0 c0 hr hc (accLoad v M off r0 c0 ho hr hc) X :: M) (ix2 r c) : EReal)
      = acc (F := Ideal) v M (ix2 r c) + contrib T lb j r c := by
  have hstep := acc_step (F := Ideal) v M r0 c0 hr hc off ho X r c
  rw [hstep]
  by_cases h : (r0 ≤ r.val ∧ r.val < r0 + 256) ∧ (c0 ≤ c.val ∧ c.val < c0 + 128)
  · rw [dif_pos h, hX]
    show (_ : EReal) + _ = _
    refine congrArg₂ (· + ·) rfl ?_
    rw [contrib, if_pos (by omega)]
    refine Finset.sum_congr rfl fun a _ => congrArg₂ (T (rowOf j a)) (Fin.ext ?_) (Fin.ext ?_)
    · show ws j + (r.val - r0) = r.val; omega
    · show 128 * lb.val + (c.val - c0) = c.val; omega
  · rw [dif_neg h, contrib]
    split
    · rw [Finset.sum_eq_zero, add_zero]
      intro a _
      refine hT _ _ _ fun hn => h ?_
      have hg := gap_eq j
      have hw := gap_edge j
      obtain ⟨h1, h2⟩ := hn
      simp only [rowOf] at h1 h2
      have := r.isLt; have := c.isLt; have := a.isLt
      omega
    · rw [add_zero]

/-- The sixteen blocks' contributions together: the sum over all the queries. -/
theorem contrib_total (T : Fin 512 → Fin 512 → Fin 512 → EReal) (r c : Fin 512) :
    (0 : EReal) + contrib T 0 0 r c + contrib T 0 1 r c + contrib T 0 2 r c + contrib T 0 3 r c + contrib T 1 0 r c + contrib T 1 1 r c + contrib T 1 2 r c + contrib T 1 3 r c + contrib T 2 0 r c + contrib T 2 1 r c + contrib T 2 2 r c + contrib T 2 3 r c + contrib T 3 0 r c + contrib T 3 1 r c + contrib T 3 2 r c + contrib T 3 3 r c = ∑ i, T i r c := by
  have hs : ∑ i, T i r c = ∑ a, T (rowOf 0 a) r c + ∑ a, T (rowOf 1 a) r c + ∑ a, T (rowOf 2 a) r c + ∑ a, T (rowOf 3 a) r c := by
    rw [Fin.sum_univ_tiles 4 128 rfl (fun i => T i r c), Fin.sum_univ_four]
    have e : ∀ (j : Fin 4) (a : Fin 128) (h : j.val * 128 + a.val < 512), (⟨j.val * 128 + a.val, h⟩ : Fin 512) = rowOf j a :=
      fun j a h => Fin.ext (by show j.val * 128 + a.val = 128 * j.val + a.val; omega)
    simp only [e]
  have h4 : c.val / 128 = 0 ∨ c.val / 128 = 1 ∨ c.val / 128 = 2 ∨ c.val / 128 = 3 := by omega
  have v0 : ((0 : Fin 4) : ℕ) = 0 := rfl
  have v1 : ((1 : Fin 4) : ℕ) = 1 := rfl
  have v2 : ((2 : Fin 4) : ℕ) = 2 := rfl
  have v3 : ((3 : Fin 4) : ℕ) = 3 := rfl
  rw [hs]
  rcases h4 with h | h | h | h <;>
    simp only [contrib, h, v0, v1, v2, v3, if_true, if_false, zero_add, add_zero, Nat.reduceEqDiff, one_ne_zero, zero_ne_one,
      OfNat.ofNat_ne_one, OfNat.one_ne_ofNat, OfNat.ofNat_ne_zero, OfNat.zero_ne_ofNat, reduceCtorEq]

/-- A block's pieces that all agree with one function of the index leave that function. -/
theorem read_of_agree (v : View sig .tc .vmem S1x512x512 .bf16) (f : S1x512x512.Idx → Elt Ideal .bf16) (y : S1x512x512.Idx) :
    ∀ M : List (View.Piece (Elt Ideal) S1x512x512 .bf16), (∀ p ∈ M, ∀ x, p.2 x = f (p.1.emb x)) → (∃ p ∈ M, y ∈ p.1.set) →
      v.read (Elt Ideal) (v.writes (Elt Ideal) v.junk M) y = f y
  | [], _, h => by obtain ⟨_, hm, _⟩ := h; exact absurd hm List.not_mem_nil
  | p :: M, hf, h => by
    by_cases hy : y ∈ p.1.set
    · obtain ⟨x, rfl⟩ : ∃ x, p.1.emb x = y := p.1.exists_idx_of_mem hy
      obtain ⟨r, w⟩ := p
      rw [View.read_writes_cons_emb]
      exact hf _ List.mem_cons_self x
    · have hL : ∃ p' ∈ M, y ∈ p'.1.set := by
        obtain ⟨p', hm, hy'⟩ := h
        rcases List.mem_cons.mp hm with rfl | hm
        · exact absurd hy' hy
        · exact ⟨p', hm, hy'⟩
      have hy' : y ∉ Finset.univ.map p.1.emb := by rwa [Rect.map_emb_univ]
      rw [View.writes_cons, View.read_slice_write_of_not_mem p.1 _ _ _ hy']
      exact read_of_agree v f y M (fun q hq => hf q (List.mem_cons_of_mem _ hq)) hL

/-! ## The targets -/

section Targets
variable (q k g v : Fin 512 → Fin 512 → EReal) (l δ : Fin 512 → Fin 8 → EReal)
/-- The query gradient's element, from the scaled queries `q`. -/
def gradQ (i c : Fin 512) : EReal := (∑ r, dscore q k g v l δ (headOf c) i r * k r c) * ((1 / 8 : ℝ) : EReal)
/-- The key gradient's element, from the scaled queries `q`. -/
def gradK (r c : Fin 512) : EReal := ∑ i, dscore q k g v l δ (headOf c) i r * q i c
/-- The value gradient's element. -/
def gradV (r c : Fin 512) : EReal := ∑ i, prob q k l (headOf c) i r * g i c
end Targets

section Point

variable (c : Dev nD) (i : grid0.Coords)
  (arg4 : Memref sig .tc .vmem S1x512x512 .bf16) (harg4 : arg4.IsWhole) (arg5 : Memref sig .tc .vmem S1x512x512 .bf16) (harg5 : arg5.IsWhole)
  (arg6 : Memref sig .tc .vmem S1x512x512 .f32) (harg6 : arg6.IsWhole) (arg7 : Memref sig .tc .vmem S1x512x512 .bf16) (harg7 : arg7.IsWhole)
  (arg8 : Memref sig .tc .vmem S1x512x512 .bf16) (harg8 : arg8.IsWhole) (arg9 : Memref sig .tc .vmem S1x512x512 .bf16) (harg9 : arg9.IsWhole)
  (arg14 : Memref sig .tc .vmem S3x256x256 .f32) (arg15 arg16 : Memref sig .tc .vmem S512x512 .f32)
  (x4 x5 : Vec Ideal S1x512x512 .bf16) (x6 : Vec Ideal S1x512x512 .f32) (x7 x8 x9 : Vec Ideal S1x512x512 .bf16)
  (l δ : Fin 512 → Fin 8 → EReal) (hl : ∀ i h d, tab x6 i (lane h d) = l i h) (hd : ∀ i h d, tab x7 i (lane h d) = δ i h)

include hl hd in
/-- The whole accumulator. -/
theorem accDk (r cc : Fin 512) : (acc (F := Ideal) arg15.view (bodyRun.sl.H15_17 (F := Ideal) c i arg4 harg4 arg5 harg5 arg6 harg6 arg7 harg7 arg8 harg8 arg9 harg9 arg14 arg15 x4 x5 x6 x7 x8 x9) (ix2 r cc) : EReal) = ∑ i, dscore (tab x4) (tab x8) (tab x5) (tab x9) l δ (headOf cc) i r * tab x4 i cc := by
  have far : ∀ i r c : Fin 512, ¬ near i r → (fun i r c => dscore (tab x4) (tab x8) (tab x5) (tab x9) l δ (headOf c) i r * tab x4 i c) i r c = 0 := by intro i r c hn; show dscore _ _ _ _ _ _ _ _ _ * _ = 0; rw [dscore_far _ _ _ _ _ _ _ _ _ hn, zero_mul]
  have e2 : (acc (F := Ideal) arg15.view (bodyRun.sl.H15_2 (F := Ideal) c i arg4 harg4 arg5 harg5 arg6 harg6 arg7 harg7 arg8 harg8 arg9 harg9 arg14 arg15 x4 x5 x6 x7 x8 x9) (ix2 r cc) : EReal) = acc (F := Ideal) arg15.view (bodyRun.sl.H15_1 (F := Ideal)) (ix2 r cc) + contrib (fun i r c => dscore (tab x4) (tab x8) (tab x5) (tab x9) l δ (headOf c) i r * tab x4 i c) 0 0 r cc := by
    rw [h15_2]
    refine acc_add _ _ 0 0 _ _ _ _ _ _ rfl rfl _ _ (fun x e => ?_) far r cc
    rw [bias_0, rawQ_eq arg4 harg4 x4 0 0 0 0 (by decide) (by decide) rfl rfl, rawQ_eq arg5 harg5 x5 0 0 0 0 (by decide) (by decide) rfl rfl, rawQ_eq arg6 harg6 x6 0 0 0 0 (by decide) (by decide) rfl rfl, rawQ_eq arg7 harg7 x7 0 0 0 0 (by decide) (by decide) rfl rfl, rawK_eq arg8 harg8 x8 0 0 0 0 (by decide) (by decide) rfl rfl, rawK_eq arg9 harg9 x9 0 0 0 0 (by decide) (by decide) rfl rfl]
    exact blkDk_at x4 x5 x7 x8 x9 x6 l δ hl hd 0 0 x e
  have e3 : (acc (F := Ideal) arg15.view (bodyRun.sl.H15_3 (F := Ideal) c i arg4 harg4 arg5 harg5 arg6 harg6 arg7 harg7 arg8 harg8 arg9 harg9 arg14 arg15 x4 x5 x6 x7 x8 x9) (ix2 r cc) : EReal) = acc (F := Ideal) arg15.view (bodyRun.sl.H15_2 (F := Ideal) c i arg4 harg4 arg5 harg5 arg6 harg6 arg7 harg7 arg8 harg8 arg9 harg9 arg14 arg15 x4 x5 x6 x7 x8 x9) (ix2 r cc) + contrib (fun i r c => dscore (tab x4) (tab x8) (tab x5) (tab x9) l δ (headOf c) i r * tab x4 i c) 0 1 r cc := by
    rw [h15_3]
    refine acc_add _ _ 0 1 _ _ _ _ _ _ rfl rfl _ _ (fun x e => ?_) far r cc
    rw [bias_1, rawQ_eq arg4 harg4 x4 0 1 128 0 (by decide) (by decide) rfl rfl, rawQ_eq arg5 harg5 x5 0 1 128 0 (by decide) (by decide) rfl rfl, rawQ_eq arg6 harg6 x6 0 1 128 0 (by decide) (by decide) rfl rfl, rawQ_eq arg7 harg7 x7 0 1 128 0 (by decide) (by decide) rfl rfl, rawK_eq arg8 harg8 x8 0 1 64 0 (by decide) (by decide) rfl rfl, rawK_eq arg9 harg9 x9 0 1 64 0 (by decide) (by decide) rfl rfl]
    exact blkDk_at x4 x5 x7 x8 x9 x6 l δ hl hd 0 1 x e
  have e4 : (acc (F := Ideal) arg15.view (bodyRun.sl.H15_4 (F := Ideal) c i arg4 harg4 arg5 harg5 arg6 harg6 arg7 harg7 arg8 harg8 arg9 harg9 arg14 arg15 x4 x5 x6 x7 x8 x9) (ix2 r cc) : EReal) = acc (F := Ideal) arg15.view (bodyRun.sl.H15_3 (F := Ideal) c i arg4 harg4 arg5 harg5 arg6 harg6 arg7 harg7 arg8 harg8 arg9 harg9 arg14 arg15 x4 x5 x6 x7 x8 x9) (ix2 r cc) + contrib (fun i r c => dscore (tab x4) (tab x8) (tab x5) (tab x9) l δ (headOf c) i r * tab x4 i c) 0 2 r cc := by
    rw [h15_4]
    refine acc_add _ _ 0 2 _ _ _ _ _ _ rfl rfl _ _ (fun x e => ?_) far r cc
    rw [bias_2, rawQ_eq arg4 harg4 x4 0 2 256 0 (by decide) (by decide) rfl rfl, rawQ_eq arg5 harg5 x5 0 2 256 0 (by decide) (by decide) rfl rfl, rawQ_eq arg6 harg6 x6 0 2 256 0 (by decide) (by decide) rfl rfl, rawQ_eq arg7 harg7 x7 0 2 256 0 (by decide) (by decide) rfl rfl, rawK_eq arg8 harg8 x8 0 2 192 0 (by decide) (by decide) rfl rfl, rawK_eq arg9 harg9 x9 0 2 192 0 (by decide) (by decide) rfl rfl]
    exact blkDk_at x4 x5 x7 x8 x9 x6 l δ hl hd 0 2 x e
  have e5 : (acc (F := Ideal) arg15.view (bodyRun.sl.H15_5 (F := Ideal) c i arg4 harg4 arg5 harg5 arg6 harg6 arg7 harg7 arg8 harg8 arg9 harg9 arg14 arg15 x4 x5 x6 x7 x8 x9) (ix2 r cc) : EReal) = acc (F := Ideal) arg15.view (bodyRun.sl.H15_4 (F := Ideal) c i arg4 harg4 arg5 harg5 arg6 harg6 arg7 harg7 arg8 harg8 arg9 harg9 arg14 arg15 x4 x5 x6 x7 x8 x9) (ix2 r cc) + contrib (fun i r c => dscore (tab x4) (tab x8) (tab x5) (tab x9) l δ (headOf c) i r * tab x4 i c) 0 3 r cc := by
    rw [h15_5]
    refine acc_add _ _ 0 3 _ _ _ _ _ _ rfl rfl _ _ (fun x e => ?_) far r cc
    rw [bias_3, rawQ_eq arg4 harg4 x4 0 3 384 0 (by decide) (by decide) rfl rfl, rawQ_eq arg5 harg5 x5 0 3 384 0 (by decide) (by decide) rfl rfl, rawQ_eq arg6 harg6 x6 0 3 384 0 (by decide) (by decide) rfl rfl, rawQ_eq arg7 harg7 x7 0 3 384 0 (by decide) (by decide) rfl rfl, rawK_eq arg8 harg8 x8 0 3 256 0 (by decide) (by decide) rfl rfl, rawK_eq arg9 harg9 x9 0 3 256 0 (by decide) (by decide) rfl rfl]
    exact blkDk_at x4 x5 x7 x8 x9 x6 l δ hl hd 0 3 x e
  have e6 : (acc (F := Ideal) arg15.view (bodyRun.sl.H15_6 (F := Ideal) c i arg4 harg4 arg5 harg5 arg6 harg6 arg7 harg7 arg8 harg8 arg9 harg9 arg14 arg15 x4 x5 x6 x7 x8 x9) (ix2 r cc) : EReal) = acc (F := Ideal) arg15.view (bodyRun.sl.H15_5 (F := Ideal) c i arg4 harg4 arg5 harg5 arg6 harg6 arg7 harg7 arg8 harg8 arg9 harg9 arg14 arg15 x4 x5 x6 x7 x8 x9) (ix2 r cc) + contrib (fun i r c => dscore (tab x4) (tab x8) (tab x5) (tab x9) l δ (headOf c) i r * tab x4 i c) 1 0 r cc := by
    rw [h15_6]
    refine acc_add _ _ 1 0 _ _ _ _ _ _ rfl rfl _ _ (fun x e => ?_) far r cc
    rw [bias_0, rawQ_eq arg4 harg4 x4 1 0 0 128 (by decide) (by decide) rfl rfl, rawQ_eq arg5 harg5 x5 1 0 0 128 (by decide) (by decide) rfl rfl, rawQ_eq arg6 harg6 x6 1 0 0 128 (by decide) (by decide) rfl rfl, rawQ_eq arg7 harg7 x7 1 0 0 128 (by decide) (by decide) rfl rfl, rawK_eq arg8 harg8 x8 1 0 0 128 (by decide) (by decide) rfl rfl, rawK_eq arg9 harg9 x9 1 0 0 128 (by decide) (by decide) rfl rfl]
    exact blkDk_at x4 x5 x7 x8 x9 x6 l δ hl hd 1 0 x e
  have e7 : (acc (F := Ideal) arg15.view (bodyRun.sl.H15_7 (F := Ideal) c i arg4 harg4 arg5 harg5 arg6 harg6 arg7 harg7 arg8 harg8 arg9 harg9 arg14 arg15 x4 x5 x6 x7 x8 x9) (ix2 r cc) : EReal) = acc (F := Ideal) arg15.view (bodyRun.sl.H15_6 (F := Ideal) c i arg4 harg4 arg5 harg5 arg6 harg6 arg7 harg7 arg8 harg8 arg9 harg9 arg14 arg15 x4 x5 x6 x7 x8 x9) (ix2 r cc) + contrib (fun i r c => dscore (tab x4) (tab x8) (tab x5) (tab x9) l δ (headOf c) i r * tab x4 i c) 1 1 r cc := by
    rw [h15_7]
    refine acc_add _ _ 1 1 _ _ _ _ _ _ rfl rfl _ _ (fun x e => ?_) far r cc
    rw [bias_1, rawQ_eq arg4 harg4 x4 1 1 128 128 (by decide) (by decide) rfl rfl, rawQ_eq arg5 harg5 x5 1 1 128 128 (by decide) (by decide) rfl rfl, rawQ_eq arg6 harg6 x6 1 1 128 128 (by decide) (by decide) rfl rfl, rawQ_eq arg7 harg7 x7 1 1 128 128 (by decide) (by decide) rfl rfl, rawK_eq arg8 harg8 x8 1 1 64 128 (by decide) (by decide) rfl rfl, rawK_eq arg9 harg9 x9 1 1 64 128 (by decide) (by decide) rfl rfl]
    exact blkDk_at x4 x5 x7 x8 x9 x6 l δ hl hd 1 1 x e
  have e8 : (acc (F := Ideal) arg15.view (bodyRun.sl.H15_8 (F := Ideal) c i arg4 harg4 arg5 harg5 arg6 harg6 arg7 harg7 arg8 harg8 arg9 harg9 arg14 arg15 x4 x5 x6 x7 x8 x9) (ix2 r cc) : EReal) = acc (F := Ideal) arg15.view (bodyRun.sl.H15_7 (F := Ideal) c i arg4 harg4 arg5 harg5 arg6 harg6 arg7 harg7 arg8 harg8 arg9 harg9 arg14 arg15 x4 x5 x6 x7 x8 x9) (ix2 r cc) + contrib (fun i r c => dscore (tab x4) (tab x8) (tab x5) (tab x9) l δ (headOf c) i r * tab x4 i c) 1 2 r cc := by
    rw [h15_8]
    refine acc_add _ _ 1 2 _ _ _ _ _ _ rfl rfl _ _ (fun x e => ?_) far r cc
    rw [bias_2, rawQ_eq arg4 harg4 x4 1 2 256 128 (by decide) (by decide) rfl rfl, rawQ_eq arg5 harg5 x5 1 2 256 128 (by decide) (by decide) rfl rfl, rawQ_eq arg6 harg6 x6 1 2 256 128 (by decide) (by decide) rfl rfl, rawQ_eq arg7 harg7 x7 1 2 256 128 (by decide) (by decide) rfl rfl, rawK_eq arg8 harg8 x8 1 2 192 128 (by decide) (by decide) rfl rfl, rawK_eq arg9 harg9 x9 1 2 192 128 (by decide) (by decide) rfl rfl]
    exact blkDk_at x4 x5 x7 x8 x9 x6 l δ hl hd 1 2 x e
  have e9 : (acc (F := Ideal) arg15.view (bodyRun.sl.H15_9 (F := Ideal) c i arg4 harg4 arg5 harg5 arg6 harg6 arg7 harg7 arg8 harg8 arg9 harg9 arg14 arg15 x4 x5 x6 x7 x8 x9) (ix2 r cc) : EReal) = acc (F := Ideal) arg15.view (bodyRun.sl.H15_8 (F := Ideal) c i arg4 harg4 arg5 harg5 arg6 harg6 arg7 harg7 arg8 harg8 arg9 harg9 arg14 arg15 x4 x5 x6 x7 x8 x9) (ix2 r cc) + contrib (fun i r c => dscore (tab x4) (tab x8) (tab x5) (tab x9) l δ (headOf c) i r * tab x4 i c) 1 3 r cc := by
    rw [h15_9]
    refine acc_add _ _ 1 3 _ _ _ _ _ _ rfl rfl _ _ (fun x e => ?_) far r cc
    rw [bias_3, rawQ_eq arg4 harg4 x4 1 3 384 128 (by decide) (by decide) rfl rfl, rawQ_eq arg5 harg5 x5 1 3 384 128 (by decide) (by decide) rfl rfl, rawQ_eq arg6 harg6 x6 1 3 384 128 (by decide) (by decide) rfl rfl, rawQ_eq arg7 harg7 x7 1 3 384 128 (by decide) (by decide) rfl rfl, rawK_eq arg8 harg8 x8 1 3 256 128 (by decide) (by decide) rfl rfl, rawK_eq arg9 harg9 x9 1 3 256 128 (by decide) (by decide) rfl rfl]
    exact blkDk_at x4 x5 x7 x8 x9 x6 l δ hl hd 1 3 x e
  have e10 : (acc (F := Ideal) arg15.view (bodyRun.sl.H15_10 (F := Ideal) c i arg4 harg4 arg5 harg5 arg6 harg6 arg7 harg7 arg8 harg8 arg9 harg9 arg14 arg15 x4 x5 x6 x7 x8 x9) (ix2 r cc) : EReal) = acc (F := Ideal) arg15.view (bodyRun.sl.H15_9 (F := Ideal) c i arg4 harg4 arg5 harg5 arg6 harg6 arg7 harg7 arg8 harg8 arg9 harg9 arg14 arg15 x4 x5 x6 x7 x8 x9) (ix2 r cc) + contrib (fun i r c => dscore (tab x4) (tab x8) (tab x5) (tab x9) l δ (headOf c) i r * tab x4 i c) 2 0 r cc := by
    rw [h15_10]
    refine acc_add _ _ 2 0 _ _ _ _ _ _ rfl rfl _ _ (fun x e => ?_) far r cc
    rw [bias_0, rawQ_eq arg4 harg4 x4 2 0 0 256 (by decide) (by decide) rfl rfl, rawQ_eq arg5 harg5 x5 2 0 0 256 (by decide) (by decide) rfl rfl, rawQ_eq arg6 harg6 x6 2 0 0 256 (by decide) (by decide) rfl rfl, rawQ_eq arg7 harg7 x7 2 0 0 256 (by decide) (by decide) rfl rfl, rawK_eq arg8 harg8 x8 2 0 0 256 (by decide) (by decide) rfl rfl, rawK_eq arg9 harg9 x9 2 0 0 256 (by decide) (by decide) rfl rfl]
    exact blkDk_at x4 x5 x7 x8 x9 x6 l δ hl hd 2 0 x e
  have e11 : (acc (F := Ideal) arg15.view (bodyRun.sl.H15_11 (F := Ideal) c i arg4 harg4 arg5 harg5 arg6 harg6 arg7 harg7 arg8 harg8 arg9 harg9 arg14 arg15 x4 x5 x6 x7 x8 x9) (ix2 r cc) : EReal) = acc (F := Ideal) arg15.view (bodyRun.sl.H15_10 (F := Ideal) c i arg4 harg4 arg5 harg5 arg6 harg6 arg7 harg7 arg8 harg8 arg9 harg9 arg14 arg15 x4 x5 x6 x7 x8 x9) (ix2 r cc) + contrib (fun i r c => dscore (tab x4) (tab x8) (tab x5) (tab x9) l δ (headOf c) i r * tab x4 i c) 2 1 r cc := by
    rw [h15_11]
    refine acc_add _ _ 2 1 _ _ _ _ _ _ rfl rfl _ _ (fun x e => ?_) far r cc
    rw [bias_1, rawQ_eq arg4 harg4 x4 2 1 128 256 (by decide) (by decide) rfl rfl, rawQ_eq arg5 harg5 x5 2 1 128 256 (by decide) (by decide) rfl rfl, rawQ_eq arg6 harg6 x6 2 1 128 256 (by decide) (by decide) rfl rfl, rawQ_eq arg7 harg7 x7 2 1 128 256 (by decide) (by decide) rfl rfl, rawK_eq arg8 harg8 x8 2 1 64 256 (by decide) (by decide) rfl rfl, rawK_eq arg9 harg9 x9 2 1 64 256 (by decide) (by decide) rfl rfl]
    exact blkDk_at x4 x5 x7 x8 x9 x6 l δ hl hd 2 1 x e
  have e12 : (acc (F := Ideal) arg15.view (bodyRun.sl.H15_12 (F := Ideal) c i arg4 harg4 arg5 harg5 arg6 harg6 arg7 harg7 arg8 harg8 arg9 harg9 arg14 arg15 x4 x5 x6 x7 x8 x9) (ix2 r cc) : EReal) = acc (F := Ideal) arg15.view (bodyRun.sl.H15_11 (F := Ideal) c i arg4 harg4 arg5 harg5 arg6 harg6 arg7 harg7 arg8 harg8 arg9 harg9 arg14 arg15 x4 x5 x6 x7 x8 x9) (ix2 r cc) + contrib (fun i r c => dscore (tab x4) (tab x8) (tab x5) (tab x9) l δ (headOf c) i r * tab x4 i c) 2 2 r cc := by
    rw [h15_12]
    refine acc_add _ _ 2 2 _ _ _ _ _ _ rfl rfl _ _ (fun x e => ?_) far r cc
    rw [bias_2, rawQ_eq arg4 harg4 x4 2 2 256 256 (by decide) (by decide) rfl rfl, rawQ_eq arg5 harg5 x5 2 2 256 256 (by decide) (by decide) rfl rfl, rawQ_eq arg6 harg6 x6 2 2 256 256 (by decide) (by decide) rfl rfl, rawQ_eq arg7 harg7 x7 2 2 256 256 (by decide) (by decide) rfl rfl, rawK_eq arg8 harg8 x8 2 2 192 256 (by decide) (by decide) rfl rfl, rawK_eq arg9 harg9 x9 2 2 192 256 (by decide) (by decide) rfl rfl]
    exact blkDk_at x4 x5 x7 x8 x9 x6 l δ hl hd 2 2 x e
  have e13 : (acc (F := Ideal) arg15.view (bodyRun.sl.H15_13 (F := Ideal) c i arg4 harg4 arg5 harg5 arg6 harg6 arg7 harg7 arg8 harg8 arg9 harg9 arg14 arg15 x4 x5 x6 x7 x8 x9) (ix2 r cc) : EReal) = acc (F := Ideal) arg15.view (bodyRun.sl.H15_12 (F := Ideal) c i arg4 harg4 arg5 harg5 arg6 harg6 arg7 harg7 arg8 harg8 arg9 harg9 arg14 arg15 x4 x5 x6 x7 x8 x9) (ix2 r cc) + contrib (fun i r c => dscore (tab x4) (tab x8) (tab x5) (tab x9) l δ (headOf c) i r * tab x4 i c) 2 3 r cc := by
    rw [h15_13]
    refine acc_add _ _ 2 3 _ _ _ _ _ _ rfl rfl _ _ (fun x e => ?_) far r cc
    rw [bias_3, rawQ_eq arg4 harg4 x4 2 3 384 256 (by decide) (by decide) rfl rfl, rawQ_eq arg5 harg5 x5 2 3 384 256 (by decide) (by decide) rfl rfl, rawQ_eq arg6 harg6 x6 2 3 384 256 (by decide) (by decide) rfl rfl, rawQ_eq arg7 harg7 x7 2 3 384 256 (by decide) (by decide) rfl rfl, rawK_eq arg8 harg8 x8 2 3 256 256 (by decide) (by decide) rfl rfl, rawK_eq arg9 harg9 x9 2 3 256 256 (by decide) (by decide) rfl rfl]
    exact blkDk_at x4 x5 x7 x8 x9 x6 l δ hl hd 2 3 x e
  have e14 : (acc (F := Ideal) arg15.view (bodyRun.sl.H15_14 (F := Ideal) c i arg4 harg4 arg5 harg5 arg6 harg6 arg7 harg7 arg8 harg8 arg9 harg9 arg14 arg15 x4 x5 x6 x7 x8 x9) (ix2 r cc) : EReal) = acc (F := Ideal) arg15.view (bodyRun.sl.H15_13 (F := Ideal) c i arg4 harg4 arg5 harg5 arg6 harg6 arg7 harg7 arg8 harg8 arg9 harg9 arg14 arg15 x4 x5 x6 x7 x8 x9) (ix2 r cc) + contrib (fun i r c => dscore (tab x4) (tab x8) (tab x5) (tab x9) l δ (headOf c) i r * tab x4 i c) 3 0 r cc := by
    rw [h15_14]
    refine acc_add _ _ 3 0 _ _ _ _ _ _ rfl rfl _ _ (fun x e => ?_) far r cc
    rw [bias_0, rawQ_eq arg4 harg4 x4 3 0 0 384 (by decide) (by decide) rfl rfl, rawQ_eq arg5 harg5 x5 3 0 0 384 (by decide) (by decide) rfl rfl, rawQ_eq arg6 harg6 x6 3 0 0 384 (by decide) (by decide) rfl rfl, rawQ_eq arg7 harg7 x7 3 0 0 384 (by decide) (by decide) rfl rfl, rawK_eq arg8 harg8 x8 3 0 0 384 (by decide) (by decide) rfl rfl, rawK_eq arg9 harg9 x9 3 0 0 384 (by decide) (by decide) rfl rfl]
    exact blkDk_at x4 x5 x7 x8 x9 x6 l δ hl hd 3 0 x e
  have e15 : (acc (F := Ideal) arg15.view (bodyRun.sl.H15_15 (F := Ideal) c i arg4 harg4 arg5 harg5 arg6 harg6 arg7 harg7 arg8 harg8 arg9 harg9 arg14 arg15 x4 x5 x6 x7 x8 x9) (ix2 r cc) : EReal) = acc (F := Ideal) arg15.view (bodyRun.sl.H15_14 (F := Ideal) c i arg4 harg4 arg5 harg5 arg6 harg6 arg7 harg7 arg8 harg8 arg9 harg9 arg14 arg15 x4 x5 x6 x7 x8 x9) (ix2 r cc) + contrib (fun i r c => dscore (tab x4) (tab x8) (tab x5) (tab x9) l δ (headOf c) i r * tab x4 i c) 3 1 r cc := by
    rw [h15_15]
    refine acc_add _ _ 3 1 _ _ _ _ _ _ rfl rfl _ _ (fun x e => ?_) far r cc
    rw [bias_1, rawQ_eq arg4 harg4 x4 3 1 128 384 (by decide) (by decide) rfl rfl, rawQ_eq arg5 harg5 x5 3 1 128 384 (by decide) (by decide) rfl rfl, rawQ_eq arg6 harg6 x6 3 1 128 384 (by decide) (by decide) rfl rfl, rawQ_eq arg7 harg7 x7 3 1 128 384 (by decide) (by decide) rfl rfl, rawK_eq arg8 harg8 x8 3 1 64 384 (by decide) (by decide) rfl rfl, rawK_eq arg9 harg9 x9 3 1 64 384 (by decide) (by decide) rfl rfl]
    exact blkDk_at x4 x5 x7 x8 x9 x6 l δ hl hd 3 1 x e
  have e16 : (acc (F := Ideal) arg15.view (bodyRun.sl.H15_16 (F := Ideal) c i arg4 harg4 arg5 harg5 arg6 harg6 arg7 harg7 arg8 harg8 arg9 harg9 arg14 arg15 x4 x5 x6 x7 x8 x9) (ix2 r cc) : EReal) = acc (F := Ideal) arg15.view (bodyRun.sl.H15_15 (F := Ideal) c i arg4 harg4 arg5 harg5 arg6 harg6 arg7 harg7 arg8 harg8 arg9 harg9 arg14 arg15 x4 x5 x6 x7 x8 x9) (ix2 r cc) + contrib (fun i r c => dscore (tab x4) (tab x8) (tab x5) (tab x9) l δ (headOf c) i r * tab x4 i c) 3 2 r cc := by
    rw [h15_16]
    refine acc_add _ _ 3 2 _ _ _ _ _ _ rfl rfl _ _ (fun x e => ?_) far r cc
    rw [bias_2, rawQ_eq arg4 harg4 x4 3 2 256 384 (by decide) (by decide) rfl rfl, rawQ_eq arg5 harg5 x5 3 2 256 384 (by decide) (by decide) rfl rfl, rawQ_eq arg6 harg6 x6 3 2 256 384 (by decide) (by decide) rfl rfl, rawQ_eq arg7 harg7 x7 3 2 256 384 (by decide) (by decide) rfl rfl, rawK_eq arg8 harg8 x8 3 2 192 384 (by decide) (by decide) rfl rfl, rawK_eq arg9 harg9 x9 3 2 192 384 (by decide) (by decide) rfl rfl]
    exact blkDk_at x4 x5 x7 x8 x9 x6 l δ hl hd 3 2 x e
  have e17 : (acc (F := Ideal) arg15.view (bodyRun.sl.H15_17 (F := Ideal) c i arg4 harg4 arg5 harg5 arg6 harg6 arg7 harg7 arg8 harg8 arg9 harg9 arg14 arg15 x4 x5 x6 x7 x8 x9) (ix2 r cc) : EReal) = acc (F := Ideal) arg15.view (bodyRun.sl.H15_16 (F := Ideal) c i arg4 harg4 arg5 harg5 arg6 harg6 arg7 harg7 arg8 harg8 arg9 harg9 arg14 arg15 x4 x5 x6 x7 x8 x9) (ix2 r cc) + contrib (fun i r c => dscore (tab x4) (tab x8) (tab x5) (tab x9) l δ (headOf c) i r * tab x4 i c) 3 3 r cc := by
    rw [h15_17]
    refine acc_add _ _ 3 3 _ _ _ _ _ _ rfl rfl _ _ (fun x e => ?_) far r cc
    rw [bias_3, rawQ_eq arg4 harg4 x4 3 3 384 384 (by decide) (by decide) rfl rfl, rawQ_eq arg5 harg5 x5 3 3 384 384 (by decide) (by decide) rfl rfl, rawQ_eq arg6 harg6 x6 3 3 384 384 (by decide) (by decide) rfl rfl, rawQ_eq arg7 harg7 x7 3 3 384 384 (by decide) (by decide) rfl rfl, rawK_eq arg8 harg8 x8 3 3 256 384 (by decide) (by decide) rfl rfl, rawK_eq arg9 harg9 x9 3 3 256 384 (by decide) (by decide) rfl rfl]
    exact blkDk_at x4 x5 x7 x8 x9 x6 l δ hl hd 3 3 x e
  have e1 : (acc (F := Ideal) arg15.view (bodyRun.sl.H15_1 (F := Ideal)) (ix2 r cc) : EReal) = 0 := by
    refine (View.read_writes_cons_unit_of_mem arg15.view arg15.view.junk inb_S512x512_S512x512_0_0 _ [] (ix2 r cc) (ix2 r cc) rfl
      (by intro a; fin_cases a
          · show r.val = 0 + r.val; omega
          · show cc.val = 0 + cc.val; omega)).trans ?_
    pointwise [k0_pay9]
  rw [e17, e16, e15, e14, e13, e12, e11, e10, e9, e8, e7, e6, e5, e4, e3, e2, e1]
  exact contrib_total (fun i r c => dscore (tab x4) (tab x8) (tab x5) (tab x9) l δ (headOf c) i r * tab x4 i c) r cc

include hl in
/-- The whole accumulator. -/
theorem accDv (r cc : Fin 512) : (acc (F := Ideal) arg16.view (bodyRun.sl.H16_17 (F := Ideal) c i arg4 harg4 arg5 harg5 arg6 harg6 arg7 harg7 arg8 harg8 arg9 harg9 arg14 arg16 x4 x5 x6 x7 x8 x9) (ix2 r cc) : EReal) = ∑ i, prob (tab x4) (tab x8) l (headOf cc) i r * tab x5 i cc := by
  have far : ∀ i r c : Fin 512, ¬ near i r → (fun i r c => prob (tab x4) (tab x8) l (headOf c) i r * tab x5 i c) i r c = 0 := by intro i r c hn; show prob _ _ _ _ _ _ * _ = 0; rw [prob_far _ _ _ _ _ _ hn, zero_mul]
  have e2 : (acc (F := Ideal) arg16.view (bodyRun.sl.H16_2 (F := Ideal) c i arg4 harg4 arg5 harg5 arg6 harg6 arg7 harg7 arg8 harg8 arg9 harg9 arg14 arg16 x4 x5 x6 x7 x8 x9) (ix2 r cc) : EReal) = acc (F := Ideal) arg16.view (bodyRun.sl.H16_1 (F := Ideal)) (ix2 r cc) + contrib (fun i r c => prob (tab x4) (tab x8) l (headOf c) i r * tab x5 i c) 0 0 r cc := by
    rw [h16_2]
    refine acc_add _ _ 0 0 _ _ _ _ _ _ rfl rfl _ _ (fun x e => ?_) far r cc
    rw [bias_0, rawQ_eq arg4 harg4 x4 0 0 0 0 (by decide) (by decide) rfl rfl, rawQ_eq arg5 harg5 x5 0 0 0 0 (by decide) (by decide) rfl rfl, rawQ_eq arg6 harg6 x6 0 0 0 0 (by decide) (by decide) rfl rfl, rawQ_eq arg7 harg7 x7 0 0 0 0 (by decide) (by decide) rfl rfl, rawK_eq arg8 harg8 x8 0 0 0 0 (by decide) (by decide) rfl rfl, rawK_eq arg9 harg9 x9 0 0 0 0 (by decide) (by decide) rfl rfl]
    exact blkDv_at x4 x5 x7 x8 x9 x6 l hl 0 0 x e
  have e3 : (acc (F := Ideal) arg16.view (bodyRun.sl.H16_3 (F := Ideal) c i arg4 harg4 arg5 harg5 arg6 harg6 arg7 harg7 arg8 harg8 arg9 harg9 arg14 arg16 x4 x5 x6 x7 x8 x9) (ix2 r cc) : EReal) = acc (F := Ideal) arg16.view (bodyRun.sl.H16_2 (F := Ideal) c i arg4 harg4 arg5 harg5 arg6 harg6 arg7 harg7 arg8 harg8 arg9 harg9 arg14 arg16 x4 x5 x6 x7 x8 x9) (ix2 r cc) + contrib (fun i r c => prob (tab x4) (tab x8) l (headOf c) i r * tab x5 i c) 0 1 r cc := by
    rw [h16_3]
    refine acc_add _ _ 0 1 _ _ _ _ _ _ rfl rfl _ _ (fun x e => ?_) far r cc
    rw [bias_1, rawQ_eq arg4 harg4 x4 0 1 128 0 (by decide) (by decide) rfl rfl, rawQ_eq arg5 harg5 x5 0 1 128 0 (by decide) (by decide) rfl rfl, rawQ_eq arg6 harg6 x6 0 1 128 0 (by decide) (by decide) rfl rfl, rawQ_eq arg7 harg7 x7 0 1 128 0 (by decide) (by decide) rfl rfl, rawK_eq arg8 harg8 x8 0 1 64 0 (by decide) (by decide) rfl rfl, rawK_eq arg9 harg9 x9 0 1 64 0 (by decide) (by decide) rfl rfl]
    exact blkDv_at x4 x5 x7 x8 x9 x6 l hl 0 1 x e
  have e4 : (acc (F := Ideal) arg16.view (bodyRun.sl.H16_4 (F := Ideal) c i arg4 harg4 arg5 harg5 arg6 harg6 arg7 harg7 arg8 harg8 arg9 harg9 arg14 arg16 x4 x5 x6 x7 x8 x9) (ix2 r cc) : EReal) = acc (F := Ideal) arg16.view (bodyRun.sl.H16_3 (F := Ideal) c i arg4 harg4 arg5 harg5 arg6 harg6 arg7 harg7 arg8 harg8 arg9 harg9 arg14 arg16 x4 x5 x6 x7 x8 x9) (ix2 r cc) + contrib (fun i r c => prob (tab x4) (tab x8) l (headOf c) i r * tab x5 i c) 0 2 r cc := by
    rw [h16_4]
    refine acc_add _ _ 0 2 _ _ _ _ _ _ rfl rfl _ _ (fun x e => ?_) far r cc
    rw [bias_2, rawQ_eq arg4 harg4 x4 0 2 256 0 (by decide) (by decide) rfl rfl, rawQ_eq arg5 harg5 x5 0 2 256 0 (by decide) (by decide) rfl rfl, rawQ_eq arg6 harg6 x6 0 2 256 0 (by decide) (by decide) rfl rfl, rawQ_eq arg7 harg7 x7 0 2 256 0 (by decide) (by decide) rfl rfl, rawK_eq arg8 harg8 x8 0 2 192 0 (by decide) (by decide) rfl rfl, rawK_eq arg9 harg9 x9 0 2 192 0 (by decide) (by decide) rfl rfl]
    exact blkDv_at x4 x5 x7 x8 x9 x6 l hl 0 2 x e
  have e5 : (acc (F := Ideal) arg16.view (bodyRun.sl.H16_5 (F := Ideal) c i arg4 harg4 arg5 harg5 arg6 harg6 arg7 harg7 arg8 harg8 arg9 harg9 arg14 arg16 x4 x5 x6 x7 x8 x9) (ix2 r cc) : EReal) = acc (F := Ideal) arg16.view (bodyRun.sl.H16_4 (F := Ideal) c i arg4 harg4 arg5 harg5 arg6 harg6 arg7 harg7 arg8 harg8 arg9 harg9 arg14 arg16 x4 x5 x6 x7 x8 x9) (ix2 r cc) + contrib (fun i r c => prob (tab x4) (tab x8) l (headOf c) i r * tab x5 i c) 0 3 r cc := by
    rw [h16_5]
    refine acc_add _ _ 0 3 _ _ _ _ _ _ rfl rfl _ _ (fun x e => ?_) far r cc
    rw [bias_3, rawQ_eq arg4 harg4 x4 0 3 384 0 (by decide) (by decide) rfl rfl, rawQ_eq arg5 harg5 x5 0 3 384 0 (by decide) (by decide) rfl rfl, rawQ_eq arg6 harg6 x6 0 3 384 0 (by decide) (by decide) rfl rfl, rawQ_eq arg7 harg7 x7 0 3 384 0 (by decide) (by decide) rfl rfl, rawK_eq arg8 harg8 x8 0 3 256 0 (by decide) (by decide) rfl rfl, rawK_eq arg9 harg9 x9 0 3 256 0 (by decide) (by decide) rfl rfl]
    exact blkDv_at x4 x5 x7 x8 x9 x6 l hl 0 3 x e
  have e6 : (acc (F := Ideal) arg16.view (bodyRun.sl.H16_6 (F := Ideal) c i arg4 harg4 arg5 harg5 arg6 harg6 arg7 harg7 arg8 harg8 arg9 harg9 arg14 arg16 x4 x5 x6 x7 x8 x9) (ix2 r cc) : EReal) = acc (F := Ideal) arg16.view (bodyRun.sl.H16_5 (F := Ideal) c i arg4 harg4 arg5 harg5 arg6 harg6 arg7 harg7 arg8 harg8 arg9 harg9 arg14 arg16 x4 x5 x6 x7 x8 x9) (ix2 r cc) + contrib (fun i r c => prob (tab x4) (tab x8) l (headOf c) i r * tab x5 i c) 1 0 r cc := by
    rw [h16_6]
    refine acc_add _ _ 1 0 _ _ _ _ _ _ rfl rfl _ _ (fun x e => ?_) far r cc
    rw [bias_0, rawQ_eq arg4 harg4 x4 1 0 0 128 (by decide) (by decide) rfl rfl, rawQ_eq arg5 harg5 x5 1 0 0 128 (by decide) (by decide) rfl rfl, rawQ_eq arg6 harg6 x6 1 0 0 128 (by decide) (by decide) rfl rfl, rawQ_eq arg7 harg7 x7 1 0 0 128 (by decide) (by decide) rfl rfl, rawK_eq arg8 harg8 x8 1 0 0 128 (by decide) (by decide) rfl rfl, rawK_eq arg9 harg9 x9 1 0 0 128 (by decide) (by decide) rfl rfl]
    exact blkDv_at x4 x5 x7 x8 x9 x6 l hl 1 0 x e
  have e7 : (acc (F := Ideal) arg16.view (bodyRun.sl.H16_7 (F := Ideal) c i arg4 harg4 arg5 harg5 arg6 harg6 arg7 harg7 arg8 harg8 arg9 harg9 arg14 arg16 x4 x5 x6 x7 x8 x9) (ix2 r cc) : EReal) = acc (F := Ideal) arg16.view (bodyRun.sl.H16_6 (F := Ideal) c i arg4 harg4 arg5 harg5 arg6 harg6 arg7 harg7 arg8 harg8 arg9 harg9 arg14 arg16 x4 x5 x6 x7 x8 x9) (ix2 r cc) + contrib (fun i r c => prob (tab x4) (tab x8) l (headOf c) i r * tab x5 i c) 1 1 r cc := by
    rw [h16_7]
    refine acc_add _ _ 1 1 _ _ _ _ _ _ rfl rfl _ _ (fun x e => ?_) far r cc
    rw [bias_1, rawQ_eq arg4 harg4 x4 1 1 128 128 (by decide) (by decide) rfl rfl, rawQ_eq arg5 harg5 x5 1 1 128 128 (by decide) (by decide) rfl rfl, rawQ_eq arg6 harg6 x6 1 1 128 128 (by decide) (by decide) rfl rfl, rawQ_eq arg7 harg7 x7 1 1 128 128 (by decide) (by decide) rfl rfl, rawK_eq arg8 harg8 x8 1 1 64 128 (by decide) (by decide) rfl rfl, rawK_eq arg9 harg9 x9 1 1 64 128 (by decide) (by decide) rfl rfl]
    exact blkDv_at x4 x5 x7 x8 x9 x6 l hl 1 1 x e
  have e8 : (acc (F := Ideal) arg16.view (bodyRun.sl.H16_8 (F := Ideal) c i arg4 harg4 arg5 harg5 arg6 harg6 arg7 harg7 arg8 harg8 arg9 harg9 arg14 arg16 x4 x5 x6 x7 x8 x9) (ix2 r cc) : EReal) = acc (F := Ideal) arg16.view (bodyRun.sl.H16_7 (F := Ideal) c i arg4 harg4 arg5 harg5 arg6 harg6 arg7 harg7 arg8 harg8 arg9 harg9 arg14 arg16 x4 x5 x6 x7 x8 x9) (ix2 r cc) + contrib (fun i r c => prob (tab x4) (tab x8) l (headOf c) i r * tab x5 i c) 1 2 r cc := by
    rw [h16_8]
    refine acc_add _ _ 1 2 _ _ _ _ _ _ rfl rfl _ _ (fun x e => ?_) far r cc
    rw [bias_2, rawQ_eq arg4 harg4 x4 1 2 256 128 (by decide) (by decide) rfl rfl, rawQ_eq arg5 harg5 x5 1 2 256 128 (by decide) (by decide) rfl rfl, rawQ_eq arg6 harg6 x6 1 2 256 128 (by decide) (by decide) rfl rfl, rawQ_eq arg7 harg7 x7 1 2 256 128 (by decide) (by decide) rfl rfl, rawK_eq arg8 harg8 x8 1 2 192 128 (by decide) (by decide) rfl rfl, rawK_eq arg9 harg9 x9 1 2 192 128 (by decide) (by decide) rfl rfl]
    exact blkDv_at x4 x5 x7 x8 x9 x6 l hl 1 2 x e
  have e9 : (acc (F := Ideal) arg16.view (bodyRun.sl.H16_9 (F := Ideal) c i arg4 harg4 arg5 harg5 arg6 harg6 arg7 harg7 arg8 harg8 arg9 harg9 arg14 arg16 x4 x5 x6 x7 x8 x9) (ix2 r cc) : EReal) = acc (F := Ideal) arg16.view (bodyRun.sl.H16_8 (F := Ideal) c i arg4 harg4 arg5 harg5 arg6 harg6 arg7 harg7 arg8 harg8 arg9 harg9 arg14 arg16 x4 x5 x6 x7 x8 x9) (ix2 r cc) + contrib (fun i r c => prob (tab x4) (tab x8) l (headOf c) i r * tab x5 i c) 1 3 r cc := by
    rw [h16_9]
    refine acc_add _ _ 1 3 _ _ _ _ _ _ rfl rfl _ _ (fun x e => ?_) far r cc
    rw [bias_3, rawQ_eq arg4 harg4 x4 1 3 384 128 (by decide) (by decide) rfl rfl, rawQ_eq arg5 harg5 x5 1 3 384 128 (by decide) (by decide) rfl rfl, rawQ_eq arg6 harg6 x6 1 3 384 128 (by decide) (by decide) rfl rfl, rawQ_eq arg7 harg7 x7 1 3 384 128 (by decide) (by decide) rfl rfl, rawK_eq arg8 harg8 x8 1 3 256 128 (by decide) (by decide) rfl rfl, rawK_eq arg9 harg9 x9 1 3 256 128 (by decide) (by decide) rfl rfl]
    exact blkDv_at x4 x5 x7 x8 x9 x6 l hl 1 3 x e
  have e10 : (acc (F := Ideal) arg16.view (bodyRun.sl.H16_10 (F := Ideal) c i arg4 harg4 arg5 harg5 arg6 harg6 arg7 harg7 arg8 harg8 arg9 harg9 arg14 arg16 x4 x5 x6 x7 x8 x9) (ix2 r cc) : EReal) = acc (F := Ideal) arg16.view (bodyRun.sl.H16_9 (F := Ideal) c i arg4 harg4 arg5 harg5 arg6 harg6 arg7 harg7 arg8 harg8 arg9 harg9 arg14 arg16 x4 x5 x6 x7 x8 x9) (ix2 r cc) + contrib (fun i r c => prob (tab x4) (tab x8) l (headOf c) i r * tab x5 i c) 2 0 r cc := by
    rw [h16_10]
    refine acc_add _ _ 2 0 _ _ _ _ _ _ rfl rfl _ _ (fun x e => ?_) far r cc
    rw [bias_0, rawQ_eq arg4 harg4 x4 2 0 0 256 (by decide) (by decide) rfl rfl, rawQ_eq arg5 harg5 x5 2 0 0 256 (by decide) (by decide) rfl rfl, rawQ_eq arg6 harg6 x6 2 0 0 256 (by decide) (by decide) rfl rfl, rawQ_eq arg7 harg7 x7 2 0 0 256 (by decide) (by decide) rfl rfl, rawK_eq arg8 harg8 x8 2 0 0 256 (by decide) (by decide) rfl rfl, rawK_eq arg9 harg9 x9 2 0 0 256 (by decide) (by decide) rfl rfl]
    exact blkDv_at x4 x5 x7 x8 x9 x6 l hl 2 0 x e
  have e11 : (acc (F := Ideal) arg16.view (bodyRun.sl.H16_11 (F := Ideal) c i arg4 harg4 arg5 harg5 arg6 harg6 arg7 harg7 arg8 harg8 arg9 harg9 arg14 arg16 x4 x5 x6 x7 x8 x9) (ix2 r cc) : EReal) = acc (F := Ideal) arg16.view (bodyRun.sl.H16_10 (F := Ideal) c i arg4 harg4 arg5 harg5 arg6 harg6 arg7 harg7 arg8 harg8 arg9 harg9 arg14 arg16 x4 x5 x6 x7 x8 x9) (ix2 r cc) + contrib (fun i r c => prob (tab x4) (tab x8) l (headOf c) i r * tab x5 i c) 2 1 r cc := by
    rw [h16_11]
    refine acc_add _ _ 2 1 _ _ _ _ _ _ rfl rfl _ _ (fun x e => ?_) far r cc
    rw [bias_1, rawQ_eq arg4 harg4 x4 2 1 128 256 (by decide) (by decide) rfl rfl, rawQ_eq arg5 harg5 x5 2 1 128 256 (by decide) (by decide) rfl rfl, rawQ_eq arg6 harg6 x6 2 1 128 256 (by decide) (by decide) rfl rfl, rawQ_eq arg7 harg7 x7 2 1 128 256 (by decide) (by decide) rfl rfl, rawK_eq arg8 harg8 x8 2 1 64 256 (by decide) (by decide) rfl rfl, rawK_eq arg9 harg9 x9 2 1 64 256 (by decide) (by decide) rfl rfl]
    exact blkDv_at x4 x5 x7 x8 x9 x6 l hl 2 1 x e
  have e12 : (acc (F := Ideal) arg16.view (bodyRun.sl.H16_12 (F := Ideal) c i arg4 harg4 arg5 harg5 arg6 harg6 arg7 harg7 arg8 harg8 arg9 harg9 arg14 arg16 x4 x5 x6 x7 x8 x9) (ix2 r cc) : EReal) = acc (F := Ideal) arg16.view (bodyRun.sl.H16_11 (F := Ideal) c i arg4 harg4 arg5 harg5 arg6 harg6 arg7 harg7 arg8 harg8 arg9 harg9 arg14 arg16 x4 x5 x6 x7 x8 x9) (ix2 r cc) + contrib (fun i r c => prob (tab x4) (tab x8) l (headOf c) i r * tab x5 i c) 2 2 r cc := by
    rw [h16_12]
    refine acc_add _ _ 2 2 _ _ _ _ _ _ rfl rfl _ _ (fun x e => ?_) far r cc
    rw [bias_2, rawQ_eq arg4 harg4 x4 2 2 256 256 (by decide) (by decide) rfl rfl, rawQ_eq arg5 harg5 x5 2 2 256 256 (by decide) (by decide) rfl rfl, rawQ_eq arg6 harg6 x6 2 2 256 256 (by decide) (by decide) rfl rfl, rawQ_eq arg7 harg7 x7 2 2 256 256 (by decide) (by decide) rfl rfl, rawK_eq arg8 harg8 x8 2 2 192 256 (by decide) (by decide) rfl rfl, rawK_eq arg9 harg9 x9 2 2 192 256 (by decide) (by decide) rfl rfl]
    exact blkDv_at x4 x5 x7 x8 x9 x6 l hl 2 2 x e
  have e13 : (acc (F := Ideal) arg16.view (bodyRun.sl.H16_13 (F := Ideal) c i arg4 harg4 arg5 harg5 arg6 harg6 arg7 harg7 arg8 harg8 arg9 harg9 arg14 arg16 x4 x5 x6 x7 x8 x9) (ix2 r cc) : EReal) = acc (F := Ideal) arg16.view (bodyRun.sl.H16_12 (F := Ideal) c i arg4 harg4 arg5 harg5 arg6 harg6 arg7 harg7 arg8 harg8 arg9 harg9 arg14 arg16 x4 x5 x6 x7 x8 x9) (ix2 r cc) + contrib (fun i r c => prob (tab x4) (tab x8) l (headOf c) i r * tab x5 i c) 2 3 r cc := by
    rw [h16_13]
    refine acc_add _ _ 2 3 _ _ _ _ _ _ rfl rfl _ _ (fun x e => ?_) far r cc
    rw [bias_3, rawQ_eq arg4 harg4 x4 2 3 384 256 (by decide) (by decide) rfl rfl, rawQ_eq arg5 harg5 x5 2 3 384 256 (by decide) (by decide) rfl rfl, rawQ_eq arg6 harg6 x6 2 3 384 256 (by decide) (by decide) rfl rfl, rawQ_eq arg7 harg7 x7 2 3 384 256 (by decide) (by decide) rfl rfl, rawK_eq arg8 harg8 x8 2 3 256 256 (by decide) (by decide) rfl rfl, rawK_eq arg9 harg9 x9 2 3 256 256 (by decide) (by decide) rfl rfl]
    exact blkDv_at x4 x5 x7 x8 x9 x6 l hl 2 3 x e
  have e14 : (acc (F := Ideal) arg16.view (bodyRun.sl.H16_14 (F := Ideal) c i arg4 harg4 arg5 harg5 arg6 harg6 arg7 harg7 arg8 harg8 arg9 harg9 arg14 arg16 x4 x5 x6 x7 x8 x9) (ix2 r cc) : EReal) = acc (F := Ideal) arg16.view (bodyRun.sl.H16_13 (F := Ideal) c i arg4 harg4 arg5 harg5 arg6 harg6 arg7 harg7 arg8 harg8 arg9 harg9 arg14 arg16 x4 x5 x6 x7 x8 x9) (ix2 r cc) + contrib (fun i r c => prob (tab x4) (tab x8) l (headOf c) i r * tab x5 i c) 3 0 r cc := by
    rw [h16_14]
    refine acc_add _ _ 3 0 _ _ _ _ _ _ rfl rfl _ _ (fun x e => ?_) far r cc
    rw [bias_0, rawQ_eq arg4 harg4 x4 3 0 0 384 (by decide) (by decide) rfl rfl, rawQ_eq arg5 harg5 x5 3 0 0 384 (by decide) (by decide) rfl rfl, rawQ_eq arg6 harg6 x6 3 0 0 384 (by decide) (by decide) rfl rfl, rawQ_eq arg7 harg7 x7 3 0 0 384 (by decide) (by decide) rfl rfl, rawK_eq arg8 harg8 x8 3 0 0 384 (by decide) (by decide) rfl rfl, rawK_eq arg9 harg9 x9 3 0 0 384 (by decide) (by decide) rfl rfl]
    exact blkDv_at x4 x5 x7 x8 x9 x6 l hl 3 0 x e
  have e15 : (acc (F := Ideal) arg16.view (bodyRun.sl.H16_15 (F := Ideal) c i arg4 harg4 arg5 harg5 arg6 harg6 arg7 harg7 arg8 harg8 arg9 harg9 arg14 arg16 x4 x5 x6 x7 x8 x9) (ix2 r cc) : EReal) = acc (F := Ideal) arg16.view (bodyRun.sl.H16_14 (F := Ideal) c i arg4 harg4 arg5 harg5 arg6 harg6 arg7 harg7 arg8 harg8 arg9 harg9 arg14 arg16 x4 x5 x6 x7 x8 x9) (ix2 r cc) + contrib (fun i r c => prob (tab x4) (tab x8) l (headOf c) i r * tab x5 i c) 3 1 r cc := by
    rw [h16_15]
    refine acc_add _ _ 3 1 _ _ _ _ _ _ rfl rfl _ _ (fun x e => ?_) far r cc
    rw [bias_1, rawQ_eq arg4 harg4 x4 3 1 128 384 (by decide) (by decide) rfl rfl, rawQ_eq arg5 harg5 x5 3 1 128 384 (by decide) (by decide) rfl rfl, rawQ_eq arg6 harg6 x6 3 1 128 384 (by decide) (by decide) rfl rfl, rawQ_eq arg7 harg7 x7 3 1 128 384 (by decide) (by decide) rfl rfl, rawK_eq arg8 harg8 x8 3 1 64 384 (by decide) (by decide) rfl rfl, rawK_eq arg9 harg9 x9 3 1 64 384 (by decide) (by decide) rfl rfl]
    exact blkDv_at x4 x5 x7 x8 x9 x6 l hl 3 1 x e
  have e16 : (acc (F := Ideal) arg16.view (bodyRun.sl.H16_16 (F := Ideal) c i arg4 harg4 arg5 harg5 arg6 harg6 arg7 harg7 arg8 harg8 arg9 harg9 arg14 arg16 x4 x5 x6 x7 x8 x9) (ix2 r cc) : EReal) = acc (F := Ideal) arg16.view (bodyRun.sl.H16_15 (F := Ideal) c i arg4 harg4 arg5 harg5 arg6 harg6 arg7 harg7 arg8 harg8 arg9 harg9 arg14 arg16 x4 x5 x6 x7 x8 x9) (ix2 r cc) + contrib (fun i r c => prob (tab x4) (tab x8) l (headOf c) i r * tab x5 i c) 3 2 r cc := by
    rw [h16_16]
    refine acc_add _ _ 3 2 _ _ _ _ _ _ rfl rfl _ _ (fun x e => ?_) far r cc
    rw [bias_2, rawQ_eq arg4 harg4 x4 3 2 256 384 (by decide) (by decide) rfl rfl, rawQ_eq arg5 harg5 x5 3 2 256 384 (by decide) (by decide) rfl rfl, rawQ_eq arg6 harg6 x6 3 2 256 384 (by decide) (by decide) rfl rfl, rawQ_eq arg7 harg7 x7 3 2 256 384 (by decide) (by decide) rfl rfl, rawK_eq arg8 harg8 x8 3 2 192 384 (by decide) (by decide) rfl rfl, rawK_eq arg9 harg9 x9 3 2 192 384 (by decide) (by decide) rfl rfl]
    exact blkDv_at x4 x5 x7 x8 x9 x6 l hl 3 2 x e
  have e17 : (acc (F := Ideal) arg16.view (bodyRun.sl.H16_17 (F := Ideal) c i arg4 harg4 arg5 harg5 arg6 harg6 arg7 harg7 arg8 harg8 arg9 harg9 arg14 arg16 x4 x5 x6 x7 x8 x9) (ix2 r cc) : EReal) = acc (F := Ideal) arg16.view (bodyRun.sl.H16_16 (F := Ideal) c i arg4 harg4 arg5 harg5 arg6 harg6 arg7 harg7 arg8 harg8 arg9 harg9 arg14 arg16 x4 x5 x6 x7 x8 x9) (ix2 r cc) + contrib (fun i r c => prob (tab x4) (tab x8) l (headOf c) i r * tab x5 i c) 3 3 r cc := by
    rw [h16_17]
    refine acc_add _ _ 3 3 _ _ _ _ _ _ rfl rfl _ _ (fun x e => ?_) far r cc
    rw [bias_3, rawQ_eq arg4 harg4 x4 3 3 384 384 (by decide) (by decide) rfl rfl, rawQ_eq arg5 harg5 x5 3 3 384 384 (by decide) (by decide) rfl rfl, rawQ_eq arg6 harg6 x6 3 3 384 384 (by decide) (by decide) rfl rfl, rawQ_eq arg7 harg7 x7 3 3 384 384 (by decide) (by decide) rfl rfl, rawK_eq arg8 harg8 x8 3 3 256 384 (by decide) (by decide) rfl rfl, rawK_eq arg9 harg9 x9 3 3 256 384 (by decide) (by decide) rfl rfl]
    exact blkDv_at x4 x5 x7 x8 x9 x6 l hl 3 3 x e
  have e1 : (acc (F := Ideal) arg16.view (bodyRun.sl.H16_1 (F := Ideal)) (ix2 r cc) : EReal) = 0 := by
    refine (View.read_writes_cons_unit_of_mem arg16.view arg16.view.junk inb_S512x512_S512x512_0_0 _ [] (ix2 r cc) (ix2 r cc) rfl
      (by intro a; fin_cases a
          · show r.val = 0 + r.val; omega
          · show cc.val = 0 + cc.val; omega)).trans ?_
    pointwise [k0_pay10]
  rw [e17, e16, e15, e14, e13, e12, e11, e10, e9, e8, e7, e6, e5, e4, e3, e2, e1]
  exact contrib_total (fun i r c => prob (tab x4) (tab x8) l (headOf c) i r * tab x5 i c) r cc

variable (arg3 : Memref sig .tc .smem S8 .f32) (harg3 : arg3.IsWhole) (arg10 : Memref sig .tc .vmem S1x512x512 .bf16) (harg10 : arg10.IsWhole)
  (arg11 : Memref sig .tc .vmem S1x512x512 .bf16) (harg11 : arg11.IsWhole) (arg12 : Memref sig .tc .vmem S1x512x512 .bf16) (harg12 : arg12.IsWhole)
  (arg13 : Memref sig .tc .vmem S1x1x8x128 .f32) (harg13 : arg13.IsWhole) (harg14 : arg14.IsWhole) (harg15 : arg15.IsWhole) (harg16 : arg16.IsWhole)
  (hc0 : condClear i) (hc1 : k0_cond2 i = 1#1) (x3 : Vec Ideal S8 .f32)

include hl hd in
/-- One query block's stored values agree with the target. -/
theorem q_agree (lb j : Fin 4) (r0 c0 : ℕ) (hr : r0 ≤ 384) (hc : c0 ≤ 384) (er : r0 = 128 * j.val) (ec : c0 = 128 * lb.val) (x : S1x128x128.Idx) :
    (blkDq (F := Ideal) (bLoad j) (qLoad x4 lb j) (qLoad x5 lb j) (qLoad x6 lb j) (qLoad x7 lb j) (kLoad x8 lb j) (kLoad x9 lb j) x : EReal)
      = (fun y : S1x512x512.Idx => gradQ (tab x4) (tab x8) (tab x5) (tab x9) l δ (y 1) (y 2))
          ((Rect.unit (s := S1x512x512) ![0, r0, c0] S1x128x128.size (inbQ hr hc)).emb x) := by
  idx_vars x
  have h0 : x0 = 0 := Subsingleton.elim _ _
  subst h0
  rw [blkDq_at x4 x5 x7 x8 x9 x6 l δ hl hd lb j]
  have e1 : (Rect.unit (s := S1x512x512) ![0, r0, c0] S1x128x128.size (inbQ hr hc)).emb (ix3 0 x1 x2) 1 = rowOf j x1 :=
    Fin.ext (by show r0 + 1 * x1.val = 128 * j.val + x1.val; omega)
  have e2 : (Rect.unit (s := S1x512x512) ![0, r0, c0] S1x128x128.size (inbQ hr hc)).emb (ix3 0 x1 x2) 2 = colOf lb x2 :=
    Fin.ext (by show c0 + 1 * x2.val = 128 * lb.val + x2.val; omega)
  exact (congrArg₂ (gradQ (tab x4) (tab x8) (tab x5) (tab x9) l δ) e1 e2).symm

include hl hd in
/-- The query gradient's block. -/
theorem dq_block (w : View sig .tc .vmem S1x512x512 .bf16) (y : S1x512x512.Idx) (hy : ∃ p ∈ (bodyRun (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x3 x4 x5 x6 x7 x8 x9).1, y ∈ p.1.set) :
    (w.read (Elt Ideal) (w.writes (Elt Ideal) w.junk (bodyRun (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x3 x4 x5 x6 x7 x8 x9).1) y : EReal) = gradQ (tab x4) (tab x8) (tab x5) (tab x9) l δ (y 1) (y 2) := by
  refine read_of_agree w (fun y => gradQ (tab x4) (tab x8) (tab x5) (tab x9) l δ (y 1) (y 2)) y _ ?_ hy
  rw [dq_list]
  simp only [List.forall_mem_cons]
  refine ⟨?_, ?_, ?_, ?_, ?_, ?_, ?_, ?_, ?_, ?_, ?_, ?_, ?_, ?_, ?_, ?_, fun _ h => absurd h List.not_mem_nil⟩
  · intro x
    rw [bias_3, rawQ_eq arg4 harg4 x4 3 3 384 384 (by decide) (by decide) rfl rfl, rawQ_eq arg5 harg5 x5 3 3 384 384 (by decide) (by decide) rfl rfl, rawQ_eq arg6 harg6 x6 3 3 384 384 (by decide) (by decide) rfl rfl, rawQ_eq arg7 harg7 x7 3 3 384 384 (by decide) (by decide) rfl rfl, rawK_eq arg8 harg8 x8 3 3 256 384 (by decide) (by decide) rfl rfl, rawK_eq arg9 harg9 x9 3 3 256 384 (by decide) (by decide) rfl rfl]
    exact q_agree x4 x5 x6 x7 x8 x9 l δ hl hd 3 3 384 384 (by decide) (by decide) rfl rfl x
  · intro x
    rw [bias_2, rawQ_eq arg4 harg4 x4 3 2 256 384 (by decide) (by decide) rfl rfl, rawQ_eq arg5 harg5 x5 3 2 256 384 (by decide) (by decide) rfl rfl, rawQ_eq arg6 harg6 x6 3 2 256 384 (by decide) (by decide) rfl rfl, rawQ_eq arg7 harg7 x7 3 2 256 384 (by decide) (by decide) rfl rfl, rawK_eq arg8 harg8 x8 3 2 192 384 (by decide) (by decide) rfl rfl, rawK_eq arg9 harg9 x9 3 2 192 384 (by decide) (by decide) rfl rfl]
    exact q_agree x4 x5 x6 x7 x8 x9 l δ hl hd 3 2 256 384 (by decide) (by decide) rfl rfl x
  · intro x
    rw [bias_1, rawQ_eq arg4 harg4 x4 3 1 128 384 (by decide) (by decide) rfl rfl, rawQ_eq arg5 harg5 x5 3 1 128 384 (by decide) (by decide) rfl rfl, rawQ_eq arg6 harg6 x6 3 1 128 384 (by decide) (by decide) rfl rfl, rawQ_eq arg7 harg7 x7 3 1 128 384 (by decide) (by decide) rfl rfl, rawK_eq arg8 harg8 x8 3 1 64 384 (by decide) (by decide) rfl rfl, rawK_eq arg9 harg9 x9 3 1 64 384 (by decide) (by decide) rfl rfl]
    exact q_agree x4 x5 x6 x7 x8 x9 l δ hl hd 3 1 128 384 (by decide) (by decide) rfl rfl x
  · intro x
    rw [bias_0, rawQ_eq arg4 harg4 x4 3 0 0 384 (by decide) (by decide) rfl rfl, rawQ_eq arg5 harg5 x5 3 0 0 384 (by decide) (by decide) rfl rfl, rawQ_eq arg6 harg6 x6 3 0 0 384 (by decide) (by decide) rfl rfl, rawQ_eq arg7 harg7 x7 3 0 0 384 (by decide) (by decide) rfl rfl, rawK_eq arg8 harg8 x8 3 0 0 384 (by decide) (by decide) rfl rfl, rawK_eq arg9 harg9 x9 3 0 0 384 (by decide) (by decide) rfl rfl]
    exact q_agree x4 x5 x6 x7 x8 x9 l δ hl hd 3 0 0 384 (by decide) (by decide) rfl rfl x
  · intro x
    rw [bias_3, rawQ_eq arg4 harg4 x4 2 3 384 256 (by decide) (by decide) rfl rfl, rawQ_eq arg5 harg5 x5 2 3 384 256 (by decide) (by decide) rfl rfl, rawQ_eq arg6 harg6 x6 2 3 384 256 (by decide) (by decide) rfl rfl, rawQ_eq arg7 harg7 x7 2 3 384 256 (by decide) (by decide) rfl rfl, rawK_eq arg8 harg8 x8 2 3 256 256 (by decide) (by decide) rfl rfl, rawK_eq arg9 harg9 x9 2 3 256 256 (by decide) (by decide) rfl rfl]
    exact q_agree x4 x5 x6 x7 x8 x9 l δ hl hd 2 3 384 256 (by decide) (by decide) rfl rfl x
  · intro x
    rw [bias_2, rawQ_eq arg4 harg4 x4 2 2 256 256 (by decide) (by decide) rfl rfl, rawQ_eq arg5 harg5 x5 2 2 256 256 (by decide) (by decide) rfl rfl, rawQ_eq arg6 harg6 x6 2 2 256 256 (by decide) (by decide) rfl rfl, rawQ_eq arg7 harg7 x7 2 2 256 256 (by decide) (by decide) rfl rfl, rawK_eq arg8 harg8 x8 2 2 192 256 (by decide) (by decide) rfl rfl, rawK_eq arg9 harg9 x9 2 2 192 256 (by decide) (by decide) rfl rfl]
    exact q_agree x4 x5 x6 x7 x8 x9 l δ hl hd 2 2 256 256 (by decide) (by decide) rfl rfl x
  · intro x
    rw [bias_1, rawQ_eq arg4 harg4 x4 2 1 128 256 (by decide) (by decide) rfl rfl, rawQ_eq arg5 harg5 x5 2 1 128 256 (by decide) (by decide) rfl rfl, rawQ_eq arg6 harg6 x6 2 1 128 256 (by decide) (by decide) rfl rfl, rawQ_eq arg7 harg7 x7 2 1 128 256 (by decide) (by decide) rfl rfl, rawK_eq arg8 harg8 x8 2 1 64 256 (by decide) (by decide) rfl rfl, rawK_eq arg9 harg9 x9 2 1 64 256 (by decide) (by decide) rfl rfl]
    exact q_agree x4 x5 x6 x7 x8 x9 l δ hl hd 2 1 128 256 (by decide) (by decide) rfl rfl x
  · intro x
    rw [bias_0, rawQ_eq arg4 harg4 x4 2 0 0 256 (by decide) (by decide) rfl rfl, rawQ_eq arg5 harg5 x5 2 0 0 256 (by decide) (by decide) rfl rfl, rawQ_eq arg6 harg6 x6 2 0 0 256 (by decide) (by decide) rfl rfl, rawQ_eq arg7 harg7 x7 2 0 0 256 (by decide) (by decide) rfl rfl, rawK_eq arg8 harg8 x8 2 0 0 256 (by decide) (by decide) rfl rfl, rawK_eq arg9 harg9 x9 2 0 0 256 (by decide) (by decide) rfl rfl]
    exact q_agree x4 x5 x6 x7 x8 x9 l δ hl hd 2 0 0 256 (by decide) (by decide) rfl rfl x
  · intro x
    rw [bias_3, rawQ_eq arg4 harg4 x4 1 3 384 128 (by decide) (by decide) rfl rfl, rawQ_eq arg5 harg5 x5 1 3 384 128 (by decide) (by decide) rfl rfl, rawQ_eq arg6 harg6 x6 1 3 384 128 (by decide) (by decide) rfl rfl, rawQ_eq arg7 harg7 x7 1 3 384 128 (by decide) (by decide) rfl rfl, rawK_eq arg8 harg8 x8 1 3 256 128 (by decide) (by decide) rfl rfl, rawK_eq arg9 harg9 x9 1 3 256 128 (by decide) (by decide) rfl rfl]
    exact q_agree x4 x5 x6 x7 x8 x9 l δ hl hd 1 3 384 128 (by decide) (by decide) rfl rfl x
  · intro x
    rw [bias_2, rawQ_eq arg4 harg4 x4 1 2 256 128 (by decide) (by decide) rfl rfl, rawQ_eq arg5 harg5 x5 1 2 256 128 (by decide) (by decide) rfl rfl, rawQ_eq arg6 harg6 x6 1 2 256 128 (by decide) (by decide) rfl rfl, rawQ_eq arg7 harg7 x7 1 2 256 128 (by decide) (by decide) rfl rfl, rawK_eq arg8 harg8 x8 1 2 192 128 (by decide) (by decide) rfl rfl, rawK_eq arg9 harg9 x9 1 2 192 128 (by decide) (by decide) rfl rfl]
    exact q_agree x4 x5 x6 x7 x8 x9 l δ hl hd 1 2 256 128 (by decide) (by decide) rfl rfl x
  · intro x
    rw [bias_1, rawQ_eq arg4 harg4 x4 1 1 128 128 (by decide) (by decide) rfl rfl, rawQ_eq arg5 harg5 x5 1 1 128 128 (by decide) (by decide) rfl rfl, rawQ_eq arg6 harg6 x6 1 1 128 128 (by decide) (by decide) rfl rfl, rawQ_eq arg7 harg7 x7 1 1 128 128 (by decide) (by decide) rfl rfl, rawK_eq arg8 harg8 x8 1 1 64 128 (by decide) (by decide) rfl rfl, rawK_eq arg9 harg9 x9 1 1 64 128 (by decide) (by decide) rfl rfl]
    exact q_agree x4 x5 x6 x7 x8 x9 l δ hl hd 1 1 128 128 (by decide) (by decide) rfl rfl x
  · intro x
    rw [bias_0, rawQ_eq arg4 harg4 x4 1 0 0 128 (by decide) (by decide) rfl rfl, rawQ_eq arg5 harg5 x5 1 0 0 128 (by decide) (by decide) rfl rfl, rawQ_eq arg6 harg6 x6 1 0 0 128 (by decide) (by decide) rfl rfl, rawQ_eq arg7 harg7 x7 1 0 0 128 (by decide) (by decide) rfl rfl, rawK_eq arg8 harg8 x8 1 0 0 128 (by decide) (by decide) rfl rfl, rawK_eq arg9 harg9 x9 1 0 0 128 (by decide) (by decide) rfl rfl]
    exact q_agree x4 x5 x6 x7 x8 x9 l δ hl hd 1 0 0 128 (by decide) (by decide) rfl rfl x
  · intro x
    rw [bias_3, rawQ_eq arg4 harg4 x4 0 3 384 0 (by decide) (by decide) rfl rfl, rawQ_eq arg5 harg5 x5 0 3 384 0 (by decide) (by decide) rfl rfl, rawQ_eq arg6 harg6 x6 0 3 384 0 (by decide) (by decide) rfl rfl, rawQ_eq arg7 harg7 x7 0 3 384 0 (by decide) (by decide) rfl rfl, rawK_eq arg8 harg8 x8 0 3 256 0 (by decide) (by decide) rfl rfl, rawK_eq arg9 harg9 x9 0 3 256 0 (by decide) (by decide) rfl rfl]
    exact q_agree x4 x5 x6 x7 x8 x9 l δ hl hd 0 3 384 0 (by decide) (by decide) rfl rfl x
  · intro x
    rw [bias_2, rawQ_eq arg4 harg4 x4 0 2 256 0 (by decide) (by decide) rfl rfl, rawQ_eq arg5 harg5 x5 0 2 256 0 (by decide) (by decide) rfl rfl, rawQ_eq arg6 harg6 x6 0 2 256 0 (by decide) (by decide) rfl rfl, rawQ_eq arg7 harg7 x7 0 2 256 0 (by decide) (by decide) rfl rfl, rawK_eq arg8 harg8 x8 0 2 192 0 (by decide) (by decide) rfl rfl, rawK_eq arg9 harg9 x9 0 2 192 0 (by decide) (by decide) rfl rfl]
    exact q_agree x4 x5 x6 x7 x8 x9 l δ hl hd 0 2 256 0 (by decide) (by decide) rfl rfl x
  · intro x
    rw [bias_1, rawQ_eq arg4 harg4 x4 0 1 128 0 (by decide) (by decide) rfl rfl, rawQ_eq arg5 harg5 x5 0 1 128 0 (by decide) (by decide) rfl rfl, rawQ_eq arg6 harg6 x6 0 1 128 0 (by decide) (by decide) rfl rfl, rawQ_eq arg7 harg7 x7 0 1 128 0 (by decide) (by decide) rfl rfl, rawK_eq arg8 harg8 x8 0 1 64 0 (by decide) (by decide) rfl rfl, rawK_eq arg9 harg9 x9 0 1 64 0 (by decide) (by decide) rfl rfl]
    exact q_agree x4 x5 x6 x7 x8 x9 l δ hl hd 0 1 128 0 (by decide) (by decide) rfl rfl x
  · intro x
    rw [bias_0, rawQ_eq arg4 harg4 x4 0 0 0 0 (by decide) (by decide) rfl rfl, rawQ_eq arg5 harg5 x5 0 0 0 0 (by decide) (by decide) rfl rfl, rawQ_eq arg6 harg6 x6 0 0 0 0 (by decide) (by decide) rfl rfl, rawQ_eq arg7 harg7 x7 0 0 0 0 (by decide) (by decide) rfl rfl, rawK_eq arg8 harg8 x8 0 0 0 0 (by decide) (by decide) rfl rfl, rawK_eq arg9 harg9 x9 0 0 0 0 (by decide) (by decide) rfl rfl]
    exact q_agree x4 x5 x6 x7 x8 x9 l δ hl hd 0 0 0 0 (by decide) (by decide) rfl rfl x

include hl hd in
/-- The key gradient's block. -/
theorem dk_block (w : View sig .tc .vmem S1x512x512 .bf16) (y : S1x512x512.Idx) :
    (w.read (Elt Ideal) (w.writes (Elt Ideal) w.junk (bodyRun (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x3 x4 x5 x6 x7 x8 x9).2.1) y : EReal) = gradK (tab x4) (tab x8) (tab x5) (tab x9) l δ (y 1) (y 2) := by
  rw [dk_list]
  refine (View.read_writes_cons_unit_of_mem w w.junk inb_S1x512x512_S1x512x512_0_0_0 _ [] y y rfl
    (by intro a; fin_cases a
        · show (y 0).val = 0 + (y 0).val; omega
        · show (y 1).val = 0 + (y 1).val; omega
        · show (y 2).val = 0 + (y 2).val; omega)).trans ?_
  idx_vars y
  have h0 : y0 = 0 := Subsingleton.elim _ _
  subst h0
  pointwise [k0_pay2]
  refine Eq.trans ?_ (accDk c i arg4 harg4 arg5 harg5 arg6 harg6 arg7 harg7 arg8 harg8 arg9 harg9 arg14 arg15 x4 x5 x6 x7 x8 x9 l δ hl hd y1 y2)
  show arg15.view.read (Elt Ideal) _ _ = arg15.view.read (Elt Ideal) _ _
  refine congrArg _ (funext fun a => Fin.ext ?_)
  fin_cases a
  · show 0 + 1 * y1.val = y1.val; omega
  · show 0 + 1 * y2.val = y2.val; omega

include hl in
/-- The value gradient's block. -/
theorem dv_block (w : View sig .tc .vmem S1x512x512 .bf16) (y : S1x512x512.Idx) :
    (w.read (Elt Ideal) (w.writes (Elt Ideal) w.junk (bodyRun (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x3 x4 x5 x6 x7 x8 x9).2.2.1) y : EReal) = gradV (tab x4) (tab x8) (tab x5) l (y 1) (y 2) := by
  rw [dv_list]
  refine (View.read_writes_cons_unit_of_mem w w.junk inb_S1x512x512_S1x512x512_0_0_0 _ [] y y rfl
    (by intro a; fin_cases a
        · show (y 0).val = 0 + (y 0).val; omega
        · show (y 1).val = 0 + (y 1).val; omega
        · show (y 2).val = 0 + (y 2).val; omega)).trans ?_
  idx_vars y
  have h0 : y0 = 0 := Subsingleton.elim _ _
  subst h0
  pointwise [k0_pay3]
  refine Eq.trans ?_ (accDv c i arg4 harg4 arg5 harg5 arg6 harg6 arg7 harg7 arg8 harg8 arg9 harg9 arg14 arg16 x4 x5 x6 x7 x8 x9 l hl y1 y2)
  show arg16.view.read (Elt Ideal) _ _ = arg16.view.read (Elt Ideal) _ _
  refine congrArg _ (funext fun a => Fin.ext ?_)
  fin_cases a
  · show 0 + 1 * y1.val = y1.val; omega
  · show 0 + 1 * y2.val = y2.val; omega

end Point

end Cert.KernelIdeal.Hand

end
-- ==== Proof.RefMath.lean ====
/-
  The reference's three gradients read at an element, over the extended reals, and the comparison with the kernel's sums.
-/
module

public import proofs.«01_k».proof.Proof.Block16
public import proofs.«01_k».proof.Proof.Gen.ReferenceIdeal.Run
public import Idealize.ShloMosaic.Lib.Pointwise

@[expose] public section

set_option maxRecDepth 65536

noncomputable section

namespace Cert.ReferenceIdeal.Hand

open Cert.ReferenceIdeal Cert.ReferenceIdeal.Gen
open Cert.KernelIdeal.Hand (near lane headOf prob dscore gradQ gradK gradV eighth mask_bit select_if exp_mask)
open Idealize.ShloMosaic Idealize.ShloMosaic.TcCoe

/-! ## The reference's arrays, named -/

/-- The eight heads of a batch row apart. -/
def heads (X : FVec Ideal S16x512x512 .bf16) : FVec Ideal S16x512x8x64 .f32 :=
  shapeCast _ (extf .f32 X bitsLt_bf16_f32) shapeCasts_S16x512x512_S16x512x8x64
/-- Which keys a query sees: 64 to either side. -/
def valid : IVec S16x8x512x512 1 :=
  (broadcastInDim S16x8x512x512 ![0, 1, 2, 3] bcast_S1x1x512x512_S16x8x512x512_0_1_2_3 (broadcastInDim S1x1x512x512 ![2, 3] bcast_S512x512_S1x1x512x512_2_3 (cmpi .sle (absi (subi (broadcastInDim S512x512 ![0, 1] bcast_S512x1_S512x512_0_1 (broadcastInDim S512x1 ![0] bcast_S512_S512x1_0 (iotaInDim S512 32 0))) (broadcastInDim S512x512 ![0, 1] bcast_S1x512_S512x512_0_1 (broadcastInDim S1x512 ![1] bcast_S512_S1x512_1 (iotaInDim S512 32 0))))) (broadcastInDim S512x512 ![] bcast_S_S512x512 (constantI S_ 32 64#32)))))
variable (Q K V G : FVec Ideal S16x512x512 .bf16) (L : FVec Ideal S16x512x8 .f32) (D : FVec Ideal S16x512x8 .bf16)
/-- The attention's weights. -/
def weights : FVec Ideal S16x8x512x512 .f32 :=
  (Host.exp (subf (select valid (mulf (Host.dotGeneral dot_S16x512x8x64_S16x512x8x64_S16x8x512x512_3_3_1_1_02_02 none (heads Q) (heads K)) (broadcastInDim S16x8x512x512 ![] bcast_S_S16x8x512x512 (constant S_ .f32 0x3E000000#32))) (broadcastInDim S16x8x512x512 ![] bcast_S_S16x8x512x512 (id (constant S_ .f32 0xFF800000#32)))) (broadcastInDim S16x8x512x512 ![0, 1, 2, 3] bcast_S16x8x512x1_S16x8x512x512_0_1_2_3 (broadcastInDim S16x8x512x1 ![0, 1, 2] bcast_S16x8x512_S16x8x512x1_0_1_2 (transpose S16x8x512 [0, 2, 1] L transposes_S16x512x8_S16x8x512_0_2_1)))))
/-- The gradient of the scores, before the scale is taken in. -/
def scores : FVec Ideal S16x8x512x512 .f32 :=
  (mulf (select valid (mulf (addf (broadcastInDim S16x8x512x512 ![0, 1, 2] bcast_S16x8x512_S16x8x512x512_0_1_2 (transpose S16x8x512 [0, 2, 1] (Host.negf (extf .f32 D bitsLt_bf16_f32)) transposes_S16x512x8_S16x8x512_0_2_1)) (Host.dotGeneral dot_S16x8x64x512_S16x512x8x64_S16x8x512x512_2_3_3_1_01_02 none (transpose S16x8x64x512 [0, 2, 3, 1] (heads G) transposes_S16x512x8x64_S16x8x64x512_0_2_3_1) (heads V))) (weights Q K L)) (broadcastInDim S16x8x512x512 ![] bcast_S_S16x8x512x512 (constant S_ .f32 0x00000000#32))) (broadcastInDim S16x8x512x512 ![] bcast_S_S16x8x512x512 (constant S_ .f32 0x3E000000#32)))
/-- The query gradient. -/
def refQ : FVec Ideal S16x512x512 .bf16 := truncf .bf16 (shapeCast _ (transpose S16x512x8x64 [0, 2, 1, 3] (Host.dotGeneral dot_S16x8x512x512_S16x512x8x64_S16x8x512x64_3_1_2_3_01_02 none (scores Q K V G L D) (heads K)) transposes_S16x8x512x64_S16x512x8x64_0_2_1_3) shapeCasts_S16x512x8x64_S16x512x512) bitsLt_bf16_f32
/-- The key gradient. -/
def refK : FVec Ideal S16x512x512 .bf16 := truncf .bf16 (shapeCast _ (transpose S16x512x8x64 [0, 2, 1, 3] (Host.dotGeneral dot_S16x8x512x512_S16x512x8x64_S16x8x512x64_2_1_3_3_01_02 none (scores Q K V G L D) (heads Q)) transposes_S16x8x512x64_S16x512x8x64_0_2_1_3) shapeCasts_S16x512x8x64_S16x512x512) bitsLt_bf16_f32
/-- The value gradient. -/
def refV : FVec Ideal S16x512x512 .bf16 := truncf .bf16 (shapeCast _ (transpose S16x512x8x64 [0, 3, 1, 2] (Host.dotGeneral dot_S16x8x64x512_S16x8x512x512_S16x8x64x512_3_2_2_3_01_01 none (transpose S16x8x64x512 [0, 2, 3, 1] (heads G) transposes_S16x512x8x64_S16x8x64x512_0_2_3_1) (weights Q K L)) transposes_S16x8x64x512_S16x512x8x64_0_3_1_2) shapeCasts_S16x512x8x64_S16x512x512) bitsLt_bf16_f32

/-! ## At an element -/

/-- One batch row of an array. -/
abbrev row (X : S16x512x512.Idx → EReal) (n : Fin 16) : Fin 512 → Fin 512 → EReal := fun i c => X (ix3 n i c)

theorem heads_at (n : Fin 16) (i : Fin 512) (h : Fin 8) (e : Fin 64) : (heads Q (ix4 n i h e) : EReal) = Q (ix3 n i (lane h e)) := by
  pointwise [heads]
  exact congrArg Q (congrArg (ix3 n i) (Fin.ext (by show h.val * 64 + e.val = 64 * h.val + e.val; omega)))

theorem valid_at (n : Fin 16) (h : Fin 8) (i r : Fin 512) : valid (ix4 n h i r) = if near i r then 1#1 else 0#1 := by
  pointwise [valid]
  exact mask_bit _ _ i.isLt r.isLt

theorem weights_at (n : Fin 16) (h : Fin 8) (i r : Fin 512) : (weights Q K L (ix4 n h i r) : EReal)
    = if near i r then Ideal.exp ((∑ e, Q (ix3 n i (lane h e)) * K (ix3 n r (lane h e)) : EReal) * ((1 / 8 : ℝ) : EReal) - L (ix3 n i h)) else 0 := by
  unfold weights
  pointwise
  rw [valid_at, select_if, eighth]
  simp only [heads_at]
  have hb : (id (constant S_ FTy.f32 4286578688#32 : FVec Ideal S_ .f32) ix0 : EReal) = ⊥ := by
    show Ideal.ofBits .f32 0xFF800000#32 = ⊥
    simp [Ideal.ofBits, Ideal.ieee]
  rw [hb]
  split
  · rfl
  · rw [sub_eq_add_neg, EReal.bot_add, Ideal.exp_bot]

theorem scores_at (n : Fin 16) (h : Fin 8) (i r : Fin 512) : (scores Q K V G L D (ix4 n h i r) : EReal)
    = weights Q K L (ix4 n h i r) * ((∑ e, G (ix3 n i (lane h e)) * V (ix3 n r (lane h e)) : EReal) - D (ix3 n i h)) * ((1 / 8 : ℝ) : EReal) := by
  unfold scores
  pointwise
  rw [valid_at, select_if, eighth]
  simp only [heads_at]
  split
  · rw [mul_comm (_ + _) (weights Q K L (ix4 n h i r)), sub_eq_add_neg, add_comm (-_)]
  · rw [weights_at, if_neg ‹_›, zero_mul, zero_mul]

theorem lane_of (c : Fin 512) : lane (⟨c.val / 64, by omega⟩ : Fin 8) (⟨c.val % 64, by omega⟩ : Fin 64) = c :=
  Fin.ext (by show 64 * (c.val / 64) + c.val % 64 = c.val; omega)

theorem refQ_at (n : Fin 16) (i c : Fin 512) : (refQ Q K V G L D (ix3 n i c) : EReal) = ∑ r, scores Q K V G L D (ix4 n (headOf c) i r) * K (ix3 n r c) := by
  pointwise [refQ]
  refine Finset.sum_congr rfl fun x _ => ?_
  rw [heads_at]
  exact congrArg₂ (· * ·) rfl (congrArg _ (congrArg (ix3 n x) (lane_of c)))
theorem refK_at (n : Fin 16) (r c : Fin 512) : (refK Q K V G L D (ix3 n r c) : EReal) = ∑ i, scores Q K V G L D (ix4 n (headOf c) i r) * Q (ix3 n i c) := by
  pointwise [refK]
  refine Finset.sum_congr rfl fun x _ => ?_
  rw [heads_at]
  exact congrArg₂ (· * ·) rfl (congrArg _ (congrArg (ix3 n x) (lane_of c)))
theorem refV_at (n : Fin 16) (r c : Fin 512) : (refV Q K G L (ix3 n r c) : EReal) = ∑ i, weights Q K L (ix4 n (headOf c) i r) * G (ix3 n i c) := by
  pointwise [refV]
  refine Finset.sum_congr rfl fun x _ => ?_
  rw [heads_at, mul_comm]
  exact congrArg₂ (· * ·) rfl (congrArg _ (congrArg (ix3 n x) (lane_of c)))

/-! ## The kernel's sums, over queries scaled beforehand, against the reference's -/

/-- A finite positive factor comes out of a sum. -/
theorem sum_mul_eighth {ι : Type} (s : Finset ι) (f : ι → EReal) : ∑ x ∈ s, f x * ((1 / 8 : ℝ) : EReal) = (∑ x ∈ s, f x) * ((1 / 8 : ℝ) : EReal) := by
  classical
  induction s using Finset.induction_on with
  | empty => simp
  | insert a s ha ih =>
    rw [Finset.sum_insert ha, Finset.sum_insert ha, ih]
    refine (EReal.right_distrib_of_nonneg_of_ne_top ?_ (EReal.coe_ne_top _) _ _).symm
    exact EReal.coe_nonneg.mpr (by norm_num)

/-- The queries of a batch row, each times an eighth. -/
abbrev scaled (n : Fin 16) : Fin 512 → Fin 512 → EReal := fun i c => (Q (ix3 n i c) : EReal) * ((1 / 8 : ℝ) : EReal)
/-- One batch row of a table with a value a head. -/
abbrev rowH (X : S16x512x8.Idx → EReal) (n : Fin 16) : Fin 512 → Fin 8 → EReal := fun i h => X (ix3 n i h)

theorem prob_eq (n : Fin 16) (h : Fin 8) (i r : Fin 512) : prob (scaled Q n) (row K n) (rowH L n) h i r = weights Q K L (ix4 n h i r) := by
  rw [weights_at]
  unfold prob
  refine if_congr Iff.rfl (congrArg Ideal.exp (congrArg₂ (· - ·) ?_ rfl)) rfl
  rw [← sum_mul_eighth]
  exact Finset.sum_congr rfl fun e _ => mul_right_comm _ _ _

theorem dscore_eq (n : Fin 16) (h : Fin 8) (i r : Fin 512) :
    dscore (scaled Q n) (row K n) (row G n) (row V n) (rowH L n) (rowH D n) h i r * ((1 / 8 : ℝ) : EReal) = scores Q K V G L D (ix4 n h i r) := by
  rw [scores_at]
  unfold dscore
  rw [prob_eq]

theorem gradQ_eq (n : Fin 16) (i c : Fin 512) :
    gradQ (scaled Q n) (row K n) (row G n) (row V n) (rowH L n) (rowH D n) i c = refQ Q K V G L D (ix3 n i c) := by
  rw [refQ_at]
  unfold gradQ
  rw [← sum_mul_eighth]
  refine Finset.sum_congr rfl fun r _ => ?_
  rw [← dscore_eq]
  exact mul_right_comm _ _ _

theorem gradK_eq (n : Fin 16) (r c : Fin 512) :
    gradK (scaled Q n) (row K n) (row G n) (row V n) (rowH L n) (rowH D n) r c = refK Q K V G L D (ix3 n r c) := by
  rw [refK_at]
  unfold gradK
  refine Finset.sum_congr rfl fun i _ => ?_
  rw [← dscore_eq, mul_assoc]
  exact congrArg₂ (· * ·) rfl (mul_comm _ _)

theorem gradV_eq (n : Fin 16) (r c : Fin 512) : gradV (scaled Q n) (row K n) (row G n) (rowH L n) r c = refV Q K G L (ix3 n r c) := by
  rw [refV_at]
  unfold gradV
  exact Finset.sum_congr rfl fun i _ => congrArg₂ (· * ·) (prob_eq Q K L n _ i r) rfl

end Cert.ReferenceIdeal.Hand

end
-- ==== Proof.KernelValue.lean ====
/-
  The kernel's three result arrays after the run, over the extended reals: the reference's arrays.
-/
module

public import proofs.«01_k».proof.Proof.FrameIdeal
public import proofs.«01_k».proof.Proof.RefMath
public import Idealize.ShloMosaic.Lib.Pipeline.ValueKit
public import Idealize.ShloMosaic.Lib.Claim

@[expose] public section

set_option maxRecDepth 65536

noncomputable section

namespace Cert.KernelIdeal.Hand

open Cert.KernelIdeal Cert.KernelIdeal.Gen
open Cert.ReferenceIdeal.Hand (scaled row rowH refQ refK refV gradQ_eq gradK_eq gradV_eq)
open Idealize.ShloMosaic Idealize.ShloMosaic.TcCoe
open Idealize.ShloMosaic.Pipeline (Dat)

variable (m : (ℓ : Loc nD τ sig) → Buf (Elt Ideal) ℓ)

/-! ## The arguments -/

abbrev argQ (c : Dev nD) : FVec Ideal S16x512x512 .bf16 := m ((c : Thread nD τ).loc main_arg0)
abbrev argK (c : Dev nD) : FVec Ideal S16x512x512 .bf16 := m ((c : Thread nD τ).loc main_arg1)
abbrev argV (c : Dev nD) : FVec Ideal S16x512x512 .bf16 := m ((c : Thread nD τ).loc main_arg2)
abbrev argG (c : Dev nD) : FVec Ideal S16x512x512 .bf16 := m ((c : Thread nD τ).loc main_arg3)
abbrev argL (c : Dev nD) : FVec Ideal S16x512x8 .f32 := m ((c : Thread nD τ).loc main_arg4)
abbrev argD (c : Dev nD) : FVec Ideal S16x512x8 .bf16 := m ((c : Thread nD τ).loc main_arg5)

/-! ## The input blocks of a grid point -/

/-- Every block is a batch row: that of the grid point. -/
theorem idx : ∀ t : Fin cfg0.N, win0_1.index t = ![t.val, 0, 0] ∧ win0_2.index t = ![t.val, 0, 0] ∧ win0_3.index t = ![t.val, 0, 0]
    ∧ win0_4.index t = ![t.val, 0, 0] ∧ win0_5.index t = ![t.val, 0, 0] ∧ win0_6.index t = ![t.val, 0, 0]
    ∧ win0_7.index t = ![t.val, 0, 0] ∧ win0_8.index t = ![t.val, 0, 0] ∧ win0_9.index t = ![t.val, 0, 0] :=
  (by decide +kernel : ∀ t : Fin grid0.N, _)

/-- The grid point's batch row. -/
def rowNo (t : Fin cfg0.N) : Fin 16 := ⟨t.val, t.isLt⟩

theorem blkQ (c : Dev nD) (t : Fin cfg0.N) : tab (iblk m c 1 t) = scaled (argQ m c) (rowNo t) := by
  funext i e
  show (iblk m c 1 t (ix3 0 i e) : EReal) = argQ m c (ix3 (rowNo t) i e) * ((1 / 8 : ℝ) : EReal)
  rw [← eighth]
  blk_simp [iblk]
  entry_read
  pointwise
  refine congrArg₂ (· * ·) ?_ rfl
  refine congrArg (argQ m c) ?_
  blk_ext [idx t, rowNo]
theorem blkG (c : Dev nD) (t : Fin cfg0.N) : tab (iblk m c 2 t) = row (argG m c) (rowNo t) := by
  funext i e
  show iblk m c 2 t (ix3 0 i e) = argG m c (ix3 (rowNo t) i e)
  blk_ext [iblk, V, idx t, rowNo]
theorem blkK (c : Dev nD) (t : Fin cfg0.N) : tab (iblk m c 5 t) = row (argK m c) (rowNo t) := by
  funext i e
  show iblk m c 5 t (ix3 0 i e) = argK m c (ix3 (rowNo t) i e)
  blk_ext [iblk, V, idx t, rowNo]
theorem blkV (c : Dev nD) (t : Fin cfg0.N) : tab (iblk m c 6 t) = row (argV m c) (rowNo t) := by
  funext i e
  show iblk m c 6 t (ix3 0 i e) = argV m c (ix3 (rowNo t) i e)
  blk_ext [iblk, V, idx t, rowNo]
theorem blkL (c : Dev nD) (t : Fin cfg0.N) (i : Fin 512) (h : Fin 8) (d : Fin 64) : tab (iblk m c 3 t) i (lane h d) = rowH (argL m c) (rowNo t) i h := by
  show iblk m c 3 t (ix3 0 i (lane h d)) = argL m c (ix3 (rowNo t) i h)
  blk_simp [iblk]
  entry_read
  pointwise
  refine congrArg (argL m c) ?_
  have e2 : (64 * h.val + d.val) / 64 = h.val := by omega
  blk_ext [idx t, rowNo, lane]
theorem blkD (c : Dev nD) (t : Fin cfg0.N) (i : Fin 512) (h : Fin 8) (d : Fin 64) : tab (iblk m c 4 t) i (lane h d) = rowH (argD m c) (rowNo t) i h := by
  show iblk m c 4 t (ix3 0 i (lane h d)) = argD m c (ix3 (rowNo t) i h)
  blk_simp [iblk]
  entry_read
  pointwise
  refine congrArg (argD m c) ?_
  have e2 : (64 * h.val + d.val) / 64 = h.val := by omega
  blk_ext [idx t, rowNo, lane]

/-! ## The result blocks of a grid point -/

theorem left7_row (c : Dev nD) (t : Fin cfg0.N) (i e : Fin 512) :
    (left7 m c t (ix3 0 i e) : EReal) = refQ (argQ m c) (argK m c) (argV m c) (argG m c) (argL m c) (argD m c) (ix3 (rowNo t) i e) := by
  rw [← gradQ_eq, ← blkQ, ← blkG, ← blkK, ← blkV]
  exact dq_block _ _ _ _ _ _ _ _ _ _ _ _ _ _ _ _ _ (iblk m c 1 t) (iblk m c 2 t) (iblk m c 3 t) (iblk m c 4 t) (iblk m c 5 t) (iblk m c 6 t)
    (rowH (argL m c) (rowNo t)) (rowH (argD m c) (rowNo t)) (blkL m c t) (blkD m c t) _ _ _ _ _ _ _ _ _ _ _ _ _ _ _ _ view7 (ix3 0 i e) (cover7 m c t (ix3 0 i e))
theorem left7_at (c : Dev nD) (t : Fin cfg0.N) (y : S1x512x512.Idx) :
    (left7 m c t y : EReal) = refQ (argQ m c) (argK m c) (argV m c) (argG m c) (argL m c) (argD m c) (ix3 (rowNo t) (y 1) (y 2)) := by
  idx_vars y
  have h0 : y0 = 0 := Subsingleton.elim _ _
  subst h0
  exact left7_row m c t y1 y2
theorem left8_row (c : Dev nD) (t : Fin cfg0.N) (i e : Fin 512) :
    (left8 m c t (ix3 0 i e) : EReal) = refK (argQ m c) (argK m c) (argV m c) (argG m c) (argL m c) (argD m c) (ix3 (rowNo t) i e) := by
  rw [← gradK_eq, ← blkQ, ← blkG, ← blkK, ← blkV]
  exact dk_block _ _ _ _ _ _ _ _ _ _ _ _ _ _ _ _ _ (iblk m c 1 t) (iblk m c 2 t) (iblk m c 3 t) (iblk m c 4 t) (iblk m c 5 t) (iblk m c 6 t)
    (rowH (argL m c) (rowNo t)) (rowH (argD m c) (rowNo t)) (blkL m c t) (blkD m c t) _ _ _ _ _ _ _ _ _ _ _ _ _ _ _ _ view8 (ix3 0 i e)
theorem left8_at (c : Dev nD) (t : Fin cfg0.N) (y : S1x512x512.Idx) :
    (left8 m c t y : EReal) = refK (argQ m c) (argK m c) (argV m c) (argG m c) (argL m c) (argD m c) (ix3 (rowNo t) (y 1) (y 2)) := by
  idx_vars y
  have h0 : y0 = 0 := Subsingleton.elim _ _
  subst h0
  exact left8_row m c t y1 y2
theorem left9_row (c : Dev nD) (t : Fin cfg0.N) (i e : Fin 512) :
    (left9 m c t (ix3 0 i e) : EReal) = refV (argQ m c) (argK m c) (argG m c) (argL m c) (ix3 (rowNo t) i e) := by
  rw [← gradV_eq, ← blkQ, ← blkG, ← blkK]
  exact dv_block _ _ _ _ _ _ _ _ _ _ _ _ _ _ _ _ _ (iblk m c 1 t) (iblk m c 2 t) (iblk m c 3 t) (iblk m c 4 t) (iblk m c 5 t) (iblk m c 6 t)
    (rowH (argL m c) (rowNo t)) (blkL m c t) _ _ _ _ _ _ _ _ _ _ _ _ _ _ _ _ view9 (ix3 0 i e)
theorem left9_at (c : Dev nD) (t : Fin cfg0.N) (y : S1x512x512.Idx) :
    (left9 m c t y : EReal) = refV (argQ m c) (argK m c) (argG m c) (argL m c) (ix3 (rowNo t) (y 1) (y 2)) := by
  idx_vars y
  have h0 : y0 = 0 := Subsingleton.elim _ _
  subst h0
  exact left9_row m c t y1 y2

/-! ## The result arrays -/

theorem final7 (c : Dev nD) : (dats m 0 c).arrAt 7 (cfgs 0).N = refQ (argQ m c) (argK m c) (argV m c) (argG m c) (argL m c) (argD m c) := by
  refine (dats m 0 c).arrAt_eq_of_covers 7 _ (by decide +kernel) fun t _ y => ?_
  blk_simp
  rw [after0_7]
  refine (left7_at m c t y).trans ?_
  blk_ext [idx t, rowNo]

theorem final8 (c : Dev nD) : (dats m 0 c).arrAt 8 (cfgs 0).N = refK (argQ m c) (argK m c) (argV m c) (argG m c) (argL m c) (argD m c) := by
  refine (dats m 0 c).arrAt_eq_of_covers 8 _ (by decide +kernel) fun t _ y => ?_
  blk_simp
  rw [after0_8]
  refine (left8_at m c t y).trans ?_
  blk_ext [idx t, rowNo]

theorem final9 (c : Dev nD) : (dats m 0 c).arrAt 9 (cfgs 0).N = refV (argQ m c) (argK m c) (argG m c) (argL m c) := by
  refine (dats m 0 c).arrAt_eq_of_covers 9 _ (by decide +kernel) fun t _ y => ?_
  blk_simp
  rw [after0_9]
  refine (left9_at m c t y).trans ?_
  blk_ext [idx t, rowNo]

end Cert.KernelIdeal.Hand

end
-- ==== Proof.WeightValue.lean ====
/-
  The weight gradient of a feed-forward layer over the extended reals: each of the two row blocks of the result is the sum
  over four tiles of 2048 tokens, so the two arrays the kernel leaves are the product of the whole arrays.
-/
module

public import proofs.«01_k».proof.Proof.Gen.WeightKernelIdeal.Value
public import proofs.«01_k».proof.Proof.Gen.WeightReferenceIdeal.Run
public import Idealize.ShloMosaic.Lib.Pointwise
public import Idealize.ShloMosaic.Lib.Pipeline.ValueKit
public import Idealize.ShloMosaic.Lib.Claim

@[expose] public section

set_option maxRecDepth 65536

noncomputable section

namespace Cert.WeightKernelIdeal.Hand

open Cert.WeightKernelIdeal Cert.WeightKernelIdeal.Gen
open Idealize.ShloMosaic Idealize.ShloMosaic.TcCoe
open Idealize.ShloMosaic.Pipeline (Dat)

variable (m : (ℓ : Loc nD τ sig) → Buf (Elt Ideal) ℓ)

/-- The reference's gradient in f32: its own host operations. -/
abbrev refF (a : FVec Ideal S8192x2816 .bf16) (b : FVec Ideal S8192x1024 .bf16) : FVec Ideal S2816x1024 .f32 :=
  transpose S2816x1024 [1, 0] (transpose Cert.WeightReferenceIdeal.S1024x2816 [1, 0]
    (Host.dotGeneral Cert.WeightReferenceIdeal.dot_S8192x2816_S8192x1024_S2816x1024_0_0_1_1_n_n none
      (extf .f32 a Cert.WeightReferenceIdeal.Facts₀.bitsLt_bf16_f32) (extf .f32 b Cert.WeightReferenceIdeal.Facts₀.bitsLt_bf16_f32))
    Cert.WeightReferenceIdeal.Facts₀.transposes_S2816x1024_S1024x2816_1_0) Cert.WeightReferenceIdeal.Facts₀.transposes_S1024x2816_S2816x1024_1_0
/-- The same rounded to bf16. -/
abbrev refB (a : FVec Ideal S8192x2816 .bf16) (b : FVec Ideal S8192x1024 .bf16) : FVec Ideal S2816x1024 .bf16 :=
  truncf .bf16 (refF a b) Cert.WeightReferenceIdeal.Facts₀.bitsLt_bf16_f32

theorem zero_at (j : S1408x1024.Idx) : k0_pay1 (F := Ideal) j = 0 := by pointwise [k0_pay1]
theorem add_at (acc : Vec Ideal S1408x1024 .f32) (a : Vec Ideal S2048x1408 .bf16) (b : Vec Ideal S2048x1024 .bf16) (j : S1408x1024.Idx) :
    k0_pay2 acc a b j = acc j + ∑ k : Fin 2048, a (ix2 k (j 0)) * b (ix2 k (j 1)) := by pointwise [k0_pay2]
theorem copy_at (v : Vec Ideal S1408x1024 .f32) (j : S1408x1024.Idx) : (k0_pay3 v j : EReal) = v j := by pointwise [k0_pay3]
theorem ref_at (a : FVec Ideal S8192x2816 .bf16) (b : FVec Ideal S8192x1024 .bf16) (j : S2816x1024.Idx) :
    refF a b j = ∑ k : Fin 8192, a (ix2 k (j 0)) * b (ix2 k (j 1)) := by pointwise [refF]
theorem refB_at (a : FVec Ideal S8192x2816 .bf16) (b : FVec Ideal S8192x1024 .bf16) (j : S2816x1024.Idx) :
    (refB a b j : EReal) = refF a b j := by pointwise [refB]

/-- Point t reads tile t % 4 of the tokens and writes row block t / 4. -/
theorem idx : ∀ t : Fin cfg0.N, win0_0.index t = ![t.val % 4, t.val / 4] ∧ win0_1.index t = ![t.val % 4, 0]
    ∧ win0_2.index t = ![t.val / 4, 0] ∧ win0_3.index t = ![t.val / 4, 0] := (by decide +kernel : ∀ t : Fin grid0.N, _)

/-- The two operands. -/
abbrev argA (c : Dev nD) : FVec Ideal S8192x2816 .bf16 := m ((c : Thread nD τ).loc main_arg0)
abbrev argB (c : Dev nD) : FVec Ideal S8192x1024 .bf16 := m ((c : Thread nD τ).loc main_arg1)

/-- At the last tile of a block the bf16 buffer holds what the f32 buffer holds. -/
theorem copy_last (c : Dev nD) (t : Fin cfg0.N) (h : t.val % 4 = 3) (j : S1408x1024.Idx) :
    ((outsAt0 m c t.val t.isLt).2 j : EReal) = (outsAt0 m c t.val t.isLt).1 j := by
  have h0 : ¬ t.val % 4 = 0 := by omega
  rw [outsAt0_C m c t h0 h]
  frame_out
  rw [copy_at]

theorem block_at (c : Dev nD) (t : Fin cfg0.N) (h : t.val % 4 = 3) (y : S1408x1024.Idx) (z : S2816x1024.Idx)
    (hz0 : (z 0 : ℕ) = t.val / 4 * 1408 + y 0) (hz1 : (z 1 : ℕ) = y 1) :
    (outsAt0 m c t.val t.isLt).1 y = refF (argA m c) (argB m c) z := by
  rw [Pipeline.eq_sum_fin_of_reset_step_apply_of_flush (fun n h => (outsAt0 m c n h).1) 4 (fun _ => 0) _
    (fun t h j => by rw [outsAt0_A m c t h (by omega)]; frame_out; rw [add_at, zero_at])
    (fun t h j => by
      by_cases h1 : t.val % 4 = 3
      · rw [outsAt0_C m c t h h1]; frame_out; rw [add_at]
      · rw [outsAt0_B m c t h h1]; frame_out; rw [add_at])
    t h _, zero_add, ref_at]
  refine Fin.sum_mul_add_congr fun s k hl => ?_

  blk_point [iblk, V, idx t, idx ⟨_, Pipeline.run_point_lt_of_flush t h s⟩]

theorem final2 (c : Dev nD) : (dats m 0 c).arrAt 2 (cfgs 0).N = refF (argA m c) (argB m c) := by
  refine (dats m 0 c).arrAt_eq_of_covers 2 _ (by decide +kernel) fun t hf y => ?_
  blk_simp
  rw [after0_2]
  refine block_at m c t ((flush0_2 t).mp hf) y _ ?_ ?_ <;> blk_simp [idx t]

theorem final3 (c : Dev nD) : (dats m 0 c).arrAt 3 (cfgs 0).N = refB (argA m c) (argB m c) := by
  refine (dats m 0 c).arrAt_eq_of_covers 3 _ (by decide +kernel) fun t hf y => ?_
  blk_simp
  rw [after0_3]
  refine (copy_last m c t ((flush0_3 t).mp hf) y).trans ?_
  refine (block_at m c t ((flush0_3 t).mp hf) y _ ?_ ?_).trans (refB_at _ _ _).symm <;> blk_simp [idx t]

end Cert.WeightKernelIdeal.Hand

end
-- ==== Proof.InputBlock.lean ====
/-
  One block of the feed-forward layer's input gradient over its loads: 256 rows of tokens against the whole weights, whose
  2816 hidden units are taken in five parts of 512 and one of 256.
-/
module

public import proofs.«01_k».proof.Proof.Gen.InputKernelIdeal.Frame
public import Idealize.ShloMosaic.Lib.Pointwise
public import Idealize.ShloMosaic.Lib.Pipeline.ValueKit

@[expose] public section

set_option maxRecDepth 65536

noncomputable section

namespace Cert.InputKernelIdeal.Hand

open Cert.InputKernelIdeal Cert.InputKernelIdeal.Gen
open Idealize.ShloMosaic Idealize.ShloMosaic.TcCoe

/-- The logistic function. -/
def sgm (z : EReal) : EReal := Ideal.div 1 (1 + Ideal.exp (0 - z))
/-- The gradient of the linear factor from the gradient `a` of the product, at the gate's value `g`. -/
def toUp (a g : EReal) : EReal := a * (g * sgm g)
/-- The gradient of the gate from the gradient `a` of the product, at the gate's value `g` and the linear factor `u`. -/
def toGate (a g u : EReal) : EReal := a * u * (sgm g * (1 + g * (1 - sgm g)))

/-- The values a block of the kernel works on: rows of the output's gradient, of the input, of the gate and of the linear
    factor, the gain and the three weights. -/
structure Blk where
  d : Vec Ideal S256x1024 .f32
  x : Vec Ideal S256x1024 .f32
  n : Vec Ideal S1x1024 .f32
  g : Vec Ideal S256x2816 .bf16
  u : Vec Ideal S256x2816 .bf16
  wg : Vec Ideal S2816x1024 .bf16
  wu : Vec Ideal S2816x1024 .bf16
  wd : Vec Ideal S2816x1024 .bf16

/-- The gradient of the gated product at row `r` and hidden unit `k`. -/
def act (b : Blk) (r : Fin 256) (k : Fin 2816) : EReal :=
  ∑ l : Fin 1024, Ideal.ofBits .f32 0x3F000000#32 * b.d (ix2 r l) * b.wd (ix2 k l)
/-- The gradients of the linear factor and of the gate. -/
def upAt (b : Blk) (r : Fin 256) (k : Fin 2816) : EReal := toUp (act b r k) (b.g (ix2 r k))
def gateAt (b : Blk) (r : Fin 256) (k : Fin 2816) : EReal := toGate (act b r k) (b.g (ix2 r k)) (b.u (ix2 r k))

/-! ## The parts of the hidden units -/

/-- Part 0: hidden units 0 to 511 of the weights and of a block of rows. -/
def rows0 (W : Vec Ideal S2816x1024 .bf16) : Vec Ideal S512x1024 .bf16 :=
  View.ld W (Rect.unit ![0, 0] ![512, 1024] inb_S2816x1024_S512x1024_0_0)
def cols0 (G : Vec Ideal S256x2816 .bf16) : Vec Ideal S256x512 .bf16 :=
  View.ld G (Rect.unit ![0, 0] ![256, 512] inb_S256x2816_S256x512_0_0)
abbrev unit0 (j : Fin 512) : Fin 2816 := ⟨j.val, by omega⟩
theorem rows0_at (W : Vec Ideal S2816x1024 .bf16) (j : Fin 512) (l : Fin 1024) : rows0 W (ix2 j l) = W (ix2 (unit0 j) l) := by
  exact View.ld_unit_apply_of W _ _ _ _ _ fun a => by fin_cases a <;> simp
theorem cols0_at (W : Vec Ideal S256x2816 .bf16) (r : Fin 256) (j : Fin 512) : cols0 W (ix2 r j) = W (ix2 r (unit0 j)) := by
  exact View.ld_unit_apply_of W _ _ _ _ _ fun a => by fin_cases a <;> simp
/-- Part 1: hidden units 512 to 1023 of the weights and of a block of rows. -/
def rows1 (W : Vec Ideal S2816x1024 .bf16) : Vec Ideal S512x1024 .bf16 :=
  View.ld W (Rect.unit ![512, 0] ![512, 1024] inb_S2816x1024_S512x1024_512_0)
def cols1 (G : Vec Ideal S256x2816 .bf16) : Vec Ideal S256x512 .bf16 :=
  View.ld G (Rect.unit ![0, 512] ![256, 512] inb_S256x2816_S256x512_0_512)
abbrev unit1 (j : Fin 512) : Fin 2816 := ⟨512 + j.val, by omega⟩
theorem rows1_at (W : Vec Ideal S2816x1024 .bf16) (j : Fin 512) (l : Fin 1024) : rows1 W (ix2 j l) = W (ix2 (unit1 j) l) := by
  exact View.ld_unit_apply_of W _ _ _ _ _ fun a => by fin_cases a <;> simp
theorem cols1_at (W : Vec Ideal S256x2816 .bf16) (r : Fin 256) (j : Fin 512) : cols1 W (ix2 r j) = W (ix2 r (unit1 j)) := by
  exact View.ld_unit_apply_of W _ _ _ _ _ fun a => by fin_cases a <;> simp
/-- Part 2: hidden units 1024 to 1535 of the weights and of a block of rows. -/
def rows2 (W : Vec Ideal S2816x1024 .bf16) : Vec Ideal S512x1024 .bf16 :=
  View.ld W (Rect.unit ![1024, 0] ![512, 1024] inb_S2816x1024_S512x1024_1024_0)
def cols2 (G : Vec Ideal S256x2816 .bf16) : Vec Ideal S256x512 .bf16 :=
  View.ld G (Rect.unit ![0, 1024] ![256, 512] inb_S256x2816_S256x512_0_1024)
abbrev unit2 (j : Fin 512) : Fin 2816 := ⟨1024 + j.val, by omega⟩
theorem rows2_at (W : Vec Ideal S2816x1024 .bf16) (j : Fin 512) (l : Fin 1024) : rows2 W (ix2 j l) = W (ix2 (unit2 j) l) := by
  exact View.ld_unit_apply_of W _ _ _ _ _ fun a => by fin_cases a <;> simp
theorem cols2_at (W : Vec Ideal S256x2816 .bf16) (r : Fin 256) (j : Fin 512) : cols2 W (ix2 r j) = W (ix2 r (unit2 j)) := by
  exact View.ld_unit_apply_of W _ _ _ _ _ fun a => by fin_cases a <;> simp
/-- Part 3: hidden units 1536 to 2047 of the weights and of a block of rows. -/
def rows3 (W : Vec Ideal S2816x1024 .bf16) : Vec Ideal S512x1024 .bf16 :=
  View.ld W (Rect.unit ![1536, 0] ![512, 1024] inb_S2816x1024_S512x1024_1536_0)
def cols3 (G : Vec Ideal S256x2816 .bf16) : Vec Ideal S256x512 .bf16 :=
  View.ld G (Rect.unit ![0, 1536] ![256, 512] inb_S256x2816_S256x512_0_1536)
abbrev unit3 (j : Fin 512) : Fin 2816 := ⟨1536 + j.val, by omega⟩
theorem rows3_at (W : Vec Ideal S2816x1024 .bf16) (j : Fin 512) (l : Fin 1024) : rows3 W (ix2 j l) = W (ix2 (unit3 j) l) := by
  exact View.ld_unit_apply_of W _ _ _ _ _ fun a => by fin_cases a <;> simp
theorem cols3_at (W : Vec Ideal S256x2816 .bf16) (r : Fin 256) (j : Fin 512) : cols3 W (ix2 r j) = W (ix2 r (unit3 j)) := by
  exact View.ld_unit_apply_of W _ _ _ _ _ fun a => by fin_cases a <;> simp
/-- Part 4: hidden units 2048 to 2559 of the weights and of a block of rows. -/
def rows4 (W : Vec Ideal S2816x1024 .bf16) : Vec Ideal S512x1024 .bf16 :=
  View.ld W (Rect.unit ![2048, 0] ![512, 1024] inb_S2816x1024_S512x1024_2048_0)
def cols4 (G : Vec Ideal S256x2816 .bf16) : Vec Ideal S256x512 .bf16 :=
  View.ld G (Rect.unit ![0, 2048] ![256, 512] inb_S256x2816_S256x512_0_2048)
abbrev unit4 (j : Fin 512) : Fin 2816 := ⟨2048 + j.val, by omega⟩
theorem rows4_at (W : Vec Ideal S2816x1024 .bf16) (j : Fin 512) (l : Fin 1024) : rows4 W (ix2 j l) = W (ix2 (unit4 j) l) := by
  exact View.ld_unit_apply_of W _ _ _ _ _ fun a => by fin_cases a <;> simp
theorem cols4_at (W : Vec Ideal S256x2816 .bf16) (r : Fin 256) (j : Fin 512) : cols4 W (ix2 r j) = W (ix2 r (unit4 j)) := by
  exact View.ld_unit_apply_of W _ _ _ _ _ fun a => by fin_cases a <;> simp
/-- Part 5: hidden units 2560 to 2815 of the weights and of a block of rows. -/
def rows5 (W : Vec Ideal S2816x1024 .bf16) : Vec Ideal S256x1024 .bf16 :=
  View.ld W (Rect.unit ![2560, 0] ![256, 1024] inb_S2816x1024_S256x1024_2560_0)
def cols5 (G : Vec Ideal S256x2816 .bf16) : Vec Ideal S256x256 .bf16 :=
  View.ld G (Rect.unit ![0, 2560] ![256, 256] inb_S256x2816_S256x256_0_2560)
abbrev unit5 (j : Fin 256) : Fin 2816 := ⟨2560 + j.val, by omega⟩
theorem rows5_at (W : Vec Ideal S2816x1024 .bf16) (j : Fin 256) (l : Fin 1024) : rows5 W (ix2 j l) = W (ix2 (unit5 j) l) := by
  exact View.ld_unit_apply_of W _ _ _ _ _ fun a => by fin_cases a <;> simp
theorem cols5_at (W : Vec Ideal S256x2816 .bf16) (r : Fin 256) (j : Fin 256) : cols5 W (ix2 r j) = W (ix2 r (unit5 j)) := by
  exact View.ld_unit_apply_of W _ _ _ _ _ fun a => by fin_cases a <;> simp

/-- A sum over the hidden units is the sum over the six parts. -/
theorem sum_parts (f : Fin 2816 → EReal) : ∑ k, f k = ∑ j, f (unit0 j) + ∑ j, f (unit1 j) + ∑ j, f (unit2 j) + ∑ j, f (unit3 j)
    + ∑ j, f (unit4 j) + ∑ j, f (unit5 j) := by
  have h5 := Fin.sum_univ_add (a := 2560) (b := 256) f
  have h4 := Fin.sum_univ_add (a := 2048) (b := 512) fun k => f (Fin.castAdd 256 k)
  have h3 := Fin.sum_univ_add (a := 1536) (b := 512) fun k => f (Fin.castAdd 256 (Fin.castAdd 512 k))
  have h2 := Fin.sum_univ_add (a := 1024) (b := 512) fun k => f (Fin.castAdd 256 (Fin.castAdd 512 (Fin.castAdd 512 k)))
  have h1 := Fin.sum_univ_add (a := 512) (b := 512) fun k => f (Fin.castAdd 256 (Fin.castAdd 512 (Fin.castAdd 512 (Fin.castAdd 512 k))))
  refine h5.trans ?_
  rw [h4, h3, h2, h1]
  rfl

/-! ## The two gradients at a part -/

/-- The product of 0.5 times the output's gradient with rows of the output weight. -/
theorem act0_at (x : Vec Ideal S256x1024 .f32) (w : Vec Ideal S512x1024 .bf16) (r : Fin 256) (j : Fin 512) :
    (k0_pay4 x w (ix2 r j) : EReal) = ∑ l : Fin 1024, Ideal.ofBits .f32 0x3F000000#32 * x (ix2 r l) * w (ix2 j l) := by
  pointwise [k0_pay4, k0_pay3]
theorem pay8_at (x : Vec Ideal S256x1024 .f32) (w : Vec Ideal S512x1024 .bf16) (g : Vec Ideal S256x512 .bf16) (r : Fin 256) (j : Fin 512) :
    (k0_pay8 x w g (ix2 r j) : EReal) = toUp (k0_pay4 x w (ix2 r j)) (g (ix2 r j)) := by
  pointwise [k0_pay8, k0_pay7, k0_pay6, toUp, sgm]
theorem pay11_at (x : Vec Ideal S256x1024 .f32) (w : Vec Ideal S512x1024 .bf16) (g u : Vec Ideal S256x512 .bf16) (r : Fin 256) (j : Fin 512) :
    (k0_pay11 (k0_pay9 x w u) (k0_pay10 g) (ix2 r j) : EReal) = toGate (k0_pay4 x w (ix2 r j)) (g (ix2 r j)) (u (ix2 r j)) := by
  pointwise [k0_pay11, k0_pay10, k0_pay9, k0_pay7, k0_pay6, toGate, sgm]
abbrev up0 (b : Blk) : FVec Ideal S256x512 .bf16 := k0_pay8 b.d (rows0 b.wd) (cols0 b.g)
abbrev gate0 (b : Blk) : FVec Ideal S256x512 .bf16 := k0_pay11 (k0_pay9 b.d (rows0 b.wd) (cols0 b.u)) (k0_pay10 (cols0 b.g))
theorem up0_at (b : Blk) (r : Fin 256) (j : Fin 512) : (up0 b (ix2 r j) : EReal) = upAt b r (unit0 j) := by
  unfold up0; rw [pay8_at, act0_at, cols0_at]; simp only [rows0_at]; rfl
theorem gate0_at (b : Blk) (r : Fin 256) (j : Fin 512) : (gate0 b (ix2 r j) : EReal) = gateAt b r (unit0 j) := by
  unfold gate0; rw [pay11_at, act0_at, cols0_at, cols0_at]; simp only [rows0_at]; rfl

theorem pay5_at (x : Vec Ideal S256x1024 .f32) (w : Vec Ideal S512x1024 .bf16) (r : Fin 256) (j : Fin 512) :
    (k0_pay5 x w (ix2 r j) : EReal) = ∑ l : Fin 1024, Ideal.ofBits .f32 0x3F000000#32 * x (ix2 r l) * w (ix2 j l) := by
  pointwise [k0_pay5, k0_pay3]
theorem pay16_at (a : FVec Ideal S256x512 .f32) (g : Vec Ideal S256x512 .bf16) (r : Fin 256) (j : Fin 512) :
    (k0_pay16 a g (ix2 r j) : EReal) = toUp (a (ix2 r j)) (g (ix2 r j)) := by
  pointwise [k0_pay16, k0_pay15, k0_pay14, toUp, sgm]
theorem pay17_at (a : FVec Ideal S256x512 .f32) (g u : Vec Ideal S256x512 .bf16) (r : Fin 256) (j : Fin 512) :
    (k0_pay17 a g u (ix2 r j) : EReal) = toGate (a (ix2 r j)) (g (ix2 r j)) (u (ix2 r j)) := by
  pointwise [k0_pay17, k0_pay15, k0_pay14, toGate, sgm]
abbrev act1 (b : Blk) : FVec Ideal S256x512 .f32 := k0_pay5 b.d (rows1 b.wd)
abbrev up1 (b : Blk) : FVec Ideal S256x512 .bf16 := k0_pay16 (act1 b) (cols1 b.g)
abbrev gate1 (b : Blk) : FVec Ideal S256x512 .bf16 := k0_pay17 (act1 b) (cols1 b.g) (cols1 b.u)
theorem up1_at (b : Blk) (r : Fin 256) (j : Fin 512) : (up1 b (ix2 r j) : EReal) = upAt b r (unit1 j) := by
  unfold up1 act1; rw [pay16_at, pay5_at, cols1_at]; simp only [rows1_at]; rfl
theorem gate1_at (b : Blk) (r : Fin 256) (j : Fin 512) : (gate1 b (ix2 r j) : EReal) = gateAt b r (unit1 j) := by
  unfold gate1 act1; rw [pay17_at, pay5_at, cols1_at, cols1_at]; simp only [rows1_at]; rfl

theorem pay13_at (x : Vec Ideal S256x1024 .f32) (w : Vec Ideal S512x1024 .bf16) (r : Fin 256) (j : Fin 512) :
    (k0_pay13 (k0_pay3 x) w (ix2 r j) : EReal) = ∑ l : Fin 1024, Ideal.ofBits .f32 0x3F000000#32 * x (ix2 r l) * w (ix2 j l) := by
  pointwise [k0_pay13, k0_pay3]
theorem pay22_at (a : FVec Ideal S256x512 .f32) (g : Vec Ideal S256x512 .bf16) (r : Fin 256) (j : Fin 512) :
    (k0_pay22 a g (ix2 r j) : EReal) = toUp (a (ix2 r j)) (g (ix2 r j)) := by
  pointwise [k0_pay22, k0_pay21, k0_pay20, toUp, sgm]
theorem pay23_at (a : FVec Ideal S256x512 .f32) (g u : Vec Ideal S256x512 .bf16) (r : Fin 256) (j : Fin 512) :
    (k0_pay23 a g u (ix2 r j) : EReal) = toGate (a (ix2 r j)) (g (ix2 r j)) (u (ix2 r j)) := by
  pointwise [k0_pay23, k0_pay21, k0_pay20, toGate, sgm]
abbrev act2 (b : Blk) : FVec Ideal S256x512 .f32 := k0_pay13 (k0_pay3 b.d) (rows2 b.wd)
abbrev up2 (b : Blk) : FVec Ideal S256x512 .bf16 := k0_pay22 (act2 b) (cols2 b.g)
abbrev gate2 (b : Blk) : FVec Ideal S256x512 .bf16 := k0_pay23 (act2 b) (cols2 b.g) (cols2 b.u)
theorem up2_at (b : Blk) (r : Fin 256) (j : Fin 512) : (up2 b (ix2 r j) : EReal) = upAt b r (unit2 j) := by
  unfold up2 act2; rw [pay22_at, pay13_at, cols2_at]; simp only [rows2_at]; rfl
theorem gate2_at (b : Blk) (r : Fin 256) (j : Fin 512) : (gate2 b (ix2 r j) : EReal) = gateAt b r (unit2 j) := by
  unfold gate2 act2; rw [pay23_at, pay13_at, cols2_at, cols2_at]; simp only [rows2_at]; rfl

theorem pay19_at (x : Vec Ideal S256x1024 .f32) (w : Vec Ideal S512x1024 .bf16) (r : Fin 256) (j : Fin 512) :
    (k0_pay19 (k0_pay3 x) w (ix2 r j) : EReal) = ∑ l : Fin 1024, Ideal.ofBits .f32 0x3F000000#32 * x (ix2 r l) * w (ix2 j l) := by
  pointwise [k0_pay19, k0_pay3]
theorem pay28_at (a : FVec Ideal S256x512 .f32) (g : Vec Ideal S256x512 .bf16) (r : Fin 256) (j : Fin 512) :
    (k0_pay28 a g (ix2 r j) : EReal) = toUp (a (ix2 r j)) (g (ix2 r j)) := by
  pointwise [k0_pay28, k0_pay27, k0_pay26, toUp, sgm]
theorem pay29_at (a : FVec Ideal S256x512 .f32) (g u : Vec Ideal S256x512 .bf16) (r : Fin 256) (j : Fin 512) :
    (k0_pay29 a g u (ix2 r j) : EReal) = toGate (a (ix2 r j)) (g (ix2 r j)) (u (ix2 r j)) := by
  pointwise [k0_pay29, k0_pay27, k0_pay26, toGate, sgm]
abbrev act3 (b : Blk) : FVec Ideal S256x512 .f32 := k0_pay19 (k0_pay3 b.d) (rows3 b.wd)
abbrev up3 (b : Blk) : FVec Ideal S256x512 .bf16 := k0_pay28 (act3 b) (cols3 b.g)
abbrev gate3 (b : Blk) : FVec Ideal S256x512 .bf16 := k0_pay29 (act3 b) (cols3 b.g) (cols3 b.u)
theorem up3_at (b : Blk) (r : Fin 256) (j : Fin 512) : (up3 b (ix2 r j) : EReal) = upAt b r (unit3 j) := by
  unfold up3 act3; rw [pay28_at, pay19_at, cols3_at]; simp only [rows3_at]; rfl
theorem gate3_at (b : Blk) (r : Fin 256) (j : Fin 512) : (gate3 b (ix2 r j) : EReal) = gateAt b r (unit3 j) := by
  unfold gate3 act3; rw [pay29_at, pay19_at, cols3_at, cols3_at]; simp only [rows3_at]; rfl

theorem pay25_at (x : Vec Ideal S256x1024 .f32) (w : Vec Ideal S512x1024 .bf16) (r : Fin 256) (j : Fin 512) :
    (k0_pay25 (k0_pay3 x) w (ix2 r j) : EReal) = ∑ l : Fin 1024, Ideal.ofBits .f32 0x3F000000#32 * x (ix2 r l) * w (ix2 j l) := by
  pointwise [k0_pay25, k0_pay3]
theorem pay34_at (a : FVec Ideal S256x512 .f32) (g : Vec Ideal S256x512 .bf16) (r : Fin 256) (j : Fin 512) :
    (k0_pay34 a g (ix2 r j) : EReal) = toUp (a (ix2 r j)) (g (ix2 r j)) := by
  pointwise [k0_pay34, k0_pay33, k0_pay32, toUp, sgm]
theorem pay35_at (a : FVec Ideal S256x512 .f32) (g u : Vec Ideal S256x512 .bf16) (r : Fin 256) (j : Fin 512) :
    (k0_pay35 a g u (ix2 r j) : EReal) = toGate (a (ix2 r j)) (g (ix2 r j)) (u (ix2 r j)) := by
  pointwise [k0_pay35, k0_pay33, k0_pay32, toGate, sgm]
abbrev act4 (b : Blk) : FVec Ideal S256x512 .f32 := k0_pay25 (k0_pay3 b.d) (rows4 b.wd)
abbrev up4 (b : Blk) : FVec Ideal S256x512 .bf16 := k0_pay34 (act4 b) (cols4 b.g)
abbrev gate4 (b : Blk) : FVec Ideal S256x512 .bf16 := k0_pay35 (act4 b) (cols4 b.g) (cols4 b.u)
theorem up4_at (b : Blk) (r : Fin 256) (j : Fin 512) : (up4 b (ix2 r j) : EReal) = upAt b r (unit4 j) := by
  unfold up4 act4; rw [pay34_at, pay25_at, cols4_at]; simp only [rows4_at]; rfl
theorem gate4_at (b : Blk) (r : Fin 256) (j : Fin 512) : (gate4 b (ix2 r j) : EReal) = gateAt b r (unit4 j) := by
  unfold gate4 act4; rw [pay35_at, pay25_at, cols4_at, cols4_at]; simp only [rows4_at]; rfl

theorem pay31_at (x : Vec Ideal S256x1024 .f32) (w : Vec Ideal S256x1024 .bf16) (r : Fin 256) (j : Fin 256) :
    (k0_pay31 (k0_pay3 x) w (ix2 r j) : EReal) = ∑ l : Fin 1024, Ideal.ofBits .f32 0x3F000000#32 * x (ix2 r l) * w (ix2 j l) := by
  pointwise [k0_pay31, k0_pay3]
theorem pay39_at (a : FVec Ideal S256x256 .f32) (g : Vec Ideal S256x256 .bf16) (r : Fin 256) (j : Fin 256) :
    (k0_pay39 a g (ix2 r j) : EReal) = toUp (a (ix2 r j)) (g (ix2 r j)) := by
  pointwise [k0_pay39, k0_pay38, k0_pay37, toUp, sgm]
theorem pay40_at (a : FVec Ideal S256x256 .f32) (g u : Vec Ideal S256x256 .bf16) (r : Fin 256) (j : Fin 256) :
    (k0_pay40 a g u (ix2 r j) : EReal) = toGate (a (ix2 r j)) (g (ix2 r j)) (u (ix2 r j)) := by
  pointwise [k0_pay40, k0_pay38, k0_pay37, toGate, sgm]
abbrev act5 (b : Blk) : FVec Ideal S256x256 .f32 := k0_pay31 (k0_pay3 b.d) (rows5 b.wd)
abbrev up5 (b : Blk) : FVec Ideal S256x256 .bf16 := k0_pay39 (act5 b) (cols5 b.g)
abbrev gate5 (b : Blk) : FVec Ideal S256x256 .bf16 := k0_pay40 (act5 b) (cols5 b.g) (cols5 b.u)
theorem up5_at (b : Blk) (r : Fin 256) (j : Fin 256) : (up5 b (ix2 r j) : EReal) = upAt b r (unit5 j) := by
  unfold up5 act5; rw [pay39_at, pay31_at, cols5_at]; simp only [rows5_at]; rfl
theorem gate5_at (b : Blk) (r : Fin 256) (j : Fin 256) : (gate5 b (ix2 r j) : EReal) = gateAt b r (unit5 j) := by
  unfold gate5 act5; rw [pay40_at, pay31_at, cols5_at, cols5_at]; simp only [rows5_at]; rfl

/-! ## The hidden gradient: the parts added up -/

theorem pay12_at (p : FVec Ideal S256x512 .bf16) (v s : FVec Ideal S256x512 .f32) (w z : Vec Ideal S512x1024 .bf16) (r : Fin 256) (l : Fin 1024) :
    (k0_pay12 p v s w z (ix2 r l) : EReal) = ∑ j : Fin 512, k0_pay11 v s (ix2 r j) * w (ix2 j l) + ∑ j : Fin 512, p (ix2 r j) * z (ix2 j l) := by
  pointwise [k0_pay12]
theorem pay18_at (v : FVec Ideal S256x1024 .f32) (p q : FVec Ideal S256x512 .bf16) (w z : Vec Ideal S512x1024 .bf16) (r : Fin 256) (l : Fin 1024) :
    (k0_pay18 v p q w z (ix2 r l) : EReal) = v (ix2 r l) + (∑ j : Fin 512, q (ix2 r j) * w (ix2 j l) + ∑ j : Fin 512, p (ix2 r j) * z (ix2 j l)) := by
  pointwise [k0_pay18]
theorem pay24_at (v : FVec Ideal S256x1024 .f32) (p q : FVec Ideal S256x512 .bf16) (w z : Vec Ideal S512x1024 .bf16) (r : Fin 256) (l : Fin 1024) :
    (k0_pay24 v p q w z (ix2 r l) : EReal) = v (ix2 r l) + (∑ j : Fin 512, q (ix2 r j) * w (ix2 j l) + ∑ j : Fin 512, p (ix2 r j) * z (ix2 j l)) := by
  pointwise [k0_pay24]
theorem pay30_at (v : FVec Ideal S256x1024 .f32) (p q : FVec Ideal S256x512 .bf16) (w z : Vec Ideal S512x1024 .bf16) (r : Fin 256) (l : Fin 1024) :
    (k0_pay30 v p q w z (ix2 r l) : EReal) = v (ix2 r l) + (∑ j : Fin 512, q (ix2 r j) * w (ix2 j l) + ∑ j : Fin 512, p (ix2 r j) * z (ix2 j l)) := by
  pointwise [k0_pay30]
theorem pay36_at (v : FVec Ideal S256x1024 .f32) (p q : FVec Ideal S256x512 .bf16) (w z : Vec Ideal S512x1024 .bf16) (r : Fin 256) (l : Fin 1024) :
    (k0_pay36 v p q w z (ix2 r l) : EReal) = v (ix2 r l) + (∑ j : Fin 512, q (ix2 r j) * w (ix2 j l) + ∑ j : Fin 512, p (ix2 r j) * z (ix2 j l)) := by
  pointwise [k0_pay36]
theorem pay41_at (v : FVec Ideal S256x1024 .f32) (p q : FVec Ideal S256x256 .bf16) (w z : Vec Ideal S256x1024 .bf16) (r : Fin 256) (l : Fin 1024) :
    (k0_pay41 v p q w z (ix2 r l) : EReal) = v (ix2 r l) + (∑ j : Fin 256, q (ix2 r j) * w (ix2 j l) + ∑ j : Fin 256, p (ix2 r j) * z (ix2 j l)) := by
  pointwise [k0_pay41]

/-- The sums after each part. -/
abbrev sum0 (b : Blk) : FVec Ideal S256x1024 .f32 :=
  k0_pay12 (up0 b) (k0_pay9 b.d (rows0 b.wd) (cols0 b.u)) (k0_pay10 (cols0 b.g)) (rows0 b.wg) (rows0 b.wu)
abbrev sum1 (b : Blk) : FVec Ideal S256x1024 .f32 := k0_pay18 (sum0 b) (up1 b) (gate1 b) (rows1 b.wg) (rows1 b.wu)
abbrev sum2 (b : Blk) : FVec Ideal S256x1024 .f32 := k0_pay24 (sum1 b) (up2 b) (gate2 b) (rows2 b.wg) (rows2 b.wu)
abbrev sum3 (b : Blk) : FVec Ideal S256x1024 .f32 := k0_pay30 (sum2 b) (up3 b) (gate3 b) (rows3 b.wg) (rows3 b.wu)
abbrev sum4 (b : Blk) : FVec Ideal S256x1024 .f32 := k0_pay36 (sum3 b) (up4 b) (gate4 b) (rows4 b.wg) (rows4 b.wu)
abbrev sum5 (b : Blk) : FVec Ideal S256x1024 .f32 := k0_pay41 (sum4 b) (up5 b) (gate5 b) (rows5 b.wg) (rows5 b.wu)

/-- The whole hidden gradient at row `r`. -/
theorem hidden_at (b : Blk) (r : Fin 256) (l : Fin 1024) :
    (sum5 b (ix2 r l) : EReal) = ∑ k, gateAt b r k * b.wg (ix2 k l) + ∑ k, upAt b r k * b.wu (ix2 k l) := by
  unfold sum5 sum4 sum3 sum2 sum1 sum0
  rw [pay41_at, pay36_at, pay30_at, pay24_at, pay18_at, pay12_at, sum_parts fun k => gateAt b r k * b.wg (ix2 k l),
    sum_parts fun k => upAt b r k * b.wu (ix2 k l)]
  simp only [up0_at, gate0_at, rows0_at, up1_at, gate1_at, rows1_at, up2_at, gate2_at, rows2_at, up3_at, gate3_at, rows3_at, up4_at, gate4_at, rows4_at, up5_at, gate5_at, rows5_at]
  abel

/-! ## The normalisation's part -/

/-- The mean square plus the small constant, and its reciprocal square root. -/
def denAt (x : Fin 1024 → EReal) : EReal :=
  Ideal.div (∑ l, x l * x l) (Ideal.ofBits .f32 0x44800000#32) + Ideal.ofBits .f32 0x358637BD#32

theorem pay44_at (v : FVec Ideal S256x1024 .f32) (p q : FVec Ideal S256x256 .bf16) (w z : Vec Ideal S256x1024 .bf16)
    (x : Vec Ideal S256x1024 .f32) (n : Vec Ideal S1x1024 .f32) (r : Fin 256) (l : Fin 1024) :
    (k0_pay44 v p q w z x n (ix2 r l) : EReal) = Ideal.rsqrt (denAt fun l => x (ix2 r l)) * (k0_pay41 v p q w z (ix2 r l) * n (ix2 0 l)
      - x (ix2 r l) * Ideal.rsqrt (denAt fun l => x (ix2 r l)) * Ideal.div (∑ k, k0_pay41 v p q w z (ix2 r k) * n (ix2 0 k)
        * (x (ix2 r k) * Ideal.rsqrt (denAt fun l => x (ix2 r l)))) (Ideal.ofBits .f32 0x44800000#32)) := by
  pointwise [k0_pay44, k0_pay43, k0_pay42, denAt]
theorem pay45_at (v : FVec Ideal S256x1024 .f32) (p q : FVec Ideal S256x256 .bf16) (w z : Vec Ideal S256x1024 .bf16)
    (x : Vec Ideal S256x1024 .f32) (o : Vec Ideal S8x1024 .f32) (i : Fin 8) (l : Fin 1024) :
    (k0_pay45 v p q w z x o (ix2 i l) : EReal) = o (ix2 i l) + ∑ s : Fin 32, k0_pay41 v p q w z (ix2 ⟨s.val * 8 + i.val, by omega⟩ l)
      * (x (ix2 ⟨s.val * 8 + i.val, by omega⟩ l) * Ideal.rsqrt (denAt fun l => x (ix2 ⟨s.val * 8 + i.val, by omega⟩ l))) := by
  pointwise [k0_pay45, k0_pay43, k0_pay42, denAt]
theorem pay1_at (v : FVec Ideal S256x1024 .f32) (x : Vec Ideal S256x1024 .f32) (j : S256x1024.Idx) :
    (k0_pay1 v x j : EReal) = x j + v j := by
  pointwise [k0_pay1]
theorem pay2_at (j : S8x1024.Idx) : (k0_pay2 (F := Ideal) j : EReal) = 0 := by
  pointwise [k0_pay2]

/-- What a block adds to the input's gradient and to the gain's, over the block's values. -/
abbrev normOut (b : Blk) : FVec Ideal S256x1024 .f32 :=
  k0_pay44 (sum4 b) (up5 b) (gate5 b) (rows5 b.wg) (rows5 b.wu) b.x b.n
abbrev gainOut (b : Blk) (o : Vec Ideal S8x1024 .f32) : FVec Ideal S8x1024 .f32 :=
  k0_pay45 (sum4 b) (up5 b) (gate5 b) (rows5 b.wg) (rows5 b.wu) b.x o

end Cert.InputKernelIdeal.Hand

end
-- ==== Proof.InputPoint.lean ====
/-
  What one point of the input gradient's grid leaves in each of the five output buffers.
-/
module

public import proofs.«01_k».proof.Proof.InputBlock
public import Idealize.ShloMosaic.Lib.Pointwise
public import Idealize.ShloMosaic.Lib.Pipeline.ValueKit
public import Idealize.ShloMosaic.Lib.Claim

@[expose] public section

set_option maxRecDepth 65536

noncomputable section

namespace Cert.InputKernelIdeal.Hand

open Cert.InputKernelIdeal Cert.InputKernelIdeal.Gen
open Idealize.ShloMosaic Idealize.ShloMosaic.TcCoe Idealize.ShloMosaic.Tactic

/-! ## Six stores of different widths read back -/

theorem canon_up (b : Blk) (r : Fin 256) (k : Fin 2816) :
    (View.canon (Val := Elt Ideal) (e := .bf16) (s := S256x2816) [⟨Rect.unit ![0, 2560] ![256, 256] inb_S256x2816_S256x256_0_2560, up5 b⟩,
        ⟨Rect.unit ![0, 2048] ![256, 512] inb_S256x2816_S256x512_0_2048, up4 b⟩,
        ⟨Rect.unit ![0, 1536] ![256, 512] inb_S256x2816_S256x512_0_1536, up3 b⟩,
        ⟨Rect.unit ![0, 1024] ![256, 512] inb_S256x2816_S256x512_0_1024, up2 b⟩,
        ⟨Rect.unit ![0, 512] ![256, 512] inb_S256x2816_S256x512_0_512, up1 b⟩,
        ⟨Rect.unit ![0, 0] ![256, 512] inb_S256x2816_S256x512_0_0, up0 b⟩] (ix2 r k) : EReal) = upAt b r k := by
  refine View.canon_eq_of_allAt _ _ _ (View.cover_of_tiledBy _ ![256, 256] (by sl_kernel_rfl) _) ?_
  refine View.allAt_cons_unit _ _ _ _ _ (fun x hx => ?_) ?_
  · have e : x = ix2 (show Fin 256 from x 0) (show Fin 256 from x 1) := by funext a; fin_cases a <;> rfl
    have h0 : r = (show Fin 256 from x 0) := Fin.ext (by have := hx 0; simpa using this)
    have h1 : k = unit5 (show Fin 256 from x 1) := Fin.ext (by have := hx 1; simpa using this)
    rw [e, h1, h0]
    exact up5_at b _ _
  refine View.allAt_cons_unit _ _ _ _ _ (fun x hx => ?_) ?_
  · have e : x = ix2 (show Fin 256 from x 0) (show Fin 512 from x 1) := by funext a; fin_cases a <;> rfl
    have h0 : r = (show Fin 256 from x 0) := Fin.ext (by have := hx 0; simpa using this)
    have h1 : k = unit4 (show Fin 512 from x 1) := Fin.ext (by have := hx 1; simpa using this)
    rw [e, h1, h0]
    exact up4_at b _ _
  refine View.allAt_cons_unit _ _ _ _ _ (fun x hx => ?_) ?_
  · have e : x = ix2 (show Fin 256 from x 0) (show Fin 512 from x 1) := by funext a; fin_cases a <;> rfl
    have h0 : r = (show Fin 256 from x 0) := Fin.ext (by have := hx 0; simpa using this)
    have h1 : k = unit3 (show Fin 512 from x 1) := Fin.ext (by have := hx 1; simpa using this)
    rw [e, h1, h0]
    exact up3_at b _ _
  refine View.allAt_cons_unit _ _ _ _ _ (fun x hx => ?_) ?_
  · have e : x = ix2 (show Fin 256 from x 0) (show Fin 512 from x 1) := by funext a; fin_cases a <;> rfl
    have h0 : r = (show Fin 256 from x 0) := Fin.ext (by have := hx 0; simpa using this)
    have h1 : k = unit2 (show Fin 512 from x 1) := Fin.ext (by have := hx 1; simpa using this)
    rw [e, h1, h0]
    exact up2_at b _ _
  refine View.allAt_cons_unit _ _ _ _ _ (fun x hx => ?_) ?_
  · have e : x = ix2 (show Fin 256 from x 0) (show Fin 512 from x 1) := by funext a; fin_cases a <;> rfl
    have h0 : r = (show Fin 256 from x 0) := Fin.ext (by have := hx 0; simpa using this)
    have h1 : k = unit1 (show Fin 512 from x 1) := Fin.ext (by have := hx 1; simpa using this)
    rw [e, h1, h0]
    exact up1_at b _ _
  refine View.allAt_cons_unit _ _ _ _ _ (fun x hx => ?_) ?_
  · have e : x = ix2 (show Fin 256 from x 0) (show Fin 512 from x 1) := by funext a; fin_cases a <;> rfl
    have h0 : r = (show Fin 256 from x 0) := Fin.ext (by have := hx 0; simpa using this)
    have h1 : k = unit0 (show Fin 512 from x 1) := Fin.ext (by have := hx 1; simpa using this)
    rw [e, h1, h0]
    exact up0_at b _ _
  exact View.allAt_nil _ _

theorem canon_gate (b : Blk) (r : Fin 256) (k : Fin 2816) :
    (View.canon (Val := Elt Ideal) (e := .bf16) (s := S256x2816) [⟨Rect.unit ![0, 2560] ![256, 256] inb_S256x2816_S256x256_0_2560, gate5 b⟩,
        ⟨Rect.unit ![0, 2048] ![256, 512] inb_S256x2816_S256x512_0_2048, gate4 b⟩,
        ⟨Rect.unit ![0, 1536] ![256, 512] inb_S256x2816_S256x512_0_1536, gate3 b⟩,
        ⟨Rect.unit ![0, 1024] ![256, 512] inb_S256x2816_S256x512_0_1024, gate2 b⟩,
        ⟨Rect.unit ![0, 512] ![256, 512] inb_S256x2816_S256x512_0_512, gate1 b⟩,
        ⟨Rect.unit ![0, 0] ![256, 512] inb_S256x2816_S256x512_0_0, gate0 b⟩] (ix2 r k) : EReal) = gateAt b r k := by
  refine View.canon_eq_of_allAt _ _ _ (View.cover_of_tiledBy _ ![256, 256] (by sl_kernel_rfl) _) ?_
  refine View.allAt_cons_unit _ _ _ _ _ (fun x hx => ?_) ?_
  · have e : x = ix2 (show Fin 256 from x 0) (show Fin 256 from x 1) := by funext a; fin_cases a <;> rfl
    have h0 : r = (show Fin 256 from x 0) := Fin.ext (by have := hx 0; simpa using this)
    have h1 : k = unit5 (show Fin 256 from x 1) := Fin.ext (by have := hx 1; simpa using this)
    rw [e, h1, h0]
    exact gate5_at b _ _
  refine View.allAt_cons_unit _ _ _ _ _ (fun x hx => ?_) ?_
  · have e : x = ix2 (show Fin 256 from x 0) (show Fin 512 from x 1) := by funext a; fin_cases a <;> rfl
    have h0 : r = (show Fin 256 from x 0) := Fin.ext (by have := hx 0; simpa using this)
    have h1 : k = unit4 (show Fin 512 from x 1) := Fin.ext (by have := hx 1; simpa using this)
    rw [e, h1, h0]
    exact gate4_at b _ _
  refine View.allAt_cons_unit _ _ _ _ _ (fun x hx => ?_) ?_
  · have e : x = ix2 (show Fin 256 from x 0) (show Fin 512 from x 1) := by funext a; fin_cases a <;> rfl
    have h0 : r = (show Fin 256 from x 0) := Fin.ext (by have := hx 0; simpa using this)
    have h1 : k = unit3 (show Fin 512 from x 1) := Fin.ext (by have := hx 1; simpa using this)
    rw [e, h1, h0]
    exact gate3_at b _ _
  refine View.allAt_cons_unit _ _ _ _ _ (fun x hx => ?_) ?_
  · have e : x = ix2 (show Fin 256 from x 0) (show Fin 512 from x 1) := by funext a; fin_cases a <;> rfl
    have h0 : r = (show Fin 256 from x 0) := Fin.ext (by have := hx 0; simpa using this)
    have h1 : k = unit2 (show Fin 512 from x 1) := Fin.ext (by have := hx 1; simpa using this)
    rw [e, h1, h0]
    exact gate2_at b _ _
  refine View.allAt_cons_unit _ _ _ _ _ (fun x hx => ?_) ?_
  · have e : x = ix2 (show Fin 256 from x 0) (show Fin 512 from x 1) := by funext a; fin_cases a <;> rfl
    have h0 : r = (show Fin 256 from x 0) := Fin.ext (by have := hx 0; simpa using this)
    have h1 : k = unit1 (show Fin 512 from x 1) := Fin.ext (by have := hx 1; simpa using this)
    rw [e, h1, h0]
    exact gate1_at b _ _
  refine View.allAt_cons_unit _ _ _ _ _ (fun x hx => ?_) ?_
  · have e : x = ix2 (show Fin 256 from x 0) (show Fin 512 from x 1) := by funext a; fin_cases a <;> rfl
    have h0 : r = (show Fin 256 from x 0) := Fin.ext (by have := hx 0; simpa using this)
    have h1 : k = unit0 (show Fin 512 from x 1) := Fin.ext (by have := hx 1; simpa using this)
    rw [e, h1, h0]
    exact gate0_at b _ _
  exact View.allAt_nil _ _

variable (m : (ℓ : Loc nD τ sig) → Buf (Elt Ideal) ℓ)

/-- The blocks point `t` loads. -/
abbrev blk (c : Dev nD) (t : Fin cfg0.N) : Blk :=
  ⟨iblk m c 0 t, iblk m c 1 t, iblk m c 2 t, iblk m c 3 t, iblk m c 4 t, iblk m c 5 t, iblk m c 6 t, iblk m c 7 t⟩

set_option maxHeartbeats 4000000 in
theorem out8 (c : Dev nD) (t : Fin cfg0.N) :
    (outsAt0 m c t.val t.isLt).1 = k0_pay1 (normOut (blk m c t)) (iblk m c 0 t) := by
  by_cases ht : t.val % 32 = 0
  · rw [outsAt0_A m c t ht]; frame_out; rfl
  · rw [outsAt0_B m c t ht]; frame_out; rfl

theorem out9 (c : Dev nD) (t : Fin cfg0.N) : (outsAt0 m c t.val t.isLt).2.1 = k0_pay3 (iblk m c 0 t) := by
  by_cases ht : t.val % 32 = 0
  · rw [outsAt0_A m c t ht]; frame_out
  · rw [outsAt0_B m c t ht]; frame_out

set_option maxHeartbeats 4000000 in
theorem out10 (c : Dev nD) (t : Fin cfg0.N) (r : Fin 256) (k : Fin 2816) :
    ((outsAt0 m c t.val t.isLt).2.2.1 (ix2 r k) : EReal) = gateAt (blk m c t) r k := by
  by_cases ht : t.val % 32 = 0
  · rw [outsAt0_A m c t ht]; frame_out; exact canon_gate (blk m c t) r k
  · rw [outsAt0_B m c t ht]; frame_out; exact canon_gate (blk m c t) r k

set_option maxHeartbeats 4000000 in
theorem out11 (c : Dev nD) (t : Fin cfg0.N) (r : Fin 256) (k : Fin 2816) :
    ((outsAt0 m c t.val t.isLt).2.2.2.1 (ix2 r k) : EReal) = upAt (blk m c t) r k := by
  by_cases ht : t.val % 32 = 0
  · rw [outsAt0_A m c t ht]; frame_out; exact canon_up (blk m c t) r k
  · rw [outsAt0_B m c t ht]; frame_out; exact canon_up (blk m c t) r k

set_option maxHeartbeats 4000000 in
theorem out12_reset (c : Dev nD) (t : Fin cfg0.N) (ht : t.val % 32 = 0) :
    (outsAt0 m c t.val t.isLt).2.2.2.2 = gainOut (blk m c t) (k0_pay2 (F := Ideal)) := by
  rw [outsAt0_A m c t ht]; frame_out; rfl
set_option maxHeartbeats 4000000 in
theorem out12_step (c : Dev nD) (t : Fin cfg0.N) (ht : ¬ t.val % 32 = 0) :
    (outsAt0 m c t.val t.isLt).2.2.2.2
      = gainOut (blk m c t) (outsAt0 m c (t.val - 1) (lt_of_le_of_lt (Nat.sub_le _ _) t.isLt)).2.2.2.2 := by
  rw [outsAt0_B m c t ht]; frame_out; rfl

end Cert.InputKernelIdeal.Hand

end
-- ==== Proof.InputRef.lean ====
/-
  The gradient of a feed-forward layer with respect to its input, layer by layer as the reference's host operations compute
  it, and every layer's value at a coordinate over the extended reals.
-/
module

public import proofs.«01_k».proof.Proof.Gen.InputReferenceIdeal.Run
public import Idealize.ShloMosaic.Lib.Pointwise

@[expose] public section

set_option maxRecDepth 65536

noncomputable section

namespace Cert.InputReferenceIdeal.Hand

open Cert.InputReferenceIdeal Cert.InputReferenceIdeal.Facts₀ Cert.InputReferenceIdeal.Value
open Idealize.ShloMosaic Idealize.ShloMosaic.TcCoe

/-- The six arguments: the gradient of the result, the input, the norm's gain and the three weights. -/
structure Args where
  dxo : FVec Ideal S8192x1024 .f32
  x : FVec Ideal S8192x1024 .f32
  g : FVec Ideal S1x1024 .f32
  wg : FVec Ideal S2816x1024 .bf16
  wu : FVec Ideal S2816x1024 .bf16
  wd : FVec Ideal S2816x1024 .bf16

variable (a : Args)

/-- The mean square of a row plus epsilon. -/
def den : FVec Ideal S8192x1 .f32 :=
  addf (Host.divf (broadcastInDim S8192x1 ![0] bcast_S8192_S8192x1_0 (Host.reduceAdd (mulf a.x a.x)
    (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32))
/-- Its reciprocal square root. -/
def rstd : FVec Ideal S8192x1 .f32 := Host.rsqrt (den a)
/-- The derivative of the reciprocal square root: −½ · rstd / den. -/
def slope : FVec Ideal S8192x1 .f32 :=
  mulf (broadcastInDim S8192x1 ![] bcast_S_S8192x1 (constant S_ .f32 0xBF000000#32)) (Host.divf (rstd a) (den a))
/-- The normalised input. -/
def xhat : FVec Ideal S8192x1024 .f32 := mulf a.x (broadcastInDim S8192x1024 ![0, 1] bcast_S8192x1_S8192x1024_0_1 (rstd a))
/-- The gain as a row. -/
def gain : FVec Ideal S1x1024 .f32 := broadcastInDim S1x1024 ![1] bcast_S1024_S1x1024_1 (shapeCast S1024 a.g shapeCasts_S1x1024_S1024)
/-- The normed input of the layer. -/
def hid : FVec Ideal S8192x1024 .f32 := mulf (xhat a) (broadcastInDim S8192x1024 ![0, 1] bcast_S1x1024_S8192x1024_0_1 (gain a))
/-- The two hidden products. -/
def gate : FVec Ideal S8192x2816 .f32 := Host.dotGeneral dot_S8192x1024_S1024x2816_S8192x2816_1_0_0_1_n_n none (hid a)
  (transpose S1024x2816 [1, 0] (extf .f32 a.wg bitsLt_bf16_f32) transposes_S2816x1024_S1024x2816_1_0)
def up : FVec Ideal S8192x2816 .f32 := Host.dotGeneral dot_S8192x1024_S1024x2816_S8192x2816_1_0_0_1_n_n none (hid a)
  (transpose S1024x2816 [1, 0] (extf .f32 a.wu bitsLt_bf16_f32) transposes_S2816x1024_S1024x2816_1_0)
/-- The logistic function of the gate. -/
def sg : FVec Ideal S8192x2816 .f32 :=
  Host.divf (broadcastInDim S8192x2816 ![] bcast_S_S8192x2816 (constant S_ .f32 0x3F800000#32))
    (addf (broadcastInDim S8192x2816 ![] bcast_S_S8192x2816 (constant S_ .f32 0x3F800000#32)) (Host.exp (Host.negf (gate a))))
/-- Half the incoming gradient: the gradient of the layer's product with the third weight. -/
def dff : FVec Ideal S8192x1024 .f32 :=
  mulf (broadcastInDim S8192x1024 ![] bcast_S_S8192x1024 (constant S_ .f32 0x3F000000#32))
    (shapeCast S8192x1024 a.dxo shapeCasts_S8192x1024_S8192x1024)
/-- The gradient of the gated hidden product. -/
def dact : FVec Ideal S8192x2816 .f32 := Host.dotGeneral dot_S8192x1024_S2816x1024_S8192x2816_1_1_0_0_n_n none (dff a)
  (extf .f32 a.wd bitsLt_bf16_f32)
def dup : FVec Ideal S8192x2816 .f32 := mulf (mulf (gate a) (sg a)) (dact a)
def dsilu : FVec Ideal S8192x2816 .f32 := mulf (dact a) (up a)
def dgate : FVec Ideal S8192x2816 .f32 :=
  addf (mulf (dsilu a) (sg a)) (mulf (mulf (gate a) (dsilu a))
    (mulf (sg a) (subf (broadcastInDim S8192x2816 ![] bcast_S_S8192x2816 (constant S_ .f32 0x3F800000#32)) (sg a))))
/-- The gradient of the normed input. -/
def dhid : FVec Ideal S8192x1024 .f32 :=
  addf (Host.dotGeneral dot_S8192x2816_S1024x2816_S8192x1024_1_1_0_0_n_n none (dup a)
      (transpose S1024x2816 [1, 0] (extf .f32 a.wu bitsLt_bf16_f32) transposes_S2816x1024_S1024x2816_1_0))
    (Host.dotGeneral dot_S8192x2816_S1024x2816_S8192x1024_1_1_0_0_n_n none (dgate a)
      (transpose S1024x2816 [1, 0] (extf .f32 a.wg bitsLt_bf16_f32) transposes_S2816x1024_S1024x2816_1_0))
/-- The gradient of the gain. -/
def dgain : FVec Ideal S1024 .f32 :=
  Host.reduceAdd (shapeCast S1x1024 (Host.reduceAdd (mulf (xhat a) (dhid a)) (constant S_ .f32 0x00000000#32)
    reducesTo_S8192x1024_S1024_d0 h_S_) shapeCasts_S1024_S1x1024) (constant S_ .f32 0x00000000#32) reducesTo_S1x1024_S1024_d0 h_S_
/-- The gradient of the normalised input. -/
def dxhat : FVec Ideal S8192x1024 .f32 := mulf (dhid a) (broadcastInDim S8192x1024 ![0, 1] bcast_S1x1024_S8192x1024_0_1 (gain a))
/-- The gradient of one square of the row, through the mean and the reciprocal square root. -/
def dsq : FVec Ideal S8192 .f32 :=
  Host.reduceAdd (Host.divf (mulf (shapeCast S8192x1 (Host.reduceAdd (mulf a.x (dxhat a)) (constant S_ .f32 0x00000000#32)
    reducesTo_S8192x1024_S8192_d1 h_S_) shapeCasts_S8192_S8192x1) (slope a))
    (broadcastInDim S8192x1 ![] bcast_S_S8192x1 (constant S_ .f32 0x44800000#32))) (constant S_ .f32 0x00000000#32)
    reducesTo_S8192x1_S8192_d1 h_S_
/-- The gradient of the input. -/
def dx : FVec Ideal S8192x1024 .f32 :=
  addf a.dxo (addf (addf (mulf (dxhat a) (broadcastInDim S8192x1024 ![0, 1] bcast_S8192x1_S8192x1024_0_1 (rstd a)))
    (mulf a.x (broadcastInDim S8192x1024 ![0] bcast_S8192_S8192x1024_0 (dsq a))))
    (mulf (broadcastInDim S8192x1024 ![0] bcast_S8192_S8192x1024_0 (dsq a)) a.x))

/-! ### The printed results are these layers -/

abbrev args (m : (ℓ : Loc nD τ Cert.InputReferenceIdeal.sig) → Buf (Elt Ideal) ℓ) (c : Dev nD) : Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5)⟩

theorem res_dx (m : (ℓ : Loc nD τ Cert.InputReferenceIdeal.sig) → Buf (Elt Ideal) ℓ) (c : Dev nD) :
    res_main_v60 (F := Ideal) m c = dx (args m c) := by
  rfl
theorem res_dgate (m : (ℓ : Loc nD τ Cert.InputReferenceIdeal.sig) → Buf (Elt Ideal) ℓ) (c : Dev nD) :
    res_main_v62 (F := Ideal) m c = truncf .bf16 (dgate (args m c)) bitsLt_bf16_f32 := by
  rfl
theorem res_dg (m : (ℓ : Loc nD τ Cert.InputReferenceIdeal.sig) → Buf (Elt Ideal) ℓ) (c : Dev nD) :
    res_main_v45 (F := Ideal) m c = dgain (args m c) := by
  rfl

/-! ### Every layer at a coordinate -/

theorem den_at (r : Fin 8192) (z : Fin 1) : (den a (ix2 r z) : EReal)
    = Ideal.div (∑ l : Fin 1024, a.x (ix2 r l) * a.x (ix2 r l)) (FloatOps.ofBits (F := Ideal) .f32 0x44800000#32) + FloatOps.ofBits (F := Ideal) .f32 0x358637BD#32 := by
  pointwise [den]
theorem rstd_at (r : Fin 8192) (z : Fin 1) : (rstd a (ix2 r z) : EReal) = Ideal.rsqrt (den a (ix2 r 0)) := by
  obtain rfl : z = 0 := Subsingleton.elim _ _
  pointwise [rstd]
theorem xhat_at (r : Fin 8192) (l : Fin 1024) : (xhat a (ix2 r l) : EReal) = a.x (ix2 r l) * rstd a (ix2 r 0) := by
  pointwise [xhat]
theorem gain_at (z : Fin 1) (l : Fin 1024) : (gain a (ix2 z l) : EReal) = a.g (ix2 0 l) := by
  pointwise [gain]
theorem hid_at (r : Fin 8192) (l : Fin 1024) : (hid a (ix2 r l) : EReal) = xhat a (ix2 r l) * gain a (ix2 0 l) := by
  pointwise [hid]
theorem gate_at (r : Fin 8192) (k : Fin 2816) : (gate a (ix2 r k) : EReal) = ∑ l : Fin 1024, hid a (ix2 r l) * a.wg (ix2 k l) := by
  pointwise [gate]
theorem up_at (r : Fin 8192) (k : Fin 2816) : (up a (ix2 r k) : EReal) = ∑ l : Fin 1024, hid a (ix2 r l) * a.wu (ix2 k l) := by
  pointwise [up]
theorem sg_at (r : Fin 8192) (k : Fin 2816) : (sg a (ix2 r k) : EReal) = Ideal.div 1 (1 + Ideal.exp (-(gate a (ix2 r k)))) := by
  pointwise [sg]
theorem dff_at (r : Fin 8192) (l : Fin 1024) : (dff a (ix2 r l) : EReal) = FloatOps.ofBits (F := Ideal) .f32 0x3F000000#32 * a.dxo (ix2 r l) := by
  pointwise [dff]
theorem dact_at (r : Fin 8192) (k : Fin 2816) : (dact a (ix2 r k) : EReal) = ∑ l : Fin 1024, dff a (ix2 r l) * a.wd (ix2 k l) := by
  pointwise [dact]
theorem dup_at (r : Fin 8192) (k : Fin 2816) : (dup a (ix2 r k) : EReal) = gate a (ix2 r k) * sg a (ix2 r k) * dact a (ix2 r k) := by
  pointwise [dup]
theorem dsilu_at (r : Fin 8192) (k : Fin 2816) : (dsilu a (ix2 r k) : EReal) = dact a (ix2 r k) * up a (ix2 r k) := by
  pointwise [dsilu]
theorem dgate_at (r : Fin 8192) (k : Fin 2816) : (dgate a (ix2 r k) : EReal) = dsilu a (ix2 r k) * sg a (ix2 r k)
    + gate a (ix2 r k) * dsilu a (ix2 r k) * (sg a (ix2 r k) * (1 - sg a (ix2 r k))) := by
  pointwise [dgate]
theorem dhid_at (r : Fin 8192) (l : Fin 1024) : (dhid a (ix2 r l) : EReal)
    = ∑ k : Fin 2816, dup a (ix2 r k) * a.wu (ix2 k l) + ∑ k : Fin 2816, dgate a (ix2 r k) * a.wg (ix2 k l) := by
  pointwise [dhid]
theorem dgain_at (l : Fin 1024) : (dgain a (ix1 l) : EReal) = ∑ r : Fin 8192, xhat a (ix2 r l) * dhid a (ix2 r l) := by
  pointwise [dgain]
  exact Fin.sum_univ_one _
theorem dxhat_at (r : Fin 8192) (l : Fin 1024) : (dxhat a (ix2 r l) : EReal) = dhid a (ix2 r l) * gain a (ix2 0 l) := by
  pointwise [dxhat]
theorem slope_at (r : Fin 8192) (z : Fin 1) : (slope a (ix2 r z) : EReal)
    = FloatOps.ofBits (F := Ideal) .f32 0xBF000000#32 * Ideal.div (rstd a (ix2 r z)) (den a (ix2 r z)) := by
  pointwise [slope]
theorem dsq_at (r : Fin 8192) : (dsq a (ix1 r) : EReal)
    = Ideal.div ((∑ l : Fin 1024, a.x (ix2 r l) * dxhat a (ix2 r l)) * slope a (ix2 r 0)) (FloatOps.ofBits (F := Ideal) .f32 0x44800000#32) := by
  pointwise [dsq]
  exact Fin.sum_univ_one _
theorem dx_at (r : Fin 8192) (l : Fin 1024) : (dx a (ix2 r l) : EReal)
    = a.dxo (ix2 r l) + (dxhat a (ix2 r l) * rstd a (ix2 r 0) + a.x (ix2 r l) * dsq a (ix1 r) + dsq a (ix1 r) * a.x (ix2 r l)) := by
  pointwise [dx]

end Cert.InputReferenceIdeal.Hand

end
-- ==== Proof.RealFacts.lean ====
/-
  Extended reals that are real numbers: what keeps them real, and two identities between the two ways of writing a gradient
  that hold because multiplication distributes over a sum of real numbers.
-/
module

public import proofs.«01_k».proof.Proof.RefMath
public import Idealize.ShloMosaic.Lib.Pointwise

@[expose] public section

noncomputable section

namespace Cert.RealFacts

open Idealize.ShloMosaic

/-- A real number among the extended reals. -/
def IsReal (z : EReal) : Prop := ∃ r : ℝ, z = (r : EReal)

theorem IsReal.coe (r : ℝ) : IsReal (r : EReal) := ⟨r, rfl⟩
theorem IsReal.add {a b : EReal} (ha : IsReal a) (hb : IsReal b) : IsReal (a + b) := by
  obtain ⟨x, rfl⟩ := ha
  obtain ⟨y, rfl⟩ := hb
  exact ⟨x + y, (EReal.coe_add x y).symm⟩
theorem IsReal.mul {a b : EReal} (ha : IsReal a) (hb : IsReal b) : IsReal (a * b) := by
  obtain ⟨x, rfl⟩ := ha
  obtain ⟨y, rfl⟩ := hb
  exact ⟨x * y, (EReal.coe_mul x y).symm⟩
theorem IsReal.sub {a b : EReal} (ha : IsReal a) (hb : IsReal b) : IsReal (a - b) := by
  obtain ⟨x, rfl⟩ := ha
  obtain ⟨y, rfl⟩ := hb
  exact ⟨x - y, (EReal.coe_sub x y).symm⟩
theorem IsReal.sum {ι : Type*} (s : Finset ι) {f : ι → EReal} (h : ∀ i, IsReal (f i)) : IsReal (∑ i ∈ s, f i) := by
  classical
  refine Finset.induction_on s ⟨0, by simp⟩ fun i s hi ih => ?_
  rw [Finset.sum_insert hi]
  exact (h i).add ih
/-- A finite sum of reals, taken among the extended reals. -/
theorem coe_sum {ι : Type*} (s : Finset ι) (f : ι → ℝ) : ∑ i ∈ s, (f i : EReal) = ((∑ i ∈ s, f i : ℝ) : EReal) := by
  classical
  refine Finset.induction_on s (by simp) fun i s hi ih => ?_
  rw [Finset.sum_insert hi, Finset.sum_insert hi, ih, EReal.coe_add]

/-- The constants 1024, ½, −½ and the norm's epsilon. -/
theorem width : Ideal.ofBits .f32 0x44800000#32 = ((1024 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem neg_half : Ideal.ofBits .f32 0xBF000000#32 = ((-(1 / 2) : ℝ) : EReal) := by
  simp [Ideal.ofBits, Ideal.ieee, -EReal.coe_mul]; norm_num
theorem eps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- A mean of squares plus epsilon is a positive real. -/
theorem den_pos {f : Fin 1024 → EReal} (h : ∀ l, IsReal (f l)) :
    ∃ d : ℝ, 0 < d ∧ Ideal.div (∑ l, f l * f l) (Ideal.ofBits .f32 0x44800000#32) + Ideal.ofBits .f32 0x358637BD#32 = (d : EReal) := by
  choose x hx using h
  obtain ⟨e, he, hb⟩ := eps
  refine ⟨(∑ l, x l * x l) * (1 / 1024) + e, ?_, ?_⟩
  · have : 0 ≤ ∑ l, x l * x l := Finset.sum_nonneg fun l _ => mul_self_nonneg _
    positivity
  · rw [width, hb, Ideal.div_coe (by norm_num), show (∑ l, f l * f l) = ((∑ l, x l * x l : ℝ) : EReal) from by
      rw [← coe_sum]; exact Finset.sum_congr rfl fun l _ => by rw [hx, EReal.coe_mul]]
    rw [← EReal.coe_mul, ← EReal.coe_add]

/-- The reciprocal square root of a positive real. -/
theorem rsqrt_pos {d : ℝ} (h : 0 < d) : Ideal.rsqrt (d : EReal) = (((Real.sqrt d)⁻¹ : ℝ) : EReal) := by
  rw [Ideal.rsqrt_coe, if_neg (not_lt.mpr h.le), if_neg h.ne']

/-- The logistic function of a real is a real. -/
theorem logistic_real {g : EReal} (h : IsReal g) : IsReal (Ideal.div 1 (1 + Ideal.exp (-g))) := by
  obtain ⟨x, rfl⟩ := h
  have hx : (0 : ℝ) < 1 + Real.exp (-x) := by positivity
  refine ⟨1 * (1 / (1 + Real.exp (-x))), ?_⟩
  rw [← EReal.coe_neg, Ideal.exp_coe, ← EReal.coe_one, ← EReal.coe_add, Ideal.div_coe hx.ne', ← EReal.coe_mul]

/-- The gradient of the gate: the derivative of z·σ(z) as one factor, and as the sum over its two factors, for a real cotangent.
    An infinite gate has σ at one or zero and then both forms leave the cotangent or zero. -/
theorem gate_grad {a : EReal} (ha : IsReal a) (g : EReal) :
    a * (Ideal.div 1 (1 + Ideal.exp (-g)) * (1 + g * (1 - Ideal.div 1 (1 + Ideal.exp (-g)))))
      = a * Ideal.div 1 (1 + Ideal.exp (-g)) + g * a * (Ideal.div 1 (1 + Ideal.exp (-g)) * (1 - Ideal.div 1 (1 + Ideal.exp (-g)))) := by
  induction g with
  | bot =>
    have h0 : Ideal.div 1 (1 + Ideal.exp (-⊥)) = 0 := by
      have h1 : Ideal.exp (-⊥) = ⊤ := by rw [EReal.neg_bot]; rfl
      have h2 : (1 : EReal) + ⊤ = ⊤ := EReal.coe_add_top 1
      rw [h1, h2]
      simp [Ideal.div]
    rw [h0]
    simp
  | top =>
    have h0 : Ideal.div 1 (1 + Ideal.exp (-⊤)) = 1 := by
      have h1 : Ideal.exp (-⊤) = 0 := by rw [EReal.neg_top]; rfl
      rw [h1, add_zero, ← EReal.coe_one, Ideal.div_coe one_ne_zero, ← EReal.coe_mul]
      norm_num
    have h3 : (1 : EReal) - 1 = 0 := by rw [← EReal.coe_one, ← EReal.coe_sub]; simp
    rw [h0, h3]
    simp
  | coe g =>
    obtain ⟨s, hs⟩ := logistic_real (IsReal.coe g)
    obtain ⟨a, rfl⟩ := ha
    rw [hs, ← EReal.coe_one]
    simp only [← EReal.coe_mul, ← EReal.coe_add, ← EReal.coe_sub]
    congr 1
    ring

/-- A nonnegative real factor goes into a finite sum of extended reals. -/
theorem coe_mul_sum {ι : Type*} (s : Finset ι) {c : ℝ} (hc : 0 ≤ c) (f : ι → EReal) :
    (c : EReal) * ∑ i ∈ s, f i = ∑ i ∈ s, (c : EReal) * f i := by
  classical
  refine Finset.induction_on s (by simp) fun i s hi ih => ?_
  rw [Finset.sum_insert hi, Finset.sum_insert hi,
    EReal.left_distrib_of_nonneg_of_ne_top (EReal.coe_nonneg.mpr hc) (EReal.coe_ne_top c), ih]
theorem add_self (z : EReal) : z + z = ((2 : ℝ) : EReal) * z := by
  have h : ((2 : ℝ) : EReal) = ((1 : ℝ) : EReal) + ((1 : ℝ) : EReal) := by rw [← EReal.coe_add]; norm_num
  rw [h, EReal.right_distrib_of_nonneg (EReal.coe_nonneg.mpr zero_le_one) (EReal.coe_nonneg.mpr zero_le_one), EReal.coe_one, one_mul]

/-- The mean square of a row plus epsilon. -/
def denAt (x : Fin 1024 → EReal) : EReal :=
  Ideal.div (∑ l, x l * x l) (Ideal.ofBits .f32 0x44800000#32) + Ideal.ofBits .f32 0x358637BD#32

theorem sq_nonneg' (z : EReal) : 0 ≤ z * z := by
  induction z with
  | bot => simp
  | top => simp
  | coe x => rw [← EReal.coe_mul]; exact EReal.coe_nonneg.mpr (mul_self_nonneg x)
/-- A row with an infinite entry has an infinite mean square. -/
theorem den_cases (x : Fin 1024 → EReal) : (∀ l, IsReal (x l)) ∨ denAt x = ⊤ := by
  by_cases h : ∀ l, IsReal (x l)
  · exact .inl h
  · right
    obtain ⟨l, hl⟩ := not_forall.mp h
    have h1 : x l * x l = ⊤ := by
      generalize x l = z at hl
      induction z with
      | bot => simp
      | top => simp
      | coe x => exact absurd (IsReal.coe x) hl
    have h2 : ∑ l, x l * x l = ⊤ :=
      top_le_iff.mp (h1 ▸ Finset.single_le_sum (f := fun l => x l * x l) (fun l _ => sq_nonneg' (x l)) (Finset.mem_univ l))
    obtain ⟨e, he, hb⟩ := eps
    rw [denAt, h2, hb, width, Ideal.div_coe (by norm_num), EReal.top_mul_coe_of_pos (by norm_num), EReal.top_add_coe]

/-- The gradient of a normalised row of reals, for an arbitrary cotangent: with the mean taken of the normalised row, and with
    the derivative of the reciprocal square root carried to every square. -/
theorem norm_grad {X : Fin 1024 → EReal} (A : Fin 1024 → EReal) (hX : ∀ l, IsReal (X l)) {d : ℝ} (hd : 0 < d) (l : Fin 1024) :
    Ideal.rsqrt d * (A l - X l * Ideal.rsqrt d * Ideal.div (∑ k, A k * (X k * Ideal.rsqrt d)) (Ideal.ofBits .f32 0x44800000#32))
      = A l * Ideal.rsqrt d
        + X l * Ideal.div ((∑ k, X k * A k) * (Ideal.ofBits .f32 0xBF000000#32 * Ideal.div (Ideal.rsqrt d) d)) (Ideal.ofBits .f32 0x44800000#32)
        + Ideal.div ((∑ k, X k * A k) * (Ideal.ofBits .f32 0xBF000000#32 * Ideal.div (Ideal.rsqrt d) d)) (Ideal.ofBits .f32 0x44800000#32) * X l := by
  obtain ⟨x, hx⟩ := hX l
  have hsq : (Real.sqrt d)⁻¹ * (Real.sqrt d)⁻¹ = 1 / d := by
    rw [← mul_inv, Real.mul_self_sqrt hd.le, one_div]
  have hr0 : 0 ≤ (Real.sqrt d)⁻¹ := inv_nonneg.mpr (Real.sqrt_nonneg d)
  rw [rsqrt_pos hd, width, neg_half, Ideal.div_coe hd.ne', Ideal.div_coe (by norm_num),
    Ideal.div_coe (by norm_num)]
  generalize hr : (Real.sqrt d)⁻¹ = r at hsq hr0
  have hS : (∑ k, A k * (X k * (r : EReal))) = (r : EReal) * ∑ k, X k * A k := by
    rw [coe_mul_sum _ hr0]
    exact Finset.sum_congr rfl fun k _ => by ac_rfl
  rw [hS, hx]
  generalize (∑ k, X k * A k) = S
  rw [add_assoc, mul_comm _ (x : EReal), add_self, sub_eq_add_neg,
    EReal.left_distrib_of_nonneg_of_ne_top (EReal.coe_nonneg.mpr hr0) (EReal.coe_ne_top r), mul_comm (r : EReal) (A l)]
  congr 1
  have e1 : (r : EReal) * -((x : EReal) * r * (r * S * ((1 / 1024 : ℝ) : EReal)))
      = -(((r * x * r * r * (1 / 1024) : ℝ) : EReal) * S) := by
    rw [mul_comm, EReal.neg_mul]
    simp only [EReal.coe_mul]
    congr 1
    ac_rfl
  have e2 (c : ℝ) : ((2 : ℝ) : EReal) * ((x : EReal) * (S * ((c : EReal) * ((r : EReal) * ((1 / d : ℝ) : EReal))) * ((1 / 1024 : ℝ) : EReal)))
      = ((2 * x * c * r * (1 / d) * (1 / 1024) : ℝ) : EReal) * S := by
    simp only [EReal.coe_mul]
    ac_rfl
  rw [e1, e2, ← EReal.neg_mul, ← EReal.coe_neg]
  congr 2
  rw [← hsq]
  ring

/-- A value whose magnitude compares below +∞ is a real. -/
theorem real_of (z : EReal) (h : FloatOps.cmpf (F := Ideal) (φ := .f32) .olt (FloatOps.hostAbsf (F := Ideal) (φ := .f32) z)
    (Ideal.ofBits .f32 0x7F800000#32) = 1#1) : IsReal z := by
  have h1 : Ideal.cmp .olt (max z (-z)) (Ideal.ofBits .f32 0x7F800000#32) = 1#1 := h
  have h2 : Ideal.ofBits .f32 0x7F800000#32 = ⊤ := by simp [Ideal.ofBits, Ideal.ieee]
  rw [h2] at h1
  have h3 : max z (-z) < ⊤ := by
    by_contra hn
    simp [Ideal.cmp, hn] at h1
  induction z with
  | bot => simp at h3
  | top => simp at h3
  | coe x => exact ⟨x, rfl⟩

end Cert.RealFacts

end
-- ==== Proof.InputReal.lean ====
/-
  With a finite cotangent, gain, up and down weight the gate's cotangent is a real, and there the derivative of the logistic
  gate may be written factored, as one block of the kernel computes it; that of the normalisation may be for all arguments.
-/
module

public import proofs.«01_k».proof.Proof.InputRef
public import proofs.«01_k».proof.Proof.InputBlock
public import proofs.«01_k».proof.Proof.RealFacts

@[expose] public section

set_option maxRecDepth 65536

noncomputable section

namespace Cert.InputReferenceIdeal.Hand

open Cert.InputReferenceIdeal
open Idealize.ShloMosaic Idealize.ShloMosaic.TcCoe
open Cert.RealFacts (IsReal)
open Cert.InputKernelIdeal.Hand (sgm toUp toGate denAt)

/-- Every entry of the cotangent, the gain, the up and the down weight is a real. -/
structure Reals (a : Args) : Prop where
  dxo : ∀ r l, IsReal (a.dxo (ix2 r l))
  g : ∀ l, IsReal (a.g (ix2 0 l))
  wu : ∀ k l, IsReal (a.wu (ix2 k l))
  wd : ∀ k l, IsReal (a.wd (ix2 k l))

variable {a : Args} (h : Reals a)

theorem sgm_neg (z : EReal) : sgm z = Ideal.div 1 (1 + Ideal.exp (-z)) := by
  rw [sgm, sub_eq_add_neg, zero_add]

/-- A normalised row is real whatever the row: one with an infinite entry becomes zero. -/
theorem xhat_real (r : Fin 8192) (l : Fin 1024) : IsReal (xhat a (ix2 r l)) := by
  have hden : den a (ix2 r 0) = denAt fun l => a.x (ix2 r l) := den_at a r 0
  rw [xhat_at, rstd_at, hden]
  rcases Cert.RealFacts.den_cases fun l => a.x (ix2 r l) with h | h
  · obtain ⟨d, hd, e⟩ := Cert.RealFacts.den_pos h
    have e' : denAt (fun l => a.x (ix2 r l)) = (d : EReal) := e
    rw [e', Cert.RealFacts.rsqrt_pos hd]
    exact (h l).mul (.coe _)
  · have h' : denAt (fun l => a.x (ix2 r l)) = ⊤ := h
    have hr : Ideal.rsqrt (⊤ : EReal) = 0 := rfl
    rw [h', hr, mul_zero]
    exact ⟨0, rfl⟩

include h

theorem Reals.gain (l : Fin 1024) : IsReal (gain a (ix2 0 l)) := by
  rw [gain_at]; exact h.g l
theorem Reals.hid (r : Fin 8192) (l : Fin 1024) : IsReal (hid a (ix2 r l)) := by
  rw [hid_at]; exact (xhat_real r l).mul (h.gain l)
theorem Reals.up (r : Fin 8192) (k : Fin 2816) : IsReal (up a (ix2 r k)) := by
  rw [up_at]; exact .sum _ fun l => (h.hid r l).mul (h.wu k l)
theorem Reals.dff (r : Fin 8192) (l : Fin 1024) : IsReal (dff a (ix2 r l)) := by
  rw [dff_at]
  exact IsReal.mul ⟨_, Cert.RealFacts.half⟩ (h.dxo r l)
theorem Reals.dact (r : Fin 8192) (k : Fin 2816) : IsReal (dact a (ix2 r k)) := by
  rw [dact_at]; exact .sum _ fun l => (h.dff r l).mul (h.wd k l)
theorem Reals.dsilu (r : Fin 8192) (k : Fin 2816) : IsReal (dsilu a (ix2 r k)) := by
  rw [dsilu_at]; exact (h.dact r k).mul (h.up r k)
omit h in
/-- The linear factor's gradient as a block computes it; this one holds for all arguments. -/
theorem dup_block (r : Fin 8192) (k : Fin 2816) : dup a (ix2 r k) = toUp (dact a (ix2 r k)) (gate a (ix2 r k)) := by
  rw [dup_at, sg_at, ← sgm_neg, toUp, mul_comm]
/-- The gate's gradient as a block computes it. -/
theorem dgate_block (r : Fin 8192) (k : Fin 2816) :
    dgate a (ix2 r k) = toGate (dact a (ix2 r k)) (gate a (ix2 r k)) (up a (ix2 r k)) := by
  rw [dgate_at, sg_at, ← Cert.RealFacts.gate_grad (h.dsilu r k), dsilu_at, toGate, sgm_neg]
omit h in
/-- The input's gradient as a block computes it; this one holds for all arguments. -/
theorem dx_block (r : Fin 8192) (l : Fin 1024) : dx a (ix2 r l) = a.dxo (ix2 r l)
    + Ideal.rsqrt (denAt fun l => a.x (ix2 r l)) * (dhid a (ix2 r l) * a.g (ix2 0 l)
      - a.x (ix2 r l) * Ideal.rsqrt (denAt fun l => a.x (ix2 r l)) * Ideal.div (∑ k, dhid a (ix2 r k) * a.g (ix2 0 k)
        * (a.x (ix2 r k) * Ideal.rsqrt (denAt fun l => a.x (ix2 r l)))) (Ideal.ofBits .f32 0x44800000#32)) := by
  have hA : ∀ l, dhid a (ix2 r l) * a.g (ix2 0 l) = dxhat a (ix2 r l) := fun l => by rw [dxhat_at, gain_at]
  simp only [hA]
  have hden : den a (ix2 r 0) = denAt fun l => a.x (ix2 r l) := den_at a r 0
  rcases Cert.RealFacts.den_cases fun l => a.x (ix2 r l) with h | h
  · obtain ⟨d, hd, e⟩ := Cert.RealFacts.den_pos h
    have e' : denAt (fun l => a.x (ix2 r l)) = (d : EReal) := e
    rw [e'] at hden
    rw [e', Cert.RealFacts.norm_grad (X := fun l => a.x (ix2 r l)) (fun k => dxhat a (ix2 r k)) h hd l, dx_at, dsq_at, slope_at, rstd_at, hden]
    rfl
  · have h' : denAt (fun l => a.x (ix2 r l)) = ⊤ := h
    rw [h'] at hden
    have hr : Ideal.rsqrt (⊤ : EReal) = 0 := rfl
    have hs : Ideal.div (0 : EReal) ⊤ = 0 := by simp [Ideal.div]
    rw [h', hr, zero_mul, dx_at, dsq_at, slope_at, rstd_at, hden, hr, hs]
    have hz : Ideal.div (0 : EReal) (FloatOps.ofBits (F := Ideal) .f32 0x44800000#32) = 0 := by
      show Ideal.div 0 (Ideal.ofBits .f32 0x44800000#32) = 0
      rw [Cert.RealFacts.width, Ideal.div_coe (by norm_num), zero_mul]
    simp only [mul_zero, hz, zero_mul, add_zero]

end Cert.InputReferenceIdeal.Hand

end
-- ==== Proof.InputRun.lean ====
/-
  What the input gradient's program leaves: four arrays of the region, and the gain's gradient, which the host sums over the
  eight rows the region leaves.
-/
module

public import proofs.«01_k».proof.Proof.Gen.InputKernelIdeal.Frame
public import Idealize.ShloMosaic.Lib.Pointwise
public import Idealize.ShloMosaic.Lib.Pipeline.ValueKit
public import Idealize.ShloMosaic.Lib.Claim

@[expose] public section

set_option maxRecDepth 65536

noncomputable section

namespace Cert.InputKernelIdeal.Hand

open Cert.InputKernelIdeal Cert.InputKernelIdeal.Gen
open Idealize.ShloMosaic Idealize.ShloMosaic.TcCoe
open Idealize.ShloMosaic.Pipeline (Dat)

variable (m : (ℓ : Loc nD τ sig) → Buf (Elt Ideal) ℓ)

/-- The gain's gradient over the region's eight rows. -/
def rowSum (v : FVec Ideal S8x1024 .f32) : FVec Ideal S1024 .f32 :=
  Host.reduceAdd (F := Ideal) (φ := .f32) v (constant S_ .f32 0x00000000#32) reducesTo_S8x1024_S1024_d0 h_S_

theorem rowSum_at (v : FVec Ideal S8x1024 .f32) (l : Fin 1024) : (rowSum v (ix1 l) : EReal) = ∑ i : Fin 8, v (ix2 i l) := by
  pointwise [rowSum]

/-- The host's sum at the end. -/
theorem tail (c : Dev nD) :
    Pipeline.afterTail₀ cfgs (dats m) 0 (V0 m) [hostOps1] c main_v18 = rowSum ((dats m 0 c).arrAt 12 (cfgs 0).N) := by
  unfold Pipeline.afterTail₀
  show StableHlo.after hostOps1 _ _ = _
  after_results
  exact congrArg rowSum (Pipeline.withArrays_arr (cfgs 0).spec (by decide +kernel) c _ _ 12)

/-- The run leaves the five results, and the arguments as they were. -/
theorem run_results (g : Dev nD → PrngReg) :
    θ_run defs (onTc (τ := τ) (main (F := Ideal))) ⟨m, fun _ => 0, g⟩ (fun r => ∀ c : Dev nD,
      r.2.mem ((c.tc : Thread nD τ).loc main_v17_0) = (dats m 0 c).arrAt 8 (cfgs 0).N
      ∧ r.2.mem ((c.tc : Thread nD τ).loc main_v17_1) = (dats m 0 c).arrAt 9 (cfgs 0).N
      ∧ r.2.mem ((c.tc : Thread nD τ).loc main_v17_2) = (dats m 0 c).arrAt 10 (cfgs 0).N
      ∧ r.2.mem ((c.tc : Thread nD τ).loc main_v17_3) = (dats m 0 c).arrAt 11 (cfgs 0).N
      ∧ r.2.mem ((c.tc : Thread nD τ).loc main_v18) = rowSum ((dats m 0 c).arrAt 12 (cfgs 0).N)) :=
  (θ_run defs _ _).mono (fun r h c => ⟨(h c).1 8, (h c).1 9, (h c).1 10, (h c).1 11,
    ((h c).2 main_v18 (by decide +kernel)).trans (tail m c)⟩) (run_main m g)

end Cert.InputKernelIdeal.Hand

end
-- ==== Proof.InputValue.lean ====
/-
  The input gradient of a feed-forward layer over the extended reals: the blocks the grid's 32 points leave, put together, are
  the reference's results when the cotangent, the gain, the up and the down weight are finite.
-/
module

public import proofs.«01_k».proof.Proof.InputPoint
public import proofs.«01_k».proof.Proof.InputReal
public import proofs.«01_k».proof.Proof.InputRun

@[expose] public section

set_option maxRecDepth 65536

noncomputable section

namespace Cert.InputKernelIdeal.Hand

open Cert.InputKernelIdeal Cert.InputKernelIdeal.Gen
open Idealize.ShloMosaic Idealize.ShloMosaic.TcCoe
open Idealize.ShloMosaic.Pipeline (Dat)
open Cert.InputReferenceIdeal.Hand (Args Reals)

variable (m : (ℓ : Loc nD τ sig) → Buf (Elt Ideal) ℓ)

/-- Point t works on rows 256 t to 256 t + 255 of the tokens, and on the whole gain and weights. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![0, 0] := (by decide +kernel : ∀ t : Fin grid0.N, _)

/-- The arguments. -/
abbrev argsK (c : Dev nD) : Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5)⟩

theorem points (t : Fin cfg0.N) : t.val < 32 := lt_of_lt_of_eq t.isLt (show cfg0.N = 32 from N_0)
/-- The token of row `r` of point `t`. -/
def tok (t : Fin cfg0.N) (r : Fin 256) : Fin 8192 := ⟨t.val * 256 + r.val, by have := points t; omega⟩

/-! ## What a point loads -/

theorem blk_d (c : Dev nD) (t : Fin cfg0.N) (r : Fin 256) (l : Fin 1024) :
    (iblk m c 0 t (ix2 r l) : EReal) = (argsK m c).dxo (ix2 (tok t r) l) := by
  blk_ext [iblk, V, idx t, tok]
theorem blk_x (c : Dev nD) (t : Fin cfg0.N) (r : Fin 256) (l : Fin 1024) :
    (iblk m c 1 t (ix2 r l) : EReal) = (argsK m c).x (ix2 (tok t r) l) := by
  blk_ext [iblk, V, idx t, tok]
theorem blk_n (c : Dev nD) (t : Fin cfg0.N) (l : Fin 1024) :
    (iblk m c 2 t (ix2 0 l) : EReal) = (argsK m c).g (ix2 0 l) := by
  blk_ext [iblk, V, idx t, tok]
theorem blk_wg (c : Dev nD) (t : Fin cfg0.N) (k : Fin 2816) (l : Fin 1024) :
    (iblk m c 5 t (ix2 k l) : EReal) = (argsK m c).wg (ix2 k l) := by
  blk_ext [iblk, V, idx t, tok]
theorem blk_wu (c : Dev nD) (t : Fin cfg0.N) (k : Fin 2816) (l : Fin 1024) :
    (iblk m c 6 t (ix2 k l) : EReal) = (argsK m c).wu (ix2 k l) := by
  blk_ext [iblk, V, idx t, tok]
theorem blk_wd (c : Dev nD) (t : Fin cfg0.N) (k : Fin 2816) (l : Fin 1024) :
    (iblk m c 7 t (ix2 k l) : EReal) = (argsK m c).wd (ix2 k l) := by
  blk_ext [iblk, V, idx t, tok]

/-! ## The gate and the linear factor, which the host computes first -/

/-- The normed input rounded to bf16, as the host computes it. -/
def hidK (x : FVec Ideal S8192x1024 .f32) (g : FVec Ideal S1x1024 .f32) : FVec Ideal S8192x1024 .bf16 :=
  truncf .bf16 (mulf (mulf x (broadcastInDim S8192x1024 ![0, 1] bcast_S8192x1_S8192x1024_0_1 (Host.rsqrt (addf (Host.divf
    (broadcastInDim S8192x1 ![0] bcast_S8192_S8192x1_0 (Host.reduceAdd (mulf x x) (constant S_ .f32 0x00000000#32)
      reducesTo_S8192x1024_S8192_d1 h_S_)) (broadcastInDim S8192x1 ![] bcast_S_S8192x1 (constant S_ .f32 0x44800000#32)))
    (broadcastInDim S8192x1 ![] bcast_S_S8192x1 (constant S_ .f32 0x358637BD#32))))))
    (broadcastInDim S8192x1024 ![0, 1] bcast_S1x1024_S8192x1024_0_1 g)) bitsLt_bf16_f32
/-- Its product with a weight, rounded to bf16. -/
def prodK (v : FVec Ideal S8192x1024 .bf16) (w : FVec Ideal S2816x1024 .bf16) : FVec Ideal S8192x2816 .bf16 :=
  truncf .bf16 (Host.dotGeneral dot_S8192x1024_S2816x1024_S8192x2816_1_1_0_0_n_n none v w) bitsLt_bf16_f32

theorem hidK_at (a : Args) (r : Fin 8192) (l : Fin 1024) :
    (hidK a.x a.g (ix2 r l) : EReal) = Cert.InputReferenceIdeal.Hand.hid a (ix2 r l) := by
  rw [Cert.InputReferenceIdeal.Hand.hid_at, Cert.InputReferenceIdeal.Hand.xhat_at, Cert.InputReferenceIdeal.Hand.gain_at,
    Cert.InputReferenceIdeal.Hand.rstd_at, Cert.InputReferenceIdeal.Hand.den_at]
  pointwise [hidK]
theorem prodK_at (v : FVec Ideal S8192x1024 .bf16) (w : FVec Ideal S2816x1024 .bf16) (r : Fin 8192) (k : Fin 2816) :
    (prodK v w (ix2 r k) : EReal) = ∑ l : Fin 1024, v (ix2 r l) * w (ix2 k l) := by
  pointwise [prodK]
theorem gate_arr (c : Dev nD) : V m c main_v14 = prodK (hidK (argsK m c).x (argsK m c).g) (argsK m c).wg := by
  show StableHlo.after hostOps0 _ _ = _
  after_results
  rfl
theorem up_arr (c : Dev nD) : V m c main_v16 = prodK (hidK (argsK m c).x (argsK m c).g) (argsK m c).wu := by
  show StableHlo.after hostOps0 _ _ = _
  after_results
  rfl
theorem gateK_at (a : Args) (r : Fin 8192) (k : Fin 2816) :
    (prodK (hidK a.x a.g) a.wg (ix2 r k) : EReal) = Cert.InputReferenceIdeal.Hand.gate a (ix2 r k) := by
  rw [prodK_at, Cert.InputReferenceIdeal.Hand.gate_at]
  exact Finset.sum_congr rfl fun l _ => congrArg (· * _) (hidK_at a r l)
theorem upK_at (a : Args) (r : Fin 8192) (k : Fin 2816) :
    (prodK (hidK a.x a.g) a.wu (ix2 r k) : EReal) = Cert.InputReferenceIdeal.Hand.up a (ix2 r k) := by
  rw [prodK_at, Cert.InputReferenceIdeal.Hand.up_at]
  exact Finset.sum_congr rfl fun l _ => congrArg (· * _) (hidK_at a r l)
theorem blk_g (c : Dev nD) (t : Fin cfg0.N) (r : Fin 256) (k : Fin 2816) :
    (iblk m c 3 t (ix2 r k) : EReal) = Cert.InputReferenceIdeal.Hand.gate (argsK m c) (ix2 (tok t r) k) := by
  rw [← gateK_at, ← gate_arr]
  blk_ext [iblk, idx t, tok]
theorem blk_u (c : Dev nD) (t : Fin cfg0.N) (r : Fin 256) (k : Fin 2816) :
    (iblk m c 4 t (ix2 r k) : EReal) = Cert.InputReferenceIdeal.Hand.up (argsK m c) (ix2 (tok t r) k) := by
  rw [← upK_at, ← up_arr]
  blk_ext [iblk, idx t, tok]

/-! ## A block's quantities are the reference's layers at the block's rows -/

section Layers
open Cert.InputReferenceIdeal.Hand

theorem act_blk (c : Dev nD) (t : Fin cfg0.N) (r : Fin 256) (k : Fin 2816) :
    act (blk m c t) r k = dact (argsK m c) (ix2 (tok t r) k) := by
  rw [dact_at, act]
  refine Finset.sum_congr rfl fun l _ => ?_
  rw [dff_at]
  exact congrArg₂ (· * ·) (congrArg (_ * ·) (blk_d m c t r l)) (blk_wd m c t k l)
theorem upAt_blk (c : Dev nD) (t : Fin cfg0.N) (r : Fin 256) (k : Fin 2816) :
    upAt (blk m c t) r k = dup (argsK m c) (ix2 (tok t r) k) := by
  rw [dup_block, upAt, act_blk]
  exact congrArg (toUp _) (blk_g m c t r k)

variable {m} {c : Dev nD} (h : Reals (argsK m c))
include h

theorem gateAt_blk (t : Fin cfg0.N) (r : Fin 256) (k : Fin 2816) :
    gateAt (blk m c t) r k = dgate (argsK m c) (ix2 (tok t r) k) := by
  rw [dgate_block h, gateAt, act_blk]
  exact congrArg₂ (toGate _) (blk_g m c t r k) (blk_u m c t r k)
theorem hidden_blk (t : Fin cfg0.N) (r : Fin 256) (l : Fin 1024) :
    (sum5 (blk m c t) (ix2 r l) : EReal) = dhid (argsK m c) (ix2 (tok t r) l) := by
  rw [hidden_at, dhid_at, add_comm]
  refine congrArg₂ (· + ·) (Finset.sum_congr rfl fun k _ => ?_) (Finset.sum_congr rfl fun k _ => ?_)
  · exact congrArg₂ (· * ·) (upAt_blk m c t r k) (blk_wu m c t k l)
  · exact congrArg₂ (· * ·) (gateAt_blk h t r k) (blk_wg m c t k l)
theorem dx_blk (t : Fin cfg0.N) (r : Fin 256) (l : Fin 1024) :
    (k0_pay1 (normOut (blk m c t)) (iblk m c 0 t) (ix2 r l) : EReal) = dx (argsK m c) (ix2 (tok t r) l) := by
  have hs : ∀ k, (k0_pay41 (sum4 (blk m c t)) (up5 (blk m c t)) (gate5 (blk m c t)) (rows5 (blk m c t).wg) (rows5 (blk m c t).wu)
      (ix2 r k) : EReal) = dhid (argsK m c) (ix2 (tok t r) k) := fun k => hidden_blk h t r k
  rw [pay1_at, dx_block]
  refine congrArg₂ (· + ·) (blk_d m c t r l) ?_
  unfold normOut
  rw [pay44_at]
  simp only [hs, blk_x m c t, blk_n m c t]

/-- The gain's gradient before the sum over the tokens. -/
def gainTerm (a : Args) (r : Fin 8192) (l : Fin 1024) : EReal := xhat a (ix2 r l) * dhid a (ix2 r l)
omit h in
/-- What a point adds to the gain's gradient at row `i` of eight. -/
def gainPart (a : Args) (t : ℕ) (i : Fin 8) (l : Fin 1024) : EReal :=
  if ht : t < 32 then ∑ s : Fin 32, gainTerm a ⟨t * 256 + (s.val * 8 + i.val), by omega⟩ l else 0
theorem gain_blk (t : Fin cfg0.N) (o : Vec Ideal S8x1024 .f32) (i : Fin 8) (l : Fin 1024) :
    (gainOut (blk m c t) o (ix2 i l) : EReal) = o (ix2 i l) + gainPart (argsK m c) t.val i l := by
  have hs : ∀ r k, (k0_pay41 (sum4 (blk m c t)) (up5 (blk m c t)) (gate5 (blk m c t)) (rows5 (blk m c t).wg) (rows5 (blk m c t).wu)
      (ix2 r k) : EReal) = dhid (argsK m c) (ix2 (tok t r) k) := fun r k => hidden_blk h t r k
  unfold gainOut
  rw [pay45_at, gainPart, dif_pos (points t)]
  refine congrArg (_ + ·) (Finset.sum_congr rfl fun s _ => ?_)
  show _ = gainTerm (argsK m c) (tok t ⟨s.val * 8 + i.val, by omega⟩) l
  simp only [hs, blk_x m c t]
  rw [mul_comm, gainTerm, xhat_at, rstd_at]
  exact congrArg (fun d => (argsK m c).x (ix2 (tok t ⟨s.val * 8 + i.val, by omega⟩) l) * Ideal.rsqrt d
    * dhid (argsK m c) (ix2 (tok t ⟨s.val * 8 + i.val, by omega⟩) l)) (den_at (argsK m c) _ 0).symm

end Layers

/-! ## The arrays the region leaves -/

section Arrays
open Cert.InputReferenceIdeal.Hand

/-- The eight rows of partial sums of the gain's gradient. -/
def gainRows (a : Args) : FVec Ideal S8x1024 .f32 := fun j => ∑ t : Fin 32, gainPart a t.val (j 0) (j 1)

theorem split_ix {A B : ℕ} (y : (⟨2, ![A, B]⟩ : Shape).Idx) : ∃ (r : Fin A) (l : Fin B), y = ix2 r l :=
  ⟨y 0, y 1, by funext a; fin_cases a <;> rfl⟩
theorem pay3_at (x : Vec Ideal S256x1024 .f32) (r : Fin 256) (l : Fin 1024) :
    (k0_pay3 x (ix2 r l) : EReal) = Ideal.ofBits .f32 0x3F000000#32 * x (ix2 r l) := by
  pointwise [k0_pay3]

theorem final8 (c : Dev nD) (h : Reals (argsK m c)) :
    (dats m 0 c).arrAt 8 (cfgs 0).N = dx (argsK m c) := by
  refine (dats m 0 c).arrAt_eq_of_covers 8 _ (by decide +kernel) fun t hf y => ?_
  obtain ⟨r, l, rfl⟩ := split_ix (A := 256) (B := 1024) y
  blk_simp
  rw [after0_8]
  have e : (win0_8.blk t).view.emb (ix2 r l) = ix2 (tok t r) l := by
    blk_ext [idx t, tok]
  rw [e]
  exact (congrFun (out8 m c t) (ix2 r l)).trans (dx_blk h t r l)
theorem final9 (c : Dev nD) :
    (dats m 0 c).arrAt 9 (cfgs 0).N = truncf .bf16 (dff (argsK m c)) bitsLt_bf16_f32 := by
  refine (dats m 0 c).arrAt_eq_of_covers 9 _ (by decide +kernel) fun t hf y => ?_
  obtain ⟨r, l, rfl⟩ := split_ix (A := 256) (B := 1024) y
  blk_simp
  rw [after0_9]
  have e : (win0_9.blk t).view.emb (ix2 r l) = ix2 (tok t r) l := by
    blk_ext [idx t, tok]
  rw [e]
  refine (congrFun (out9 m c t) (ix2 r l)).trans ((pay3_at _ r l).trans ?_)
  exact (congrArg (_ * ·) (blk_d m c t r l)).trans (dff_at (argsK m c) (tok t r) l).symm
theorem final10 (c : Dev nD) (h : Reals (argsK m c)) :
    (dats m 0 c).arrAt 10 (cfgs 0).N = truncf .bf16 (dgate (argsK m c)) bitsLt_bf16_f32 := by
  refine (dats m 0 c).arrAt_eq_of_covers 10 _ (by decide +kernel) fun t hf y => ?_
  obtain ⟨r, l, rfl⟩ := split_ix (A := 256) (B := 2816) y
  blk_simp
  rw [after0_10]
  have e : (win0_10.blk t).view.emb (ix2 r l) = ix2 (tok t r) l := by
    blk_ext [idx t, tok]
  rw [e]
  exact (out10 m c t r l).trans (gateAt_blk h t r l)
theorem final11 (c : Dev nD) :
    (dats m 0 c).arrAt 11 (cfgs 0).N = truncf .bf16 (dup (argsK m c)) bitsLt_bf16_f32 := by
  refine (dats m 0 c).arrAt_eq_of_covers 11 _ (by decide +kernel) fun t hf y => ?_
  obtain ⟨r, l, rfl⟩ := split_ix (A := 256) (B := 2816) y
  blk_simp
  rw [after0_11]
  have e : (win0_11.blk t).view.emb (ix2 r l) = ix2 (tok t r) l := by
    blk_ext [idx t, tok]
  rw [e]
  exact (out11 m c t r l).trans (upAt_blk m c t r l)

/-! ## The gain's gradient: 32 points add to eight rows, the host adds the rows -/

theorem rows_flush (c : Dev nD) (h : Reals (argsK m c)) (t : Fin cfg0.N) (ht : t.val % 32 = 31) (y : S8x1024.Idx) :
    (outsAt0 m c t.val t.isLt).2.2.2.2 y = gainRows (argsK m c) y := by
  obtain ⟨i, l, rfl⟩ := split_ix (A := 8) (B := 1024) y
  rw [Pipeline.eq_sum_fin_of_reset_step_apply_of_flush (fun n hn => (outsAt0 m c n hn).2.2.2.2) 32 (fun _ => (0 : EReal))
    (fun t j => gainPart (argsK m c) t.val (j 0) (j 1))
    (fun t h0 j => by
      obtain ⟨i, l, rfl⟩ := split_ix (A := 8) (B := 1024) j
      rw [out12_reset m c t h0, gain_blk h t, pay2_at]
      rfl)
    (fun t h0 j => by
      obtain ⟨i, l, rfl⟩ := split_ix (A := 8) (B := 1024) j
      rw [out12_step m c t h0, gain_blk h t]
      rfl)
    t ht _, zero_add]
  have := points t
  refine Finset.sum_congr rfl fun s _ => ?_
  have e : 32 * (t.val / 32) + s.val = s.val := by omega
  exact congrArg (fun n => gainPart (argsK m c) n i l) e

theorem final12 (c : Dev nD) (h : Reals (argsK m c)) : (dats m 0 c).arrAt 12 (cfgs 0).N = gainRows (argsK m c) := by
  refine (dats m 0 c).arrAt_eq_of_covers 12 _ (by decide +kernel) fun t hf y => ?_
  obtain ⟨i, l, rfl⟩ := split_ix (A := 8) (B := 1024) y
  blk_simp
  rw [after0_12]
  have e : (win0_12.blk t).view.emb (ix2 i l) = ix2 i l := by
    blk_ext [idx t]
  rw [e]
  exact rows_flush m c h t ((flush0_12 t).mp hf) (ix2 i l)

/-- The eight rows added up are the sum over all tokens. -/
theorem gain_sum (a : Args) : rowSum (gainRows a) = dgain a := by
  funext j
  obtain ⟨l, rfl⟩ : ∃ l : Fin 1024, j = ix1 l := ⟨j 0, by funext a; fin_cases a; rfl⟩
  rw [rowSum_at, dgain_at]
  show ∑ i : Fin 8, ∑ t : Fin 32, gainPart a t.val i l = ∑ r : Fin 8192, gainTerm a r l
  rw [Fin.sum_univ_tiles 32 256 rfl (fun r : Fin 8192 => gainTerm a r l), Finset.sum_comm]
  refine Finset.sum_congr rfl fun t _ => ?_
  rw [Fin.sum_univ_tiles 32 8 rfl (fun r : Fin 256 => gainTerm a ⟨t.val * 256 + r.val, by omega⟩ l), Finset.sum_comm]
  refine Finset.sum_congr rfl fun i _ => ?_
  rw [gainPart, dif_pos t.isLt]

theorem final_gain (c : Dev nD) (h : Reals (argsK m c)) : rowSum ((dats m 0 c).arrAt 12 (cfgs 0).N) = dgain (argsK m c) := by
  rw [final12 m c h]
  exact gain_sum _

end Arrays

end Cert.InputKernelIdeal.Hand

end
-- ==== Proof.InputClaim.lean ====
/-
  The claim on the input gradient: for a finite cotangent, gain, up and down weight its program and the reference's leave the same five arrays.
-/
module

public import proofs.«01_k».proof.Defs
public import proofs.«01_k».proof.Proof.Gen.InputKernelIdeal
public import proofs.«01_k».proof.Proof.Gen.InputReferenceIdeal
public import proofs.«01_k».proof.Proof.Gen.Pre_finite
public import proofs.«01_k».proof.Proof.InputValue
public import Idealize.ShloMosaic.Adequacy
public import Idealize.ShloMosaic.Init

@[expose] public section

set_option maxRecDepth 65536

noncomputable section

namespace Cert.InputKernelIdeal.Hand

open Cert.InputKernelIdeal Cert.InputKernelIdeal.Gen
open Idealize.ShloMosaic Idealize.ShloMosaic.TcCoe Idealize.SL.Sem
open Cert.InputReferenceIdeal.Hand (Args Reals args dx dff dgate dup dgain)

/-- The precondition says that the entries of the cotangent, the gain, the up and the down weight are reals. -/
theorem reals (m : (ℓ : Loc nD τ sig) → Buf (Elt Ideal) ℓ) (h : Cert.Pre_InputKernelIdeal_finite m) (c : Dev nD) :
    Reals (argsK m c) := by
  constructor
  · intro r l
    have h1 := congrFun (h c).1 (ix2 r l)
    simp only [Cert.Pre_finite.fn] at h1
    exact Cert.RealFacts.real_of _ h1
  · intro l
    have h1 := congrFun (h c).2.1 (ix2 0 l)
    simp only [Cert.Pre_finite.fn] at h1
    exact Cert.RealFacts.real_of _ h1
  · intro k l
    have h1 := congrFun (h c).2.2.1 (ix2 k l)
    simp only [Cert.Pre_finite.fn] at h1
    exact Cert.RealFacts.real_of _ h1
  · intro k l
    have h1 := congrFun (h c).2.2.2 (ix2 k l)
    simp only [Cert.Pre_finite.fn] at h1
    exact Cert.RealFacts.real_of _ h1

/-- The reference's run in its layers. -/
theorem reference_run (m : (ℓ : Loc Cert.InputReferenceIdeal.nD Cert.InputReferenceIdeal.τ Cert.InputReferenceIdeal.sig) → Buf (Elt Ideal) ℓ)
    (g : Dev Cert.InputReferenceIdeal.nD → PrngReg) (a : (c : Dev Cert.InputReferenceIdeal.nD) → Args) (e : ∀ c, args m c = a c) :
    θ_run (Cert.InputReferenceIdeal.defs (F := Ideal)) (onTc (τ := Cert.InputReferenceIdeal.τ) (Cert.InputReferenceIdeal.main (F := Ideal)))
      ⟨m, fun _ => 0, g⟩ (fun r => ∀ c : Dev Cert.InputReferenceIdeal.nD,
        r.2.mem ((c.tc : Thread Cert.InputReferenceIdeal.nD Cert.InputReferenceIdeal.τ).loc Cert.InputReferenceIdeal.main_v60) = dx (a c)
        ∧ r.2.mem ((c.tc : Thread Cert.InputReferenceIdeal.nD Cert.InputReferenceIdeal.τ).loc Cert.InputReferenceIdeal.main_v61)
            = truncf .bf16 (dff (a c)) bitsLt_bf16_f32
        ∧ r.2.mem ((c.tc : Thread Cert.InputReferenceIdeal.nD Cert.InputReferenceIdeal.τ).loc Cert.InputReferenceIdeal.main_v62)
            = truncf .bf16 (dgate (a c)) bitsLt_bf16_f32
        ∧ r.2.mem ((c.tc : Thread Cert.InputReferenceIdeal.nD Cert.InputReferenceIdeal.τ).loc Cert.InputReferenceIdeal.main_v63)
            = truncf .bf16 (dup (a c)) bitsLt_bf16_f32
        ∧ r.2.mem ((c.tc : Thread Cert.InputReferenceIdeal.nD Cert.InputReferenceIdeal.τ).loc Cert.InputReferenceIdeal.main_v45) = dgain (a c)) := by
  obtain rfl : (fun c => args m c) = a := funext e
  exact (θ_run _ _ _).mono (fun r h c => ⟨(h c).1.trans (Cert.InputReferenceIdeal.Hand.res_dx m c), (h c).2.1,
    (h c).2.2.1.trans (Cert.InputReferenceIdeal.Hand.res_dgate m c), (h c).2.2.2.1,
    (h c).2.2.2.2.1.trans (Cert.InputReferenceIdeal.Hand.res_dg m c)⟩) (Cert.InputReferenceIdeal.Value.run (F := Ideal) m g)

/-- The kernel's run in the reference's layers. -/
theorem kernel_run (m : (ℓ : Loc nD τ sig) → Buf (Elt Ideal) ℓ) (g : Dev nD → PrngReg) (hp : Cert.Pre_InputKernelIdeal_finite m) :
    θ_run defs (onTc (τ := τ) (main (F := Ideal))) ⟨m, fun _ => 0, g⟩ (fun r => ∀ c : Dev nD,
      r.2.mem ((c.tc : Thread nD τ).loc main_v17_0) = dx (argsK m c)
      ∧ r.2.mem ((c.tc : Thread nD τ).loc main_v17_1) = truncf .bf16 (dff (argsK m c)) bitsLt_bf16_f32
      ∧ r.2.mem ((c.tc : Thread nD τ).loc main_v17_2) = truncf .bf16 (dgate (argsK m c)) bitsLt_bf16_f32
      ∧ r.2.mem ((c.tc : Thread nD τ).loc main_v17_3) = truncf .bf16 (dup (argsK m c)) bitsLt_bf16_f32
      ∧ r.2.mem ((c.tc : Thread nD τ).loc main_v18) = dgain (argsK m c)) :=
  (θ_run _ _ _).mono (fun r h c => ⟨(h c).1.trans (final8 m c (reals m hp c)), (h c).2.1.trans (final9 m c),
    (h c).2.2.1.trans (final10 m c (reals m hp c)), (h c).2.2.2.1.trans (final11 m c),
    (h c).2.2.2.2.trans (final_gain m c (reals m hp c))⟩) (run_results m g)

/-- The reference's arguments end as they were. -/
theorem reference_args (m : (ℓ : Loc Cert.InputReferenceIdeal.nD Cert.InputReferenceIdeal.τ Cert.InputReferenceIdeal.sig) → Buf (Elt Ideal) ℓ) (g : Dev Cert.InputReferenceIdeal.nD → PrngReg) :
    θ_run (Cert.InputReferenceIdeal.defs (F := Ideal)) (onTc (τ := Cert.InputReferenceIdeal.τ) (Cert.InputReferenceIdeal.main (F := Ideal))) ⟨m, fun _ => 0, g⟩ (fun r => ∀ c : Dev Cert.InputReferenceIdeal.nD,
        r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
        ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
        ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
        ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3)
        ∧ r.2.mem ((c.tc : Thread Cert.InputReferenceIdeal.nD Cert.InputReferenceIdeal.τ).loc Cert.InputReferenceIdeal.main_arg4) = m ((c.tc : Thread Cert.InputReferenceIdeal.nD Cert.InputReferenceIdeal.τ).loc Cert.InputReferenceIdeal.main_arg4)
        ∧ r.2.mem ((c.tc : Thread Cert.InputReferenceIdeal.nD Cert.InputReferenceIdeal.τ).loc Cert.InputReferenceIdeal.main_arg5) = m ((c.tc : Thread Cert.InputReferenceIdeal.nD Cert.InputReferenceIdeal.τ).loc Cert.InputReferenceIdeal.main_arg5)) :=
  (θ_run _ _ _).mono (fun r h c => (h c).2.2.2.2.2) (Cert.InputReferenceIdeal.Value.run (F := Ideal) m g)

/-- Equal argument arrays are equal arguments. -/
theorem args_eq (m : (ℓ : Loc nD τ sig) → Buf (Elt Ideal) ℓ)
    (m' : (ℓ : Loc Cert.InputReferenceIdeal.nD Cert.InputReferenceIdeal.τ Cert.InputReferenceIdeal.sig) → Buf (Elt Ideal) ℓ) (c : Dev nD)
    (h0 : (args m' c).dxo = (argsK m c).dxo) (h1 : (args m' c).x = (argsK m c).x) (h2 : (args m' c).g = (argsK m c).g)
    (h3 : (args m' c).wg = (argsK m c).wg) (h4 : (args m' c).wu = (argsK m c).wu) (h5 : (args m' c).wd = (argsK m c).wd) :
    args m' c = argsK m c := by
  generalize args m' c = a at *
  generalize argsK m c = b at *
  cases a; cases b
  simp only at h0 h1 h2 h3 h4 h5
  subst h0 h1 h2 h3 h4 h5
  rfl

/-- The five arrays of the kernel's program are the reference's, element by element. -/
theorem algebraic_input : Cert.algebraic_InputKernelIdeal_InputReferenceIdeal_pre_finite := by
  intro m g m' g' hp ha
  have e : ∀ c : Dev nD, args m' c = argsK m c := fun c =>
    args_eq m m' c (ha c).1 (ha c).2.1 (ha c).2.2.1 (ha c).2.2.2.1 (ha c).2.2.2.2.1 (ha c).2.2.2.2.2
  refine ⟨fun c => dx (argsK m c), fun c => truncf .bf16 (dff (argsK m c)) bitsLt_bf16_f32,
    fun c => truncf .bf16 (dgate (argsK m c)) bitsLt_bf16_f32, fun c => truncf .bf16 (dup (argsK m c)) bitsLt_bf16_f32,
    fun c => dgain (argsK m c), ?_, ?_⟩
  · have hk := kernel_run m g hp
    have hu := unchanged m g
    clear e ha
    exact (θ_run _ _ _).mono (fun r h c => by
      have h1 := h.1 c
      have h2 := h.2 c
      clear h
      generalize r.2.mem = z at *
      exact ⟨h1.1, h1.2.1, h1.2.2.1, h1.2.2.2.1, h1.2.2.2.2, h2⟩) (θ_run_and hk hu)
  · have hk := reference_run m' g' (fun c => argsK m c) e
    have hu := reference_args m' g'
    clear e ha
    exact (θ_run _ _ _).mono (fun r h c => by
      have h1 := h.1 c
      have h2 := h.2 c
      clear h
      generalize r.2.mem = z at *
      exact ⟨h1.1, h1.2.1, h1.2.2.1, h1.2.2.2.1, h1.2.2.2.2, h2⟩) (θ_run_and hk hu)

end Cert.InputKernelIdeal.Hand

end
-- ==== Proof.UpValue.lean ====
/-
  The first half of a feed-forward layer over the extended reals: 512 rows of tokens a grid point, whose 2816 hidden units are
  taken in eleven parts of 256. The four arrays the kernel leaves are the reference's.
-/
module

public import proofs.«01_k».proof.Proof.Gen.UpKernelIdeal.Value
public import proofs.«01_k».proof.Proof.Gen.UpReferenceIdeal.Run
public import Idealize.ShloMosaic.Lib.Pointwise
public import Idealize.ShloMosaic.Lib.Pipeline.ValueKit
public import Idealize.ShloMosaic.Lib.Claim

@[expose] public section

set_option maxRecDepth 65536

noncomputable section

namespace Cert.UpKernelIdeal.Hand

open Cert.UpKernelIdeal Cert.UpKernelIdeal.Gen
open Idealize.ShloMosaic Idealize.ShloMosaic.TcCoe Idealize.ShloMosaic.Tactic
open Idealize.ShloMosaic.Pipeline (Dat)

/-! ## One point over its loads -/

/-- Hidden unit `j` of the part that begins at `o`. -/
def unit (o : ℕ) (j : Fin 256) (h : o + 256 ≤ 2816) : Fin 2816 := ⟨o + j.val, by omega⟩

/-- Eleven stores side by side read back. -/
theorem canon_parts (f : Fin 512 → Fin 2816 → EReal) (p0 p1 p2 p3 p4 p5 p6 p7 p8 p9 p10 : FVec Ideal S512x256 .bf16)
    (h0 : ∀ r j, (p0 (ix2 r j) : EReal) = f r (unit 0 j (by decide)))
    (h1 : ∀ r j, (p1 (ix2 r j) : EReal) = f r (unit 256 j (by decide)))
    (h2 : ∀ r j, (p2 (ix2 r j) : EReal) = f r (unit 512 j (by decide)))
    (h3 : ∀ r j, (p3 (ix2 r j) : EReal) = f r (unit 768 j (by decide)))
    (h4 : ∀ r j, (p4 (ix2 r j) : EReal) = f r (unit 1024 j (by decide)))
    (h5 : ∀ r j, (p5 (ix2 r j) : EReal) = f r (unit 1280 j (by decide)))
    (h6 : ∀ r j, (p6 (ix2 r j) : EReal) = f r (unit 1536 j (by decide)))
    (h7 : ∀ r j, (p7 (ix2 r j) : EReal) = f r (unit 1792 j (by decide)))
    (h8 : ∀ r j, (p8 (ix2 r j) : EReal) = f r (unit 2048 j (by decide)))
    (h9 : ∀ r j, (p9 (ix2 r j) : EReal) = f r (unit 2304 j (by decide)))
    (h10 : ∀ r j, (p10 (ix2 r j) : EReal) = f r (unit 2560 j (by decide))) (r : Fin 512) (k : Fin 2816) :
    (View.canon (Val := Elt Ideal) (e := .bf16) (s := S512x2816) [⟨Rect.unit (s := S512x2816) ![0, 2560] S512x256.size inb_S512x2816_S512x256_0_2560, p10⟩,
        ⟨Rect.unit (s := S512x2816) ![0, 2304] S512x256.size inb_S512x2816_S512x256_0_2304, p9⟩,
        ⟨Rect.unit (s := S512x2816) ![0, 2048] S512x256.size inb_S512x2816_S512x256_0_2048, p8⟩,
        ⟨Rect.unit (s := S512x2816) ![0, 1792] S512x256.size inb_S512x2816_S512x256_0_1792, p7⟩,
        ⟨Rect.unit (s := S512x2816) ![0, 1536] S512x256.size inb_S512x2816_S512x256_0_1536, p6⟩,
        ⟨Rect.unit (s := S512x2816) ![0, 1280] S512x256.size inb_S512x2816_S512x256_0_1280, p5⟩,
        ⟨Rect.unit (s := S512x2816) ![0, 1024] S512x256.size inb_S512x2816_S512x256_0_1024, p4⟩,
        ⟨Rect.unit (s := S512x2816) ![0, 768] S512x256.size inb_S512x2816_S512x256_0_768, p3⟩,
        ⟨Rect.unit (s := S512x2816) ![0, 512] S512x256.size inb_S512x2816_S512x256_0_512, p2⟩,
        ⟨Rect.unit (s := S512x2816) ![0, 256] S512x256.size inb_S512x2816_S512x256_0_256, p1⟩,
        ⟨Rect.unit (s := S512x2816) ![0, 0] S512x256.size inb_S512x2816_S512x256_0_0, p0⟩] (ix2 r k) : EReal) = f r k := by
  refine View.canon_eq_of_allAt _ _ _ (View.cover_of_tiledBy _ ![512, 256] (by sl_kernel_rfl) _) ?_
  refine View.allAt_cons_unit _ _ _ _ _ (fun x hx => ?_) ?_
  · have e : x = ix2 (show Fin 512 from x 0) (show Fin 256 from x 1) := by funext a; fin_cases a <;> rfl
    have e0 : r = (show Fin 512 from x 0) := Fin.ext (by have := hx 0; simpa using this)
    have e1 : k = unit 2560 (show Fin 256 from x 1) (by decide) := Fin.ext (by have := hx 1; simpa [unit] using this)
    rw [e, e1, e0]
    exact h10 _ _
  refine View.allAt_cons_unit _ _ _ _ _ (fun x hx => ?_) ?_
  · have e : x = ix2 (show Fin 512 from x 0) (show Fin 256 from x 1) := by funext a; fin_cases a <;> rfl
    have e0 : r = (show Fin 512 from x 0) := Fin.ext (by have := hx 0; simpa using this)
    have e1 : k = unit 2304 (show Fin 256 from x 1) (by decide) := Fin.ext (by have := hx 1; simpa [unit] using this)
    rw [e, e1, e0]
    exact h9 _ _
  refine View.allAt_cons_unit _ _ _ _ _ (fun x hx => ?_) ?_
  · have e : x = ix2 (show Fin 512 from x 0) (show Fin 256 from x 1) := by funext a; fin_cases a <;> rfl
    have e0 : r = (show Fin 512 from x 0) := Fin.ext (by have := hx 0; simpa using this)
    have e1 : k = unit 2048 (show Fin 256 from x 1) (by decide) := Fin.ext (by have := hx 1; simpa [unit] using this)
    rw [e, e1, e0]
    exact h8 _ _
  refine View.allAt_cons_unit _ _ _ _ _ (fun x hx => ?_) ?_
  · have e : x = ix2 (show Fin 512 from x 0) (show Fin 256 from x 1) := by funext a; fin_cases a <;> rfl
    have e0 : r = (show Fin 512 from x 0) := Fin.ext (by have := hx 0; simpa using this)
    have e1 : k = unit 1792 (show Fin 256 from x 1) (by decide) := Fin.ext (by have := hx 1; simpa [unit] using this)
    rw [e, e1, e0]
    exact h7 _ _
  refine View.allAt_cons_unit _ _ _ _ _ (fun x hx => ?_) ?_
  · have e : x = ix2 (show Fin 512 from x 0) (show Fin 256 from x 1) := by funext a; fin_cases a <;> rfl
    have e0 : r = (show Fin 512 from x 0) := Fin.ext (by have := hx 0; simpa using this)
    have e1 : k = unit 1536 (show Fin 256 from x 1) (by decide) := Fin.ext (by have := hx 1; simpa [unit] using this)
    rw [e, e1, e0]
    exact h6 _ _
  refine View.allAt_cons_unit _ _ _ _ _ (fun x hx => ?_) ?_
  · have e : x = ix2 (show Fin 512 from x 0) (show Fin 256 from x 1) := by funext a; fin_cases a <;> rfl
    have e0 : r = (show Fin 512 from x 0) := Fin.ext (by have := hx 0; simpa using this)
    have e1 : k = unit 1280 (show Fin 256 from x 1) (by decide) := Fin.ext (by have := hx 1; simpa [unit] using this)
    rw [e, e1, e0]
    exact h5 _ _
  refine View.allAt_cons_unit _ _ _ _ _ (fun x hx => ?_) ?_
  · have e : x = ix2 (show Fin 512 from x 0) (show Fin 256 from x 1) := by funext a; fin_cases a <;> rfl
    have e0 : r = (show Fin 512 from x 0) := Fin.ext (by have := hx 0; simpa using this)
    have e1 : k = unit 1024 (show Fin 256 from x 1) (by decide) := Fin.ext (by have := hx 1; simpa [unit] using this)
    rw [e, e1, e0]
    exact h4 _ _
  refine View.allAt_cons_unit _ _ _ _ _ (fun x hx => ?_) ?_
  · have e : x = ix2 (show Fin 512 from x 0) (show Fin 256 from x 1) := by funext a; fin_cases a <;> rfl
    have e0 : r = (show Fin 512 from x 0) := Fin.ext (by have := hx 0; simpa using this)
    have e1 : k = unit 768 (show Fin 256 from x 1) (by decide) := Fin.ext (by have := hx 1; simpa [unit] using this)
    rw [e, e1, e0]
    exact h3 _ _
  refine View.allAt_cons_unit _ _ _ _ _ (fun x hx => ?_) ?_
  · have e : x = ix2 (show Fin 512 from x 0) (show Fin 256 from x 1) := by funext a; fin_cases a <;> rfl
    have e0 : r = (show Fin 512 from x 0) := Fin.ext (by have := hx 0; simpa using this)
    have e1 : k = unit 512 (show Fin 256 from x 1) (by decide) := Fin.ext (by have := hx 1; simpa [unit] using this)
    rw [e, e1, e0]
    exact h2 _ _
  refine View.allAt_cons_unit _ _ _ _ _ (fun x hx => ?_) ?_
  · have e : x = ix2 (show Fin 512 from x 0) (show Fin 256 from x 1) := by funext a; fin_cases a <;> rfl
    have e0 : r = (show Fin 512 from x 0) := Fin.ext (by have := hx 0; simpa using this)
    have e1 : k = unit 256 (show Fin 256 from x 1) (by decide) := Fin.ext (by have := hx 1; simpa [unit] using this)
    rw [e, e1, e0]
    exact h1 _ _
  refine View.allAt_cons_unit _ _ _ _ _ (fun x hx => ?_) ?_
  · have e : x = ix2 (show Fin 512 from x 0) (show Fin 256 from x 1) := by funext a; fin_cases a <;> rfl
    have e0 : r = (show Fin 512 from x 0) := Fin.ext (by have := hx 0; simpa using this)
    have e1 : k = unit 0 (show Fin 256 from x 1) (by decide) := Fin.ext (by have := hx 1; simpa [unit] using this)
    rw [e, e1, e0]
    exact h0 _ _
  exact View.allAt_nil _ _

/-- The product of the normed rows with a part of a weight. -/
def prod (h : FVec Ideal S512x1024 .bf16) (w : FVec Ideal S256x1024 .bf16) : FVec Ideal S512x256 .f32 :=
  matmul dot_S512x1024_S256x1024_S512x256_1_1_0_0_n_n none h w (constant S512x256 .f32 0x00000000#32)
/-- The logistic function. -/
def sgm (z : EReal) : EReal := Ideal.div 1 (1 + Ideal.exp (0 - z))
/-- The gated product of two such products. -/
def gated (g u : FVec Ideal S512x256 .f32) : FVec Ideal S512x256 .bf16 :=
  truncf .bf16 (mulf (mulf g (divf (broadcast S512x256 (Scalar.ofBits .f32 0x3F800000#32))
    (addf (broadcast S512x256 (Scalar.ofBits .f32 0x3F800000#32))
      (exp (subf (broadcast S512x256 (Scalar.ofBits .f32 0x00000000#32)) g))))) u) bitsLt_bf16_f32
/-- Hidden unit `k` of row `r`: the product of the normed row with the weight's row. -/
def unitAt (h : FVec Ideal S512x1024 .bf16) (W : Vec Ideal S2816x1024 .bf16) (r : Fin 512) (k : Fin 2816) : EReal :=
  ∑ l : Fin 1024, h (ix2 r l) * W (ix2 k l)
/-- The gated product of a gate and a linear factor. -/
def gate (g u : EReal) : EReal := g * sgm g * u

theorem prod_at (h : FVec Ideal S512x1024 .bf16) (w : FVec Ideal S256x1024 .bf16) (r : Fin 512) (j : Fin 256) :
    (prod h w (ix2 r j) : EReal) = ∑ l : Fin 1024, h (ix2 r l) * w (ix2 j l) := by pointwise [prod]
theorem gated_at (g u : FVec Ideal S512x256 .f32) (r : Fin 512) (j : Fin 256) :
    (gated g u (ix2 r j) : EReal) = gate (g (ix2 r j)) (u (ix2 r j)) := by pointwise [gated, gate, sgm]

/-- A part of a weight: 256 rows beginning at `o`. -/
def part (W : Vec Ideal S2816x1024 .bf16) (o : ℕ) (hi : ∀ a, (![o, 0] : Fin 2 → Nat) a + S256x1024.size a ≤ S2816x1024.size a) :
    Vec Ideal S256x1024 .bf16 := View.ld W (Rect.unit (s := S2816x1024) ![o, 0] S256x1024.size hi)
theorem part_at (W : Vec Ideal S2816x1024 .bf16) (o : ℕ)
    (hi : ∀ a, (![o, 0] : Fin 2 → Nat) a + S256x1024.size a ≤ S2816x1024.size a) (h : o + 256 ≤ 2816) (j : Fin 256) (l : Fin 1024) :
    part W o hi (ix2 j l) = W (ix2 (unit o j h) l) := by
  exact View.ld_unit_apply_of W _ _ _ _ _ fun a => by fin_cases a <;> simp [unit]
theorem prod_part (h : FVec Ideal S512x1024 .bf16) (W : Vec Ideal S2816x1024 .bf16) (o : ℕ)
    (hi : ∀ a, (![o, 0] : Fin 2 → Nat) a + S256x1024.size a ≤ S2816x1024.size a) (ho : o + 256 ≤ 2816) (r : Fin 512) (j : Fin 256) :
    (prod h (part W o hi) (ix2 r j) : EReal) = unitAt h W r (unit o j ho) := by
  rw [prod_at, unitAt]
  exact Finset.sum_congr rfl fun l _ => congrArg (_ * ·) (part_at W o hi ho j l)
theorem round_part (h : FVec Ideal S512x1024 .bf16) (W : Vec Ideal S2816x1024 .bf16) (o : ℕ)
    (hi : ∀ a, (![o, 0] : Fin 2 → Nat) a + S256x1024.size a ≤ S2816x1024.size a) (ho : o + 256 ≤ 2816) (r : Fin 512) (j : Fin 256) :
    (truncf .bf16 (prod h (part W o hi)) bitsLt_bf16_f32 (ix2 r j) : EReal) = unitAt h W r (unit o j ho) :=
  prod_part h W o hi ho r j
theorem gated_part (h : FVec Ideal S512x1024 .bf16) (W U : Vec Ideal S2816x1024 .bf16) (o : ℕ)
    (hi : ∀ a, (![o, 0] : Fin 2 → Nat) a + S256x1024.size a ≤ S2816x1024.size a) (ho : o + 256 ≤ 2816) (r : Fin 512) (j : Fin 256) :
    (gated (prod h (part W o hi)) (prod h (part U o hi)) (ix2 r j) : EReal)
      = gate (unitAt h W r (unit o j ho)) (unitAt h U r (unit o j ho)) := by
  rw [gated_at, prod_part h W o hi ho, prod_part h U o hi ho]

/-- The normed rows. -/
def hid (x : Vec Ideal S512x1024 .f32) (n : Vec Ideal S1x1024 .f32) : FVec Ideal S512x1024 .bf16 :=
  k0_pay2 (View.ld x r0_0) (View.ld n r0_1)

variable (x : Vec Ideal S512x1024 .f32) (n : Vec Ideal S1x1024 .f32) (W U : Vec Ideal S2816x1024 .bf16)

set_option maxHeartbeats 4000000 in
theorem out5 (r : Fin 512) (k : Fin 2816) : (out0_5 x n W U (ix2 r k) : EReal) = unitAt (hid x n) W r k := by
  refine canon_parts (unitAt (hid x n) W) _ _ _ _ _ _ _ _ _ _ _ ?_ ?_ ?_ ?_ ?_ ?_ ?_ ?_ ?_ ?_ ?_ r k
  · exact fun r j => round_part (hid x n) W 0 inb_S2816x1024_S256x1024_0_0 (by decide) r j
  · exact fun r j => round_part (hid x n) W 256 inb_S2816x1024_S256x1024_256_0 (by decide) r j
  · exact fun r j => round_part (hid x n) W 512 inb_S2816x1024_S256x1024_512_0 (by decide) r j
  · exact fun r j => round_part (hid x n) W 768 inb_S2816x1024_S256x1024_768_0 (by decide) r j
  · exact fun r j => round_part (hid x n) W 1024 inb_S2816x1024_S256x1024_1024_0 (by decide) r j
  · exact fun r j => round_part (hid x n) W 1280 inb_S2816x1024_S256x1024_1280_0 (by decide) r j
  · exact fun r j => round_part (hid x n) W 1536 inb_S2816x1024_S256x1024_1536_0 (by decide) r j
  · exact fun r j => round_part (hid x n) W 1792 inb_S2816x1024_S256x1024_1792_0 (by decide) r j
  · exact fun r j => round_part (hid x n) W 2048 inb_S2816x1024_S256x1024_2048_0 (by decide) r j
  · exact fun r j => round_part (hid x n) W 2304 inb_S2816x1024_S256x1024_2304_0 (by decide) r j
  · exact fun r j => round_part (hid x n) W 2560 inb_S2816x1024_S256x1024_2560_0 (by decide) r j
set_option maxHeartbeats 4000000 in
theorem out6 (r : Fin 512) (k : Fin 2816) : (out0_6 x n W U (ix2 r k) : EReal) = unitAt (hid x n) U r k := by
  refine canon_parts (unitAt (hid x n) U) _ _ _ _ _ _ _ _ _ _ _ ?_ ?_ ?_ ?_ ?_ ?_ ?_ ?_ ?_ ?_ ?_ r k
  · exact fun r j => round_part (hid x n) U 0 inb_S2816x1024_S256x1024_0_0 (by decide) r j
  · exact fun r j => round_part (hid x n) U 256 inb_S2816x1024_S256x1024_256_0 (by decide) r j
  · exact fun r j => round_part (hid x n) U 512 inb_S2816x1024_S256x1024_512_0 (by decide) r j
  · exact fun r j => round_part (hid x n) U 768 inb_S2816x1024_S256x1024_768_0 (by decide) r j
  · exact fun r j => round_part (hid x n) U 1024 inb_S2816x1024_S256x1024_1024_0 (by decide) r j
  · exact fun r j => round_part (hid x n) U 1280 inb_S2816x1024_S256x1024_1280_0 (by decide) r j
  · exact fun r j => round_part (hid x n) U 1536 inb_S2816x1024_S256x1024_1536_0 (by decide) r j
  · exact fun r j => round_part (hid x n) U 1792 inb_S2816x1024_S256x1024_1792_0 (by decide) r j
  · exact fun r j => round_part (hid x n) U 2048 inb_S2816x1024_S256x1024_2048_0 (by decide) r j
  · exact fun r j => round_part (hid x n) U 2304 inb_S2816x1024_S256x1024_2304_0 (by decide) r j
  · exact fun r j => round_part (hid x n) U 2560 inb_S2816x1024_S256x1024_2560_0 (by decide) r j
set_option maxHeartbeats 4000000 in
theorem out7 (r : Fin 512) (k : Fin 2816) :
    (out0_7 x n W U (ix2 r k) : EReal) = gate (unitAt (hid x n) W r k) (unitAt (hid x n) U r k) := by
  refine canon_parts (fun r k => gate (unitAt (hid x n) W r k) (unitAt (hid x n) U r k)) _ _ _ _ _ _ _ _ _ _ _ ?_ ?_ ?_ ?_ ?_ ?_ ?_ ?_ ?_ ?_ ?_ r k
  · exact fun r j => gated_part (hid x n) W U 0 inb_S2816x1024_S256x1024_0_0 (by decide) r j
  · exact fun r j => gated_part (hid x n) W U 256 inb_S2816x1024_S256x1024_256_0 (by decide) r j
  · exact fun r j => gated_part (hid x n) W U 512 inb_S2816x1024_S256x1024_512_0 (by decide) r j
  · exact fun r j => gated_part (hid x n) W U 768 inb_S2816x1024_S256x1024_768_0 (by decide) r j
  · exact fun r j => gated_part (hid x n) W U 1024 inb_S2816x1024_S256x1024_1024_0 (by decide) r j
  · exact fun r j => gated_part (hid x n) W U 1280 inb_S2816x1024_S256x1024_1280_0 (by decide) r j
  · exact fun r j => gated_part (hid x n) W U 1536 inb_S2816x1024_S256x1024_1536_0 (by decide) r j
  · exact fun r j => gated_part (hid x n) W U 1792 inb_S2816x1024_S256x1024_1792_0 (by decide) r j
  · exact fun r j => gated_part (hid x n) W U 2048 inb_S2816x1024_S256x1024_2048_0 (by decide) r j
  · exact fun r j => gated_part (hid x n) W U 2304 inb_S2816x1024_S256x1024_2304_0 (by decide) r j
  · exact fun r j => gated_part (hid x n) W U 2560 inb_S2816x1024_S256x1024_2560_0 (by decide) r j
theorem hid_eq : hid x n = k0_pay2 x n := by
  unfold hid
  frame_out
theorem out4 : out0_4 x n W U = k0_pay2 x n := by
  frame_out

/-! ## The reference, layer by layer -/

/-- The four arguments. -/
structure Args where
  x : FVec Ideal S8192x1024 .f32
  g : FVec Ideal S1x1024 .f32
  wg : FVec Ideal S2816x1024 .bf16
  wu : FVec Ideal S2816x1024 .bf16

section Reference
open Cert.UpReferenceIdeal Cert.UpReferenceIdeal.Facts₀

/-- The normed input. -/
def refHid (a : Args) : FVec Ideal S8192x1024 .f32 :=
  mulf (mulf a.x (broadcastInDim S8192x1024 ![0, 1] bcast_S8192x1_S8192x1024_0_1 (Host.rsqrt (addf (Host.divf
    (broadcastInDim S8192x1 ![0] bcast_S8192_S8192x1_0 (Host.reduceAdd (mulf a.x a.x) (constant S_ .f32 0x00000000#32)
      reducesTo_S8192x1024_S8192_d1 h_S_)) (broadcastInDim S8192x1 ![] bcast_S_S8192x1 (constant S_ .f32 0x44800000#32)))
    (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1
      (shapeCast S1024 a.g shapeCasts_S1x1024_S1024)))
/-- Its product with a weight. -/
def refProd (h : FVec Ideal S8192x1024 .f32) (w : FVec Ideal S2816x1024 .bf16) : FVec Ideal S8192x2816 .f32 :=
  Host.dotGeneral dot_S8192x1024_S1024x2816_S8192x2816_1_0_0_1_n_n none h
    (transpose S1024x2816 [1, 0] (extf .f32 w Cert.UpReferenceIdeal.Facts₀.bitsLt_bf16_f32) transposes_S2816x1024_S1024x2816_1_0)
/-- The gated product. -/
def refGated (g u : FVec Ideal S8192x2816 .f32) : FVec Ideal S8192x2816 .f32 :=
  mulf (mulf g (Host.divf (broadcastInDim S8192x2816 ![] bcast_S_S8192x2816 (constant S_ .f32 0x3F800000#32))
    (addf (broadcastInDim S8192x2816 ![] bcast_S_S8192x2816 (constant S_ .f32 0x3F800000#32)) (Host.exp (Host.negf g))))) u
/-- The four results. -/
def ref4 (a : Args) : FVec Ideal S8192x1024 .bf16 := truncf .bf16 (refHid a) Cert.UpReferenceIdeal.Facts₀.bitsLt_bf16_f32
def ref5 (a : Args) : FVec Ideal S8192x2816 .bf16 := truncf .bf16 (refProd (refHid a) a.wg) Cert.UpReferenceIdeal.Facts₀.bitsLt_bf16_f32
def ref6 (a : Args) : FVec Ideal S8192x2816 .bf16 := truncf .bf16 (refProd (refHid a) a.wu) Cert.UpReferenceIdeal.Facts₀.bitsLt_bf16_f32
def ref7 (a : Args) : FVec Ideal S8192x2816 .bf16 :=
  truncf .bf16 (refGated (refProd (refHid a) a.wg) (refProd (refHid a) a.wu)) Cert.UpReferenceIdeal.Facts₀.bitsLt_bf16_f32

theorem refProd_at (h : FVec Ideal S8192x1024 .f32) (w : FVec Ideal S2816x1024 .bf16) (r : Fin 8192) (k : Fin 2816) :
    (refProd h w (ix2 r k) : EReal) = ∑ l : Fin 1024, h (ix2 r l) * w (ix2 k l) := by pointwise [refProd]
theorem refGated_at (g u : FVec Ideal S8192x2816 .f32) (r : Fin 8192) (k : Fin 2816) :
    (refGated g u (ix2 r k) : EReal) = gate (g (ix2 r k)) (u (ix2 r k)) := by
  rw [gate, sgm, zero_sub]
  pointwise [refGated]
theorem refHid_at (a : Args) (r : Fin 8192) (l : Fin 1024) :
    (refHid a (ix2 r l) : EReal) = a.x (ix2 r l) * Ideal.rsqrt (Ideal.div (∑ k : Fin 1024, a.x (ix2 r k) * a.x (ix2 r k))
      (Ideal.ofBits .f32 0x44800000#32) + Ideal.ofBits .f32 0x358637BD#32) * a.g (ix2 0 l) := by pointwise [refHid]
end Reference

theorem hid_at (r : Fin 512) (l : Fin 1024) :
    (hid x n (ix2 r l) : EReal) = x (ix2 r l) * Ideal.rsqrt (Ideal.div (∑ k : Fin 1024, x (ix2 r k) * x (ix2 r k))
      (Ideal.ofBits .f32 0x44800000#32) + Ideal.ofBits .f32 0x358637BD#32) * n (ix2 0 l) := by
  rw [hid_eq]
  pointwise [k0_pay2]

/-! ## The grid -/

variable (m : (ℓ : Loc nD τ sig) → Buf (Elt Ideal) ℓ)

/-- Point t works on rows 512 t to 512 t + 511, and on the whole gain and weights. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] := (by decide +kernel : ∀ t : Fin grid0.N, _)
theorem points (t : Fin cfg0.N) : t.val < 16 := lt_of_lt_of_eq t.isLt (show cfg0.N = 16 from N_0)
/-- The token of row `r` of point `t`. -/
def tok (t : Fin cfg0.N) (r : Fin 512) : Fin 8192 := ⟨t.val * 512 + r.val, by have := points t; omega⟩

/-- The arguments. -/
abbrev argsK (c : Dev nD) : Args :=
  ⟨m ((c : Thread nD τ).loc main_arg0), m ((c : Thread nD τ).loc main_arg1), m ((c : Thread nD τ).loc main_arg2),
   m ((c : Thread nD τ).loc main_arg3)⟩

theorem blk_x (c : Dev nD) (t : Fin cfg0.N) (r : Fin 512) (l : Fin 1024) :
    (iblk m c 0 t (ix2 r l) : EReal) = (argsK m c).x (ix2 (tok t r) l) := by blk_ext [iblk, V, idx t, tok]
theorem blk_n (c : Dev nD) (t : Fin cfg0.N) (l : Fin 1024) :
    (iblk m c 1 t (ix2 0 l) : EReal) = (argsK m c).g (ix2 0 l) := by blk_ext [iblk, V, idx t, tok]
theorem blk_wg (c : Dev nD) (t : Fin cfg0.N) (k : Fin 2816) (l : Fin 1024) :
    (iblk m c 2 t (ix2 k l) : EReal) = (argsK m c).wg (ix2 k l) := by blk_ext [iblk, V, idx t, tok]
theorem blk_wu (c : Dev nD) (t : Fin cfg0.N) (k : Fin 2816) (l : Fin 1024) :
    (iblk m c 3 t (ix2 k l) : EReal) = (argsK m c).wu (ix2 k l) := by blk_ext [iblk, V, idx t, tok]

theorem hid_blk (c : Dev nD) (t : Fin cfg0.N) (r : Fin 512) (l : Fin 1024) :
    (hid (iblk m c 0 t) (iblk m c 1 t) (ix2 r l) : EReal) = refHid (argsK m c) (ix2 (tok t r) l) := by
  rw [hid_at, refHid_at]
  exact congrArg₂ (· * ·) (congrArg₂ (· * ·) (blk_x m c t r l) (congrArg (fun z : EReal => Ideal.rsqrt (Ideal.div z _ + _))
    (Finset.sum_congr rfl fun k _ => congrArg₂ (· * ·) (blk_x m c t r k) (blk_x m c t r k)))) (blk_n m c t l)
theorem gate_blk (c : Dev nD) (t : Fin cfg0.N) (r : Fin 512) (k : Fin 2816) :
    unitAt (hid (iblk m c 0 t) (iblk m c 1 t)) (iblk m c 2 t) r k = refProd (refHid (argsK m c)) (argsK m c).wg (ix2 (tok t r) k) := by
  rw [refProd_at, unitAt]
  exact Finset.sum_congr rfl fun l _ => congrArg₂ (· * ·) (hid_blk m c t r l) (blk_wg m c t k l)
theorem up_blk (c : Dev nD) (t : Fin cfg0.N) (r : Fin 512) (k : Fin 2816) :
    unitAt (hid (iblk m c 0 t) (iblk m c 1 t)) (iblk m c 3 t) r k = refProd (refHid (argsK m c)) (argsK m c).wu (ix2 (tok t r) k) := by
  rw [refProd_at, unitAt]
  exact Finset.sum_congr rfl fun l _ => congrArg₂ (· * ·) (hid_blk m c t r l) (blk_wu m c t k l)

theorem split_ix {A B : ℕ} (y : (⟨2, ![A, B]⟩ : Shape).Idx) : ∃ (r : Fin A) (l : Fin B), y = ix2 r l :=
  ⟨y 0, y 1, by funext a; fin_cases a <;> rfl⟩

theorem final4 (c : Dev nD) : (dats m 0 c).arrAt 4 (cfgs 0).N = ref4 (argsK m c) := by
  refine (dats m 0 c).arrAt_eq_of_covers 4 _ (by decide +kernel) fun t hf y => ?_
  obtain ⟨r, l, rfl⟩ := split_ix (A := 512) (B := 1024) y
  blk_simp
  rw [after0_4]
  have e : (win0_4.blk t).view.emb (ix2 r l) = ix2 (tok t r) l := by blk_ext [idx t, tok]
  rw [e, out4, ← hid_eq]
  exact hid_blk m c t r l
theorem final5 (c : Dev nD) : (dats m 0 c).arrAt 5 (cfgs 0).N = ref5 (argsK m c) := by
  refine (dats m 0 c).arrAt_eq_of_covers 5 _ (by decide +kernel) fun t hf y => ?_
  obtain ⟨r, l, rfl⟩ := split_ix (A := 512) (B := 2816) y
  blk_simp
  rw [after0_5]
  have e : (win0_5.blk t).view.emb (ix2 r l) = ix2 (tok t r) l := by blk_ext [idx t, tok]
  rw [e]
  exact (out5 _ _ _ _ r l).trans (gate_blk m c t r l)
theorem final6 (c : Dev nD) : (dats m 0 c).arrAt 6 (cfgs 0).N = ref6 (argsK m c) := by
  refine (dats m 0 c).arrAt_eq_of_covers 6 _ (by decide +kernel) fun t hf y => ?_
  obtain ⟨r, l, rfl⟩ := split_ix (A := 512) (B := 2816) y
  blk_simp
  rw [after0_6]
  have e : (win0_6.blk t).view.emb (ix2 r l) = ix2 (tok t r) l := by blk_ext [idx t, tok]
  rw [e]
  exact (out6 _ _ _ _ r l).trans (up_blk m c t r l)
theorem final7 (c : Dev nD) : (dats m 0 c).arrAt 7 (cfgs 0).N = ref7 (argsK m c) := by
  refine (dats m 0 c).arrAt_eq_of_covers 7 _ (by decide +kernel) fun t hf y => ?_
  obtain ⟨r, l, rfl⟩ := split_ix (A := 512) (B := 2816) y
  blk_simp
  rw [after0_7]
  have e : (win0_7.blk t).view.emb (ix2 r l) = ix2 (tok t r) l := by blk_ext [idx t, tok]
  rw [e]
  refine (out7 _ _ _ _ r l).trans ?_
  rw [gate_blk, up_blk]
  exact (refGated_at _ _ _ _).symm

end Cert.UpKernelIdeal.Hand

end
-- ==== Proof.LossBlock.lean ====
/-
  One point of the last feed-forward half with the loss over the extended reals: 512 rows of tokens, whose 2816 hidden units
  are taken in eleven parts of 256, then the last norm, the error against the target, the loss and its gradient.
-/
module

public import proofs.«01_k».proof.Proof.Gen.LossKernelIdeal.Frame
public import proofs.«01_k».proof.Proof.UpValue
public import Idealize.ShloMosaic.Lib.Pointwise
public import Idealize.ShloMosaic.Lib.Pipeline.ValueKit
public import Idealize.ShloMosaic.Lib.Claim

@[expose] public section

set_option maxRecDepth 65536

noncomputable section

namespace Cert.LossKernelIdeal.Hand

open Cert.LossKernelIdeal Cert.LossKernelIdeal.Gen
open Idealize.ShloMosaic Idealize.ShloMosaic.TcCoe Idealize.ShloMosaic.Tactic
open Cert.UpKernelIdeal.Hand (unit prod gated part unitAt gate sgm part_at gated_part)

/-- The blocks a point loads: 512 rows of the input, the norm's gain, the three weights, the last norm's gain and 512 rows of
    the target. -/
structure Blk where
  x : Vec Ideal S512x1024 .f32
  n : Vec Ideal S1x1024 .f32
  wg : Vec Ideal S2816x1024 .bf16
  wu : Vec Ideal S2816x1024 .bf16
  wd : Vec Ideal S2816x1024 .bf16
  f : Vec Ideal S1x1024 .f32
  t : Vec Ideal S512x1024 .f32

variable (b : Blk)

/-! ## The forward half -/

/-- The normed rows. -/
def Blk.hid : FVec Ideal S512x1024 .bf16 := k0_pay3 b.x b.n
theorem hid_at (r : Fin 512) (l : Fin 1024) :
    (b.hid (ix2 r l) : EReal) = b.x (ix2 r l) * Ideal.rsqrt (Ideal.div (∑ k : Fin 1024, b.x (ix2 r k) * b.x (ix2 r k))
      (Ideal.ofBits .f32 0x44800000#32) + Ideal.ofBits .f32 0x358637BD#32) * b.n (ix2 0 l) := by
  pointwise [Blk.hid, k0_pay3]

/-- The gated product at row `r` and hidden unit `k`. -/
def Blk.act (r : Fin 512) (k : Fin 2816) : EReal := gate (unitAt b.hid b.wg r k) (unitAt b.hid b.wu r k)

/-- The product of a part of the gated rows with a part of the last weight. -/
def down (a : FVec Ideal S512x256 .bf16) (w : FVec Ideal S256x1024 .bf16) : FVec Ideal S512x1024 .f32 :=
  matmul dot_S512x256_S256x1024_S512x1024_1_0_0_1_n_n none a w (constant S512x1024 .f32 0x00000000#32)
theorem down_at (a : FVec Ideal S512x256 .bf16) (w : FVec Ideal S256x1024 .bf16) (r : Fin 512) (l : Fin 1024) :
    (down a w (ix2 r l) : EReal) = ∑ j : Fin 256, a (ix2 r j) * w (ix2 j l) := by pointwise [down]

/-- The part of the layer's product that begins at hidden unit `o`. -/
def Blk.chunk (o : ℕ) (hi : ∀ a, (![o, 0] : Fin 2 → Nat) a + S256x1024.size a ≤ S2816x1024.size a) : FVec Ideal S512x1024 .f32 :=
  down (gated (prod b.hid (part b.wg o hi)) (prod b.hid (part b.wu o hi))) (part b.wd o hi)
theorem chunk_at (o : ℕ) (hi : ∀ a, (![o, 0] : Fin 2 → Nat) a + S256x1024.size a ≤ S2816x1024.size a) (ho : o + 256 ≤ 2816)
    (r : Fin 512) (l : Fin 1024) :
    (b.chunk o hi (ix2 r l) : EReal) = ∑ j : Fin 256, b.act r (unit o j ho) * b.wd (ix2 (unit o j ho) l) := by
  unfold Blk.chunk
  rw [down_at]
  exact Finset.sum_congr rfl fun j _ => congrArg₂ (· * ·) (gated_part b.hid b.wg b.wu o hi ho r j) (part_at b.wd o hi ho j l)

/-- The sum of the parts, one after the other. -/
def Blk.acc0 : FVec Ideal S512x1024 .f32 := b.chunk 0 inb_S2816x1024_S256x1024_0_0
def Blk.acc1 : FVec Ideal S512x1024 .f32 := addf b.acc0 (b.chunk 256 inb_S2816x1024_S256x1024_256_0)
def Blk.acc2 : FVec Ideal S512x1024 .f32 := addf b.acc1 (b.chunk 512 inb_S2816x1024_S256x1024_512_0)
def Blk.acc3 : FVec Ideal S512x1024 .f32 := addf b.acc2 (b.chunk 768 inb_S2816x1024_S256x1024_768_0)
def Blk.acc4 : FVec Ideal S512x1024 .f32 := addf b.acc3 (b.chunk 1024 inb_S2816x1024_S256x1024_1024_0)
def Blk.acc5 : FVec Ideal S512x1024 .f32 := addf b.acc4 (b.chunk 1280 inb_S2816x1024_S256x1024_1280_0)
def Blk.acc6 : FVec Ideal S512x1024 .f32 := addf b.acc5 (b.chunk 1536 inb_S2816x1024_S256x1024_1536_0)
def Blk.acc7 : FVec Ideal S512x1024 .f32 := addf b.acc6 (b.chunk 1792 inb_S2816x1024_S256x1024_1792_0)
def Blk.acc8 : FVec Ideal S512x1024 .f32 := addf b.acc7 (b.chunk 2048 inb_S2816x1024_S256x1024_2048_0)
def Blk.acc9 : FVec Ideal S512x1024 .f32 := addf b.acc8 (b.chunk 2304 inb_S2816x1024_S256x1024_2304_0)
def Blk.acc10 : FVec Ideal S512x1024 .f32 := addf b.acc9 (b.chunk 2560 inb_S2816x1024_S256x1024_2560_0)

theorem sum_parts (f : Fin 2816 → EReal) : ∑ k, f k = ∑ j, f (unit 0 j (by decide)) + ∑ j, f (unit 256 j (by decide)) + ∑ j, f (unit 512 j (by decide)) + ∑ j, f (unit 768 j (by decide)) + ∑ j, f (unit 1024 j (by decide)) + ∑ j, f (unit 1280 j (by decide)) + ∑ j, f (unit 1536 j (by decide)) + ∑ j, f (unit 1792 j (by decide)) + ∑ j, f (unit 2048 j (by decide)) + ∑ j, f (unit 2304 j (by decide)) + ∑ j, f (unit 2560 j (by decide)) := by
  have h10 := Fin.sum_univ_add (a := 2560) (b := 256) fun k => f k
  have h9 := Fin.sum_univ_add (a := 2304) (b := 256) fun k => f (Fin.castAdd 256 k)
  have h8 := Fin.sum_univ_add (a := 2048) (b := 256) fun k => f (Fin.castAdd 256 (Fin.castAdd 256 k))
  have h7 := Fin.sum_univ_add (a := 1792) (b := 256) fun k => f (Fin.castAdd 256 (Fin.castAdd 256 (Fin.castAdd 256 k)))
  have h6 := Fin.sum_univ_add (a := 1536) (b := 256) fun k => f (Fin.castAdd 256 (Fin.castAdd 256 (Fin.castAdd 256 (Fin.castAdd 256 k))))
  have h5 := Fin.sum_univ_add (a := 1280) (b := 256) fun k => f (Fin.castAdd 256 (Fin.castAdd 256 (Fin.castAdd 256 (Fin.castAdd 256 (Fin.castAdd 256 k)))))
  have h4 := Fin.sum_univ_add (a := 1024) (b := 256) fun k => f (Fin.castAdd 256 (Fin.castAdd 256 (Fin.castAdd 256 (Fin.castAdd 256 (Fin.castAdd 256 (Fin.castAdd 256 k))))))
  have h3 := Fin.sum_univ_add (a := 768) (b := 256) fun k => f (Fin.castAdd 256 (Fin.castAdd 256 (Fin.castAdd 256 (Fin.castAdd 256 (Fin.castAdd 256 (Fin.castAdd 256 (Fin.castAdd 256 k)))))))
  have h2 := Fin.sum_univ_add (a := 512) (b := 256) fun k => f (Fin.castAdd 256 (Fin.castAdd 256 (Fin.castAdd 256 (Fin.castAdd 256 (Fin.castAdd 256 (Fin.castAdd 256 (Fin.castAdd 256 (Fin.castAdd 256 k))))))))
  have h1 := Fin.sum_univ_add (a := 256) (b := 256) fun k => f (Fin.castAdd 256 (Fin.castAdd 256 (Fin.castAdd 256 (Fin.castAdd 256 (Fin.castAdd 256 (Fin.castAdd 256 (Fin.castAdd 256 (Fin.castAdd 256 (Fin.castAdd 256 k)))))))))
  refine h10.trans ?_
  rw [h9, h8, h7, h6, h5, h4, h3, h2, h1]
  rfl

theorem acc_at (r : Fin 512) (l : Fin 1024) : (b.acc10 (ix2 r l) : EReal) = ∑ k : Fin 2816, b.act r k * b.wd (ix2 k l) := by
  rw [sum_parts fun k => b.act r k * b.wd (ix2 k l)]
  rw [← chunk_at b 0 inb_S2816x1024_S256x1024_0_0 (by decide)]
  rw [← chunk_at b 256 inb_S2816x1024_S256x1024_256_0 (by decide)]
  rw [← chunk_at b 512 inb_S2816x1024_S256x1024_512_0 (by decide)]
  rw [← chunk_at b 768 inb_S2816x1024_S256x1024_768_0 (by decide)]
  rw [← chunk_at b 1024 inb_S2816x1024_S256x1024_1024_0 (by decide)]
  rw [← chunk_at b 1280 inb_S2816x1024_S256x1024_1280_0 (by decide)]
  rw [← chunk_at b 1536 inb_S2816x1024_S256x1024_1536_0 (by decide)]
  rw [← chunk_at b 1792 inb_S2816x1024_S256x1024_1792_0 (by decide)]
  rw [← chunk_at b 2048 inb_S2816x1024_S256x1024_2048_0 (by decide)]
  rw [← chunk_at b 2304 inb_S2816x1024_S256x1024_2304_0 (by decide)]
  rw [← chunk_at b 2560 inb_S2816x1024_S256x1024_2560_0 (by decide)]
  rfl

/-- The layer's output. -/
def Blk.y : FVec Ideal S512x1024 .f32 :=
  addf (F := Ideal) (φ := .f32) b.x (mulf (broadcast S512x1024 (Scalar.ofBits .f32 0x3F000000#32)) b.acc10)
theorem y_at (r : Fin 512) (l : Fin 1024) :
    (b.y (ix2 r l) : EReal) = b.x (ix2 r l) + Ideal.ofBits .f32 0x3F000000#32 * ∑ k : Fin 2816, b.act r k * b.wd (ix2 k l) := by
  rw [← acc_at]
  generalize hacc : b.acc10 = z
  pointwise [Blk.y, hacc]

/-! ## The loss and its gradient over the layer's output -/

/-- The mean square of a row plus the small constant. -/
def denAt (x : Fin 1024 → EReal) : EReal :=
  Ideal.div (∑ l, x l * x l) (Ideal.ofBits .f32 0x44800000#32) + Ideal.ofBits .f32 0x358637BD#32

/-- The error of the normed output against the target. -/
def errOf (y : FVec Ideal S512x1024 .f32) (f : Vec Ideal S1x1024 .f32) (t : Vec Ideal S512x1024 .f32) : FVec Ideal S512x1024 .f32 :=
  subf (F := Ideal) (φ := .f32) (mulf (k0_pay74 y) (broadcastTo S512x1024 f broadcasts_S1x1024_S512x1024)) t
/-- The sum of the rows' mean square errors. -/
def partOf (e : FVec Ideal S512x1024 .f32) : FVec Ideal S1 .f32 :=
  multiReduction .add [0] S1 (mulf (shapeCast S512x1 (multiReduction .add [1] S512 (mulf e e) 0x00000000#32
    reduces_S512x1024_S512 (.inl rfl) rfl) shapeCasts_S512_S512x1) (broadcast S512x1 (Scalar.ofBits .f32 0x3A800000#32)))
    0x00000000#32 reduces_S512x1_S1 (.inl rfl) rfl

variable (y e : FVec Ideal S512x1024 .f32) (f : Vec Ideal S1x1024 .f32) (t : Vec Ideal S512x1024 .f32)

theorem errOf_at (r : Fin 512) (l : Fin 1024) : (errOf y f t (ix2 r l) : EReal)
    = y (ix2 r l) * Ideal.rsqrt (denAt fun l => y (ix2 r l)) * f (ix2 0 l) - t (ix2 r l) := by
  pointwise [errOf, k0_pay74, k0_pay73, denAt]
theorem partOf_at (z : Fin 1) : (partOf e (ix1 z) : EReal)
    = ∑ r : Fin 512, (∑ l : Fin 1024, e (ix2 r l) * e (ix2 r l)) * Ideal.ofBits .f32 0x3A800000#32 := by
  pointwise [partOf]
theorem grad_at (r : Fin 512) (l : Fin 1024) : (k0_pay75 y f e (ix2 r l) : EReal)
    = Ideal.rsqrt (denAt fun l => y (ix2 r l)) * (e (ix2 r l) * Ideal.ofBits .f32 0x3A800000#32 * f (ix2 0 l)
      - y (ix2 r l) * Ideal.rsqrt (denAt fun l => y (ix2 r l)) * Ideal.div (∑ k, e (ix2 r k) * Ideal.ofBits .f32 0x3A800000#32
        * f (ix2 0 k) * (y (ix2 r k) * Ideal.rsqrt (denAt fun l => y (ix2 r l)))) (Ideal.ofBits .f32 0x44800000#32)) := by
  pointwise [k0_pay75, k0_pay74, k0_pay73, k0_pay72, denAt]
theorem gain_at (o : Vec Ideal S8x1024 .f32) (i : Fin 8) (l : Fin 1024) : (k0_pay76 y e o (ix2 i l) : EReal)
    = o (ix2 i l) + ∑ s : Fin 64, e (ix2 ⟨s.val * 8 + i.val, by omega⟩ l) * Ideal.ofBits .f32 0x3A800000#32
      * (y (ix2 ⟨s.val * 8 + i.val, by omega⟩ l) * Ideal.rsqrt (denAt fun l => y (ix2 ⟨s.val * 8 + i.val, by omega⟩ l))) := by
  pointwise [k0_pay76, k0_pay74, k0_pay73, k0_pay72, denAt]
theorem loss_at (p : FVec Ideal S1 .f32) (o : Vec Ideal S8x128 .f32) (i : Fin 8) (l : Fin 128) :
    (k0_pay77 p o (ix2 i l) : EReal) = o (ix2 i l) + Ideal.ofBits .f32 0x3F000000#32 * p (ix1 0) := by
  pointwise [k0_pay77]
theorem zero_gain (j : S8x1024.Idx) : (k0_pay1 (F := Ideal) j : EReal) = 0 := by pointwise [k0_pay1]
theorem zero_loss (j : S8x128.Idx) : (k0_pay2 (F := Ideal) j : EReal) = 0 := by pointwise [k0_pay2]

/-- The error of a block. -/
def Blk.err : FVec Ideal S512x1024 .f32 := errOf b.y b.f b.t

end Cert.LossKernelIdeal.Hand

end
-- ==== Proof.LossPoint.lean ====
/-
  What one point of the last feed-forward half's grid leaves in each of the seven output buffers, and what the host takes from
  the two that the points add to.
-/
module

public import proofs.«01_k».proof.Proof.LossBlock
public import Idealize.ShloMosaic.Lib.Pointwise
public import Idealize.ShloMosaic.Lib.Pipeline.ValueKit
public import Idealize.ShloMosaic.Lib.Claim

@[expose] public section

set_option maxRecDepth 65536

noncomputable section

namespace Cert.LossKernelIdeal.Hand

open Cert.LossKernelIdeal Cert.LossKernelIdeal.Gen
open Idealize.ShloMosaic Idealize.ShloMosaic.TcCoe Idealize.ShloMosaic.Tactic
open Idealize.ShloMosaic.Pipeline (Dat)
open Cert.UpKernelIdeal.Hand (unitAt canon_parts round_part gated_part)

variable (m : (ℓ : Loc nD τ sig) → Buf (Elt Ideal) ℓ)

/-- The blocks point `t` loads. -/
abbrev blk (c : Dev nD) (t : Fin cfg0.N) : Blk :=
  ⟨iblk m c 0 t, iblk m c 1 t, iblk m c 2 t, iblk m c 3 t, iblk m c 4 t, iblk m c 5 t, iblk m c 6 t⟩

set_option maxHeartbeats 4000000 in
theorem out7 (c : Dev nD) (t : Fin cfg0.N) :
    (outsAt0 m c t.val t.isLt).1 = k0_pay75 (blk m c t).y (blk m c t).f (blk m c t).err := by
  by_cases ht : t.val % 16 = 0
  · rw [outsAt0_A m c t ht]; frame_out; rfl
  · rw [outsAt0_B m c t ht]; frame_out; rfl

theorem out8 (c : Dev nD) (t : Fin cfg0.N) : (outsAt0 m c t.val t.isLt).2.1 = (blk m c t).hid := by
  by_cases ht : t.val % 16 = 0
  · rw [outsAt0_A m c t ht]; frame_out; rfl
  · rw [outsAt0_B m c t ht]; frame_out; rfl

set_option maxHeartbeats 4000000 in
theorem out9 (c : Dev nD) (t : Fin cfg0.N) (r : Fin 512) (k : Fin 2816) :
    ((outsAt0 m c t.val t.isLt).2.2.1 (ix2 r k) : EReal) = unitAt (blk m c t).hid (blk m c t).wg r k := by
  by_cases ht : t.val % 16 = 0
  · rw [outsAt0_A m c t ht]
    frame_out
    refine canon_parts (unitAt (blk m c t).hid (blk m c t).wg) _ _ _ _ _ _ _ _ _ _ _ ?_ ?_ ?_ ?_ ?_ ?_ ?_ ?_ ?_ ?_ ?_ r k
    · exact fun r j => round_part (blk m c t).hid (blk m c t).wg 0 inb_S2816x1024_S256x1024_0_0 (by decide) r j
    · exact fun r j => round_part (blk m c t).hid (blk m c t).wg 256 inb_S2816x1024_S256x1024_256_0 (by decide) r j
    · exact fun r j => round_part (blk m c t).hid (blk m c t).wg 512 inb_S2816x1024_S256x1024_512_0 (by decide) r j
    · exact fun r j => round_part (blk m c t).hid (blk m c t).wg 768 inb_S2816x1024_S256x1024_768_0 (by decide) r j
    · exact fun r j => round_part (blk m c t).hid (blk m c t).wg 1024 inb_S2816x1024_S256x1024_1024_0 (by decide) r j
    · exact fun r j => round_part (blk m c t).hid (blk m c t).wg 1280 inb_S2816x1024_S256x1024_1280_0 (by decide) r j
    · exact fun r j => round_part (blk m c t).hid (blk m c t).wg 1536 inb_S2816x1024_S256x1024_1536_0 (by decide) r j
    · exact fun r j => round_part (blk m c t).hid (blk m c t).wg 1792 inb_S2816x1024_S256x1024_1792_0 (by decide) r j
    · exact fun r j => round_part (blk m c t).hid (blk m c t).wg 2048 inb_S2816x1024_S256x1024_2048_0 (by decide) r j
    · exact fun r j => round_part (blk m c t).hid (blk m c t).wg 2304 inb_S2816x1024_S256x1024_2304_0 (by decide) r j
    · exact fun r j => round_part (blk m c t).hid (blk m c t).wg 2560 inb_S2816x1024_S256x1024_2560_0 (by decide) r j
  · rw [outsAt0_B m c t ht]
    frame_out
    refine canon_parts (unitAt (blk m c t).hid (blk m c t).wg) _ _ _ _ _ _ _ _ _ _ _ ?_ ?_ ?_ ?_ ?_ ?_ ?_ ?_ ?_ ?_ ?_ r k
    · exact fun r j => round_part (blk m c t).hid (blk m c t).wg 0 inb_S2816x1024_S256x1024_0_0 (by decide) r j
    · exact fun r j => round_part (blk m c t).hid (blk m c t).wg 256 inb_S2816x1024_S256x1024_256_0 (by decide) r j
    · exact fun r j => round_part (blk m c t).hid (blk m c t).wg 512 inb_S2816x1024_S256x1024_512_0 (by decide) r j
    · exact fun r j => round_part (blk m c t).hid (blk m c t).wg 768 inb_S2816x1024_S256x1024_768_0 (by decide) r j
    · exact fun r j => round_part (blk m c t).hid (blk m c t).wg 1024 inb_S2816x1024_S256x1024_1024_0 (by decide) r j
    · exact fun r j => round_part (blk m c t).hid (blk m c t).wg 1280 inb_S2816x1024_S256x1024_1280_0 (by decide) r j
    · exact fun r j => round_part (blk m c t).hid (blk m c t).wg 1536 inb_S2816x1024_S256x1024_1536_0 (by decide) r j
    · exact fun r j => round_part (blk m c t).hid (blk m c t).wg 1792 inb_S2816x1024_S256x1024_1792_0 (by decide) r j
    · exact fun r j => round_part (blk m c t).hid (blk m c t).wg 2048 inb_S2816x1024_S256x1024_2048_0 (by decide) r j
    · exact fun r j => round_part (blk m c t).hid (blk m c t).wg 2304 inb_S2816x1024_S256x1024_2304_0 (by decide) r j
    · exact fun r j => round_part (blk m c t).hid (blk m c t).wg 2560 inb_S2816x1024_S256x1024_2560_0 (by decide) r j

set_option maxHeartbeats 4000000 in
theorem out10 (c : Dev nD) (t : Fin cfg0.N) (r : Fin 512) (k : Fin 2816) :
    ((outsAt0 m c t.val t.isLt).2.2.2.1 (ix2 r k) : EReal) = unitAt (blk m c t).hid (blk m c t).wu r k := by
  by_cases ht : t.val % 16 = 0
  · rw [outsAt0_A m c t ht]
    frame_out
    refine canon_parts (unitAt (blk m c t).hid (blk m c t).wu) _ _ _ _ _ _ _ _ _ _ _ ?_ ?_ ?_ ?_ ?_ ?_ ?_ ?_ ?_ ?_ ?_ r k
    · exact fun r j => round_part (blk m c t).hid (blk m c t).wu 0 inb_S2816x1024_S256x1024_0_0 (by decide) r j
    · exact fun r j => round_part (blk m c t).hid (blk m c t).wu 256 inb_S2816x1024_S256x1024_256_0 (by decide) r j
    · exact fun r j => round_part (blk m c t).hid (blk m c t).wu 512 inb_S2816x1024_S256x1024_512_0 (by decide) r j
    · exact fun r j => round_part (blk m c t).hid (blk m c t).wu 768 inb_S2816x1024_S256x1024_768_0 (by decide) r j
    · exact fun r j => round_part (blk m c t).hid (blk m c t).wu 1024 inb_S2816x1024_S256x1024_1024_0 (by decide) r j
    · exact fun r j => round_part (blk m c t).hid (blk m c t).wu 1280 inb_S2816x1024_S256x1024_1280_0 (by decide) r j
    · exact fun r j => round_part (blk m c t).hid (blk m c t).wu 1536 inb_S2816x1024_S256x1024_1536_0 (by decide) r j
    · exact fun r j => round_part (blk m c t).hid (blk m c t).wu 1792 inb_S2816x1024_S256x1024_1792_0 (by decide) r j
    · exact fun r j => round_part (blk m c t).hid (blk m c t).wu 2048 inb_S2816x1024_S256x1024_2048_0 (by decide) r j
    · exact fun r j => round_part (blk m c t).hid (blk m c t).wu 2304 inb_S2816x1024_S256x1024_2304_0 (by decide) r j
    · exact fun r j => round_part (blk m c t).hid (blk m c t).wu 2560 inb_S2816x1024_S256x1024_2560_0 (by decide) r j
  · rw [outsAt0_B m c t ht]
    frame_out
    refine canon_parts (unitAt (blk m c t).hid (blk m c t).wu) _ _ _ _ _ _ _ _ _ _ _ ?_ ?_ ?_ ?_ ?_ ?_ ?_ ?_ ?_ ?_ ?_ r k
    · exact fun r j => round_part (blk m c t).hid (blk m c t).wu 0 inb_S2816x1024_S256x1024_0_0 (by decide) r j
    · exact fun r j => round_part (blk m c t).hid (blk m c t).wu 256 inb_S2816x1024_S256x1024_256_0 (by decide) r j
    · exact fun r j => round_part (blk m c t).hid (blk m c t).wu 512 inb_S2816x1024_S256x1024_512_0 (by decide) r j
    · exact fun r j => round_part (blk m c t).hid (blk m c t).wu 768 inb_S2816x1024_S256x1024_768_0 (by decide) r j
    · exact fun r j => round_part (blk m c t).hid (blk m c t).wu 1024 inb_S2816x1024_S256x1024_1024_0 (by decide) r j
    · exact fun r j => round_part (blk m c t).hid (blk m c t).wu 1280 inb_S2816x1024_S256x1024_1280_0 (by decide) r j
    · exact fun r j => round_part (blk m c t).hid (blk m c t).wu 1536 inb_S2816x1024_S256x1024_1536_0 (by decide) r j
    · exact fun r j => round_part (blk m c t).hid (blk m c t).wu 1792 inb_S2816x1024_S256x1024_1792_0 (by decide) r j
    · exact fun r j => round_part (blk m c t).hid (blk m c t).wu 2048 inb_S2816x1024_S256x1024_2048_0 (by decide) r j
    · exact fun r j => round_part (blk m c t).hid (blk m c t).wu 2304 inb_S2816x1024_S256x1024_2304_0 (by decide) r j
    · exact fun r j => round_part (blk m c t).hid (blk m c t).wu 2560 inb_S2816x1024_S256x1024_2560_0 (by decide) r j

set_option maxHeartbeats 4000000 in
theorem out11 (c : Dev nD) (t : Fin cfg0.N) (r : Fin 512) (k : Fin 2816) :
    ((outsAt0 m c t.val t.isLt).2.2.2.2.1 (ix2 r k) : EReal) = (blk m c t).act r k := by
  by_cases ht : t.val % 16 = 0
  · rw [outsAt0_A m c t ht]
    frame_out
    refine canon_parts ((blk m c t).act) _ _ _ _ _ _ _ _ _ _ _ ?_ ?_ ?_ ?_ ?_ ?_ ?_ ?_ ?_ ?_ ?_ r k
    · exact fun r j => gated_part (blk m c t).hid (blk m c t).wg (blk m c t).wu 0 inb_S2816x1024_S256x1024_0_0 (by decide) r j
    · exact fun r j => gated_part (blk m c t).hid (blk m c t).wg (blk m c t).wu 256 inb_S2816x1024_S256x1024_256_0 (by decide) r j
    · exact fun r j => gated_part (blk m c t).hid (blk m c t).wg (blk m c t).wu 512 inb_S2816x1024_S256x1024_512_0 (by decide) r j
    · exact fun r j => gated_part (blk m c t).hid (blk m c t).wg (blk m c t).wu 768 inb_S2816x1024_S256x1024_768_0 (by decide) r j
    · exact fun r j => gated_part (blk m c t).hid (blk m c t).wg (blk m c t).wu 1024 inb_S2816x1024_S256x1024_1024_0 (by decide) r j
    · exact fun r j => gated_part (blk m c t).hid (blk m c t).wg (blk m c t).wu 1280 inb_S2816x1024_S256x1024_1280_0 (by decide) r j
    · exact fun r j => gated_part (blk m c t).hid (blk m c t).wg (blk m c t).wu 1536 inb_S2816x1024_S256x1024_1536_0 (by decide) r j
    · exact fun r j => gated_part (blk m c t).hid (blk m c t).wg (blk m c t).wu 1792 inb_S2816x1024_S256x1024_1792_0 (by decide) r j
    · exact fun r j => gated_part (blk m c t).hid (blk m c t).wg (blk m c t).wu 2048 inb_S2816x1024_S256x1024_2048_0 (by decide) r j
    · exact fun r j => gated_part (blk m c t).hid (blk m c t).wg (blk m c t).wu 2304 inb_S2816x1024_S256x1024_2304_0 (by decide) r j
    · exact fun r j => gated_part (blk m c t).hid (blk m c t).wg (blk m c t).wu 2560 inb_S2816x1024_S256x1024_2560_0 (by decide) r j
  · rw [outsAt0_B m c t ht]
    frame_out
    refine canon_parts ((blk m c t).act) _ _ _ _ _ _ _ _ _ _ _ ?_ ?_ ?_ ?_ ?_ ?_ ?_ ?_ ?_ ?_ ?_ r k
    · exact fun r j => gated_part (blk m c t).hid (blk m c t).wg (blk m c t).wu 0 inb_S2816x1024_S256x1024_0_0 (by decide) r j
    · exact fun r j => gated_part (blk m c t).hid (blk m c t).wg (blk m c t).wu 256 inb_S2816x1024_S256x1024_256_0 (by decide) r j
    · exact fun r j => gated_part (blk m c t).hid (blk m c t).wg (blk m c t).wu 512 inb_S2816x1024_S256x1024_512_0 (by decide) r j
    · exact fun r j => gated_part (blk m c t).hid (blk m c t).wg (blk m c t).wu 768 inb_S2816x1024_S256x1024_768_0 (by decide) r j
    · exact fun r j => gated_part (blk m c t).hid (blk m c t).wg (blk m c t).wu 1024 inb_S2816x1024_S256x1024_1024_0 (by decide) r j
    · exact fun r j => gated_part (blk m c t).hid (blk m c t).wg (blk m c t).wu 1280 inb_S2816x1024_S256x1024_1280_0 (by decide) r j
    · exact fun r j => gated_part (blk m c t).hid (blk m c t).wg (blk m c t).wu 1536 inb_S2816x1024_S256x1024_1536_0 (by decide) r j
    · exact fun r j => gated_part (blk m c t).hid (blk m c t).wg (blk m c t).wu 1792 inb_S2816x1024_S256x1024_1792_0 (by decide) r j
    · exact fun r j => gated_part (blk m c t).hid (blk m c t).wg (blk m c t).wu 2048 inb_S2816x1024_S256x1024_2048_0 (by decide) r j
    · exact fun r j => gated_part (blk m c t).hid (blk m c t).wg (blk m c t).wu 2304 inb_S2816x1024_S256x1024_2304_0 (by decide) r j
    · exact fun r j => gated_part (blk m c t).hid (blk m c t).wg (blk m c t).wu 2560 inb_S2816x1024_S256x1024_2560_0 (by decide) r j

set_option maxHeartbeats 4000000 in
theorem out12_reset (c : Dev nD) (t : Fin cfg0.N) (ht : t.val % 16 = 0) :
    (outsAt0 m c t.val t.isLt).2.2.2.2.2.1 = k0_pay76 (blk m c t).y (blk m c t).err (k0_pay1 (F := Ideal)) := by
  rw [outsAt0_A m c t ht]; frame_out; rfl
set_option maxHeartbeats 4000000 in
theorem out12_step (c : Dev nD) (t : Fin cfg0.N) (ht : ¬ t.val % 16 = 0) :
    (outsAt0 m c t.val t.isLt).2.2.2.2.2.1 = k0_pay76 (blk m c t).y (blk m c t).err
      (outsAt0 m c (t.val - 1) (lt_of_le_of_lt (Nat.sub_le _ _) t.isLt)).2.2.2.2.2.1 := by
  rw [outsAt0_B m c t ht]; frame_out; rfl
set_option maxHeartbeats 4000000 in
theorem out13_reset (c : Dev nD) (t : Fin cfg0.N) (ht : t.val % 16 = 0) :
    (outsAt0 m c t.val t.isLt).2.2.2.2.2.2 = k0_pay77 (partOf (blk m c t).err) (k0_pay2 (F := Ideal)) := by
  rw [outsAt0_A m c t ht]; frame_out; rfl
set_option maxHeartbeats 4000000 in
theorem out13_step (c : Dev nD) (t : Fin cfg0.N) (ht : ¬ t.val % 16 = 0) :
    (outsAt0 m c t.val t.isLt).2.2.2.2.2.2 = k0_pay77 (partOf (blk m c t).err)
      (outsAt0 m c (t.val - 1) (lt_of_le_of_lt (Nat.sub_le _ _) t.isLt)).2.2.2.2.2.2 := by
  rw [outsAt0_B m c t ht]; frame_out; rfl

/-! ## The host's end -/

/-- The sum of the eight rows. -/
def rowSum (v : FVec Ideal S8x1024 .f32) : FVec Ideal S1024 .f32 :=
  Host.reduceAdd (F := Ideal) (φ := .f32) v (constant S_ .f32 0x00000000#32) reducesTo_S8x1024_S1024_d0 h_S_
theorem rowSum_at (v : FVec Ideal S8x1024 .f32) (l : Fin 1024) : (rowSum v (ix1 l) : EReal) = ∑ i : Fin 8, v (ix2 i l) := by
  pointwise [rowSum]
/-- The first entry of the block. -/
def corner (v : FVec Ideal S8x128 .f32) : FVec Ideal S_ .f32 :=
  shapeCast S_ (extractStridedSlice S1x1 ![0, 0] v slices_S8x128_S1x1_0_0) shapeCasts_S1x1_S_
theorem corner_at (v : FVec Ideal S8x128 .f32) (j : S_.Idx) : (corner v j : EReal) = v (ix2 0 0) := by
  pointwise [corner]

theorem tail_gain (c : Dev nD) :
    Pipeline.afterTail₀ cfgs (dats m) 0 (V0 m) [hostOps1] c main_v1 = rowSum ((dats m 0 c).arrAt 12 (cfgs 0).N) := by
  unfold Pipeline.afterTail₀
  show StableHlo.after hostOps1 _ _ = _
  after_results
  exact congrArg rowSum (Pipeline.withArrays_arr (cfgs 0).spec (by decide +kernel) c _ _ 12)
theorem tail_loss (c : Dev nD) :
    Pipeline.afterTail₀ cfgs (dats m) 0 (V0 m) [hostOps1] c main_v3 = corner ((dats m 0 c).arrAt 13 (cfgs 0).N) := by
  unfold Pipeline.afterTail₀
  show StableHlo.after hostOps1 _ _ = _
  after_results
  exact congrArg corner (Pipeline.withArrays_arr (cfgs 0).spec (by decide +kernel) c _ _ 13)

/-- The run leaves the seven results. -/
theorem run_results (g : Dev nD → PrngReg) :
    θ_run defs (onTc (τ := τ) (main (F := Ideal))) ⟨m, fun _ => 0, g⟩ (fun r => ∀ c : Dev nD,
      r.2.mem ((c.tc : Thread nD τ).loc main_v0_0) = (dats m 0 c).arrAt 7 (cfgs 0).N
      ∧ r.2.mem ((c.tc : Thread nD τ).loc main_v0_1) = (dats m 0 c).arrAt 8 (cfgs 0).N
      ∧ r.2.mem ((c.tc : Thread nD τ).loc main_v0_2) = (dats m 0 c).arrAt 9 (cfgs 0).N
      ∧ r.2.mem ((c.tc : Thread nD τ).loc main_v0_3) = (dats m 0 c).arrAt 10 (cfgs 0).N
      ∧ r.2.mem ((c.tc : Thread nD τ).loc main_v0_4) = (dats m 0 c).arrAt 11 (cfgs 0).N
      ∧ r.2.mem ((c.tc : Thread nD τ).loc main_v1) = rowSum ((dats m 0 c).arrAt 12 (cfgs 0).N)
      ∧ r.2.mem ((c.tc : Thread nD τ).loc main_v3) = corner ((dats m 0 c).arrAt 13 (cfgs 0).N)) :=
  (θ_run defs _ _).mono (fun r h c => ⟨(h c).1 7, (h c).1 8, (h c).1 9, (h c).1 10, (h c).1 11,
    ((h c).2 main_v1 (by decide +kernel)).trans (tail_gain m c),
    ((h c).2 main_v3 (by decide +kernel)).trans (tail_loss m c)⟩) (run_main m g)
end Cert.LossKernelIdeal.Hand

end
-- ==== Proof.LossRef.lean ====
/-
  The last feed-forward half with the loss, layer by layer as the reference's host operations compute it, and the value of
  every layer of the loss and its gradient at a coordinate over the extended reals.
-/
module

public import proofs.«01_k».proof.Proof.Gen.LossReferenceIdeal.Run
public import proofs.«01_k».proof.Proof.RealFacts
public import proofs.«01_k».proof.Proof.UpValue
public import Idealize.ShloMosaic.Lib.Pointwise

@[expose] public section

set_option maxRecDepth 65536

noncomputable section

namespace Cert.LossReferenceIdeal.Hand

open Cert.LossReferenceIdeal Cert.LossReferenceIdeal.Facts₀ Cert.LossReferenceIdeal.Value
open Idealize.ShloMosaic Idealize.ShloMosaic.TcCoe
open Cert.RealFacts (IsReal denAt den_cases coe_mul_sum norm_grad)
open Cert.UpKernelIdeal.Hand (refHid refProd refGated ref4 ref5 ref6 ref7)

/-- The seven arguments: the input, the norm's gain, the three weights, the last norm's gain and the target. -/
structure Args where
  x : FVec Ideal S8192x1024 .f32
  g : FVec Ideal S1x1024 .f32
  wg : FVec Ideal S2816x1024 .bf16
  wu : FVec Ideal S2816x1024 .bf16
  wd : FVec Ideal S2816x1024 .bf16
  gf : FVec Ideal S1x1024 .f32
  tgt : FVec Ideal S8192x1024 .f32

/-- The arguments of the first half of the layer. -/
abbrev Args.first (a : Args) : Cert.UpKernelIdeal.Hand.Args := ⟨a.x, a.g, a.wg, a.wu⟩

variable (a : Args)

/-- The gated hidden product. -/
def act : FVec Ideal S8192x2816 .f32 := refGated (refProd (refHid a.first) a.wg) (refProd (refHid a.first) a.wu)
/-- The output of the layer, which the loss norms. -/
def y : FVec Ideal S8192x1024 .f32 :=
  addf a.x (mulf (broadcastInDim S8192x1024 ![] bcast_S_S8192x1024 (constant S_ .f32 0x3F000000#32))
    (Host.dotGeneral dot_S8192x2816_S2816x1024_S8192x1024_1_0_0_1_n_n none (act a) (extf .f32 a.wd bitsLt_bf16_f32)))
/-- The mean square of a row plus epsilon. -/
def den : FVec Ideal S8192x1 .f32 :=
  addf (Host.divf (broadcastInDim S8192x1 ![0] bcast_S8192_S8192x1_0 (Host.reduceAdd (mulf (y a) (y a))
    (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32))
/-- Its reciprocal square root. -/
def rstd : FVec Ideal S8192x1 .f32 := Host.rsqrt (den a)
/-- The derivative of the reciprocal square root: −½ · rstd / den. -/
def slope : FVec Ideal S8192x1 .f32 :=
  mulf (broadcastInDim S8192x1 ![] bcast_S_S8192x1 (constant S_ .f32 0xBF000000#32)) (Host.divf (rstd a) (den a))
/-- The normalised output. -/
def xhat : FVec Ideal S8192x1024 .f32 := mulf (y a) (broadcastInDim S8192x1024 ![0, 1] bcast_S8192x1_S8192x1024_0_1 (rstd a))
/-- The gain as a row. -/
def gain : FVec Ideal S1x1024 .f32 := broadcastInDim S1x1024 ![1] bcast_S1024_S1x1024_1 (shapeCast S1024 a.gf shapeCasts_S1x1024_S1024)
/-- The error against the target. -/
def err : FVec Ideal S8192x1024 .f32 :=
  subf (mulf (xhat a) (broadcastInDim S8192x1024 ![0, 1] bcast_S1x1024_S8192x1024_0_1 (gain a))) a.tgt
/-- The loss: half the sum over the rows of the mean square error. -/
def loss : FVec Ideal S_ .f32 :=
  mulf (constant S_ .f32 0x3F000000#32) (Host.reduceAdd (Host.divf (Host.reduceAdd (mulf (err a) (err a))
    (constant S_ .f32 0x00000000#32) reducesTo_S8192x1024_S8192_d1 h_S_)
    (broadcastInDim S8192 ![] bcast_S_S8192 (constant S_ .f32 0x44800000#32))) (constant S_ .f32 0x00000000#32)
    reducesTo_S8192_S_d0 h_S_)
/-- The gradient of the normed output: ½ / 1024 · 2 · error. -/
def dhid : FVec Ideal S8192x1024 .f32 :=
  mulf (broadcastInDim S8192x1024 ![0] bcast_S8192_S8192x1024_0 (Host.divf (broadcastInDim S8192 ![] bcast_S_S8192
    (mulf (constant S_ .f32 0x3F000000#32) (constant S_ .f32 0x3F800000#32)))
    (broadcastInDim S8192 ![] bcast_S_S8192 (constant S_ .f32 0x44800000#32))))
    (mulf (broadcastInDim S8192x1024 ![] bcast_S_S8192x1024 (constant S_ .f32 0x40000000#32)) (err a))
/-- The gradient of the gain. -/
def dgain : FVec Ideal S1024 .f32 :=
  Host.reduceAdd (shapeCast S1x1024 (Host.reduceAdd (mulf (xhat a) (dhid a)) (constant S_ .f32 0x00000000#32)
    reducesTo_S8192x1024_S1024_d0 h_S_) shapeCasts_S1024_S1x1024) (constant S_ .f32 0x00000000#32) reducesTo_S1x1024_S1024_d0 h_S_
/-- The gradient of the normalised output. -/
def dxhat : FVec Ideal S8192x1024 .f32 := mulf (dhid a) (broadcastInDim S8192x1024 ![0, 1] bcast_S1x1024_S8192x1024_0_1 (gain a))
/-- The gradient of one square of the row, through the mean and the reciprocal square root. -/
def dsq : FVec Ideal S8192 .f32 :=
  Host.reduceAdd (Host.divf (mulf (shapeCast S8192x1 (Host.reduceAdd (mulf (y a) (dxhat a)) (constant S_ .f32 0x00000000#32)
    reducesTo_S8192x1024_S8192_d1 h_S_) shapeCasts_S8192_S8192x1) (slope a))
    (broadcastInDim S8192x1 ![] bcast_S_S8192x1 (constant S_ .f32 0x44800000#32))) (constant S_ .f32 0x00000000#32)
    reducesTo_S8192x1_S8192_d1 h_S_
/-- The gradient of the layer's output. -/
def dy : FVec Ideal S8192x1024 .f32 :=
  addf (addf (mulf (dxhat a) (broadcastInDim S8192x1024 ![0, 1] bcast_S8192x1_S8192x1024_0_1 (rstd a)))
    (mulf (y a) (broadcastInDim S8192x1024 ![0] bcast_S8192_S8192x1024_0 (dsq a))))
    (mulf (broadcastInDim S8192x1024 ![0] bcast_S8192_S8192x1024_0 (dsq a)) (y a))

/-! ### The printed results are these layers -/

abbrev args (m : (ℓ : Loc nD τ Cert.LossReferenceIdeal.sig) → Buf (Elt Ideal) ℓ) (c : Dev nD) : Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6)⟩

theorem res_dy (m : (ℓ : Loc nD τ Cert.LossReferenceIdeal.sig) → Buf (Elt Ideal) ℓ) (c : Dev nD) :
    res_main_v78 (F := Ideal) m c = dy (args m c) := by
  rfl
theorem res_dg (m : (ℓ : Loc nD τ Cert.LossReferenceIdeal.sig) → Buf (Elt Ideal) ℓ) (c : Dev nD) :
    res_main_v64 (F := Ideal) m c = dgain (args m c) := by
  rfl
theorem res_loss (m : (ℓ : Loc nD τ Cert.LossReferenceIdeal.sig) → Buf (Elt Ideal) ℓ) (c : Dev nD) :
    res_main_v52 (F := Ideal) m c = loss (args m c) := by
  rfl

/-! ### Every layer at a coordinate -/

theorem y_at (r : Fin 8192) (l : Fin 1024) : (y a (ix2 r l) : EReal)
    = a.x (ix2 r l) + Ideal.ofBits .f32 0x3F000000#32 * ∑ k : Fin 2816, act a (ix2 r k) * a.wd (ix2 k l) := by
  pointwise [y]
theorem den_at (r : Fin 8192) (z : Fin 1) : (den a (ix2 r z) : EReal)
    = Ideal.div (∑ l : Fin 1024, y a (ix2 r l) * y a (ix2 r l)) (FloatOps.ofBits (F := Ideal) .f32 0x44800000#32) + FloatOps.ofBits (F := Ideal) .f32 0x358637BD#32 := by
  pointwise [den]
theorem rstd_at (r : Fin 8192) (z : Fin 1) : (rstd a (ix2 r z) : EReal) = Ideal.rsqrt (den a (ix2 r 0)) := by
  obtain rfl : z = 0 := Subsingleton.elim _ _
  pointwise [rstd]
theorem xhat_at (r : Fin 8192) (l : Fin 1024) : (xhat a (ix2 r l) : EReal) = y a (ix2 r l) * rstd a (ix2 r 0) := by
  pointwise [xhat]
theorem gain_at (z : Fin 1) (l : Fin 1024) : (gain a (ix2 z l) : EReal) = a.gf (ix2 0 l) := by
  pointwise [gain]
theorem err_at (r : Fin 8192) (l : Fin 1024) : (err a (ix2 r l) : EReal)
    = xhat a (ix2 r l) * gain a (ix2 0 l) - a.tgt (ix2 r l) := by
  pointwise [err]
theorem loss_at (j : S_.Idx) : (loss a j : EReal) = Ideal.ofBits .f32 0x3F000000#32 * ∑ r : Fin 8192,
    Ideal.div (∑ l : Fin 1024, err a (ix2 r l) * err a (ix2 r l)) (Ideal.ofBits .f32 0x44800000#32) := by
  pointwise [loss]
theorem dhid_at (r : Fin 8192) (l : Fin 1024) : (dhid a (ix2 r l) : EReal)
    = Ideal.div (Ideal.ofBits .f32 0x3F000000#32 * 1) (Ideal.ofBits .f32 0x44800000#32)
      * (Ideal.ofBits .f32 0x40000000#32 * err a (ix2 r l)) := by
  pointwise [dhid]
theorem dgain_at (l : Fin 1024) : (dgain a (ix1 l) : EReal) = ∑ r : Fin 8192, xhat a (ix2 r l) * dhid a (ix2 r l) := by
  pointwise [dgain]
  exact Fin.sum_univ_one _
theorem dxhat_at (r : Fin 8192) (l : Fin 1024) : (dxhat a (ix2 r l) : EReal) = dhid a (ix2 r l) * gain a (ix2 0 l) := by
  pointwise [dxhat]
theorem slope_at (r : Fin 8192) (z : Fin 1) : (slope a (ix2 r z) : EReal)
    = FloatOps.ofBits (F := Ideal) .f32 0xBF000000#32 * Ideal.div (rstd a (ix2 r z)) (den a (ix2 r z)) := by
  pointwise [slope]
theorem dsq_at (r : Fin 8192) : (dsq a (ix1 r) : EReal)
    = Ideal.div ((∑ l : Fin 1024, y a (ix2 r l) * dxhat a (ix2 r l)) * slope a (ix2 r 0)) (FloatOps.ofBits (F := Ideal) .f32 0x44800000#32) := by
  pointwise [dsq]
  exact Fin.sum_univ_one _
theorem dy_at (r : Fin 8192) (l : Fin 1024) : (dy a (ix2 r l) : EReal)
    = dxhat a (ix2 r l) * rstd a (ix2 r 0) + y a (ix2 r l) * dsq a (ix1 r) + dsq a (ix1 r) * y a (ix2 r l) := by
  pointwise [dy]

/-! ### The loss and its gradient as a block computes them, for arbitrary extended reals -/

theorem two : Ideal.ofBits .f32 0x40000000#32 = ((2 : ℝ) : EReal) := by
  simp [Ideal.ofBits, Ideal.ieee, -EReal.coe_mul]; norm_num
theorem inv_width : Ideal.ofBits .f32 0x3A800000#32 = ((1 / 1024 : ℝ) : EReal) := by
  simp [Ideal.ofBits, Ideal.ieee, -EReal.coe_mul]; norm_num

/-- The gradient of the normed output: the error times 1/1024. -/
theorem dhid_block (r : Fin 8192) (l : Fin 1024) :
    dhid a (ix2 r l) = err a (ix2 r l) * Ideal.ofBits .f32 0x3A800000#32 := by
  rw [dhid_at, Cert.RealFacts.half, Cert.RealFacts.width, two, inv_width, Ideal.div_coe (by norm_num), ← EReal.coe_one, ← mul_assoc,
    ← EReal.coe_mul, ← EReal.coe_mul, ← EReal.coe_mul, mul_comm]
  congr 2
  norm_num
/-- The output's gradient. -/
theorem dy_block (r : Fin 8192) (l : Fin 1024) : dy a (ix2 r l)
    = Ideal.rsqrt (denAt fun l => y a (ix2 r l)) * (dhid a (ix2 r l) * a.gf (ix2 0 l)
      - y a (ix2 r l) * Ideal.rsqrt (denAt fun l => y a (ix2 r l)) * Ideal.div (∑ k, dhid a (ix2 r k) * a.gf (ix2 0 k)
        * (y a (ix2 r k) * Ideal.rsqrt (denAt fun l => y a (ix2 r l)))) (Ideal.ofBits .f32 0x44800000#32)) := by
  have hA : ∀ l, dhid a (ix2 r l) * a.gf (ix2 0 l) = dxhat a (ix2 r l) := fun l => by rw [dxhat_at, gain_at]
  simp only [hA]
  have hden : den a (ix2 r 0) = denAt fun l => y a (ix2 r l) := den_at a r 0
  rcases den_cases fun l => y a (ix2 r l) with h | h
  · obtain ⟨d, hd, e⟩ := Cert.RealFacts.den_pos h
    have e' : denAt (fun l => y a (ix2 r l)) = (d : EReal) := e
    rw [e'] at hden
    rw [e', norm_grad (X := fun l => y a (ix2 r l)) (fun k => dxhat a (ix2 r k)) h hd l, dy_at, dsq_at, slope_at, rstd_at, hden]
    rfl
  · rw [h] at hden
    have hr : Ideal.rsqrt (⊤ : EReal) = 0 := rfl
    have hs : Ideal.div (0 : EReal) ⊤ = 0 := by simp [Ideal.div]
    rw [h, hr, zero_mul, dy_at, dsq_at, slope_at, rstd_at, hden, hr, hs]
    have hz : Ideal.div (0 : EReal) (FloatOps.ofBits (F := Ideal) .f32 0x44800000#32) = 0 := by
      show Ideal.div 0 (Ideal.ofBits .f32 0x44800000#32) = 0
      rw [Cert.RealFacts.width, Ideal.div_coe (by norm_num), zero_mul]
    simp only [mul_zero, hz, zero_mul, add_zero]
/-- The loss is the sum over the tiles of half the sums of their rows. -/
theorem loss_block (j : S_.Idx) : (loss a j : EReal) = ∑ t : Fin 16, Ideal.ofBits .f32 0x3F000000#32 * ∑ r : Fin 512,
    (∑ l : Fin 1024, err a (ix2 (⟨t.val * 512 + r.val, by omega⟩ : Fin 8192) l) * err a (ix2 (⟨t.val * 512 + r.val, by omega⟩ : Fin 8192) l))
      * Ideal.ofBits .f32 0x3A800000#32 := by
  rw [loss_at, Fin.sum_univ_tiles 16 512 rfl]
  simp only [Cert.RealFacts.half, Cert.RealFacts.width, inv_width, Ideal.div_coe (show (1024 : ℝ) ≠ 0 by norm_num)]
  rw [coe_mul_sum _ (by norm_num)]

end Cert.LossReferenceIdeal.Hand

end
-- ==== Proof.LossValue.lean ====
/-
  The arrays that the last feed-forward half with the loss leaves: the four that the backward needs, the gradient at the
  layer's output, and the eight rows and the block from which the host takes the gain's gradient and the loss.
-/
module

public import proofs.«01_k».proof.Proof.LossPoint
public import proofs.«01_k».proof.Proof.LossRef
public import Idealize.ShloMosaic.Lib.Pointwise
public import Idealize.ShloMosaic.Lib.Pipeline.ValueKit
public import Idealize.ShloMosaic.Lib.Claim

@[expose] public section

set_option maxRecDepth 65536

noncomputable section

namespace Cert.LossKernelIdeal.Hand

open Cert.LossKernelIdeal Cert.LossKernelIdeal.Gen
open Idealize.ShloMosaic Idealize.ShloMosaic.TcCoe
open Idealize.ShloMosaic.Pipeline (Dat)
open Cert.UpKernelIdeal.Hand (refHid refProd refGated ref4 ref5 ref6 ref7 unitAt gate)
open Cert.LossReferenceIdeal.Hand (Args)

variable (m : (ℓ : Loc nD τ sig) → Buf (Elt Ideal) ℓ)

/-! ## The grid -/

/-- Point t works on rows 512 t to 512 t + 511, and on the whole gains and weights. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![0, 0] ∧ win0_13.index t = ![0, 0] :=
  (by decide +kernel : ∀ t : Fin grid0.N, _)
theorem points (t : Fin cfg0.N) : t.val < 16 := lt_of_lt_of_eq t.isLt (show cfg0.N = 16 from N_0)
/-- The token of row `r` of point `t`. -/
def tok (t : Fin cfg0.N) (r : Fin 512) : Fin 8192 := ⟨t.val * 512 + r.val, by have := points t; omega⟩

/-- The arguments. -/
abbrev argsK (c : Dev nD) : Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6)⟩

theorem blk_x (c : Dev nD) (t : Fin cfg0.N) (r : Fin 512) (l : Fin 1024) :
    (iblk m c 0 t (ix2 r l) : EReal) = (argsK m c).x (ix2 (tok t r) l) := by blk_ext [iblk, V, idx t, tok]
theorem blk_n (c : Dev nD) (t : Fin cfg0.N) (l : Fin 1024) :
    (iblk m c 1 t (ix2 0 l) : EReal) = (argsK m c).g (ix2 0 l) := by blk_ext [iblk, V, idx t, tok]
theorem blk_wg (c : Dev nD) (t : Fin cfg0.N) (k : Fin 2816) (l : Fin 1024) :
    (iblk m c 2 t (ix2 k l) : EReal) = (argsK m c).wg (ix2 k l) := by blk_ext [iblk, V, idx t, tok]
theorem blk_wu (c : Dev nD) (t : Fin cfg0.N) (k : Fin 2816) (l : Fin 1024) :
    (iblk m c 3 t (ix2 k l) : EReal) = (argsK m c).wu (ix2 k l) := by blk_ext [iblk, V, idx t, tok]
theorem blk_wd (c : Dev nD) (t : Fin cfg0.N) (k : Fin 2816) (l : Fin 1024) :
    (iblk m c 4 t (ix2 k l) : EReal) = (argsK m c).wd (ix2 k l) := by blk_ext [iblk, V, idx t, tok]
theorem blk_f (c : Dev nD) (t : Fin cfg0.N) (l : Fin 1024) :
    (iblk m c 5 t (ix2 0 l) : EReal) = (argsK m c).gf (ix2 0 l) := by blk_ext [iblk, V, idx t, tok]
theorem blk_t (c : Dev nD) (t : Fin cfg0.N) (r : Fin 512) (l : Fin 1024) :
    (iblk m c 6 t (ix2 r l) : EReal) = (argsK m c).tgt (ix2 (tok t r) l) := by blk_ext [iblk, V, idx t, tok]

/-! ## A block's quantities are the reference's layers at the block's rows -/

theorem hid_blk (c : Dev nD) (t : Fin cfg0.N) (r : Fin 512) (l : Fin 1024) :
    ((blk m c t).hid (ix2 r l) : EReal) = refHid (argsK m c).first (ix2 (tok t r) l) := by
  rw [hid_at, Cert.UpKernelIdeal.Hand.refHid_at]
  exact congrArg₂ (· * ·) (congrArg₂ (· * ·) (blk_x m c t r l) (congrArg (fun z : EReal => Ideal.rsqrt (Ideal.div z _ + _))
    (Finset.sum_congr rfl fun k _ => congrArg₂ (· * ·) (blk_x m c t r k) (blk_x m c t r k)))) (blk_n m c t l)
theorem gate_blk (c : Dev nD) (t : Fin cfg0.N) (r : Fin 512) (k : Fin 2816) :
    unitAt (blk m c t).hid (blk m c t).wg r k = refProd (refHid (argsK m c).first) (argsK m c).wg (ix2 (tok t r) k) := by
  rw [Cert.UpKernelIdeal.Hand.refProd_at, unitAt]
  exact Finset.sum_congr rfl fun l _ => congrArg₂ (· * ·) (hid_blk m c t r l) (blk_wg m c t k l)
theorem up_blk (c : Dev nD) (t : Fin cfg0.N) (r : Fin 512) (k : Fin 2816) :
    unitAt (blk m c t).hid (blk m c t).wu r k = refProd (refHid (argsK m c).first) (argsK m c).wu (ix2 (tok t r) k) := by
  rw [Cert.UpKernelIdeal.Hand.refProd_at, unitAt]
  exact Finset.sum_congr rfl fun l _ => congrArg₂ (· * ·) (hid_blk m c t r l) (blk_wu m c t k l)
theorem act_blk (c : Dev nD) (t : Fin cfg0.N) (r : Fin 512) (k : Fin 2816) :
    (blk m c t).act r k = Cert.LossReferenceIdeal.Hand.act (argsK m c) (ix2 (tok t r) k) := by
  unfold Blk.act
  rw [gate_blk, up_blk]
  exact (Cert.UpKernelIdeal.Hand.refGated_at _ _ _ _).symm
theorem y_blk (c : Dev nD) (t : Fin cfg0.N) (r : Fin 512) (l : Fin 1024) :
    ((blk m c t).y (ix2 r l) : EReal) = Cert.LossReferenceIdeal.Hand.y (argsK m c) (ix2 (tok t r) l) := by
  rw [y_at, Cert.LossReferenceIdeal.Hand.y_at]
  refine congrArg₂ (· + ·) (blk_x m c t r l) (congrArg (_ * ·) (Finset.sum_congr rfl fun k _ => ?_))
  exact congrArg₂ (· * ·) (act_blk m c t r k) (blk_wd m c t k l)
theorem rstd_blk (c : Dev nD) (t : Fin cfg0.N) (r : Fin 512) :
    Ideal.rsqrt (denAt fun l => (blk m c t).y (ix2 r l)) = Cert.LossReferenceIdeal.Hand.rstd (argsK m c) (ix2 (tok t r) 0) := by
  rw [Cert.LossReferenceIdeal.Hand.rstd_at, Cert.LossReferenceIdeal.Hand.den_at]
  exact congrArg (fun z : Fin 1024 → EReal => Ideal.rsqrt (denAt z)) (funext fun l => y_blk m c t r l)
theorem err_blk (c : Dev nD) (t : Fin cfg0.N) (r : Fin 512) (l : Fin 1024) :
    ((blk m c t).err (ix2 r l) : EReal) = Cert.LossReferenceIdeal.Hand.err (argsK m c) (ix2 (tok t r) l) := by
  unfold Blk.err
  rw [errOf_at, Cert.LossReferenceIdeal.Hand.err_at, Cert.LossReferenceIdeal.Hand.xhat_at, Cert.LossReferenceIdeal.Hand.gain_at,
    rstd_blk, y_blk]
  exact congrArg₂ (fun p q : EReal => _ * p - q) (blk_f m c t l) (blk_t m c t r l)

section Layers
variable {m} {c : Dev nD}

theorem dhid_blk (t : Fin cfg0.N) (r : Fin 512) (l : Fin 1024) :
    ((blk m c t).err (ix2 r l) : EReal) * Ideal.ofBits .f32 0x3A800000#32 = Cert.LossReferenceIdeal.Hand.dhid (argsK m c) (ix2 (tok t r) l) := by
  rw [Cert.LossReferenceIdeal.Hand.dhid_block, err_blk]
theorem dy_blk (t : Fin cfg0.N) (r : Fin 512) (l : Fin 1024) :
    (k0_pay75 (blk m c t).y (blk m c t).f (blk m c t).err (ix2 r l) : EReal)
      = Cert.LossReferenceIdeal.Hand.dy (argsK m c) (ix2 (tok t r) l) := by
  rw [grad_at, Cert.LossReferenceIdeal.Hand.dy_block]
  simp only [dhid_blk, y_blk m c t, blk_f m c t]
  rfl

/-- The gain's gradient before the sum over the tokens. -/
def gainTerm (a : Args) (r : Fin 8192) (l : Fin 1024) : EReal :=
  Cert.LossReferenceIdeal.Hand.xhat a (ix2 r l) * Cert.LossReferenceIdeal.Hand.dhid a (ix2 r l)
/-- What a point adds to the gain's gradient at row `i` of eight. -/
def gainPart (a : Args) (t : ℕ) (i : Fin 8) (l : Fin 1024) : EReal :=
  if ht : t < 16 then ∑ s : Fin 64, gainTerm a ⟨t * 512 + (s.val * 8 + i.val), by omega⟩ l else 0
theorem gain_blk (t : Fin cfg0.N) (o : Vec Ideal S8x1024 .f32) (i : Fin 8) (l : Fin 1024) :
    (k0_pay76 (blk m c t).y (blk m c t).err o (ix2 i l) : EReal) = o (ix2 i l) + gainPart (argsK m c) t.val i l := by
  rw [gain_at, gainPart, dif_pos (points t)]
  refine congrArg (_ + ·) (Finset.sum_congr rfl fun s _ => ?_)
  show _ = gainTerm (argsK m c) (tok t ⟨s.val * 8 + i.val, by omega⟩) l
  rw [dhid_blk, rstd_blk, y_blk, mul_comm, gainTerm, Cert.LossReferenceIdeal.Hand.xhat_at]

/-- What a point adds to the loss. -/
def lossPart (a : Args) (t : ℕ) : EReal :=
  if ht : t < 16 then Ideal.ofBits .f32 0x3F000000#32 * ∑ r : Fin 512,
    (∑ l : Fin 1024, Cert.LossReferenceIdeal.Hand.err a (ix2 (⟨t * 512 + r.val, by omega⟩ : Fin 8192) l)
      * Cert.LossReferenceIdeal.Hand.err a (ix2 (⟨t * 512 + r.val, by omega⟩ : Fin 8192) l)) * Ideal.ofBits .f32 0x3A800000#32
  else 0
theorem loss_blk (t : Fin cfg0.N) (o : Vec Ideal S8x128 .f32) (i : Fin 8) (l : Fin 128) :
    (k0_pay77 (partOf (blk m c t).err) o (ix2 i l) : EReal) = o (ix2 i l) + lossPart (argsK m c) t.val := by
  rw [loss_at, partOf_at, lossPart, dif_pos (points t)]
  simp only [err_blk m c t]
  rfl

end Layers

/-! ## The arrays the region leaves -/

/-- The eight rows of partial sums of the gain's gradient. -/
def gainRows (a : Args) : FVec Ideal S8x1024 .f32 := fun j => ∑ t : Fin 16, gainPart a t.val (j 0) (j 1)
/-- The block every entry of which is the loss. -/
def lossCells (a : Args) : FVec Ideal S8x128 .f32 := fun _ => ∑ t : Fin 16, lossPart a t.val

theorem split_ix {A B : ℕ} (y : (⟨2, ![A, B]⟩ : Shape).Idx) : ∃ (r : Fin A) (l : Fin B), y = ix2 r l :=
  ⟨y 0, y 1, by funext a; fin_cases a <;> rfl⟩

theorem final7 (c : Dev nD) :
    (dats m 0 c).arrAt 7 (cfgs 0).N = Cert.LossReferenceIdeal.Hand.dy (argsK m c) := by
  refine (dats m 0 c).arrAt_eq_of_covers 7 _ (by decide +kernel) fun t hf y => ?_
  obtain ⟨r, l, rfl⟩ := split_ix (A := 512) (B := 1024) y
  blk_simp
  rw [after0_7]
  have e : (win0_7.blk t).view.emb (ix2 r l) = ix2 (tok t r) l := by blk_ext [idx t, tok]
  rw [e]
  exact (congrFun (out7 m c t) (ix2 r l)).trans (dy_blk t r l)
theorem final8 (c : Dev nD) : (dats m 0 c).arrAt 8 (cfgs 0).N = ref4 (argsK m c).first := by
  refine (dats m 0 c).arrAt_eq_of_covers 8 _ (by decide +kernel) fun t hf y => ?_
  obtain ⟨r, l, rfl⟩ := split_ix (A := 512) (B := 1024) y
  blk_simp
  rw [after0_8]
  have e : (win0_8.blk t).view.emb (ix2 r l) = ix2 (tok t r) l := by blk_ext [idx t, tok]
  rw [e]
  exact (congrFun (out8 m c t) (ix2 r l)).trans (hid_blk m c t r l)
theorem final9 (c : Dev nD) : (dats m 0 c).arrAt 9 (cfgs 0).N = ref5 (argsK m c).first := by
  refine (dats m 0 c).arrAt_eq_of_covers 9 _ (by decide +kernel) fun t hf y => ?_
  obtain ⟨r, l, rfl⟩ := split_ix (A := 512) (B := 2816) y
  blk_simp
  rw [after0_9]
  have e : (win0_9.blk t).view.emb (ix2 r l) = ix2 (tok t r) l := by blk_ext [idx t, tok]
  rw [e]
  exact (out9 m c t r l).trans (gate_blk m c t r l)
theorem final10 (c : Dev nD) : (dats m 0 c).arrAt 10 (cfgs 0).N = ref6 (argsK m c).first := by
  refine (dats m 0 c).arrAt_eq_of_covers 10 _ (by decide +kernel) fun t hf y => ?_
  obtain ⟨r, l, rfl⟩ := split_ix (A := 512) (B := 2816) y
  blk_simp
  rw [after0_10]
  have e : (win0_10.blk t).view.emb (ix2 r l) = ix2 (tok t r) l := by blk_ext [idx t, tok]
  rw [e]
  exact (out10 m c t r l).trans (up_blk m c t r l)
theorem final11 (c : Dev nD) : (dats m 0 c).arrAt 11 (cfgs 0).N = ref7 (argsK m c).first := by
  refine (dats m 0 c).arrAt_eq_of_covers 11 _ (by decide +kernel) fun t hf y => ?_
  obtain ⟨r, l, rfl⟩ := split_ix (A := 512) (B := 2816) y
  blk_simp
  rw [after0_11]
  have e : (win0_11.blk t).view.emb (ix2 r l) = ix2 (tok t r) l := by blk_ext [idx t, tok]
  rw [e]
  exact (out11 m c t r l).trans (act_blk m c t r l)

theorem rows_flush (c : Dev nD) (t : Fin cfg0.N) (ht : t.val % 16 = 15) (y : S8x1024.Idx) :
    (outsAt0 m c t.val t.isLt).2.2.2.2.2.1 y = gainRows (argsK m c) y := by
  obtain ⟨i, l, rfl⟩ := split_ix (A := 8) (B := 1024) y
  rw [Pipeline.eq_sum_fin_of_reset_step_apply_of_flush (fun n hn => (outsAt0 m c n hn).2.2.2.2.2.1) 16 (fun _ => (0 : EReal))
    (fun t j => gainPart (argsK m c) t.val (j 0) (j 1))
    (fun t h0 j => by
      obtain ⟨i, l, rfl⟩ := split_ix (A := 8) (B := 1024) j
      rw [out12_reset m c t h0, gain_blk t, zero_gain]
      rfl)
    (fun t h0 j => by
      obtain ⟨i, l, rfl⟩ := split_ix (A := 8) (B := 1024) j
      rw [out12_step m c t h0, gain_blk t]
      rfl)
    t ht _, zero_add]
  have := points t
  refine Finset.sum_congr rfl fun s _ => ?_
  have e : 16 * (t.val / 16) + s.val = s.val := by omega
  exact congrArg (fun n => gainPart (argsK m c) n i l) e
theorem cells_flush (c : Dev nD) (t : Fin cfg0.N) (ht : t.val % 16 = 15) (y : S8x128.Idx) :
    (outsAt0 m c t.val t.isLt).2.2.2.2.2.2 y = lossCells (argsK m c) y := by
  obtain ⟨i, l, rfl⟩ := split_ix (A := 8) (B := 128) y
  rw [Pipeline.eq_sum_fin_of_reset_step_apply_of_flush (fun n hn => (outsAt0 m c n hn).2.2.2.2.2.2) 16 (fun _ => (0 : EReal))
    (fun t _ => lossPart (argsK m c) t.val)
    (fun t h0 j => by
      obtain ⟨i, l, rfl⟩ := split_ix (A := 8) (B := 128) j
      rw [out13_reset m c t h0, loss_blk t, zero_loss])
    (fun t h0 j => by
      obtain ⟨i, l, rfl⟩ := split_ix (A := 8) (B := 128) j
      rw [out13_step m c t h0, loss_blk t])
    t ht _, zero_add]
  have := points t
  refine Finset.sum_congr rfl fun s _ => ?_
  have e : 16 * (t.val / 16) + s.val = s.val := by omega
  exact congrArg (fun n => lossPart (argsK m c) n) e

theorem final12 (c : Dev nD) : (dats m 0 c).arrAt 12 (cfgs 0).N = gainRows (argsK m c) := by
  refine (dats m 0 c).arrAt_eq_of_covers 12 _ (by decide +kernel) fun t hf y => ?_
  obtain ⟨i, l, rfl⟩ := split_ix (A := 8) (B := 1024) y
  blk_simp
  rw [after0_12]
  have e : (win0_12.blk t).view.emb (ix2 i l) = ix2 i l := by blk_ext [idx t]
  rw [e]
  exact rows_flush m c t ((flush0_12 t).mp hf) (ix2 i l)
theorem final13 (c : Dev nD) : (dats m 0 c).arrAt 13 (cfgs 0).N = lossCells (argsK m c) := by
  refine (dats m 0 c).arrAt_eq_of_covers 13 _ (by decide +kernel) fun t hf y => ?_
  obtain ⟨i, l, rfl⟩ := split_ix (A := 8) (B := 128) y
  blk_simp
  rw [after0_13]
  have e : (win0_13.blk t).view.emb (ix2 i l) = ix2 i l := by blk_ext [idx t]
  rw [e]
  exact cells_flush m c t ((flush0_13 t).mp hf) (ix2 i l)

/-! ## What the host takes from the last two -/

/-- The eight rows added up are the sum over all tokens. -/
theorem gain_sum (a : Args) : rowSum (gainRows a) = Cert.LossReferenceIdeal.Hand.dgain a := by
  funext j
  obtain ⟨l, rfl⟩ : ∃ l : Fin 1024, j = ix1 l := ⟨j 0, by funext a; fin_cases a; rfl⟩
  rw [rowSum_at, Cert.LossReferenceIdeal.Hand.dgain_at]
  show ∑ i : Fin 8, ∑ t : Fin 16, gainPart a t.val i l = ∑ r : Fin 8192, gainTerm a r l
  rw [Fin.sum_univ_tiles 16 512 rfl (fun r : Fin 8192 => gainTerm a r l), Finset.sum_comm]
  refine Finset.sum_congr rfl fun t _ => ?_
  rw [Fin.sum_univ_tiles 64 8 rfl (fun r : Fin 512 => gainTerm a ⟨t.val * 512 + r.val, by omega⟩ l), Finset.sum_comm]
  refine Finset.sum_congr rfl fun i _ => ?_
  rw [gainPart, dif_pos t.isLt]

theorem final_gain (c : Dev nD) :
    rowSum ((dats m 0 c).arrAt 12 (cfgs 0).N) = Cert.LossReferenceIdeal.Hand.dgain (argsK m c) := by
  rw [final12 m c]
  exact gain_sum _
theorem final_loss (c : Dev nD) :
    corner ((dats m 0 c).arrAt 13 (cfgs 0).N) = Cert.LossReferenceIdeal.Hand.loss (argsK m c) := by
  rw [final13 m c]
  funext j
  rw [corner_at, Cert.LossReferenceIdeal.Hand.loss_block]
  refine Finset.sum_congr rfl fun t _ => ?_
  rw [lossPart, dif_pos t.isLt]

end Cert.LossKernelIdeal.Hand

end
-- ==== Proof.LossClaim.lean ====
/-
  The claim on the last feed-forward half with the loss: its program and the reference's leave the same
  five arrays, gradient of the gain and loss.
-/
module

public import proofs.«01_k».proof.Defs
public import proofs.«01_k».proof.Proof.Gen.LossKernelIdeal
public import proofs.«01_k».proof.Proof.Gen.LossReferenceIdeal
public import proofs.«01_k».proof.Proof.LossValue
public import Idealize.ShloMosaic.Adequacy
public import Idealize.ShloMosaic.Init

@[expose] public section

set_option maxRecDepth 65536

noncomputable section

namespace Cert.LossKernelIdeal.Hand

open Cert.LossKernelIdeal Cert.LossKernelIdeal.Gen
open Idealize.ShloMosaic Idealize.ShloMosaic.TcCoe Idealize.SL.Sem
open Cert.LossReferenceIdeal.Hand (Args args dy dgain loss)
open Cert.UpKernelIdeal.Hand (ref4 ref5 ref6 ref7)

/-- The reference's run in its layers. -/
theorem reference_run (m : (ℓ : Loc Cert.LossReferenceIdeal.nD Cert.LossReferenceIdeal.τ Cert.LossReferenceIdeal.sig) → Buf (Elt Ideal) ℓ)
    (g : Dev Cert.LossReferenceIdeal.nD → PrngReg) (a : (c : Dev Cert.LossReferenceIdeal.nD) → Args) (e : ∀ c, args m c = a c) :
    θ_run (Cert.LossReferenceIdeal.defs (F := Ideal)) (onTc (τ := Cert.LossReferenceIdeal.τ) (Cert.LossReferenceIdeal.main (F := Ideal))) ⟨m, fun _ => 0, g⟩ (fun r => ∀ c : Dev Cert.LossReferenceIdeal.nD,
      r.2.mem ((c.tc : Thread Cert.LossReferenceIdeal.nD Cert.LossReferenceIdeal.τ).loc Cert.LossReferenceIdeal.main_v78) = dy (a c)
      ∧ r.2.mem ((c.tc : Thread Cert.LossReferenceIdeal.nD Cert.LossReferenceIdeal.τ).loc Cert.LossReferenceIdeal.main_v79) = ref4 (a c).first
      ∧ r.2.mem ((c.tc : Thread Cert.LossReferenceIdeal.nD Cert.LossReferenceIdeal.τ).loc Cert.LossReferenceIdeal.main_v80) = ref5 (a c).first
      ∧ r.2.mem ((c.tc : Thread Cert.LossReferenceIdeal.nD Cert.LossReferenceIdeal.τ).loc Cert.LossReferenceIdeal.main_v81) = ref6 (a c).first
      ∧ r.2.mem ((c.tc : Thread Cert.LossReferenceIdeal.nD Cert.LossReferenceIdeal.τ).loc Cert.LossReferenceIdeal.main_v82) = ref7 (a c).first
      ∧ r.2.mem ((c.tc : Thread Cert.LossReferenceIdeal.nD Cert.LossReferenceIdeal.τ).loc Cert.LossReferenceIdeal.main_v64) = dgain (a c)
      ∧ r.2.mem ((c.tc : Thread Cert.LossReferenceIdeal.nD Cert.LossReferenceIdeal.τ).loc Cert.LossReferenceIdeal.main_v52) = loss (a c)) := by
  obtain rfl : (fun c => args m c) = a := funext e
  exact (θ_run _ _ _).mono (fun r h c => ⟨(h c).1.trans (Cert.LossReferenceIdeal.Hand.res_dy m c), (h c).2.1, (h c).2.2.1, (h c).2.2.2.1,
    (h c).2.2.2.2.1, (h c).2.2.2.2.2.1.trans (Cert.LossReferenceIdeal.Hand.res_dg m c), (h c).2.2.2.2.2.2.1.trans (Cert.LossReferenceIdeal.Hand.res_loss m c)⟩)
    (Cert.LossReferenceIdeal.Value.run (F := Ideal) m g)

/-- The kernel's run in the reference's layers. -/
theorem kernel_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v0_0) = dy (argsK m c)
      ∧ r.2.mem ((c.tc : Thread nD τ).loc main_v0_1) = ref4 (argsK m c).first
      ∧ r.2.mem ((c.tc : Thread nD τ).loc main_v0_2) = ref5 (argsK m c).first
      ∧ r.2.mem ((c.tc : Thread nD τ).loc main_v0_3) = ref6 (argsK m c).first
      ∧ r.2.mem ((c.tc : Thread nD τ).loc main_v0_4) = ref7 (argsK m c).first
      ∧ r.2.mem ((c.tc : Thread nD τ).loc main_v1) = dgain (argsK m c)
      ∧ r.2.mem ((c.tc : Thread nD τ).loc main_v3) = loss (argsK m c)) :=
  (θ_run _ _ _).mono (fun r h c => ⟨(h c).1.trans (final7 m c), (h c).2.1.trans (final8 m c),
    (h c).2.2.1.trans (final9 m c), (h c).2.2.2.1.trans (final10 m c), (h c).2.2.2.2.1.trans (final11 m c),
    (h c).2.2.2.2.2.1.trans (final_gain m c), (h c).2.2.2.2.2.2.trans (final_loss m c)⟩)
    (run_results m g)

/-- The reference's arguments end as they were. -/
theorem reference_args (m : (ℓ : Loc Cert.LossReferenceIdeal.nD Cert.LossReferenceIdeal.τ Cert.LossReferenceIdeal.sig) → Buf (Elt Ideal) ℓ)
    (g : Dev Cert.LossReferenceIdeal.nD → PrngReg) :
    θ_run (Cert.LossReferenceIdeal.defs (F := Ideal)) (onTc (τ := Cert.LossReferenceIdeal.τ) (Cert.LossReferenceIdeal.main (F := Ideal))) ⟨m, fun _ => 0, g⟩ (fun r => ∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5)
      ∧ r.2.mem ((c.tc : Thread Cert.LossReferenceIdeal.nD Cert.LossReferenceIdeal.τ).loc Cert.LossReferenceIdeal.main_arg6) = m ((c.tc : Thread Cert.LossReferenceIdeal.nD Cert.LossReferenceIdeal.τ).loc Cert.LossReferenceIdeal.main_arg6)) :=
  (θ_run _ _ _).mono (fun r h c => (h c).2.2.2.2.2.2.2) (Cert.LossReferenceIdeal.Value.run (F := Ideal) m g)

/-- Equal argument arrays are equal arguments. -/
theorem args_eq (m : (ℓ : Loc nD τ sig) → Buf (Elt Ideal) ℓ)
    (m' : (ℓ : Loc Cert.LossReferenceIdeal.nD Cert.LossReferenceIdeal.τ Cert.LossReferenceIdeal.sig) → Buf (Elt Ideal) ℓ) (c : Dev nD)
    (h0 : (args m' c).x = (argsK m c).x) (h1 : (args m' c).g = (argsK m c).g) (h2 : (args m' c).wg = (argsK m c).wg)
    (h3 : (args m' c).wu = (argsK m c).wu) (h4 : (args m' c).wd = (argsK m c).wd) (h5 : (args m' c).gf = (argsK m c).gf)
    (h6 : (args m' c).tgt = (argsK m c).tgt) :
    args m' c = argsK m c := by
  generalize args m' c = a at *
  generalize argsK m c = b at *
  cases a; cases b
  simp only at h0 h1 h2 h3 h4 h5 h6
  subst h0 h1 h2 h3 h4 h5 h6
  rfl

/-- The results of the kernel's program are the reference's, element by element. -/
theorem algebraic_loss : Cert.algebraic_LossKernelIdeal_LossReferenceIdeal := by
  intro m g m' g' _ ha
  have e : ∀ c : Dev nD, args m' c = argsK m c := fun c =>
    args_eq m m' c (ha c).1 (ha c).2.1 (ha c).2.2.1 (ha c).2.2.2.1 (ha c).2.2.2.2.1 (ha c).2.2.2.2.2.1 (ha c).2.2.2.2.2.2
  refine ⟨fun c => dy (argsK m c), fun c => ref4 (argsK m c).first, fun c => ref5 (argsK m c).first, fun c => ref6 (argsK m c).first, fun c => ref7 (argsK m c).first, fun c => dgain (argsK m c), fun c => loss (argsK m c), ?_, ?_⟩
  · have hk := kernel_run m g
    have hu := unchanged m g
    clear e ha
    exact (θ_run _ _ _).mono (fun r h c => by
      have h1 := h.1 c
      have h2 := h.2 c
      clear h
      generalize r.2.mem = z at *
      exact ⟨h1.1, h1.2.1, h1.2.2.1, h1.2.2.2.1, h1.2.2.2.2.1, h1.2.2.2.2.2.1, h1.2.2.2.2.2.2, h2⟩) (θ_run_and hk hu)
  · have hk := reference_run m' g' (fun c => argsK m c) e
    have hu := reference_args m' g'
    clear e ha
    exact (θ_run _ _ _).mono (fun r h c => by
      have h1 := h.1 c
      have h2 := h.2 c
      clear h
      generalize r.2.mem = z at *
      exact ⟨h1.1, h1.2.1, h1.2.2.1, h1.2.2.2.1, h1.2.2.2.2.1, h1.2.2.2.2.2.1, h1.2.2.2.2.2.2, h2⟩) (θ_run_and hk hu)

end Cert.LossKernelIdeal.Hand

end
-- ==== Proof.DownValue.lean ====
/-
  The second half of a feed-forward layer over the extended reals: each grid point adds half the product of its 512 rows with
  the whole weight to its rows of the residual, so the array the kernel leaves is the reference's.
-/
module

public import proofs.«01_k».proof.Proof.Gen.DownKernelIdeal.Value
public import proofs.«01_k».proof.Proof.Gen.DownReferenceIdeal.Run
public import Idealize.ShloMosaic.Lib.Pointwise
public import Idealize.ShloMosaic.Lib.Pipeline.ValueKit
public import Idealize.ShloMosaic.Lib.Claim

@[expose] public section

set_option maxRecDepth 65536

noncomputable section

namespace Cert.DownKernelIdeal.Hand

open Cert.DownKernelIdeal Cert.DownKernelIdeal.Gen
open Idealize.ShloMosaic Idealize.ShloMosaic.TcCoe
open Idealize.ShloMosaic.Pipeline (Dat)

variable (m : (ℓ : Loc nD τ sig) → Buf (Elt Ideal) ℓ)

/-- The reference's host operations. -/
abbrev ref (x : FVec Ideal S8192x1024 .f32) (a : FVec Ideal S8192x2816 .bf16) (w : FVec Ideal S2816x1024 .bf16) :
    FVec Ideal S8192x1024 .f32 :=
  addf x (mulf (broadcastInDim Cert.DownReferenceIdeal.S8192x1024 ![] Cert.DownReferenceIdeal.Facts₀.bcast_S_S8192x1024
      (constant Cert.DownReferenceIdeal.S_ .f32 0x3F000000#32))
    (Host.dotGeneral Cert.DownReferenceIdeal.dot_S8192x2816_S2816x1024_S8192x1024_1_0_0_1_n_n none
      (extf .f32 a Cert.DownReferenceIdeal.Facts₀.bitsLt_bf16_f32) (extf .f32 w Cert.DownReferenceIdeal.Facts₀.bitsLt_bf16_f32)))

theorem ref_at (x : FVec Ideal S8192x1024 .f32) (a : FVec Ideal S8192x2816 .bf16) (w : FVec Ideal S2816x1024 .bf16)
    (r : Fin 8192) (l : Fin 1024) : (ref x a w (ix2 r l) : EReal)
      = x (ix2 r l) + Ideal.ofBits .f32 0x3F000000#32 * ∑ k : Fin 2816, a (ix2 r k) * w (ix2 k l) := by
  pointwise [ref]
theorem pay_at (x : Vec Ideal S512x1024 .f32) (a : Vec Ideal S512x2816 .bf16) (w : Vec Ideal S2816x1024 .bf16)
    (r : Fin 512) (l : Fin 1024) : (k0_pay1 x a w (ix2 r l) : EReal)
      = x (ix2 r l) + Ideal.ofBits .f32 0x3F000000#32 * ∑ k : Fin 2816, a (ix2 r k) * w (ix2 k l) := by
  pointwise [k0_pay1]

/-- Point t works on rows 512 t to 512 t + 511 and on the whole weight. -/
theorem idx : ∀ t : Fin cfg0.N, win0_0.index t = ![t.val, 0] ∧ win0_1.index t = ![t.val, 0] ∧ win0_2.index t = ![0, 0]
    ∧ win0_3.index t = ![t.val, 0] := (by decide +kernel : ∀ t : Fin grid0.N, _)
theorem points (t : Fin cfg0.N) : t.val < 16 := lt_of_lt_of_eq t.isLt (show cfg0.N = 16 from N_0)
/-- The token of row `r` of point `t`. -/
def tok (t : Fin cfg0.N) (r : Fin 512) : Fin 8192 := ⟨t.val * 512 + r.val, by have := points t; omega⟩

/-- The three arguments. -/
abbrev argX (c : Dev nD) : FVec Ideal S8192x1024 .f32 := m ((c : Thread nD τ).loc main_arg0)
abbrev argA (c : Dev nD) : FVec Ideal S8192x2816 .bf16 := m ((c : Thread nD τ).loc main_arg1)
abbrev argW (c : Dev nD) : FVec Ideal S2816x1024 .bf16 := m ((c : Thread nD τ).loc main_arg2)

theorem blk_x (c : Dev nD) (t : Fin cfg0.N) (r : Fin 512) (l : Fin 1024) :
    (iblk m c 0 t (ix2 r l) : EReal) = argX m c (ix2 (tok t r) l) := by blk_ext [iblk, V, idx t, tok]
theorem blk_a (c : Dev nD) (t : Fin cfg0.N) (r : Fin 512) (k : Fin 2816) :
    (iblk m c 1 t (ix2 r k) : EReal) = argA m c (ix2 (tok t r) k) := by blk_ext [iblk, V, idx t, tok]
theorem blk_w (c : Dev nD) (t : Fin cfg0.N) (k : Fin 2816) (l : Fin 1024) :
    (iblk m c 2 t (ix2 k l) : EReal) = argW m c (ix2 k l) := by blk_ext [iblk, V, idx t, tok]

theorem out3 (x : Vec Ideal S512x1024 .f32) (a : Vec Ideal S512x2816 .bf16) (w : Vec Ideal S2816x1024 .bf16) :
    out0_3 x a w = k0_pay1 x a w := by
  frame_out

theorem final3 (c : Dev nD) : (dats m 0 c).arrAt 3 (cfgs 0).N = ref (argX m c) (argA m c) (argW m c) := by
  refine (dats m 0 c).arrAt_eq_of_covers 3 _ (by decide +kernel) fun t hf y => ?_
  obtain ⟨r, l, rfl⟩ : ∃ (r : Fin 512) (l : Fin 1024), y = ix2 r l := ⟨y 0, y 1, by funext a; fin_cases a <;> rfl⟩
  blk_simp
  rw [after0_3]
  have e : (win0_3.blk t).view.emb (ix2 r l) = ix2 (tok t r) l := by blk_ext [idx t, tok]
  rw [e, out3]
  refine (pay_at _ _ _ r l).trans (Eq.trans ?_ (ref_at _ _ _ _ _).symm)
  rw [blk_x]
  refine congrArg (fun z : EReal => _ + _ * z) (Finset.sum_congr rfl fun k _ => ?_)
  exact congrArg₂ (· * ·) (blk_a m c t r k) (blk_w m c t k l)

end Cert.DownKernelIdeal.Hand

end
-- ==== Proof.OutValue.lean ====
/-
  The mixer's output projection over the extended reals: each grid point adds the product of its 512 rows with the whole
  weight to its rows of the residual, so the array the kernel leaves is the reference's.
-/
module

public import proofs.«01_k».proof.Proof.Gen.OutKernelIdeal.Value
public import proofs.«01_k».proof.Proof.Gen.OutReferenceIdeal.Run
public import Idealize.ShloMosaic.Lib.Pointwise
public import Idealize.ShloMosaic.Lib.Pipeline.ValueKit
public import Idealize.ShloMosaic.Lib.Claim

@[expose] public section

set_option maxRecDepth 65536

noncomputable section

namespace Cert.OutKernelIdeal.Hand

open Cert.OutKernelIdeal Cert.OutKernelIdeal.Gen
open Idealize.ShloMosaic Idealize.ShloMosaic.TcCoe
open Idealize.ShloMosaic.Pipeline (Dat)

variable (m : (ℓ : Loc nD τ sig) → Buf (Elt Ideal) ℓ)

/-- The reference's host operations. -/
abbrev ref (x : FVec Ideal S8192x1024 .f32) (a : FVec Ideal S8192x1024 .bf16) (w : FVec Ideal S1024x1024 .bf16) :
    FVec Ideal S8192x1024 .f32 :=
  addf x (Host.dotGeneral Cert.OutReferenceIdeal.dot_S8192x1024_S1024x1024_S8192x1024_1_0_0_1_n_n none
    (extf .f32 a Cert.OutReferenceIdeal.Facts₀.bitsLt_bf16_f32) (extf .f32 w Cert.OutReferenceIdeal.Facts₀.bitsLt_bf16_f32))

theorem ref_at (x : FVec Ideal S8192x1024 .f32) (a : FVec Ideal S8192x1024 .bf16) (w : FVec Ideal S1024x1024 .bf16)
    (r : Fin 8192) (l : Fin 1024) : (ref x a w (ix2 r l) : EReal)
      = x (ix2 r l) + ∑ k : Fin 1024, a (ix2 r k) * w (ix2 k l) := by
  pointwise [ref]
theorem pay_at (x : Vec Ideal S512x1024 .f32) (a : Vec Ideal S512x1024 .bf16) (w : Vec Ideal S1024x1024 .bf16)
    (r : Fin 512) (l : Fin 1024) : (k0_pay1 x a w (ix2 r l) : EReal)
      = x (ix2 r l) + ∑ k : Fin 1024, a (ix2 r k) * w (ix2 k l) := by
  pointwise [k0_pay1]

/-- Point t works on rows 512 t to 512 t + 511 and on the whole weight. -/
theorem idx : ∀ t : Fin cfg0.N, win0_0.index t = ![t.val, 0] ∧ win0_1.index t = ![t.val, 0] ∧ win0_2.index t = ![0, 0]
    ∧ win0_3.index t = ![t.val, 0] := (by decide +kernel : ∀ t : Fin grid0.N, _)
theorem points (t : Fin cfg0.N) : t.val < 16 := lt_of_lt_of_eq t.isLt (show cfg0.N = 16 from N_0)
/-- The token of row `r` of point `t`. -/
def tok (t : Fin cfg0.N) (r : Fin 512) : Fin 8192 := ⟨t.val * 512 + r.val, by have := points t; omega⟩

/-- The three arguments. -/
abbrev argX (c : Dev nD) : FVec Ideal S8192x1024 .f32 := m ((c : Thread nD τ).loc main_arg0)
abbrev argA (c : Dev nD) : FVec Ideal S8192x1024 .bf16 := m ((c : Thread nD τ).loc main_arg1)
abbrev argW (c : Dev nD) : FVec Ideal S1024x1024 .bf16 := m ((c : Thread nD τ).loc main_arg2)

theorem blk_x (c : Dev nD) (t : Fin cfg0.N) (r : Fin 512) (l : Fin 1024) :
    (iblk m c 0 t (ix2 r l) : EReal) = argX m c (ix2 (tok t r) l) := by blk_ext [iblk, V, idx t, tok]
theorem blk_a (c : Dev nD) (t : Fin cfg0.N) (r : Fin 512) (k : Fin 1024) :
    (iblk m c 1 t (ix2 r k) : EReal) = argA m c (ix2 (tok t r) k) := by blk_ext [iblk, V, idx t, tok]
theorem blk_w (c : Dev nD) (t : Fin cfg0.N) (k : Fin 1024) (l : Fin 1024) :
    (iblk m c 2 t (ix2 k l) : EReal) = argW m c (ix2 k l) := by blk_ext [iblk, V, idx t, tok]

theorem out3 (x : Vec Ideal S512x1024 .f32) (a : Vec Ideal S512x1024 .bf16) (w : Vec Ideal S1024x1024 .bf16) :
    out0_3 x a w = k0_pay1 x a w := by
  frame_out

theorem final3 (c : Dev nD) : (dats m 0 c).arrAt 3 (cfgs 0).N = ref (argX m c) (argA m c) (argW m c) := by
  refine (dats m 0 c).arrAt_eq_of_covers 3 _ (by decide +kernel) fun t hf y => ?_
  obtain ⟨r, l, rfl⟩ : ∃ (r : Fin 512) (l : Fin 1024), y = ix2 r l := ⟨y 0, y 1, by funext a; fin_cases a <;> rfl⟩
  blk_simp
  rw [after0_3]
  have e : (win0_3.blk t).view.emb (ix2 r l) = ix2 (tok t r) l := by blk_ext [idx t, tok]
  rw [e, out3]
  refine (pay_at _ _ _ r l).trans (Eq.trans ?_ (ref_at _ _ _ _ _).symm)
  rw [blk_x]
  refine congrArg (fun z : EReal => _ + z) (Finset.sum_congr rfl fun k _ => ?_)
  exact congrArg₂ (· * ·) (blk_a m c t r k) (blk_w m c t k l)

end Cert.OutKernelIdeal.Hand

end
-- ==== Proof.MixWeightValue.lean ====
/-
  The gradient of the mixer's input projection's weight over the extended reals: each of the two row blocks of the result is the sum
  over four tiles of 2048 tokens, so the two arrays the kernel leaves are the product of the whole arrays.
-/
module

public import proofs.«01_k».proof.Proof.Gen.MixWeightKernelIdeal.Value
public import proofs.«01_k».proof.Proof.Gen.MixWeightReferenceIdeal.Run
public import Idealize.ShloMosaic.Lib.Pointwise
public import Idealize.ShloMosaic.Lib.Pipeline.ValueKit
public import Idealize.ShloMosaic.Lib.Claim

@[expose] public section

set_option maxRecDepth 65536

noncomputable section

namespace Cert.MixWeightKernelIdeal.Hand

open Cert.MixWeightKernelIdeal Cert.MixWeightKernelIdeal.Gen
open Idealize.ShloMosaic Idealize.ShloMosaic.TcCoe
open Idealize.ShloMosaic.Pipeline (Dat)

variable (m : (ℓ : Loc nD τ sig) → Buf (Elt Ideal) ℓ)

/-- The reference's gradient in f32: its own host operations. -/
abbrev refF (a : FVec Ideal S8192x2304 .bf16) (b : FVec Ideal S8192x1024 .bf16) : FVec Ideal S2304x1024 .f32 :=
  transpose S2304x1024 [1, 0] (transpose Cert.MixWeightReferenceIdeal.S1024x2304 [1, 0]
    (Host.dotGeneral Cert.MixWeightReferenceIdeal.dot_S8192x2304_S8192x1024_S2304x1024_0_0_1_1_n_n none
      (extf .f32 a Cert.MixWeightReferenceIdeal.Facts₀.bitsLt_bf16_f32) (extf .f32 b Cert.MixWeightReferenceIdeal.Facts₀.bitsLt_bf16_f32))
    Cert.MixWeightReferenceIdeal.Facts₀.transposes_S2304x1024_S1024x2304_1_0) Cert.MixWeightReferenceIdeal.Facts₀.transposes_S1024x2304_S2304x1024_1_0
/-- The same rounded to bf16. -/
abbrev refB (a : FVec Ideal S8192x2304 .bf16) (b : FVec Ideal S8192x1024 .bf16) : FVec Ideal S2304x1024 .bf16 :=
  truncf .bf16 (refF a b) Cert.MixWeightReferenceIdeal.Facts₀.bitsLt_bf16_f32

theorem zero_at (j : S1152x1024.Idx) : k0_pay1 (F := Ideal) j = 0 := by pointwise [k0_pay1]
theorem add_at (acc : Vec Ideal S1152x1024 .f32) (a : Vec Ideal S2048x1152 .bf16) (b : Vec Ideal S2048x1024 .bf16) (j : S1152x1024.Idx) :
    k0_pay2 acc a b j = acc j + ∑ k : Fin 2048, a (ix2 k (j 0)) * b (ix2 k (j 1)) := by pointwise [k0_pay2]
theorem copy_at (v : Vec Ideal S1152x1024 .f32) (j : S1152x1024.Idx) : (k0_pay3 v j : EReal) = v j := by pointwise [k0_pay3]
theorem ref_at (a : FVec Ideal S8192x2304 .bf16) (b : FVec Ideal S8192x1024 .bf16) (j : S2304x1024.Idx) :
    refF a b j = ∑ k : Fin 8192, a (ix2 k (j 0)) * b (ix2 k (j 1)) := by pointwise [refF]
theorem refB_at (a : FVec Ideal S8192x2304 .bf16) (b : FVec Ideal S8192x1024 .bf16) (j : S2304x1024.Idx) :
    (refB a b j : EReal) = refF a b j := by pointwise [refB]

/-- Point t reads tile t % 4 of the tokens and writes row block t / 4. -/
theorem idx : ∀ t : Fin cfg0.N, win0_0.index t = ![t.val % 4, t.val / 4] ∧ win0_1.index t = ![t.val % 4, 0]
    ∧ win0_2.index t = ![t.val / 4, 0] ∧ win0_3.index t = ![t.val / 4, 0] := (by decide +kernel : ∀ t : Fin grid0.N, _)

/-- The two operands. -/
abbrev argA (c : Dev nD) : FVec Ideal S8192x2304 .bf16 := m ((c : Thread nD τ).loc main_arg0)
abbrev argB (c : Dev nD) : FVec Ideal S8192x1024 .bf16 := m ((c : Thread nD τ).loc main_arg1)

/-- At the last tile of a block the bf16 buffer holds what the f32 buffer holds. -/
theorem copy_last (c : Dev nD) (t : Fin cfg0.N) (h : t.val % 4 = 3) (j : S1152x1024.Idx) :
    ((outsAt0 m c t.val t.isLt).2 j : EReal) = (outsAt0 m c t.val t.isLt).1 j := by
  have h0 : ¬ t.val % 4 = 0 := by omega
  rw [outsAt0_C m c t h0 h]
  frame_out
  rw [copy_at]

theorem block_at (c : Dev nD) (t : Fin cfg0.N) (h : t.val % 4 = 3) (y : S1152x1024.Idx) (z : S2304x1024.Idx)
    (hz0 : (z 0 : ℕ) = t.val / 4 * 1152 + y 0) (hz1 : (z 1 : ℕ) = y 1) :
    (outsAt0 m c t.val t.isLt).1 y = refF (argA m c) (argB m c) z := by
  rw [Pipeline.eq_sum_fin_of_reset_step_apply_of_flush (fun n h => (outsAt0 m c n h).1) 4 (fun _ => 0) _
    (fun t h j => by rw [outsAt0_A m c t h (by omega)]; frame_out; rw [add_at, zero_at])
    (fun t h j => by
      by_cases h1 : t.val % 4 = 3
      · rw [outsAt0_C m c t h h1]; frame_out; rw [add_at]
      · rw [outsAt0_B m c t h h1]; frame_out; rw [add_at])
    t h _, zero_add, ref_at]
  refine Fin.sum_mul_add_congr fun s k hl => ?_

  blk_point [iblk, V, idx t, idx ⟨_, Pipeline.run_point_lt_of_flush t h s⟩]

theorem final2 (c : Dev nD) : (dats m 0 c).arrAt 2 (cfgs 0).N = refF (argA m c) (argB m c) := by
  refine (dats m 0 c).arrAt_eq_of_covers 2 _ (by decide +kernel) fun t hf y => ?_
  blk_simp
  rw [after0_2]
  refine block_at m c t ((flush0_2 t).mp hf) y _ ?_ ?_ <;> blk_simp [idx t]

theorem final3 (c : Dev nD) : (dats m 0 c).arrAt 3 (cfgs 0).N = refB (argA m c) (argB m c) := by
  refine (dats m 0 c).arrAt_eq_of_covers 3 _ (by decide +kernel) fun t hf y => ?_
  blk_simp
  rw [after0_3]
  refine (copy_last m c t ((flush0_3 t).mp hf) y).trans ?_
  refine (block_at m c t ((flush0_3 t).mp hf) y _ ?_ ?_).trans (refB_at _ _ _).symm <;> blk_simp [idx t]

end Cert.MixWeightKernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.WeightKernel
public import proofs.«01_k».proof.Proof.Gen.WeightKernel.Frame
public import proofs.«01_k».proof.Proof.Gen.WeightKernelIdeal
public import proofs.«01_k».proof.Proof.Gen.WeightKernelIdeal.Frame
public import proofs.«01_k».proof.Proof.Gen.WeightKernelIdeal.Value
public import proofs.«01_k».proof.Proof.Gen.WeightReferenceIdeal
public import proofs.«01_k».proof.Proof.Gen.WeightReferenceIdeal.Run
public import proofs.«01_k».proof.Proof.Gen.InputKernel
public import proofs.«01_k».proof.Proof.Gen.InputKernel.Frame
public import proofs.«01_k».proof.Proof.Gen.InputKernelIdeal
public import proofs.«01_k».proof.Proof.Gen.InputKernelIdeal.Frame
public import proofs.«01_k».proof.Proof.Gen.InputReferenceIdeal
public import proofs.«01_k».proof.Proof.Gen.InputReferenceIdeal.Run
public import proofs.«01_k».proof.Proof.Gen.UpKernel
public import proofs.«01_k».proof.Proof.Gen.UpKernel.Frame
public import proofs.«01_k».proof.Proof.Gen.UpKernelIdeal
public import proofs.«01_k».proof.Proof.Gen.UpKernelIdeal.Frame
public import proofs.«01_k».proof.Proof.Gen.UpKernelIdeal.Value
public import proofs.«01_k».proof.Proof.Gen.UpReferenceIdeal
public import proofs.«01_k».proof.Proof.Gen.UpReferenceIdeal.Run
public import proofs.«01_k».proof.Proof.Gen.DownKernel
public import proofs.«01_k».proof.Proof.Gen.DownKernel.Frame
public import proofs.«01_k».proof.Proof.Gen.DownKernelIdeal
public import proofs.«01_k».proof.Proof.Gen.DownKernelIdeal.Frame
public import proofs.«01_k».proof.Proof.Gen.DownKernelIdeal.Value
public import proofs.«01_k».proof.Proof.Gen.DownReferenceIdeal
public import proofs.«01_k».proof.Proof.Gen.DownReferenceIdeal.Run
public import proofs.«01_k».proof.Proof.Gen.OutKernel
public import proofs.«01_k».proof.Proof.Gen.OutKernel.Frame
public import proofs.«01_k».proof.Proof.Gen.OutKernelIdeal
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.MixWeightKernel
public import proofs.«01_k».proof.Proof.Gen.MixWeightKernel.Frame
public import proofs.«01_k».proof.Proof.Gen.MixWeightKernelIdeal
public import proofs.«01_k».proof.Proof.Gen.MixWeightKernelIdeal.Frame
public import proofs.«01_k».proof.Proof.Gen.MixWeightKernelIdeal.Value
public import proofs.«01_k».proof.Proof.Gen.MixWeightReferenceIdeal
public import proofs.«01_k».proof.Proof.Gen.MixWeightReferenceIdeal.Run
public import proofs.«01_k».proof.Proof.Gen.Pre_finite
public import proofs.«01_k».proof.Proof.Gen.LossKernel
public import proofs.«01_k».proof.Proof.Gen.LossKernel.Frame
public import proofs.«01_k».proof.Proof.Gen.LossKernelIdeal
public import proofs.«01_k».proof.Proof.Gen.LossKernelIdeal.Frame
public import proofs.«01_k».proof.Proof.Gen.LossReferenceIdeal
public import proofs.«01_k».proof.Proof.Gen.LossReferenceIdeal.Run
public import proofs.«01_k».proof.Proof.FrameIdeal
public import proofs.«01_k».proof.Proof.FrameWord
public import proofs.«01_k».proof.Proof.KernelValue
public import proofs.«01_k».proof.Proof.WeightValue
public import proofs.«01_k».proof.Proof.InputClaim
public import proofs.«01_k».proof.Proof.LossClaim
public import proofs.«01_k».proof.Proof.UpValue
public import proofs.«01_k».proof.Proof.DownValue
public import proofs.«01_k».proof.Proof.OutValue
public import proofs.«01_k».proof.Proof.MixWeightValue
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The kernel's three gradients are the reference's, element by element. -/
theorem algebraic : Cert.algebraic_KernelIdeal_ReferenceIdeal := by
  pair_intro
  · run_from Cert.KernelIdeal.Hand.run_main m g
  · run_from Cert.ReferenceIdeal.Value.run (F := Ideal) m' g'
    · exact (Cert.KernelIdeal.Hand.final7 m c).symm
    · exact (Cert.KernelIdeal.Hand.final8 m c).symm
    · exact (Cert.KernelIdeal.Hand.final9 m c).symm

set_option maxRecDepth 65536 in
/-- The weight gradient's two arrays are the reference's, element by element. -/
theorem algebraic_weight : Cert.algebraic_WeightKernelIdeal_WeightReferenceIdeal := by
  pair_intro
  · run_from Cert.WeightKernelIdeal.Gen.run_main m g
  · run_from Cert.WeightReferenceIdeal.Value.run (F := Ideal) m' g'
    · exact (Cert.WeightKernelIdeal.Hand.final2 m c).symm
    · exact (Cert.WeightKernelIdeal.Hand.final3 m c).symm

/-- The input gradient's reference runs to the end and leaves its arguments alone. -/
theorem frame_input_reference : Cert.quiescent_InputReferenceIdeal := fun m g _ =>
  (θ_run _ _ _).mono (fun r h => ⟨h, sem_eq_zero_of_no_sems (by decide) r.2⟩) (Cert.InputKernelIdeal.Hand.reference_args m g)

set_option maxRecDepth 65536 in
/-- The first half of a feed-forward layer: its four arrays are the reference's. -/
theorem algebraic_up : Cert.algebraic_UpKernelIdeal_UpReferenceIdeal := by
  pair_intro
  · run_from Cert.UpKernelIdeal.Gen.run_main m g
  · run_from Cert.UpReferenceIdeal.Value.run (F := Ideal) m' g'
    · exact (Cert.UpKernelIdeal.Hand.final4 m c).symm
    · exact (Cert.UpKernelIdeal.Hand.final5 m c).symm
    · exact (Cert.UpKernelIdeal.Hand.final6 m c).symm
    · exact (Cert.UpKernelIdeal.Hand.final7 m c).symm

/-- The reference runs to the end and leaves its arguments alone. -/
theorem frame_up_reference : Cert.quiescent_UpReferenceIdeal := fun m g _ =>
  (θ_run _ _ _).mono (fun r h => ⟨fun c => (h c).2.2.2.2, sem_eq_zero_of_no_sems (by decide) r.2⟩)
    (Cert.UpReferenceIdeal.Value.run (F := Ideal) m g)

set_option maxRecDepth 65536 in
/-- The second half of a feed-forward layer: its array is the reference's. -/
theorem algebraic_down : Cert.algebraic_DownKernelIdeal_DownReferenceIdeal := by
  pair_intro
  · run_from Cert.DownKernelIdeal.Gen.run_main m g
  · run_from Cert.DownReferenceIdeal.Value.run (F := Ideal) m' g'
    · exact (Cert.DownKernelIdeal.Hand.final3 m c).symm

/-- The reference runs to the end and leaves its arguments alone. -/
theorem frame_down_reference : Cert.quiescent_DownReferenceIdeal := fun m g _ =>
  (θ_run _ _ _).mono (fun r h => ⟨fun c => (h c).2, sem_eq_zero_of_no_sems (by decide) r.2⟩)
    (Cert.DownReferenceIdeal.Value.run (F := Ideal) m g)

set_option maxRecDepth 65536 in
/-- The output projection: its array is the reference's. -/
theorem algebraic_out : Cert.algebraic_OutKernelIdeal_OutReferenceIdeal := by
  pair_intro
  · run_from Cert.OutKernelIdeal.Gen.run_main m g
  · run_from Cert.OutReferenceIdeal.Value.run (F := Ideal) m' g'
    · exact (Cert.OutKernelIdeal.Hand.final3 m c).symm

/-- The reference runs to the end and leaves its arguments alone. -/
theorem frame_out_reference : Cert.quiescent_OutReferenceIdeal := fun m g _ =>
  (θ_run _ _ _).mono (fun r h => ⟨fun c => (h c).2, sem_eq_zero_of_no_sems (by decide) r.2⟩)
    (Cert.OutReferenceIdeal.Value.run (F := Ideal) m g)

set_option maxRecDepth 65536 in
/-- The gradient of the input projection's weight: its two arrays are the reference's. -/
theorem algebraic_mix_weight : Cert.algebraic_MixWeightKernelIdeal_MixWeightReferenceIdeal := by
  pair_intro
  · run_from Cert.MixWeightKernelIdeal.Gen.run_main m g
  · run_from Cert.MixWeightReferenceIdeal.Value.run (F := Ideal) m' g'
    · exact (Cert.MixWeightKernelIdeal.Hand.final2 m c).symm
    · exact (Cert.MixWeightKernelIdeal.Hand.final3 m c).symm

/-- The reference runs to the end and leaves its arguments alone. -/
theorem frame_mixweight_reference : Cert.quiescent_MixWeightReferenceIdeal := fun m g _ =>
  (θ_run _ _ _).mono (fun r h => ⟨fun c => (h c).2.2, sem_eq_zero_of_no_sems (by decide) r.2⟩)
    (Cert.MixWeightReferenceIdeal.Value.run (F := Ideal) m g)

/-- The reference of the half with the loss runs to the end and leaves its arguments alone. -/
theorem frame_loss_reference : Cert.quiescent_LossReferenceIdeal := fun m g _ =>
  (θ_run _ _ _).mono (fun r h => ⟨h, sem_eq_zero_of_no_sems (by decide) r.2⟩) (Cert.LossKernelIdeal.Hand.reference_args m g)

theorem claim : Cert.Claim := ⟨Cert.Kernel.Gen.facts, Cert.KernelIdeal.Gen.facts, Cert.ReferenceIdeal.Gen.facts,
  Cert.WeightKernel.Gen.facts, Cert.WeightKernelIdeal.Gen.facts, Cert.WeightReferenceIdeal.Gen.facts,
  Cert.InputKernel.Gen.facts, Cert.InputKernelIdeal.Gen.facts, Cert.InputReferenceIdeal.Gen.facts,
  Cert.UpKernel.Gen.facts, Cert.UpKernelIdeal.Gen.facts, Cert.UpReferenceIdeal.Gen.facts,
  Cert.DownKernel.Gen.facts, Cert.DownKernelIdeal.Gen.facts, Cert.DownReferenceIdeal.Gen.facts,
  Cert.OutKernel.Gen.facts, Cert.OutKernelIdeal.Gen.facts, Cert.OutReferenceIdeal.Gen.facts,
  Cert.MixWeightKernel.Gen.facts, Cert.MixWeightKernelIdeal.Gen.facts, Cert.MixWeightReferenceIdeal.Gen.facts,
  Cert.LossKernel.Gen.facts, Cert.LossKernelIdeal.Gen.facts, Cert.LossReferenceIdeal.Gen.facts,
  Cert.Pre_finite.Gen.facts,
  fun m g _ => Cert.Kernel.Hand.frame m g,
  fun m g _ => Cert.KernelIdeal.Hand.frame m g,
  fun m g _ => (θ_run _ _ _).mono (fun r h => ⟨fun c => (h c).2.2.2, sem_eq_zero_of_no_sems (by decide) r.2⟩)
    (Cert.ReferenceIdeal.Value.run (F := Ideal) m g),
  fun m g _ => Cert.WeightKernel.Gen.frame m g,
  fun m g _ => Cert.WeightKernelIdeal.Gen.frame m g,
  fun m g _ => (θ_run _ _ _).mono (fun r h => ⟨fun c => (h c).2.2, sem_eq_zero_of_no_sems (by decide) r.2⟩)
    (Cert.WeightReferenceIdeal.Value.run (F := Ideal) m g),
  fun m g _ => Cert.InputKernel.Gen.frame m g,
  fun m g _ => Cert.InputKernelIdeal.Gen.frame m g,
  fun m g _ => Cert.InputKernelIdeal.Gen.frame m g,
  frame_input_reference, fun m g _ => frame_input_reference m g trivial,
  fun m g _ => Cert.UpKernel.Gen.frame m g,
  fun m g _ => Cert.UpKernelIdeal.Gen.frame m g,
  frame_up_reference,
  fun m g _ => Cert.DownKernel.Gen.frame m g,
  fun m g _ => Cert.DownKernelIdeal.Gen.frame m g,
  frame_down_reference,
  fun m g _ => Cert.OutKernel.Gen.frame m g,
  fun m g _ => Cert.OutKernelIdeal.Gen.frame m g,
  frame_out_reference,
  fun m g _ => Cert.MixWeightKernel.Gen.frame m g,
  fun m g _ => Cert.MixWeightKernelIdeal.Gen.frame m g,
  frame_mixweight_reference,
  fun m g _ => Cert.LossKernel.Gen.frame m g,
  fun m g _ => Cert.LossKernelIdeal.Gen.frame m g,
  frame_loss_reference,
  IdealRules.named_const.statement Cert.KernelIdeal.κ "mask" .f32 0xF149F2CA#32 ⊥ rfl,
  algebraic, trivial, algebraic_weight, trivial, Cert.InputKernelIdeal.Hand.algebraic_input,
  trivial, algebraic_up, trivial, algebraic_down, trivial, algebraic_out, trivial, algebraic_mix_weight,
  trivial, Cert.LossKernelIdeal.Hand.algebraic_loss⟩

end Cert.Proof

end
